-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))) = (fun _ => 1#1)

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddRefIdeal (m : (ℓ : Loc Cert.OutOddRefIdeal.nD Cert.OutOddRefIdeal.τ Cert.OutOddRefIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2)
      ∧ r.2.mem ((c.tc : Thread Cert.InOdd.nD Cert.InOdd.τ).loc Cert.InOdd.main_arg3) = m ((c.tc : Thread Cert.InOdd.nD Cert.InOdd.τ).loc Cert.InOdd.main_arg3))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2)
      ∧ r.2.mem ((c.tc : Thread Cert.InOddRefIdeal.nD Cert.InOddRefIdeal.τ).loc Cert.InOddRefIdeal.main_arg3) = m ((c.tc : Thread Cert.InOddRefIdeal.nD Cert.InOddRefIdeal.τ).loc Cert.InOddRefIdeal.main_arg3))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3)
      ∧ r.2.mem ((c.tc : Thread Cert.OutEvenRefIdeal.nD Cert.OutEvenRefIdeal.τ).loc Cert.OutEvenRefIdeal.main_arg4) = m ((c.tc : Thread Cert.OutEvenRefIdeal.nD Cert.OutEvenRefIdeal.τ).loc Cert.OutEvenRefIdeal.main_arg4))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3)
      ∧ r.2.mem ((c.tc : Thread Cert.OutOdd.nD Cert.OutOdd.τ).loc Cert.OutOdd.main_arg4) = m ((c.tc : Thread Cert.OutOdd.nD Cert.OutOdd.τ).loc Cert.OutOdd.main_arg4)
      ∧ r.2.mem ((c.tc : Thread Cert.OutOdd.nD Cert.OutOdd.τ).loc Cert.OutOdd.main_arg5) = m ((c.tc : Thread Cert.OutOdd.nD Cert.OutOdd.τ).loc Cert.OutOdd.main_arg5)
      ∧ r.2.mem ((c.tc : Thread Cert.OutOdd.nD Cert.OutOdd.τ).loc Cert.OutOdd.main_arg6) = m ((c.tc : Thread Cert.OutOdd.nD Cert.OutOdd.τ).loc Cert.OutOdd.main_arg6)
      ∧ r.2.mem ((c.tc : Thread Cert.OutOdd.nD Cert.OutOdd.τ).loc Cert.OutOdd.main_arg7) = m ((c.tc : Thread Cert.OutOdd.nD Cert.OutOdd.τ).loc Cert.OutOdd.main_arg7)
      ∧ r.2.mem ((c.tc : Thread Cert.OutOdd.nD Cert.OutOdd.τ).loc Cert.OutOdd.main_arg8) = m ((c.tc : Thread Cert.OutOdd.nD Cert.OutOdd.τ).loc Cert.OutOdd.main_arg8)
      ∧ r.2.mem ((c.tc : Thread Cert.OutOdd.nD Cert.OutOdd.τ).loc Cert.OutOdd.main_arg9) = m ((c.tc : Thread Cert.OutOdd.nD Cert.OutOdd.τ).loc Cert.OutOdd.main_arg9))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
      ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4)
      ∧ r.2.mem ((c.tc : Thread Cert.OutOddIdeal.nD Cert.OutOddIdeal.τ).loc Cert.OutOddIdeal.main_arg5) = m ((c.tc : Thread Cert.OutOddIdeal.nD Cert.OutOddIdeal.τ).loc Cert.OutOddIdeal.main_arg5)
      ∧ r.2.mem ((c.tc : Thread Cert.OutOddIdeal.nD Cert.OutOddIdeal.τ).loc Cert.OutOddIdeal.main_arg6) = m ((c.tc : Thread Cert.OutOddIdeal.nD Cert.OutOddIdeal.τ).loc Cert.OutOddIdeal.main_arg6)
      ∧ r.2.mem ((c.tc : Thread Cert.OutOddIdeal.nD Cert.OutOddIdeal.τ).loc Cert.OutOddIdeal.main_arg7) = m ((c.tc : Thread Cert.OutOddIdeal.nD Cert.OutOddIdeal.τ).loc Cert.OutOddIdeal.main_arg7)
      ∧ r.2.mem ((c.tc : Thread Cert.OutOddIdeal.nD Cert.OutOddIdeal.τ).loc Cert.OutOddIdeal.main_arg8) = m ((c.tc : Thread Cert.OutOddIdeal.nD Cert.OutOddIdeal.τ).loc Cert.OutOddIdeal.main_arg8)
      ∧ r.2.mem ((c.tc : Thread Cert.OutOddIdeal.nD Cert.OutOddIdeal.τ).loc Cert.OutOddIdeal.main_arg9) = m ((c.tc : Thread Cert.OutOddIdeal.nD Cert.OutOddIdeal.τ).loc Cert.OutOddIdeal.main_arg9))
      ∧ r.2.sem = fun _ => 0)

def quiescent_OutOddRefIdeal [hOutOddRefIdeal : Cert.OutOddRefIdeal.Facts] : Prop :=
  ∀ (m : (ℓ : Loc Cert.OutOddRefIdeal.nD Cert.OutOddRefIdeal.τ Cert.OutOddRefIdeal.sig) → Buf (Elt Ideal) ℓ) (g : Dev Cert.OutOddRefIdeal.nD → PrngReg), Pre_OutOddRefIdeal m →
    θ_run (Cert.OutOddRefIdeal.defs (F := Ideal)) (onTc (τ := Cert.OutOddRefIdeal.τ) (Cert.OutOddRefIdeal.main (F := Ideal))) ⟨m, fun _ => 0, g⟩ (fun r => (∀ c : Dev Cert.OutOddRefIdeal.nD,
      r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2)
      ∧ r.2.mem ((c.tc : Thread Cert.OutOddRefIdeal.nD Cert.OutOddRefIdeal.τ).loc Cert.OutOddRefIdeal.main_arg3) = m ((c.tc : Thread Cert.OutOddRefIdeal.nD Cert.OutOddRefIdeal.τ).loc Cert.OutOddRefIdeal.main_arg3)
      ∧ r.2.mem ((c.tc : Thread Cert.OutOddRefIdeal.nD Cert.OutOddRefIdeal.τ).loc Cert.OutOddRefIdeal.main_arg4) = m ((c.tc : Thread Cert.OutOddRefIdeal.nD Cert.OutOddRefIdeal.τ).loc Cert.OutOddRefIdeal.main_arg4)
      ∧ r.2.mem ((c.tc : Thread Cert.OutOddRefIdeal.nD Cert.OutOddRefIdeal.τ).loc Cert.OutOddRefIdeal.main_arg5) = m ((c.tc : Thread Cert.OutOddRefIdeal.nD Cert.OutOddRefIdeal.τ).loc Cert.OutOddRefIdeal.main_arg5)
      ∧ r.2.mem ((c.tc : Thread Cert.OutOddRefIdeal.nD Cert.OutOddRefIdeal.τ).loc Cert.OutOddRefIdeal.main_arg6) = m ((c.tc : Thread Cert.OutOddRefIdeal.nD Cert.OutOddRefIdeal.τ).loc Cert.OutOddRefIdeal.main_arg6)
      ∧ r.2.mem ((c.tc : Thread Cert.OutOddRefIdeal.nD Cert.OutOddRefIdeal.τ).loc Cert.OutOddRefIdeal.main_arg7) = m ((c.tc : Thread Cert.OutOddRefIdeal.nD Cert.OutOddRefIdeal.τ).loc Cert.OutOddRefIdeal.main_arg7)
      ∧ r.2.mem ((c.tc : Thread Cert.OutOddRefIdeal.nD Cert.OutOddRefIdeal.τ).loc Cert.OutOddRefIdeal.main_arg8) = m ((c.tc : Thread Cert.OutOddRefIdeal.nD Cert.OutOddRefIdeal.τ).loc Cert.OutOddRefIdeal.main_arg8)
      ∧ r.2.mem ((c.tc : Thread Cert.OutOddRefIdeal.nD Cert.OutOddRefIdeal.τ).loc Cert.OutOddRefIdeal.main_arg9) = m ((c.tc : Thread Cert.OutOddRefIdeal.nD Cert.OutOddRefIdeal.τ).loc Cert.OutOddRefIdeal.main_arg9))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3)
      ∧ r.2.mem ((c.tc : Thread Cert.InEven.nD Cert.InEven.τ).loc Cert.InEven.main_arg4) = m ((c.tc : Thread Cert.InEven.nD Cert.InEven.τ).loc Cert.InEven.main_arg4)
      ∧ r.2.mem ((c.tc : Thread Cert.InEven.nD Cert.InEven.τ).loc Cert.InEven.main_arg5) = m ((c.tc : Thread Cert.InEven.nD Cert.InEven.τ).loc Cert.InEven.main_arg5)
      ∧ r.2.mem ((c.tc : Thread Cert.InEven.nD Cert.InEven.τ).loc Cert.InEven.main_arg6) = m ((c.tc : Thread Cert.InEven.nD Cert.InEven.τ).loc Cert.InEven.main_arg6)
      ∧ r.2.mem ((c.tc : Thread Cert.InEven.nD Cert.InEven.τ).loc Cert.InEven.main_arg7) = m ((c.tc : Thread Cert.InEven.nD Cert.InEven.τ).loc Cert.InEven.main_arg7))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
      ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4)
      ∧ r.2.mem ((c.tc : Thread Cert.InEvenIdeal.nD Cert.InEvenIdeal.τ).loc Cert.InEvenIdeal.main_arg5) = m ((c.tc : Thread Cert.InEvenIdeal.nD Cert.InEvenIdeal.τ).loc Cert.InEvenIdeal.main_arg5)
      ∧ r.2.mem ((c.tc : Thread Cert.InEvenIdeal.nD Cert.InEvenIdeal.τ).loc Cert.InEvenIdeal.main_arg6) = m ((c.tc : Thread Cert.InEvenIdeal.nD Cert.InEvenIdeal.τ).loc Cert.InEvenIdeal.main_arg6)
      ∧ r.2.mem ((c.tc : Thread Cert.InEvenIdeal.nD Cert.InEvenIdeal.τ).loc Cert.InEvenIdeal.main_arg7) = m ((c.tc : Thread Cert.InEvenIdeal.nD Cert.InEvenIdeal.τ).loc Cert.InEvenIdeal.main_arg7))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2)
      ∧ r.2.mem ((c.tc : Thread Cert.InEvenRefIdeal.nD Cert.InEvenRefIdeal.τ).loc Cert.InEvenRefIdeal.main_arg3) = m ((c.tc : Thread Cert.InEvenRefIdeal.nD Cert.InEvenRefIdeal.τ).loc Cert.InEvenRefIdeal.main_arg3)
      ∧ r.2.mem ((c.tc : Thread Cert.InEvenRefIdeal.nD Cert.InEvenRefIdeal.τ).loc Cert.InEvenRefIdeal.main_arg4) = m ((c.tc : Thread Cert.InEvenRefIdeal.nD Cert.InEvenRefIdeal.τ).loc Cert.InEvenRefIdeal.main_arg4)
      ∧ r.2.mem ((c.tc : Thread Cert.InEvenRefIdeal.nD Cert.InEvenRefIdeal.τ).loc Cert.InEvenRefIdeal.main_arg5) = m ((c.tc : Thread Cert.InEvenRefIdeal.nD Cert.InEvenRefIdeal.τ).loc Cert.InEvenRefIdeal.main_arg5)
      ∧ r.2.mem ((c.tc : Thread Cert.InEvenRefIdeal.nD Cert.InEvenRefIdeal.τ).loc Cert.InEvenRefIdeal.main_arg6) = m ((c.tc : Thread Cert.InEvenRefIdeal.nD Cert.InEvenRefIdeal.τ).loc Cert.InEvenRefIdeal.main_arg6)
      ∧ r.2.mem ((c.tc : Thread Cert.InEvenRefIdeal.nD Cert.InEvenRefIdeal.τ).loc Cert.InEvenRefIdeal.main_arg7) = m ((c.tc : Thread Cert.InEvenRefIdeal.nD Cert.InEvenRefIdeal.τ).loc Cert.InEvenRefIdeal.main_arg7))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v13)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v13) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v175) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Mla_MlaIdeal : Prop :=
  True

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v36) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)
      ∧ m' ((c.tc : Thread Cert.InOddRefIdeal.nD Cert.InOddRefIdeal.τ).loc Cert.InOddRefIdeal.main_arg3) = m ((c.tc : Thread Cert.InOddIdeal.nD Cert.InOddIdeal.τ).loc Cert.InOddIdeal.main_arg3)) →
    ∃ (v0 : (c : Dev Cert.InOddIdeal.nD) → Buf (Elt Ideal) ((c.tc : Thread Cert.InOddIdeal.nD Cert.InOddIdeal.τ).loc Cert.InOddIdeal.main_v4_0)) (v1 : (c : Dev Cert.InOddIdeal.nD) → Buf (Elt Ideal) ((c.tc : Thread Cert.InOddIdeal.nD Cert.InOddIdeal.τ).loc Cert.InOddIdeal.main_v4_1)) (v2 : (c : Dev Cert.InOddIdeal.nD) → Buf (Elt Ideal) ((c.tc : Thread Cert.InOddIdeal.nD Cert.InOddIdeal.τ).loc Cert.InOddIdeal.main_v4_2)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v4_0) = v0 c
          ∧ r.2.mem ((c.tc : Thread Cert.InOddIdeal.nD Cert.InOddIdeal.τ).loc Cert.InOddIdeal.main_v4_1) = v1 c
          ∧ r.2.mem ((c.tc : Thread Cert.InOddIdeal.nD Cert.InOddIdeal.τ).loc Cert.InOddIdeal.main_v4_2) = v2 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
          ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v71) = v0 c
          ∧ r.2.mem ((c.tc : Thread Cert.InOddRefIdeal.nD Cert.InOddRefIdeal.τ).loc Cert.InOddRefIdeal.main_v76) = v1 c
          ∧ r.2.mem ((c.tc : Thread Cert.InOddRefIdeal.nD Cert.InOddRefIdeal.τ).loc Cert.InOddRefIdeal.main_v77) = v2 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2)
          ∧ r.2.mem ((c.tc : Thread Cert.InOddRefIdeal.nD Cert.InOddRefIdeal.τ).loc Cert.InOddRefIdeal.main_arg3) = m' ((c.tc : Thread Cert.InOddRefIdeal.nD Cert.InOddRefIdeal.τ).loc Cert.InOddRefIdeal.main_arg3))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)
      ∧ m' ((c.tc : Thread Cert.OutEvenRefIdeal.nD Cert.OutEvenRefIdeal.τ).loc Cert.OutEvenRefIdeal.main_arg4) = m ((c.tc : Thread Cert.OutEvenIdeal.nD Cert.OutEvenIdeal.τ).loc Cert.OutEvenIdeal.main_arg4)) →
    ∃ (v0 : (c : Dev Cert.OutEvenIdeal.nD) → Buf (Elt Ideal) ((c.tc : Thread Cert.OutEvenIdeal.nD Cert.OutEvenIdeal.τ).loc Cert.OutEvenIdeal.main_v4)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v4) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v63) = v0 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3)
          ∧ r.2.mem ((c.tc : Thread Cert.OutEvenRefIdeal.nD Cert.OutEvenRefIdeal.τ).loc Cert.OutEvenRefIdeal.main_arg4) = m' ((c.tc : Thread Cert.OutEvenRefIdeal.nD Cert.OutEvenRefIdeal.τ).loc Cert.OutEvenRefIdeal.main_arg4))

def preserves_OutOdd_OutOddIdeal : Prop :=
  True

def algebraic_OutOddIdeal_OutOddRefIdeal [hOutOddIdeal : Cert.OutOddIdeal.Facts] [hOutOddRefIdeal : Cert.OutOddRefIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddRefIdeal.nD Cert.OutOddRefIdeal.τ Cert.OutOddRefIdeal.sig) → Buf (Elt Ideal) ℓ) (g' : Dev Cert.OutOddRefIdeal.nD → PrngReg), Pre_OutOddIdeal m →
    (∀ c : Dev Cert.OutOddIdeal.nD,
      m' ((c.tc : Thread Cert.OutOddRefIdeal.nD Cert.OutOddRefIdeal.τ).loc Cert.OutOddRefIdeal.main_arg0) = m ((c.tc : Thread Cert.OutOddIdeal.nD Cert.OutOddIdeal.τ).loc Cert.OutOddIdeal.main_arg0)
      ∧ m' ((c.tc : Thread Cert.OutOddRefIdeal.nD Cert.OutOddRefIdeal.τ).loc Cert.OutOddRefIdeal.main_arg1) = m ((c.tc : Thread Cert.OutOddIdeal.nD Cert.OutOddIdeal.τ).loc Cert.OutOddIdeal.main_arg1)
      ∧ m' ((c.tc : Thread Cert.OutOddRefIdeal.nD Cert.OutOddRefIdeal.τ).loc Cert.OutOddRefIdeal.main_arg2) = m ((c.tc : Thread Cert.OutOddIdeal.nD Cert.OutOddIdeal.τ).loc Cert.OutOddIdeal.main_arg2)
      ∧ m' ((c.tc : Thread Cert.OutOddRefIdeal.nD Cert.OutOddRefIdeal.τ).loc Cert.OutOddRefIdeal.main_arg3) = m ((c.tc : Thread Cert.OutOddIdeal.nD Cert.OutOddIdeal.τ).loc Cert.OutOddIdeal.main_arg3)
      ∧ m' ((c.tc : Thread Cert.OutOddRefIdeal.nD Cert.OutOddRefIdeal.τ).loc Cert.OutOddRefIdeal.main_arg4) = m ((c.tc : Thread Cert.OutOddIdeal.nD Cert.OutOddIdeal.τ).loc Cert.OutOddIdeal.main_arg4)
      ∧ m' ((c.tc : Thread Cert.OutOddRefIdeal.nD Cert.OutOddRefIdeal.τ).loc Cert.OutOddRefIdeal.main_arg5) = m ((c.tc : Thread Cert.OutOddIdeal.nD Cert.OutOddIdeal.τ).loc Cert.OutOddIdeal.main_arg5)
      ∧ m' ((c.tc : Thread Cert.OutOddRefIdeal.nD Cert.OutOddRefIdeal.τ).loc Cert.OutOddRefIdeal.main_arg6) = m ((c.tc : Thread Cert.OutOddIdeal.nD Cert.OutOddIdeal.τ).loc Cert.OutOddIdeal.main_arg6)
      ∧ m' ((c.tc : Thread Cert.OutOddRefIdeal.nD Cert.OutOddRefIdeal.τ).loc Cert.OutOddRefIdeal.main_arg7) = m ((c.tc : Thread Cert.OutOddIdeal.nD Cert.OutOddIdeal.τ).loc Cert.OutOddIdeal.main_arg7)
      ∧ m' ((c.tc : Thread Cert.OutOddRefIdeal.nD Cert.OutOddRefIdeal.τ).loc Cert.OutOddRefIdeal.main_arg8) = m ((c.tc : Thread Cert.OutOddIdeal.nD Cert.OutOddIdeal.τ).loc Cert.OutOddIdeal.main_arg8)
      ∧ m' ((c.tc : Thread Cert.OutOddRefIdeal.nD Cert.OutOddRefIdeal.τ).loc Cert.OutOddRefIdeal.main_arg9) = m ((c.tc : Thread Cert.OutOddIdeal.nD Cert.OutOddIdeal.τ).loc Cert.OutOddIdeal.main_arg9)) →
    ∃ (v0 : (c : Dev Cert.OutOddIdeal.nD) → Buf (Elt Ideal) ((c.tc : Thread Cert.OutOddIdeal.nD Cert.OutOddIdeal.τ).loc Cert.OutOddIdeal.main_v13)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v13) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
          ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4)
          ∧ r.2.mem ((c.tc : Thread Cert.OutOddIdeal.nD Cert.OutOddIdeal.τ).loc Cert.OutOddIdeal.main_arg5) = m ((c.tc : Thread Cert.OutOddIdeal.nD Cert.OutOddIdeal.τ).loc Cert.OutOddIdeal.main_arg5)
          ∧ r.2.mem ((c.tc : Thread Cert.OutOddIdeal.nD Cert.OutOddIdeal.τ).loc Cert.OutOddIdeal.main_arg6) = m ((c.tc : Thread Cert.OutOddIdeal.nD Cert.OutOddIdeal.τ).loc Cert.OutOddIdeal.main_arg6)
          ∧ r.2.mem ((c.tc : Thread Cert.OutOddIdeal.nD Cert.OutOddIdeal.τ).loc Cert.OutOddIdeal.main_arg7) = m ((c.tc : Thread Cert.OutOddIdeal.nD Cert.OutOddIdeal.τ).loc Cert.OutOddIdeal.main_arg7)
          ∧ r.2.mem ((c.tc : Thread Cert.OutOddIdeal.nD Cert.OutOddIdeal.τ).loc Cert.OutOddIdeal.main_arg8) = m ((c.tc : Thread Cert.OutOddIdeal.nD Cert.OutOddIdeal.τ).loc Cert.OutOddIdeal.main_arg8)
          ∧ r.2.mem ((c.tc : Thread Cert.OutOddIdeal.nD Cert.OutOddIdeal.τ).loc Cert.OutOddIdeal.main_arg9) = m ((c.tc : Thread Cert.OutOddIdeal.nD Cert.OutOddIdeal.τ).loc Cert.OutOddIdeal.main_arg9))
      ∧ θ_run (Cert.OutOddRefIdeal.defs (F := Ideal)) (onTc (τ := Cert.OutOddRefIdeal.τ) (Cert.OutOddRefIdeal.main (F := Ideal))) ⟨m', fun _ => 0, g'⟩ (fun r => ∀ c : Dev Cert.OutOddRefIdeal.nD,
          r.2.mem ((c.tc : Thread Cert.OutOddRefIdeal.nD Cert.OutOddRefIdeal.τ).loc Cert.OutOddRefIdeal.main_v99) = v0 c
          ∧ r.2.mem ((c.tc : Thread Cert.OutOddRefIdeal.nD Cert.OutOddRefIdeal.τ).loc Cert.OutOddRefIdeal.main_arg0) = m' ((c.tc : Thread Cert.OutOddRefIdeal.nD Cert.OutOddRefIdeal.τ).loc Cert.OutOddRefIdeal.main_arg0)
          ∧ r.2.mem ((c.tc : Thread Cert.OutOddRefIdeal.nD Cert.OutOddRefIdeal.τ).loc Cert.OutOddRefIdeal.main_arg1) = m' ((c.tc : Thread Cert.OutOddRefIdeal.nD Cert.OutOddRefIdeal.τ).loc Cert.OutOddRefIdeal.main_arg1)
          ∧ r.2.mem ((c.tc : Thread Cert.OutOddRefIdeal.nD Cert.OutOddRefIdeal.τ).loc Cert.OutOddRefIdeal.main_arg2) = m' ((c.tc : Thread Cert.OutOddRefIdeal.nD Cert.OutOddRefIdeal.τ).loc Cert.OutOddRefIdeal.main_arg2)
          ∧ r.2.mem ((c.tc : Thread Cert.OutOddRefIdeal.nD Cert.OutOddRefIdeal.τ).loc Cert.OutOddRefIdeal.main_arg3) = m' ((c.tc : Thread Cert.OutOddRefIdeal.nD Cert.OutOddRefIdeal.τ).loc Cert.OutOddRefIdeal.main_arg3)
          ∧ r.2.mem ((c.tc : Thread Cert.OutOddRefIdeal.nD Cert.OutOddRefIdeal.τ).loc Cert.OutOddRefIdeal.main_arg4) = m' ((c.tc : Thread Cert.OutOddRefIdeal.nD Cert.OutOddRefIdeal.τ).loc Cert.OutOddRefIdeal.main_arg4)
          ∧ r.2.mem ((c.tc : Thread Cert.OutOddRefIdeal.nD Cert.OutOddRefIdeal.τ).loc Cert.OutOddRefIdeal.main_arg5) = m' ((c.tc : Thread Cert.OutOddRefIdeal.nD Cert.OutOddRefIdeal.τ).loc Cert.OutOddRefIdeal.main_arg5)
          ∧ r.2.mem ((c.tc : Thread Cert.OutOddRefIdeal.nD Cert.OutOddRefIdeal.τ).loc Cert.OutOddRefIdeal.main_arg6) = m' ((c.tc : Thread Cert.OutOddRefIdeal.nD Cert.OutOddRefIdeal.τ).loc Cert.OutOddRefIdeal.main_arg6)
          ∧ r.2.mem ((c.tc : Thread Cert.OutOddRefIdeal.nD Cert.OutOddRefIdeal.τ).loc Cert.OutOddRefIdeal.main_arg7) = m' ((c.tc : Thread Cert.OutOddRefIdeal.nD Cert.OutOddRefIdeal.τ).loc Cert.OutOddRefIdeal.main_arg7)
          ∧ r.2.mem ((c.tc : Thread Cert.OutOddRefIdeal.nD Cert.OutOddRefIdeal.τ).loc Cert.OutOddRefIdeal.main_arg8) = m' ((c.tc : Thread Cert.OutOddRefIdeal.nD Cert.OutOddRefIdeal.τ).loc Cert.OutOddRefIdeal.main_arg8)
          ∧ r.2.mem ((c.tc : Thread Cert.OutOddRefIdeal.nD Cert.OutOddRefIdeal.τ).loc Cert.OutOddRefIdeal.main_arg9) = m' ((c.tc : Thread Cert.OutOddRefIdeal.nD Cert.OutOddRefIdeal.τ).loc Cert.OutOddRefIdeal.main_arg9))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)
      ∧ m' ((c.tc : Thread Cert.InEvenRefIdeal.nD Cert.InEvenRefIdeal.τ).loc Cert.InEvenRefIdeal.main_arg3) = m ((c.tc : Thread Cert.InEvenIdeal.nD Cert.InEvenIdeal.τ).loc Cert.InEvenIdeal.main_arg3)
      ∧ m' ((c.tc : Thread Cert.InEvenRefIdeal.nD Cert.InEvenRefIdeal.τ).loc Cert.InEvenRefIdeal.main_arg4) = m ((c.tc : Thread Cert.InEvenIdeal.nD Cert.InEvenIdeal.τ).loc Cert.InEvenIdeal.main_arg4)
      ∧ m' ((c.tc : Thread Cert.InEvenRefIdeal.nD Cert.InEvenRefIdeal.τ).loc Cert.InEvenRefIdeal.main_arg5) = m ((c.tc : Thread Cert.InEvenIdeal.nD Cert.InEvenIdeal.τ).loc Cert.InEvenIdeal.main_arg5)
      ∧ m' ((c.tc : Thread Cert.InEvenRefIdeal.nD Cert.InEvenRefIdeal.τ).loc Cert.InEvenRefIdeal.main_arg6) = m ((c.tc : Thread Cert.InEvenIdeal.nD Cert.InEvenIdeal.τ).loc Cert.InEvenIdeal.main_arg6)
      ∧ m' ((c.tc : Thread Cert.InEvenRefIdeal.nD Cert.InEvenRefIdeal.τ).loc Cert.InEvenRefIdeal.main_arg7) = m ((c.tc : Thread Cert.InEvenIdeal.nD Cert.InEvenIdeal.τ).loc Cert.InEvenIdeal.main_arg7)) →
    ∃ (v0 : (c : Dev Cert.InEvenIdeal.nD) → Buf (Elt Ideal) ((c.tc : Thread Cert.InEvenIdeal.nD Cert.InEvenIdeal.τ).loc Cert.InEvenIdeal.main_v79_0)) (v1 : (c : Dev Cert.InEvenIdeal.nD) → Buf (Elt Ideal) ((c.tc : Thread Cert.InEvenIdeal.nD Cert.InEvenIdeal.τ).loc Cert.InEvenIdeal.main_v79_1)) (v2 : (c : Dev Cert.InEvenIdeal.nD) → Buf (Elt Ideal) ((c.tc : Thread Cert.InEvenIdeal.nD Cert.InEvenIdeal.τ).loc Cert.InEvenIdeal.main_v79_2)) (v3 : (c : Dev Cert.InEvenIdeal.nD) → Buf (Elt Ideal) ((c.tc : Thread Cert.InEvenIdeal.nD Cert.InEvenIdeal.τ).loc Cert.InEvenIdeal.main_v79_3)) (v4 : (c : Dev Cert.InEvenIdeal.nD) → Buf (Elt Ideal) ((c.tc : Thread Cert.InEvenIdeal.nD Cert.InEvenIdeal.τ).loc Cert.InEvenIdeal.main_v79_4)) (v5 : (c : Dev Cert.InEvenIdeal.nD) → Buf (Elt Ideal) ((c.tc : Thread Cert.InEvenIdeal.nD Cert.InEvenIdeal.τ).loc Cert.InEvenIdeal.main_v79_5)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v79_0) = v0 c
          ∧ r.2.mem ((c.tc : Thread Cert.InEvenIdeal.nD Cert.InEvenIdeal.τ).loc Cert.InEvenIdeal.main_v79_1) = v1 c
          ∧ r.2.mem ((c.tc : Thread Cert.InEvenIdeal.nD Cert.InEvenIdeal.τ).loc Cert.InEvenIdeal.main_v79_2) = v2 c
          ∧ r.2.mem ((c.tc : Thread Cert.InEvenIdeal.nD Cert.InEvenIdeal.τ).loc Cert.InEvenIdeal.main_v79_3) = v3 c
          ∧ r.2.mem ((c.tc : Thread Cert.InEvenIdeal.nD Cert.InEvenIdeal.τ).loc Cert.InEvenIdeal.main_v79_4) = v4 c
          ∧ r.2.mem ((c.tc : Thread Cert.InEvenIdeal.nD Cert.InEvenIdeal.τ).loc Cert.InEvenIdeal.main_v79_5) = v5 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
          ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4)
          ∧ r.2.mem ((c.tc : Thread Cert.InEvenIdeal.nD Cert.InEvenIdeal.τ).loc Cert.InEvenIdeal.main_arg5) = m ((c.tc : Thread Cert.InEvenIdeal.nD Cert.InEvenIdeal.τ).loc Cert.InEvenIdeal.main_arg5)
          ∧ r.2.mem ((c.tc : Thread Cert.InEvenIdeal.nD Cert.InEvenIdeal.τ).loc Cert.InEvenIdeal.main_arg6) = m ((c.tc : Thread Cert.InEvenIdeal.nD Cert.InEvenIdeal.τ).loc Cert.InEvenIdeal.main_arg6)
          ∧ r.2.mem ((c.tc : Thread Cert.InEvenIdeal.nD Cert.InEvenIdeal.τ).loc Cert.InEvenIdeal.main_arg7) = m ((c.tc : Thread Cert.InEvenIdeal.nD Cert.InEvenIdeal.τ).loc Cert.InEvenIdeal.main_arg7))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v71) = v0 c
          ∧ r.2.mem ((c.tc : Thread Cert.InEvenRefIdeal.nD Cert.InEvenRefIdeal.τ).loc Cert.InEvenRefIdeal.main_v219) = v1 c
          ∧ r.2.mem ((c.tc : Thread Cert.InEvenRefIdeal.nD Cert.InEvenRefIdeal.τ).loc Cert.InEvenRefIdeal.main_v221) = v2 c
          ∧ r.2.mem ((c.tc : Thread Cert.InEvenRefIdeal.nD Cert.InEvenRefIdeal.τ).loc Cert.InEvenRefIdeal.main_v223) = v3 c
          ∧ r.2.mem ((c.tc : Thread Cert.InEvenRefIdeal.nD Cert.InEvenRefIdeal.τ).loc Cert.InEvenRefIdeal.main_v89) = v4 c
          ∧ r.2.mem ((c.tc : Thread Cert.InEvenRefIdeal.nD Cert.InEvenRefIdeal.τ).loc Cert.InEvenRefIdeal.main_v224) = v5 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2)
          ∧ r.2.mem ((c.tc : Thread Cert.InEvenRefIdeal.nD Cert.InEvenRefIdeal.τ).loc Cert.InEvenRefIdeal.main_arg3) = m' ((c.tc : Thread Cert.InEvenRefIdeal.nD Cert.InEvenRefIdeal.τ).loc Cert.InEvenRefIdeal.main_arg3)
          ∧ r.2.mem ((c.tc : Thread Cert.InEvenRefIdeal.nD Cert.InEvenRefIdeal.τ).loc Cert.InEvenRefIdeal.main_arg4) = m' ((c.tc : Thread Cert.InEvenRefIdeal.nD Cert.InEvenRefIdeal.τ).loc Cert.InEvenRefIdeal.main_arg4)
          ∧ r.2.mem ((c.tc : Thread Cert.InEvenRefIdeal.nD Cert.InEvenRefIdeal.τ).loc Cert.InEvenRefIdeal.main_arg5) = m' ((c.tc : Thread Cert.InEvenRefIdeal.nD Cert.InEvenRefIdeal.τ).loc Cert.InEvenRefIdeal.main_arg5)
          ∧ r.2.mem ((c.tc : Thread Cert.InEvenRefIdeal.nD Cert.InEvenRefIdeal.τ).loc Cert.InEvenRefIdeal.main_arg6) = m' ((c.tc : Thread Cert.InEvenRefIdeal.nD Cert.InEvenRefIdeal.τ).loc Cert.InEvenRefIdeal.main_arg6)
          ∧ r.2.mem ((c.tc : Thread Cert.InEvenRefIdeal.nD Cert.InEvenRefIdeal.τ).loc Cert.InEvenRefIdeal.main_arg7) = m' ((c.tc : Thread Cert.InEvenRefIdeal.nD Cert.InEvenRefIdeal.τ).loc Cert.InEvenRefIdeal.main_arg7))

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)) →
    ∃ (v0 : (c : Dev Cert.RetIdeal.nD) → Buf (Elt Ideal) ((c.tc : Thread Cert.RetIdeal.nD Cert.RetIdeal.τ).loc Cert.RetIdeal.main_v8_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v8_1) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v41) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2))

def Claim : Prop :=
  ∃ (hFfn : Cert.Ffn.Facts) (hFfnIdeal : Cert.FfnIdeal.Facts) (hFfnRefIdeal : Cert.FfnRefIdeal.Facts) (hMla : Cert.Mla.Facts) (hMlaIdeal : Cert.MlaIdeal.Facts) (hMlaRefIdeal : Cert.MlaRefIdeal.Facts) (hInOdd : Cert.InOdd.Facts) (hInOddIdeal : Cert.InOddIdeal.Facts) (hInOddRefIdeal : Cert.InOddRefIdeal.Facts) (hOutEven : Cert.OutEven.Facts) (hOutEvenIdeal : Cert.OutEvenIdeal.Facts) (hOutEvenRefIdeal : Cert.OutEvenRefIdeal.Facts) (hOutOdd : Cert.OutOdd.Facts) (hOutOddIdeal : Cert.OutOddIdeal.Facts) (hOutOddRefIdeal : Cert.OutOddRefIdeal.Facts) (hInEven : Cert.InEven.Facts) (hInEvenIdeal : Cert.InEvenIdeal.Facts) (hInEvenRefIdeal : Cert.InEvenRefIdeal.Facts) (hRet : Cert.Ret.Facts) (hRetIdeal : Cert.RetIdeal.Facts) (hRetRefIdeal : Cert.RetRefIdeal.Facts) (hPre_mla_finite : Cert.Pre_mla_finite.Facts),
    quiescent_Ffn (hFfn := hFfn)
    ∧ quiescent_FfnIdeal (hFfnIdeal := hFfnIdeal)
    ∧ quiescent_FfnRefIdeal (hFfnRefIdeal := hFfnRefIdeal)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_InOdd (hInOdd := hInOdd)
    ∧ quiescent_InOddIdeal (hInOddIdeal := hInOddIdeal)
    ∧ quiescent_InOddRefIdeal (hInOddRefIdeal := hInOddRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_OutOdd (hOutOdd := hOutOdd)
    ∧ quiescent_OutOddIdeal (hOutOddIdeal := hOutOddIdeal)
    ∧ quiescent_OutOddRefIdeal (hOutOddRefIdeal := hOutOddRefIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_Ret (hRet := hRet)
    ∧ quiescent_RetIdeal (hRetIdeal := hRetIdeal)
    ∧ quiescent_RetRefIdeal (hRetRefIdeal := hRetRefIdeal)
    ∧ preserves_Ffn_FfnIdeal
    ∧ algebraic_FfnIdeal_FfnRefIdeal (hFfnIdeal := hFfnIdeal) (hFfnRefIdeal := hFfnRefIdeal)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_InOdd_InOddIdeal
    ∧ algebraic_InOddIdeal_InOddRefIdeal (hInOddIdeal := hInOddIdeal) (hInOddRefIdeal := hInOddRefIdeal)
    ∧ preserves_OutEven_OutEvenIdeal
    ∧ algebraic_OutEvenIdeal_OutEvenRefIdeal (hOutEvenIdeal := hOutEvenIdeal) (hOutEvenRefIdeal := hOutEvenRefIdeal)
    ∧ preserves_OutOdd_OutOddIdeal
    ∧ algebraic_OutOddIdeal_OutOddRefIdeal (hOutOddIdeal := hOutOddIdeal) (hOutOddRefIdeal := hOutOddRefIdeal)
    ∧ preserves_InEven_InEvenIdeal
    ∧ algebraic_InEvenIdeal_InEvenRefIdeal (hInEvenIdeal := hInEvenIdeal) (hInEvenRefIdeal := hInEvenRefIdeal)
    ∧ preserves_Ret_RetIdeal
    ∧ algebraic_RetIdeal_RetRefIdeal (hRetIdeal := hRetIdeal) (hRetRefIdeal := hRetRefIdeal)
-- ==== Pre_mla_finite.lean ====
abbrev S8192x1024 : Shape := ⟨2, ![8192, 1024]⟩
abbrev S8192x512 : Shape := ⟨2, ![8192, 512]⟩
abbrev S1024x1024 : Shape := ⟨2, ![1024, 1024]⟩
abbrev S1024x512 : Shape := ⟨2, ![1024, 512]⟩
abbrev S4096x1024 : Shape := ⟨2, ![4096, 1024]⟩
abbrev S9216x1024 : Shape := ⟨2, ![9216, 1024]⟩
abbrev S_ : Shape := ⟨0, ![]⟩

class Facts : Prop where
  slices_S8192x1024_S4096x1024_4096_0 : S8192x1024.Slices ![4096, 0] S4096x1024
  bitsLt_bf16_f32 : FTy.bits .bf16 < FTy.bits .f32
  concatenates_S4096x1024_S4096x1024_S1024x1024_S9216x1024_d0 : Shape.Concatenates [S4096x1024, S4096x1024, S1024x1024] S9216x1024 0
  bcast_S_S9216x1024 : S_.BroadcastsInDim S9216x1024 (![] : Fin 0 → Fin S9216x1024.rank)

variable [Facts]

def fn {F : FTy → Type} [FloatOps F] (main_arg0 : FVec F S8192x1024 .bf16) (main_arg1 : FVec F S8192x1024 .bf16) (main_arg2 : FVec F S8192x512 .bf16) (main_arg3 : FVec F S1024x1024 .bf16) (main_arg4 : FVec F S1024x512 .bf16) (main_arg5 : FVec F S8192x1024 .bf16) : IVec S9216x1024 1 :=
  let main_v0 : FVec F S4096x1024 .bf16 := (extractStridedSlice S4096x1024 ![4096, 0] · slices_S8192x1024_S4096x1024_4096_0) main_arg0
  let main_v1 : FVec F S4096x1024 .f32 := (extf .f32 · bitsLt_bf16_f32) main_v0
  let main_v2 : FVec F S4096x1024 .bf16 := (extractStridedSlice S4096x1024 ![4096, 0] · slices_S8192x1024_S4096x1024_4096_0) main_arg1
  let main_v3 : FVec F S4096x1024 .f32 := (extf .f32 · bitsLt_bf16_f32) main_v2
  let main_v4 : FVec F S1024x1024 .f32 := (extf .f32 · bitsLt_bf16_f32) main_arg3
  let main_v5 : FVec F S9216x1024 .f32 := concatenate S9216x1024 0 [⟨S4096x1024, main_v1⟩, ⟨S4096x1024, main_v3⟩, ⟨S1024x1024, main_v4⟩] concatenates_S4096x1024_S4096x1024_S1024x1024_S9216x1024_d0
  let main_v6 : FVec F S9216x1024 .f32 := Host.absf main_v5
  let main_cst : FVec F S_ .f32 := constant S_ .f32 0x7F800000#32
  let main_v7 : FVec F S9216x1024 .f32 := broadcastInDim S9216x1024 ![] bcast_S_S9216x1024 main_cst
  let main_v8 : IVec S9216x1024 1 := cmpf .olt main_v6 main_v7
  main_v8
-- ==== Ffn.lean ====
abbrev S8192x1024 : Shape := ⟨2, ![8192, 1024]⟩
abbrev S4x3x1x6144 : Shape := ⟨4, ![4, 3, 1, 6144]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S4x1x1024 : Shape := ⟨3, ![4, 1, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S256x1024 : Shape := ⟨2, ![256, 1024]⟩
abbrev S8x1024 : Shape := ⟨2, ![8, 1024]⟩
abbrev S1x1x1x6144 : Shape := ⟨4, ![1, 1, 1, 6144]⟩
abbrev S1x1x1024 : Shape := ⟨3, ![1, 1, 1024]⟩
abbrev S272x1024 : Shape := ⟨2, ![272, 1024]⟩
abbrev S256x2816 : Shape := ⟨2, ![256, 2816]⟩
abbrev S1x6144 : Shape := ⟨2, ![1, 6144]⟩
abbrev S1x1024 : Shape := ⟨2, ![1, 1024]⟩
abbrev S256 : Shape := ⟨1, ![256]⟩
abbrev S256x1 : Shape := ⟨2, ![256, 1]⟩
abbrev S8 : Shape := ⟨1, ![8]⟩
abbrev S8x1 : Shape := ⟨2, ![8, 1]⟩
abbrev S16x1024 : Shape := ⟨2, ![16, 1024]⟩
abbrev S1024x256 : Shape := ⟨2, ![1024, 256]⟩
abbrev S272x256 : Shape := ⟨2, ![272, 256]⟩
abbrev S3x256 : Shape := ⟨2, ![3, 256]⟩
abbrev S1x256 : Shape := ⟨2, ![1, 256]⟩
abbrev S256x256 : Shape := ⟨2, ![256, 256]⟩

abbrev nBuf : Space → Nat
  | .hbm => 22
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S4x3x1x6144, .f32⟩
  | .hbm, ⟨2, _⟩ => ⟨S4x1024, .f32⟩
  | .hbm, ⟨3, _⟩ => ⟨S4x1024, .f32⟩
  | .hbm, ⟨4, _⟩ => ⟨S4x1024x5632, .f32⟩
  | .hbm, ⟨5, _⟩ => ⟨S4x3x5632, .f32⟩
  | .hbm, ⟨6, _⟩ => ⟨S4x5632, .f32⟩
  | .hbm, ⟨7, _⟩ => ⟨S4x2816x1024, .f32⟩
  | .hbm, ⟨8, _⟩ => ⟨S4x1x1024, .f32⟩
  | .hbm, ⟨9, _⟩ => ⟨S4x1x1024, .f32⟩
  | .hbm, ⟨10, _⟩ => ⟨S1x1024x5632, .f32⟩
  | .hbm, ⟨11, _⟩ => ⟨S1024x5632, .f32⟩
  | .hbm, ⟨12, _⟩ => ⟨S1024x5632, .bf16⟩
  | .hbm, ⟨13, _⟩ => ⟨S1x3x5632, .f32⟩
  | .hbm, ⟨14, _⟩ => ⟨S3x5632, .f32⟩
  | .hbm, ⟨15, _⟩ => ⟨S1x5632, .f32⟩
  | .hbm, ⟨16, _⟩ => ⟨S5632, .f32⟩
  | .hbm, ⟨17, _⟩ => ⟨S1x5632, .f32⟩
  | .hbm, ⟨18, _⟩ => ⟨S1x2816x1024, .f32⟩
  | .hbm, ⟨19, _⟩ => ⟨S2816x1024, .f32⟩
  | .hbm, ⟨20, _⟩ => ⟨S2816x1024, .bf16⟩
  | .hbm, ⟨21, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1x1x6144, .f32⟩
  | .local _ .vmem, ⟨7, _⟩ => ⟨S1x1x1x6144, .f32⟩
  | .local _ .vmem, ⟨8, _⟩ => ⟨S1x1x1024, .f32⟩
  | .local _ .vmem, ⟨9, _⟩ => ⟨S1x1x1024, .f32⟩
  | .local _ .vmem, ⟨10, _⟩ => ⟨S1024x5632, .bf16⟩
  | .local _ .vmem, ⟨11, _⟩ => ⟨S3x5632, .f32⟩
  | .local _ .vmem, ⟨12, _⟩ => ⟨S1x5632, .f32⟩
  | .local _ .vmem, ⟨13, _⟩ => ⟨S2816x1024, .bf16⟩
  | .local _ .vmem, ⟨14, _⟩ => ⟨S256x1024, .f32⟩
  | .local _ .vmem, ⟨15, _⟩ => ⟨S256x1024, .f32⟩
  | .local _ .vmem, ⟨16, _⟩ => ⟨S272x1024, .bf16⟩
  | .local _ .vmem, ⟨17, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 4 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c3_i32 : BitVec 32 := 3#32
  let c0_i32_7 : BitVec 32 := 0#32
  let c0_i32_8 : BitVec 32 := 0#32
  let c0_i32_9 : BitVec 32 := 0#32
  ![c3_i32.toNat, v20.toNat, c0_i32_7.toNat, c0_i32_8.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnRefIdeal.lean ====
abbrev S8192x1024 : Shape := ⟨2, ![8192, 1024]⟩
abbrev S4x3x1x6144 : Shape := ⟨4, ![4, 3, 1, 6144]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S4096x1024 : Shape := ⟨2, ![4096, 1024]⟩
abbrev S16x256x1024 : Shape := ⟨3, ![16, 256, 1024]⟩
abbrev S1x1x1x6144 : Shape := ⟨4, ![1, 1, 1, 6144]⟩
abbrev S1x6144 : Shape := ⟨2, ![1, 6144]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x5632 : Shape := ⟨3, ![16, 256, 5632]⟩
abbrev S16x1x5632 : Shape := ⟨3, ![16, 1, 5632]⟩
abbrev S16x255x5632 : Shape := ⟨3, ![16, 255, 5632]⟩
abbrev S1x1x5632 : Shape := ⟨3, ![1, 1, 5632]⟩
abbrev S16x256x2816 : Shape := ⟨3, ![16, 256, 2816]⟩
abbrev S2x2048x1024 : Shape := ⟨3, ![2, 2048, 1024]⟩
abbrev S1x2x1x6144 : Shape := ⟨4, ![1, 2, 1, 6144]⟩
abbrev S2x1x6144 : Shape := ⟨3, ![2, 1, 6144]⟩
abbrev S2x1x1024 : Shape := ⟨3, ![2, 1, 1024]⟩
abbrev S2x2048 : Shape := ⟨2, ![2, 2048]⟩
abbrev S2x2048x1 : Shape := ⟨3, ![2, 2048, 1]⟩
abbrev S2x2048x5632 : Shape := ⟨3, ![2, 2048, 5632]⟩
abbrev S2x1x5632 : Shape := ⟨3, ![2, 1, 5632]⟩
abbrev S2x2047x5632 : Shape := ⟨3, ![2, 2047, 5632]⟩
abbrev S2x2048x2816 : Shape := ⟨3, ![2, 2048, 2816]⟩

abbrev nBuf : Space → Nat
  | .hbm => 216
  | .vmem => 0
  | .smem => 0
  | _ => 0

abbrev hbmTy0_0 (i : Nat) : BufTy := match i % 128 with
  | 0 => ⟨S8192x1024, .f32⟩
  | 1 => ⟨S4x3x1x6144, .f32⟩
  | 2 => ⟨S4x1024, .f32⟩
  | 3 => ⟨S4x1024, .f32⟩
  | 4 => ⟨S4x1024x5632, .f32⟩
  | 5 => ⟨S4x3x5632, .f32⟩
  | 6 => ⟨S4x5632, .f32⟩
  | 7 => ⟨S4x2816x1024, .f32⟩
  | 8 => ⟨S1x1024x5632, .f32⟩
  | 9 => ⟨S1024x5632, .f32⟩
  | 10 => ⟨S1x3x5632, .f32⟩
  | 11 => ⟨S3x5632, .f32⟩
  | 12 => ⟨S1x5632, .f32⟩
  | 13 => ⟨S5632, .f32⟩
  | 14 => ⟨S1x2816x1024, .f32⟩
  | 15 => ⟨S2816x1024, .f32⟩
  | 16 => ⟨S4096x1024, .f32⟩
  | 17 => ⟨S16x256x1024, .f32⟩
  | 18 => ⟨S1x1x1x6144, .f32⟩
  | 19 => ⟨S1x6144, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1024, .f32⟩
  | 28 => ⟨S16x256x1024, .f32⟩
  | 29 => ⟨S_, .f32⟩
  | 30 => ⟨S16x256, .f32⟩
  | 31 => ⟨S16x256x1, .f32⟩
  | 32 => ⟨S_, .f32⟩
  | 33 => ⟨S16x256x1, .f32⟩
  | 34 => ⟨S16x256x1, .f32⟩
  | 35 => ⟨S_, .f32⟩
  | 36 => ⟨S16x256x1, .f32⟩
  | 37 => ⟨S16x256x1, .f32⟩
  | 38 => ⟨S16x256x1, .f32⟩
  | 39 => ⟨S16x256x1024, .f32⟩
  | 40 => ⟨S16x256x1024, .f32⟩
  | 41 => ⟨S1x1x1024, .f32⟩
  | 42 => ⟨S16x256x1024, .f32⟩
  | 43 => ⟨S16x256x1024, .f32⟩
  | 44 => ⟨S_, .f32⟩
  | 45 => ⟨S1x1024, .f32⟩
  | 46 => ⟨S1x1024, .f32⟩
  | 47 => ⟨S1x1x1024, .f32⟩
  | 48 => ⟨S16x256x1024, .f32⟩
  | 49 => ⟨S16x256x1024, .f32⟩
  | 50 => ⟨S1x1x1024, .f32⟩
  | 51 => ⟨S16x256x1024, .f32⟩
  | 52 => ⟨S16x256x1024, .f32⟩
  | 53 => ⟨S16x256x5632, .f32⟩
  | 54 => ⟨S16x1x5632, .f32⟩
  | 55 => ⟨S_, .f32⟩
  | 56 => ⟨S16x1x5632, .f32⟩
  | 57 => ⟨S16x255x5632, .f32⟩
  | 58 => ⟨S16x256x5632, .f32⟩
  | 59 => ⟨S16x255x5632, .f32⟩
  | 60 => ⟨S16x256x5632, .f32⟩
  | 61 => ⟨S1x5632, .f32⟩
  | 62 => ⟨S5632, .f32⟩
  | 63 => ⟨S1x1x5632, .f32⟩
  | 64 => ⟨S16x256x5632, .f32⟩
  | 65 => ⟨S16x256x5632, .f32⟩
  | 66 => ⟨S1x5632, .f32⟩
  | 67 => ⟨S5632, .f32⟩
  | 68 => ⟨S1x1x5632, .f32⟩
  | 69 => ⟨S16x256x5632, .f32⟩
  | 70 => ⟨S16x256x5632, .f32⟩
  | 71 => ⟨S16x256x5632, .f32⟩
  | 72 => ⟨S1x5632, .f32⟩
  | 73 => ⟨S5632, .f32⟩
  | 74 => ⟨S1x1x5632, .f32⟩
  | 75 => ⟨S16x256x5632, .f32⟩
  | 76 => ⟨S16x256x5632, .f32⟩
  | 77 => ⟨S16x256x5632, .f32⟩
  | 78 => ⟨S1x1x5632, .f32⟩
  | 79 => ⟨S16x256x5632, .f32⟩
  | 80 => ⟨S16x256x5632, .f32⟩
  | 81 => ⟨S16x256x2816, .f32⟩
  | 82 => ⟨S16x256x2816, .f32⟩
  | 83 => ⟨S16x256x2816, .f32⟩
  | 84 => ⟨S16x256x2816, .f32⟩
  | 85 => ⟨S_, .f32⟩
  | 86 => ⟨S16x256x2816, .f32⟩
  | 87 => ⟨S16x256x2816, .f32⟩
  | 88 => ⟨S_, .f32⟩
  | 89 => ⟨S16x256x2816, .f32⟩
  | 90 => ⟨S16x256x2816, .f32⟩
  | 91 => ⟨S16x256x2816, .f32⟩
  | 92 => ⟨S16x256x2816, .f32⟩
  | 93 => ⟨S16x256x1024, .f32⟩
  | 94 => ⟨S1x1024, .f32⟩
  | 95 => ⟨S1024, .f32⟩
  | 96 => ⟨S16x256x1024, .f32⟩
  | 97 => ⟨S_, .f32⟩
  | 98 => ⟨S16x256, .f32⟩
  | 99 => ⟨S16x256x1, .f32⟩
  | 100 => ⟨S_, .f32⟩
  | 101 => ⟨S16x256x1, .f32⟩
  | 102 => ⟨S16x256x1, .f32⟩
  | 103 => ⟨S_, .f32⟩
  | 104 => ⟨S16x256x1, .f32⟩
  | 105 => ⟨S16x256x1, .f32⟩
  | 106 => ⟨S16x256x1, .f32⟩
  | 107 => ⟨S16x256x1024, .f32⟩
  | 108 => ⟨S16x256x1024, .f32⟩
  | 109 => ⟨S1x1x1024, .f32⟩
  | 110 => ⟨S16x256x1024, .f32⟩
  | 111 => ⟨S16x256x1024, .f32⟩
  | 112 => ⟨S1x1x1024, .f32⟩
  | 113 => ⟨S16x256x1024, .f32⟩
  | 114 => ⟨S16x256x1024, .f32⟩
  | 115 => ⟨S16x256x1024, .f32⟩
  | 116 => ⟨S4096x1024, .f32⟩
  | 117 => ⟨S2x2048x1024, .f32⟩
  | 118 => ⟨S1x2x1x6144, .f32⟩
  | 119 => ⟨S2x1x6144, .f32⟩
  | 120 => ⟨S2x1x1024, .f32⟩
  | 121 => ⟨S2x1x1024, .f32⟩
  | 122 => ⟨S2x1x1024, .f32⟩
  | 123 => ⟨S2x1x1024, .f32⟩
  | 124 => ⟨S2x1x1024, .f32⟩
  | 125 => ⟨S2x1x1024, .f32⟩
  | 126 => ⟨S1x1024, .f32⟩
  | 127 => ⟨S1024, .f32⟩
  | _ => ⟨S8192x1024, .f32⟩

abbrev hbmTy0_1 (i : Nat) : BufTy := match i % 128 with
  | 0 => ⟨S2x2048x1024, .f32⟩
  | 1 => ⟨S_, .f32⟩
  | 2 => ⟨S2x2048, .f32⟩
  | 3 => ⟨S2x2048x1, .f32⟩
  | 4 => ⟨S_, .f32⟩
  | 5 => ⟨S2x2048x1, .f32⟩
  | 6 => ⟨S2x2048x1, .f32⟩
  | 7 => ⟨S_, .f32⟩
  | 8 => ⟨S2x2048x1, .f32⟩
  | 9 => ⟨S2x2048x1, .f32⟩
  | 10 => ⟨S2x2048x1, .f32⟩
  | 11 => ⟨S2x2048x1024, .f32⟩
  | 12 => ⟨S2x2048x1024, .f32⟩
  | 13 => ⟨S1x1x1024, .f32⟩
  | 14 => ⟨S2x2048x1024, .f32⟩
  | 15 => ⟨S2x2048x1024, .f32⟩
  | 16 => ⟨S_, .f32⟩
  | 17 => ⟨S2x1x1024, .f32⟩
  | 18 => ⟨S2x1x1024, .f32⟩
  | 19 => ⟨S2x2048x1024, .f32⟩
  | 20 => ⟨S2x2048x1024, .f32⟩
  | 21 => ⟨S2x2048x1024, .f32⟩
  | 22 => ⟨S2x2048x1024, .f32⟩
  | 23 => ⟨S2x2048x5632, .f32⟩
  | 24 => ⟨S2x1x5632, .f32⟩
  | 25 => ⟨S_, .f32⟩
  | 26 => ⟨S2x1x5632, .f32⟩
  | 27 => ⟨S2x2047x5632, .f32⟩
  | 28 => ⟨S2x2048x5632, .f32⟩
  | 29 => ⟨S2x2047x5632, .f32⟩
  | 30 => ⟨S2x2048x5632, .f32⟩
  | 31 => ⟨S1x5632, .f32⟩
  | 32 => ⟨S5632, .f32⟩
  | 33 => ⟨S1x1x5632, .f32⟩
  | 34 => ⟨S2x2048x5632, .f32⟩
  | 35 => ⟨S2x2048x5632, .f32⟩
  | 36 => ⟨S1x5632, .f32⟩
  | 37 => ⟨S5632, .f32⟩
  | 38 => ⟨S1x1x5632, .f32⟩
  | 39 => ⟨S2x2048x5632, .f32⟩
  | 40 => ⟨S2x2048x5632, .f32⟩
  | 41 => ⟨S2x2048x5632, .f32⟩
  | 42 => ⟨S1x5632, .f32⟩
  | 43 => ⟨S5632, .f32⟩
  | 44 => ⟨S1x1x5632, .f32⟩
  | 45 => ⟨S2x2048x5632, .f32⟩
  | 46 => ⟨S2x2048x5632, .f32⟩
  | 47 => ⟨S2x2048x5632, .f32⟩
  | 48 => ⟨S1x1x5632, .f32⟩
  | 49 => ⟨S2x2048x5632, .f32⟩
  | 50 => ⟨S2x2048x5632, .f32⟩
  | 51 => ⟨S2x2048x2816, .f32⟩
  | 52 => ⟨S2x2048x2816, .f32⟩
  | 53 => ⟨S2x2048x2816, .f32⟩
  | 54 => ⟨S2x2048x2816, .f32⟩
  | 55 => ⟨S_, .f32⟩
  | 56 => ⟨S2x2048x2816, .f32⟩
  | 57 => ⟨S2x2048x2816, .f32⟩
  | 58 => ⟨S_, .f32⟩
  | 59 => ⟨S2x2048x2816, .f32⟩
  | 60 => ⟨S2x2048x2816, .f32⟩
  | 61 => ⟨S2x2048x2816, .f32⟩
  | 62 => ⟨S2x2048x2816, .f32⟩
  | 63 => ⟨S2x2048x1024, .f32⟩
  | 64 => ⟨S1x1024, .f32⟩
  | 65 => ⟨S1024, .f32⟩
  | 66 => ⟨S2x2048x1024, .f32⟩
  | 67 => ⟨S_, .f32⟩
  | 68 => ⟨S2x2048, .f32⟩
  | 69 => ⟨S2x2048x1, .f32⟩
  | 70 => ⟨S_, .f32⟩
  | 71 => ⟨S2x2048x1, .f32⟩
  | 72 => ⟨S2x2048x1, .f32⟩
  | 73 => ⟨S_, .f32⟩
  | 74 => ⟨S2x2048x1, .f32⟩
  | 75 => ⟨S2x2048x1, .f32⟩
  | 76 => ⟨S2x2048x1, .f32⟩
  | 77 => ⟨S2x2048x1024, .f32⟩
  | 78 => ⟨S2x2048x1024, .f32⟩
  | 79 => ⟨S1x1x1024, .f32⟩
  | 80 => ⟨S2x2048x1024, .f32⟩
  | 81 => ⟨S2x2048x1024, .f32⟩
  | 82 => ⟨S2x2048x1024, .f32⟩
  | 83 => ⟨S2x2048x1024, .f32⟩
  | 84 => ⟨S2x2048x1024, .f32⟩
  | 85 => ⟨S4096x1024, .f32⟩
  | 86 => ⟨S4096x1024, .f32⟩
  | 87 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_4 : Ref sig .tc := ⟨.hbm, 97, rfl⟩
abbrev main_v76 : Ref sig .tc := ⟨.hbm, 98, rfl⟩
abbrev main_v77 : Ref sig .tc := ⟨.hbm, 99, rfl⟩
abbrev main_cst_5 : Ref sig .tc := ⟨.hbm, 100, rfl⟩
abbrev main_v78 : Ref sig .tc := ⟨.hbm, 101, rfl⟩
abbrev main_v79 : Ref sig .tc := ⟨.hbm, 102, rfl⟩
abbrev main_cst_6 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_cst_7 : Ref sig .tc := ⟨.hbm, 129, rfl⟩
abbrev main_v105 : Ref sig .tc := ⟨.hbm, 130, rfl⟩
abbrev main_v106 : Ref sig .tc := ⟨.hbm, 131, rfl⟩
abbrev main_cst_8 : Ref sig .tc := ⟨.hbm, 132, rfl⟩
abbrev main_v107 : Ref sig .tc := ⟨.hbm, 133, rfl⟩
abbrev main_v108 : Ref sig .tc := ⟨.hbm, 134, rfl⟩
abbrev main_cst_9 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_cst_10 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_cst_11 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_call1_v0 : Ref sig .tc := ⟨.hbm, 181, rfl⟩
abbrev main_call1_v1 : Ref sig .tc := ⟨.hbm, 182, rfl⟩
abbrev main_call1_cst : Ref sig .tc := ⟨.hbm, 183, rfl⟩
abbrev main_call1_v2 : Ref sig .tc := ⟨.hbm, 184, rfl⟩
abbrev main_call1_v3 : Ref sig .tc := ⟨.hbm, 185, rfl⟩
abbrev main_call1_cst_0 : Ref sig .tc := ⟨.hbm, 186, rfl⟩
abbrev main_call1_v4 : Ref sig .tc := ⟨.hbm, 187, rfl⟩
abbrev main_call1_v5 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_cst_12 : Ref sig .tc := ⟨.hbm, 195, rfl⟩
abbrev main_v158 : Ref sig .tc := ⟨.hbm, 196, rfl⟩
abbrev main_v159 : Ref sig .tc := ⟨.hbm, 197, rfl⟩
abbrev main_cst_13 : Ref sig .tc := ⟨.hbm, 198, rfl⟩
abbrev main_v160 : Ref sig .tc := ⟨.hbm, 199, rfl⟩
abbrev main_v161 : Ref sig .tc := ⟨.hbm, 200, rfl⟩
abbrev main_cst_14 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩

abbrev nD : Nat := 1
abbrev τ : Topo := Topo.v7x

variable {F : FTy → Type} [FloatOps F]
-- ==== Mla.lean ====
abbrev S8192x1024 : Shape := ⟨2, ![8192, 1024]⟩
abbrev S8192x512 : Shape := ⟨2, ![8192, 512]⟩
abbrev S1024x1024 : Shape := ⟨2, ![1024, 1024]⟩
abbrev S1024x512 : Shape := ⟨2, ![1024, 512]⟩
abbrev S256x1024 : Shape := ⟨2, ![256, 1024]⟩
abbrev S2048x1024 : Shape := ⟨2, ![2048, 1024]⟩
abbrev S2048x512 : Shape := ⟨2, ![2048, 512]⟩
abbrev S512x1024 : Shape := ⟨2, ![512, 1024]⟩
abbrev S512x512 : Shape := ⟨2, ![512, 512]⟩
abbrev S256x512 : Shape := ⟨2, ![256, 512]⟩
abbrev S256x128 : Shape := ⟨2, ![256, 128]⟩
abbrev S2048x128 : Shape := ⟨2, ![2048, 128]⟩
abbrev S256x2048 : Shape := ⟨2, ![256, 2048]⟩
abbrev S512x128 : Shape := ⟨2, ![512, 128]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S1024x1024, .bf16⟩
  | .hbm, ⟨4, _⟩ => ⟨S1024x512, .bf16⟩
  | .hbm, ⟨5, _⟩ => ⟨S8192x1024, .bf16⟩
  | .hbm, ⟨6, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S256x512, .bf16⟩
  | .local _ .vmem, ⟨11, _⟩ => ⟨S256x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c1_i32 : BitVec 32 := 1#32
  let c0_i32 : BitVec 32 := 0#32
  ![v2.toNat, c1_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlaRefIdeal.lean ====
abbrev S8192x1024 : Shape := ⟨2, ![8192, 1024]⟩
abbrev S8192x512 : Shape := ⟨2, ![8192, 512]⟩
abbrev S1024x1024 : Shape := ⟨2, ![1024, 1024]⟩
abbrev S1024x512 : Shape := ⟨2, ![1024, 512]⟩
abbrev S4096x1024 : Shape := ⟨2, ![4096, 1024]⟩
abbrev S2x2048x8x128 : Shape := ⟨4, ![2, 2048, 8, 128]⟩
abbrev S2x512x8x128 : Shape := ⟨4, ![2, 512, 8, 128]⟩
abbrev S2x2560x8x128 : Shape := ⟨4, ![2, 2560, 8, 128]⟩
abbrev S4096x512 : Shape := ⟨2, ![4096, 512]⟩
abbrev S2x2048x8x64 : Shape := ⟨4, ![2, 2048, 8, 64]⟩
abbrev S2x512x8x64 : Shape := ⟨4, ![2, 512, 8, 64]⟩
abbrev S2x2560x8x64 : Shape := ⟨4, ![2, 2560, 8, 64]⟩
abbrev S2x8x2048x2560 : Shape := ⟨4, ![2, 8, 2048, 2560]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S1024x1024, .bf16⟩
  | .hbm, ⟨4, _⟩ => ⟨S1024x512, .bf16⟩
  | .hbm, ⟨5, _⟩ => ⟨S8192x1024, .bf16⟩
  | .hbm, ⟨6, _⟩ => ⟨S4096x1024, .bf16⟩
  | .hbm, ⟨7, _⟩ => ⟨S4096x1024, .f32⟩
  | .hbm, ⟨8, _⟩ => ⟨S2x2048x8x128, .f32⟩
  | .hbm, ⟨9, _⟩ => ⟨S4096x1024, .bf16⟩
  | .hbm, ⟨10, _⟩ => ⟨S4096x1024, .f32⟩
  | .hbm, ⟨11, _⟩ => ⟨S2x2048x8x128, .f32⟩
  | .hbm, ⟨12, _⟩ => ⟨S1024x1024, .f32⟩
  | .hbm, ⟨13, _⟩ => ⟨S2x512x8x128, .f32⟩
  | .hbm, ⟨14, _⟩ => ⟨S2x2560x8x128, .f32⟩
  | .hbm, ⟨15, _⟩ => ⟨S4096x512, .bf16⟩
  | .hbm, ⟨16, _⟩ => ⟨S4096x512, .f32⟩
  | .hbm, ⟨17, _⟩ => ⟨S2x2048x8x64, .f32⟩
  | .hbm, ⟨18, _⟩ => ⟨S1024x512, .f32⟩
  | .hbm, ⟨19, _⟩ => ⟨S2x512x8x64, .f32⟩
  | .hbm, ⟨20, _⟩ => ⟨S2x2560x8x64, .f32⟩
  | .hbm, ⟨21, _⟩ => ⟨S2x8x2048x2560, .f32⟩
  | .hbm, ⟨22, _⟩ => ⟨S_, .f32⟩
  | .hbm, ⟨23, _⟩ => ⟨S2x8x2048x2560, .f32⟩
  | .hbm, ⟨24, _⟩ => ⟨S2x8x2048x2560, .f32⟩
  | .hbm, ⟨25, _⟩ => ⟨S_, .f32⟩
  | .hbm, ⟨26, _⟩ => ⟨S2x8x2048, .f32⟩
  | .hbm, ⟨27, _⟩ => ⟨S_, .f32⟩
  | .hbm, ⟨28, _⟩ => ⟨S2x8x2048, .f32⟩
  | .hbm, ⟨29, _⟩ => ⟨S2x8x2048, .f32⟩
  | .hbm, ⟨30, _⟩ => ⟨S2x8x2048x1, .f32⟩
  | .hbm, ⟨31, _⟩ => ⟨S2x8x2048x2560, .f32⟩
  | .hbm, ⟨32, _⟩ => ⟨S2x8x2048x2560, .f32⟩
  | .hbm, ⟨33, _⟩ => ⟨S2x8x2048x2560, .f32⟩
  | .hbm, ⟨34, _⟩ => ⟨S_, .f32⟩
  | .hbm, ⟨35, _⟩ => ⟨S2x8x2048, .f32⟩
  | .hbm, ⟨36, _⟩ => ⟨S2x8x2048x1, .f32⟩
  | .hbm, ⟨37, _⟩ => ⟨S2x8x2048x2560, .f32⟩
  | .hbm, ⟨38, _⟩ => ⟨S2x8x2048x2560, .f32⟩
  | .hbm, ⟨39, _⟩ => ⟨S2x8x64x2048, .f32⟩
  | .hbm, ⟨40, _⟩ => ⟨S2x2048x8x64, .f32⟩
  | .hbm, ⟨41, _⟩ => ⟨S4096x512, .f32⟩
  | .hbm, ⟨42, _⟩ => ⟨S4096x512, .bf16⟩
  | .hbm, ⟨43, _⟩ => ⟨S4096x512, .bf16⟩
  | .hbm, ⟨44, _⟩ => ⟨S4096x1024, .bf16⟩
  | .hbm, ⟨45, _⟩ => ⟨S4096x1024, .bf16⟩
  | .hbm, ⟨46, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== InOdd.lean ====
abbrev S8192x1024 : Shape := ⟨2, ![8192, 1024]⟩
abbrev S4x3x1x6144 : Shape := ⟨4, ![4, 3, 1, 6144]⟩
abbrev S4x1024 : Shape := ⟨2, ![4, 1024]⟩
abbrev S2x1024x2048 : Shape := ⟨3, ![2, 1024, 2048]⟩
abbrev S4x1x1024 : Shape := ⟨3, ![4, 1, 1024]⟩
abbrev S1x1024x2048 : Shape := ⟨3, ![1, 1024, 2048]⟩
abbrev S1024x2048 : Shape := ⟨2, ![1024, 2048]⟩
abbrev S8192x512 : Shape := ⟨2, ![8192, 512]⟩
abbrev S8192x1536 : Shape := ⟨2, ![8192, 1536]⟩
abbrev S256x1024 : Shape := ⟨2, ![256, 1024]⟩
abbrev S1x1x1x6144 : Shape := ⟨4, ![1, 1, 1, 6144]⟩
abbrev S1x1x1024 : Shape := ⟨3, ![1, 1, 1024]⟩
abbrev S256x512 : Shape := ⟨2, ![256, 512]⟩
abbrev S256x1536 : Shape := ⟨2, ![256, 1536]⟩
abbrev S1x6144 : Shape := ⟨2, ![1, 6144]⟩
abbrev S1x1024 : Shape := ⟨2, ![1, 1024]⟩
abbrev S256 : Shape := ⟨1, ![256]⟩
abbrev S256x1 : Shape := ⟨2, ![256, 1]⟩
abbrev S256x2048 : Shape := ⟨2, ![256, 2048]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S4x3x1x6144, .f32⟩
  | .hbm, ⟨2, _⟩ => ⟨S4x1024, .f32⟩
  | .hbm, ⟨3, _⟩ => ⟨S2x1024x2048, .f32⟩
  | .hbm, ⟨4, _⟩ => ⟨S4x1x1024, .f32⟩
  | .hbm, ⟨5, _⟩ => ⟨S1x1024x2048, .f32⟩
  | .hbm, ⟨6, _⟩ => ⟨S1024x2048, .f32⟩
  | .hbm, ⟨7, _⟩ => ⟨S1024x2048, .bf16⟩
  | .hbm, ⟨8, _⟩ => ⟨S8192x512, .f32⟩
  | .hbm, ⟨9, _⟩ => ⟨S8192x1536, .bf16⟩
  | .hbm, ⟨10, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1x1x6144, .f32⟩
  | .local _ .vmem, ⟨3, _⟩ => ⟨S1x1x1x6144, .f32⟩
  | .local _ .vmem, ⟨4, _⟩ => ⟨S1x1x1024, .f32⟩
  | .local _ .vmem, ⟨5, _⟩ => ⟨S1024x2048, .bf16⟩
  | .local _ .vmem, ⟨6, _⟩ => ⟨S256x512, .f32⟩
  | .local _ .vmem, ⟨7, _⟩ => ⟨S256x512, .f32⟩
  | .local _ .vmem, ⟨8, _⟩ => ⟨S256x1536, .bf16⟩
  | .local _ .vmem, ⟨9, _⟩ => ⟨S256x1536, .bf16⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c3_i32 : BitVec 32 := 3#32
  let c0_i32_7 : BitVec 32 := 0#32
  let c0_i32_8 : BitVec 32 := 0#32
  let c0_i32_9 : BitVec 32 := 0#32
  ![c3_i32.toNat, v20.toNat, c0_i32_7.toNat, c0_i32_8.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InOddRefIdeal.lean ====
abbrev S8192x1024 : Shape := ⟨2, ![8192, 1024]⟩
abbrev S4x3x1x6144 : Shape := ⟨4, ![4, 3, 1, 6144]⟩
abbrev S4x1024 : Shape := ⟨2, ![4, 1024]⟩
abbrev S2x1024x2048 : Shape := ⟨3, ![2, 1024, 2048]⟩
abbrev S1x3x1x6144 : Shape := ⟨4, ![1, 3, 1, 6144]⟩
abbrev S3x1x6144 : Shape := ⟨3, ![3, 1, 6144]⟩
abbrev S4096x1024 : Shape := ⟨2, ![4096, 1024]⟩
abbrev S16x256x1024 : Shape := ⟨3, ![16, 256, 1024]⟩
abbrev S1x1x6144 : Shape := ⟨3, ![1, 1, 6144]⟩
abbrev S1x6144 : Shape := ⟨2, ![1, 6144]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S2x2048x1024 : Shape := ⟨3, ![2, 2048, 1024]⟩
abbrev S2x1x6144 : Shape := ⟨3, ![2, 1, 6144]⟩
abbrev S2x1x1024 : Shape := ⟨3, ![2, 1, 1024]⟩
abbrev S2x2048 : Shape := ⟨2, ![2, 2048]⟩
abbrev S2x2048x1 : Shape := ⟨3, ![2, 2048, 1]⟩
abbrev S1x1024x2048 : Shape := ⟨3, ![1, 1024, 2048]⟩
abbrev S1024x2048 : Shape := ⟨2, ![1024, 2048]⟩
abbrev S8192x2048 : Shape := ⟨2, ![8192, 2048]⟩
abbrev S8192x512 : Shape := ⟨2, ![8192, 512]⟩
abbrev S8192x1536 : Shape := ⟨2, ![8192, 1536]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x3x1x6144, .f32⟩
  | .hbm, ⟨2, _⟩ => ⟨S4x1024, .f32⟩
  | .hbm, ⟨3, _⟩ => ⟨S2x1024x2048, .f32⟩
  | .hbm, ⟨4, _⟩ => ⟨S1x3x1x6144, .f32⟩
  | .hbm, ⟨5, _⟩ => ⟨S3x1x6144, .f32⟩
  | .hbm, ⟨6, _⟩ => ⟨S4096x1024, .f32⟩
  | .hbm, ⟨7, _⟩ => ⟨S16x256x1024, .f32⟩
  | .hbm, ⟨8, _⟩ => ⟨S1x1x6144, .f32⟩
  | .hbm, ⟨9, _⟩ => ⟨S1x6144, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1024, .f32⟩
  | .hbm, ⟨18, _⟩ => ⟨S16x256x1024, .f32⟩
  | .hbm, ⟨19, _⟩ => ⟨S_, .f32⟩
  | .hbm, ⟨20, _⟩ => ⟨S16x256, .f32⟩
  | .hbm, ⟨21, _⟩ => ⟨S16x256x1, .f32⟩
  | .hbm, ⟨22, _⟩ => ⟨S_, .f32⟩
  | .hbm, ⟨23, _⟩ => ⟨S16x256x1, .f32⟩
  | .hbm, ⟨24, _⟩ => ⟨S16x256x1, .f32⟩
  | .hbm, ⟨25, _⟩ => ⟨S_, .f32⟩
  | .hbm, ⟨26, _⟩ => ⟨S16x256x1, .f32⟩
  | .hbm, ⟨27, _⟩ => ⟨S16x256x1, .f32⟩
  | .hbm, ⟨28, _⟩ => ⟨S16x256x1, .f32⟩
  | .hbm, ⟨29, _⟩ => ⟨S16x256x1024, .f32⟩
  | .hbm, ⟨30, _⟩ => ⟨S16x256x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x1x1024, .f32⟩
  | .hbm, ⟨38, _⟩ => ⟨S16x256x1024, .f32⟩
  | .hbm, ⟨39, _⟩ => ⟨S16x256x1024, .f32⟩
  | .hbm, ⟨40, _⟩ => ⟨S1x1x1024, .f32⟩
  | .hbm, ⟨41, _⟩ => ⟨S16x256x1024, .f32⟩
  | .hbm, ⟨42, _⟩ => ⟨S16x256x1024, .f32⟩
  | .hbm, ⟨43, _⟩ => ⟨S4096x1024, .f32⟩
  | .hbm, ⟨44, _⟩ => ⟨S2x2048x1024, .f32⟩
  | .hbm, ⟨45, _⟩ => ⟨S2x1x6144, .f32⟩
  | .hbm, ⟨46, _⟩ => ⟨S2x1x1024, .f32⟩
  | .hbm, ⟨47, _⟩ => ⟨S2x1x1024, .f32⟩
  | .hbm, ⟨48, _⟩ => ⟨S2x1x1024, .f32⟩
  | .hbm, ⟨49, _⟩ => ⟨S2x1x1024, .f32⟩
  | .hbm, ⟨50, _⟩ => ⟨S2x1x1024, .f32⟩
  | .hbm, ⟨51, _⟩ => ⟨S2x1x1024, .f32⟩
  | .hbm, ⟨52, _⟩ => ⟨S1x1024, .f32⟩
  | .hbm, ⟨53, _⟩ => ⟨S1024, .f32⟩
  | .hbm, ⟨54, _⟩ => ⟨S2x2048x1024, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S_, .f32⟩
  | .hbm, ⟨59, _⟩ => ⟨S2x2048x1, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S2x2048x1, .f32⟩
  | .hbm, ⟨65, _⟩ => ⟨S2x2048x1024, .f32⟩
  | .hbm, ⟨66, _⟩ => ⟨S2x2048x1024, .f32⟩
  | .hbm, ⟨67, _⟩ => ⟨S1x1x1024, .f32⟩
  | .hbm, ⟨68, _⟩ => ⟨S2x2048x1024, .f32⟩
  | .hbm, ⟨69, _⟩ => ⟨S2x2048x1024, .f32⟩
  | .hbm, ⟨70, _⟩ => ⟨S_, .f32⟩
  | .hbm, ⟨71, _⟩ => ⟨S2x1x1024, .f32⟩
  | .hbm, ⟨72, _⟩ => ⟨S2x1x1024, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S4096x1024, .f32⟩
  | .hbm, ⟨78, _⟩ => ⟨S4096x1024, .f32⟩
  | .hbm, ⟨79, _⟩ => ⟨S8192x1024, .f32⟩
  | .hbm, ⟨80, _⟩ => ⟨S1x1024x2048, .f32⟩
  | .hbm, ⟨81, _⟩ => ⟨S1024x2048, .f32⟩
  | .hbm, ⟨82, _⟩ => ⟨S8192x2048, .f32⟩
  | .hbm, ⟨83, _⟩ => ⟨S8192x512, .f32⟩
  | .hbm, ⟨84, _⟩ => ⟨S8192x512, .f32⟩
  | .hbm, ⟨85, _⟩ => ⟨S8192x512, .f32⟩
  | .hbm, ⟨86, _⟩ => ⟨S8192x512, .f32⟩
  | .hbm, ⟨87, _⟩ => ⟨S8192x1536, .f32⟩
  | .hbm, ⟨88, _⟩ => ⟨S8192x1536, .bf16⟩
  | .hbm, ⟨89, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_3 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_6 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩

abbrev nD : Nat := 1
abbrev τ : Topo := Topo.v7x

variable {F : FTy → Type} [FloatOps F]
-- ==== OutEven.lean ====
abbrev S8192x1024 : Shape := ⟨2, ![8192, 1024]⟩
abbrev S4x3x1x6144 : Shape := ⟨4, ![4, 3, 1, 6144]⟩
abbrev S4x1024 : Shape := ⟨2, ![4, 1024]⟩
abbrev S2x1024x1024 : Shape := ⟨3, ![2, 1024, 1024]⟩
abbrev S4x1x1024 : Shape := ⟨3, ![4, 1, 1024]⟩
abbrev S1x1024x1024 : Shape := ⟨3, ![1, 1024, 1024]⟩
abbrev S1024x1024 : Shape := ⟨2, ![1024, 1024]⟩
abbrev S256x1024 : Shape := ⟨2, ![256, 1024]⟩
abbrev S1x1x1x6144 : Shape := ⟨4, ![1, 1, 1, 6144]⟩
abbrev S1x1x1024 : Shape := ⟨3, ![1, 1, 1024]⟩
abbrev S1x6144 : Shape := ⟨2, ![1, 6144]⟩
abbrev S1x1024 : Shape := ⟨2, ![1, 1024]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S4x3x1x6144, .f32⟩
  | .hbm, ⟨3, _⟩ => ⟨S4x1024, .f32⟩
  | .hbm, ⟨4, _⟩ => ⟨S2x1024x1024, .f32⟩
  | .hbm, ⟨5, _⟩ => ⟨S4x1x1024, .f32⟩
  | .hbm, ⟨6, _⟩ => ⟨S1x1024x1024, .f32⟩
  | .hbm, ⟨7, _⟩ => ⟨S1024x1024, .f32⟩
  | .hbm, ⟨8, _⟩ => ⟨S1024x1024, .bf16⟩
  | .hbm, ⟨9, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1x1x6144, .f32⟩
  | .local _ .vmem, ⟨5, _⟩ => ⟨S1x1x1x6144, .f32⟩
  | .local _ .vmem, ⟨6, _⟩ => ⟨S1x1x1024, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c2_i32 : BitVec 32 := 2#32
  let c0_i32_7 : BitVec 32 := 0#32
  let c0_i32_8 : BitVec 32 := 0#32
  let c0_i32_9 : BitVec 32 := 0#32
  ![c2_i32.toNat, v20.toNat, c0_i32_7.toNat, c0_i32_8.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutEvenRefIdeal.lean ====
abbrev S8192x1024 : Shape := ⟨2, ![8192, 1024]⟩
abbrev S4x3x1x6144 : Shape := ⟨4, ![4, 3, 1, 6144]⟩
abbrev S4x1024 : Shape := ⟨2, ![4, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S1x3x1x6144 : Shape := ⟨4, ![1, 3, 1, 6144]⟩
abbrev S3x1x6144 : Shape := ⟨3, ![3, 1, 6144]⟩
abbrev S4096x1024 : Shape := ⟨2, ![4096, 1024]⟩
abbrev S16x256x1024 : Shape := ⟨3, ![16, 256, 1024]⟩
abbrev S1x1x6144 : Shape := ⟨3, ![1, 1, 6144]⟩
abbrev S1x6144 : Shape := ⟨2, ![1, 6144]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S2x2048x1024 : Shape := ⟨3, ![2, 2048, 1024]⟩
abbrev S2x1x6144 : Shape := ⟨3, ![2, 1, 6144]⟩
abbrev S2x1x1024 : Shape := ⟨3, ![2, 1, 1024]⟩
abbrev S2x2048 : Shape := ⟨2, ![2, 2048]⟩
abbrev S2x2048x1 : Shape := ⟨3, ![2, 2048, 1]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S4x3x1x6144, .f32⟩
  | .hbm, ⟨3, _⟩ => ⟨S4x1024, .f32⟩
  | .hbm, ⟨4, _⟩ => ⟨S2x1024x1024, .f32⟩
  | .hbm, ⟨5, _⟩ => ⟨S8192x1024, .f32⟩
  | .hbm, ⟨6, _⟩ => ⟨S1x1024x1024, .f32⟩
  | .hbm, ⟨7, _⟩ => ⟨S1024x1024, .f32⟩
  | .hbm, ⟨8, _⟩ => ⟨S8192x1024, .f32⟩
  | .hbm, ⟨9, _⟩ => ⟨S1x3x1x6144, .f32⟩
  | .hbm, ⟨10, _⟩ => ⟨S3x1x6144, .f32⟩
  | .hbm, ⟨11, _⟩ => ⟨S4096x1024, .f32⟩
  | .hbm, ⟨12, _⟩ => ⟨S16x256x1024, .f32⟩
  | .hbm, ⟨13, _⟩ => ⟨S1x1x6144, .f32⟩
  | .hbm, ⟨14, _⟩ => ⟨S1x6144, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1024, .f32⟩
  | .hbm, ⟨23, _⟩ => ⟨S16x256x1024, .f32⟩
  | .hbm, ⟨24, _⟩ => ⟨S_, .f32⟩
  | .hbm, ⟨25, _⟩ => ⟨S16x256, .f32⟩
  | .hbm, ⟨26, _⟩ => ⟨S16x256x1, .f32⟩
  | .hbm, ⟨27, _⟩ => ⟨S_, .f32⟩
  | .hbm, ⟨28, _⟩ => ⟨S16x256x1, .f32⟩
  | .hbm, ⟨29, _⟩ => ⟨S16x256x1, .f32⟩
  | .hbm, ⟨30, _⟩ => ⟨S_, .f32⟩
  | .hbm, ⟨31, _⟩ => ⟨S16x256x1, .f32⟩
  | .hbm, ⟨32, _⟩ => ⟨S16x256x1, .f32⟩
  | .hbm, ⟨33, _⟩ => ⟨S16x256x1, .f32⟩
  | .hbm, ⟨34, _⟩ => ⟨S16x256x1024, .f32⟩
  | .hbm, ⟨35, _⟩ => ⟨S16x256x1024, .f32⟩
  | .hbm, ⟨36, _⟩ => ⟨S1x1x1024, .f32⟩
  | .hbm, ⟨37, _⟩ => ⟨S16x256x1024, .f32⟩
  | .hbm, ⟨38, _⟩ => ⟨S16x256x1024, .f32⟩
  | .hbm, ⟨39, _⟩ => ⟨S1x1x1024, .f32⟩
  | .hbm, ⟨40, _⟩ => ⟨S16x256x1024, .f32⟩
  | .hbm, ⟨41, _⟩ => ⟨S16x256x1024, .f32⟩
  | .hbm, ⟨42, _⟩ => ⟨S4096x1024, .f32⟩
  | .hbm, ⟨43, _⟩ => ⟨S2x2048x1024, .f32⟩
  | .hbm, ⟨44, _⟩ => ⟨S2x1x6144, .f32⟩
  | .hbm, ⟨45, _⟩ => ⟨S2x1x1024, .f32⟩
  | .hbm, ⟨46, _⟩ => ⟨S2x1x1024, .f32⟩
  | .hbm, ⟨47, _⟩ => ⟨S2x1x1024, .f32⟩
  | .hbm, ⟨48, _⟩ => ⟨S2x1x1024, .f32⟩
  | .hbm, ⟨49, _⟩ => ⟨S2x1x1024, .f32⟩
  | .hbm, ⟨50, _⟩ => ⟨S2x1x1024, .f32⟩
  | .hbm, ⟨51, _⟩ => ⟨S1x1024, .f32⟩
  | .hbm, ⟨52, _⟩ => ⟨S1024, .f32⟩
  | .hbm, ⟨53, _⟩ => ⟨S2x2048x1024, .f32⟩
  | .hbm, ⟨54, _⟩ => ⟨S_, .f32⟩
  | .hbm, ⟨55, _⟩ => ⟨S2x2048, .f32⟩
  | .hbm, ⟨56, _⟩ => ⟨S2x2048x1, .f32⟩
  | .hbm, ⟨57, _⟩ => ⟨S_, .f32⟩
  | .hbm, ⟨58, _⟩ => ⟨S2x2048x1, .f32⟩
  | .hbm, ⟨59, _⟩ => ⟨S2x2048x1, .f32⟩
  | .hbm, ⟨60, _⟩ => ⟨S_, .f32⟩
  | .hbm, ⟨61, _⟩ => ⟨S2x2048x1, .f32⟩
  | .hbm, ⟨62, _⟩ => ⟨S2x2048x1, .f32⟩
  | .hbm, ⟨63, _⟩ => ⟨S2x2048x1, .f32⟩
  | .hbm, ⟨64, _⟩ => ⟨S2x2048x1024, .f32⟩
  | .hbm, ⟨65, _⟩ => ⟨S2x2048x1024, .f32⟩
  | .hbm, ⟨66, _⟩ => ⟨S1x1x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S4096x1024, .f32⟩
  | .hbm, ⟨72, _⟩ => ⟨S4096x1024, .f32⟩
  | .hbm, ⟨73, _⟩ => ⟨S8192x1024, .f32⟩
  | .hbm, ⟨74, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_2 : Ref sig .tc := ⟨.hbm, 54, rfl⟩
abbrev main_v46 : Ref sig .tc := ⟨.hbm, 55, rfl⟩
abbrev main_v47 : Ref sig .tc := ⟨.hbm, 56, rfl⟩
abbrev main_cst_3 : Ref sig .tc := ⟨.hbm, 57, rfl⟩
abbrev main_v48 : Ref sig .tc := ⟨.hbm, 58, rfl⟩
abbrev main_v49 : Ref sig .tc := ⟨.hbm, 59, rfl⟩
abbrev main_cst_4 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩

abbrev nD : Nat := 1
abbrev τ : Topo := Topo.v7x

variable {F : FTy → Type} [FloatOps F]
-- ==== OutOdd.lean ====
abbrev S8192x1024 : Shape := ⟨2, ![8192, 1024]⟩
abbrev S8192x512 : Shape := ⟨2, ![8192, 512]⟩
abbrev S4x3x1x6144 : Shape := ⟨4, ![4, 3, 1, 6144]⟩
abbrev S4x1024 : Shape := ⟨2, ![4, 1024]⟩
abbrev S2x512 : Shape := ⟨2, ![2, 512]⟩
abbrev S2x512x512 : Shape := ⟨3, ![2, 512, 512]⟩
abbrev S2x1024x1024 : Shape := ⟨3, ![2, 1024, 1024]⟩
abbrev S4x1x1024 : Shape := ⟨3, ![4, 1, 1024]⟩
abbrev S1x512 : Shape := ⟨2, ![1, 512]⟩
abbrev S512 : Shape := ⟨1, ![512]⟩
abbrev S1x512x512 : Shape := ⟨3, ![1, 512, 512]⟩
abbrev S512x512 : Shape := ⟨2, ![512, 512]⟩
abbrev S1x1024x1024 : Shape := ⟨3, ![1, 1024, 1024]⟩
abbrev S1024x1024 : Shape := ⟨2, ![1024, 1024]⟩
abbrev S256x1024 : Shape := ⟨2, ![256, 1024]⟩
abbrev S256x512 : Shape := ⟨2, ![256, 512]⟩
abbrev S1x1x1x6144 : Shape := ⟨4, ![1, 1, 1, 6144]⟩
abbrev S1x1x1024 : Shape := ⟨3, ![1, 1, 1024]⟩
abbrev S1x6144 : Shape := ⟨2, ![1, 6144]⟩
abbrev S512x1024 : Shape := ⟨2, ![512, 1024]⟩
abbrev S1x1024 : Shape := ⟨2, ![1, 1024]⟩
abbrev S256 : Shape := ⟨1, ![256]⟩
abbrev S256x1 : Shape := ⟨2, ![256, 1]⟩

abbrev nBuf : Space → Nat
  | .hbm => 24
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x1024, .bf16⟩
  | .hbm, ⟨4, _⟩ => ⟨S4x3x1x6144, .f32⟩
  | .hbm, ⟨5, _⟩ => ⟨S4x1024, .f32⟩
  | .hbm, ⟨6, _⟩ => ⟨S2x512, .f32⟩
  | .hbm, ⟨7, _⟩ => ⟨S2x512x512, .f32⟩
  | .hbm, ⟨8, _⟩ => ⟨S2x512, .f32⟩
  | .hbm, ⟨9, _⟩ => ⟨S2x1024x1024, .f32⟩
  | .hbm, ⟨10, _⟩ => ⟨S4x1x1024, .f32⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S1x512x512, .f32⟩
  | .hbm, ⟨15, _⟩ => ⟨S512x512, .f32⟩
  | .hbm, ⟨16, _⟩ => ⟨S512x512, .bf16⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S1x1024x1024, .f32⟩
  | .hbm, ⟨21, _⟩ => ⟨S1024x1024, .f32⟩
  | .hbm, ⟨22, _⟩ => ⟨S1024x1024, .bf16⟩
  | .hbm, ⟨23, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S1x1x1x6144, .f32⟩
  | .local _ .vmem, ⟨9, _⟩ => ⟨S1x1x1x6144, .f32⟩
  | .local _ .vmem, ⟨10, _⟩ => ⟨S1x1x1024, .f32⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 4 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c3_i32 : BitVec 32 := 3#32
  let c0_i32_7 : BitVec 32 := 0#32
  let c0_i32_8 : BitVec 32 := 0#32
  let c0_i32_9 : BitVec 32 := 0#32
  ![c3_i32.toNat, v20.toNat, c0_i32_7.toNat, c0_i32_8.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutOddRefIdeal.lean ====
abbrev S8192x1024 : Shape := ⟨2, ![8192, 1024]⟩
abbrev S8192x512 : Shape := ⟨2, ![8192, 512]⟩
abbrev S4x3x1x6144 : Shape := ⟨4, ![4, 3, 1, 6144]⟩
abbrev S4x1024 : Shape := ⟨2, ![4, 1024]⟩
abbrev S2x512 : Shape := ⟨2, ![2, 512]⟩
abbrev S2x512x512 : Shape := ⟨3, ![2, 512, 512]⟩
abbrev S2x1024x1024 : Shape := ⟨3, ![2, 1024, 1024]⟩
abbrev S1x512 : Shape := ⟨2, ![1, 512]⟩
abbrev S512 : Shape := ⟨1, ![512]⟩
abbrev S_ : Shape := ⟨0, ![]⟩
abbrev S1x512x512 : Shape := ⟨3, ![1, 512, 512]⟩
abbrev S512x512 : Shape := ⟨2, ![512, 512]⟩
abbrev S1x1024x1024 : Shape := ⟨3, ![1, 1024, 1024]⟩
abbrev S1024x1024 : Shape := ⟨2, ![1024, 1024]⟩
abbrev S1x3x1x6144 : Shape := ⟨4, ![1, 3, 1, 6144]⟩
abbrev S3x1x6144 : Shape := ⟨3, ![3, 1, 6144]⟩
abbrev S4096x1024 : Shape := ⟨2, ![4096, 1024]⟩
abbrev S16x256x1024 : Shape := ⟨3, ![16, 256, 1024]⟩
abbrev S1x1x6144 : Shape := ⟨3, ![1, 1, 6144]⟩
abbrev S1x6144 : Shape := ⟨2, ![1, 6144]⟩
abbrev S1x1024 : Shape := ⟨2, ![1, 1024]⟩
abbrev S1024 : Shape := ⟨1, ![1024]⟩
abbrev S16x256 : Shape := ⟨2, ![16, 256]⟩
abbrev S16x256x1 : Shape := ⟨3, ![16, 256, 1]⟩
abbrev S1x1x1024 : Shape := ⟨3, ![1, 1, 1024]⟩
abbrev S2x2048x1024 : Shape := ⟨3, ![2, 2048, 1024]⟩
abbrev S2x1x6144 : Shape := ⟨3, ![2, 1, 6144]⟩
abbrev S2x1x1024 : Shape := ⟨3, ![2, 1, 1024]⟩
abbrev S2x2048 : Shape := ⟨2, ![2, 2048]⟩
abbrev S2x2048x1 : Shape := ⟨3, ![2, 2048, 1]⟩

abbrev nBuf : Space → Nat
  | .hbm => 122
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x1024, .bf16⟩
  | .hbm, ⟨4, _⟩ => ⟨S4x3x1x6144, .f32⟩
  | .hbm, ⟨5, _⟩ => ⟨S4x1024, .f32⟩
  | .hbm, ⟨6, _⟩ => ⟨S2x512, .f32⟩
  | .hbm, ⟨7, _⟩ => ⟨S2x512x512, .f32⟩
  | .hbm, ⟨8, _⟩ => ⟨S2x512, .f32⟩
  | .hbm, ⟨9, _⟩ => ⟨S2x1024x1024, .f32⟩
  | .hbm, ⟨10, _⟩ => ⟨S1x512, .f32⟩
  | .hbm, ⟨11, _⟩ => ⟨S512, .f32⟩
  | .hbm, ⟨12, _⟩ => ⟨S1x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S1x512x512, .f32⟩
  | .hbm, ⟨34, _⟩ => ⟨S512x512, .f32⟩
  | .hbm, ⟨35, _⟩ => ⟨S8192x512, .f32⟩
  | .hbm, ⟨36, _⟩ => ⟨S1x512, .f32⟩
  | .hbm, ⟨37, _⟩ => ⟨S512, .f32⟩
  | .hbm, ⟨38, _⟩ => ⟨S1x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .bf16⟩
  | .hbm, ⟨51, _⟩ => ⟨S8192x512, .f32⟩
  | .hbm, ⟨52, _⟩ => ⟨S8192x1024, .f32⟩
  | .hbm, ⟨53, _⟩ => ⟨S1x1024x1024, .f32⟩
  | .hbm, ⟨54, _⟩ => ⟨S1024x1024, .f32⟩
  | .hbm, ⟨55, _⟩ => ⟨S8192x1024, .f32⟩
  | .hbm, ⟨56, _⟩ => ⟨S1x3x1x6144, .f32⟩
  | .hbm, ⟨57, _⟩ => ⟨S3x1x6144, .f32⟩
  | .hbm, ⟨58, _⟩ => ⟨S4096x1024, .f32⟩
  | .hbm, ⟨59, _⟩ => ⟨S16x256x1024, .f32⟩
  | .hbm, ⟨60, _⟩ => ⟨S1x1x6144, .f32⟩
  | .hbm, ⟨61, _⟩ => ⟨S1x6144, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1024, .f32⟩
  | .hbm, ⟨70, _⟩ => ⟨S16x256x1024, .f32⟩
  | .hbm, ⟨71, _⟩ => ⟨S_, .f32⟩
  | .hbm, ⟨72, _⟩ => ⟨S16x256, .f32⟩
  | .hbm, ⟨73, _⟩ => ⟨S16x256x1, .f32⟩
  | .hbm, ⟨74, _⟩ => ⟨S_, .f32⟩
  | .hbm, ⟨75, _⟩ => ⟨S16x256x1, .f32⟩
  | .hbm, ⟨76, _⟩ => ⟨S16x256x1, .f32⟩
  | .hbm, ⟨77, _⟩ => ⟨S_, .f32⟩
  | .hbm, ⟨78, _⟩ => ⟨S16x256x1, .f32⟩
  | .hbm, ⟨79, _⟩ => ⟨S16x256x1, .f32⟩
  | .hbm, ⟨80, _⟩ => ⟨S16x256x1, .f32⟩
  | .hbm, ⟨81, _⟩ => ⟨S16x256x1024, .f32⟩
  | .hbm, ⟨82, _⟩ => ⟨S16x256x1024, .f32⟩
  | .hbm, ⟨83, _⟩ => ⟨S1x1x1024, .f32⟩
  | .hbm, ⟨84, _⟩ => ⟨S16x256x1024, .f32⟩
  | .hbm, ⟨85, _⟩ => ⟨S16x256x1024, .f32⟩
  | .hbm, ⟨86, _⟩ => ⟨S1x1x1024, .f32⟩
  | .hbm, ⟨87, _⟩ => ⟨S16x256x1024, .f32⟩
  | .hbm, ⟨88, _⟩ => ⟨S16x256x1024, .f32⟩
  | .hbm, ⟨89, _⟩ => ⟨S4096x1024, .f32⟩
  | .hbm, ⟨90, _⟩ => ⟨S2x2048x1024, .f32⟩
  | .hbm, ⟨91, _⟩ => ⟨S2x1x6144, .f32⟩
  | .hbm, ⟨92, _⟩ => ⟨S2x1x1024, .f32⟩
  | .hbm, ⟨93, _⟩ => ⟨S2x1x1024, .f32⟩
  | .hbm, ⟨94, _⟩ => ⟨S2x1x1024, .f32⟩
  | .hbm, ⟨95, _⟩ => ⟨S2x1x1024, .f32⟩
  | .hbm, ⟨96, _⟩ => ⟨S2x1x1024, .f32⟩
  | .hbm, ⟨97, _⟩ => ⟨S2x1x1024, .f32⟩
  | .hbm, ⟨98, _⟩ => ⟨S1x1024, .f32⟩
  | .hbm, ⟨99, _⟩ => ⟨S1024, .f32⟩
  | .hbm, ⟨100, _⟩ => ⟨S2x2048x1024, .f32⟩
  | .hbm, ⟨101, _⟩ => ⟨S_, .f32⟩
  | .hbm, ⟨102, _⟩ => ⟨S2x2048, .f32⟩
  | .hbm, ⟨103, _⟩ => ⟨S2x2048x1, .f32⟩
  | .hbm, ⟨104, _⟩ => ⟨S_, .f32⟩
  | .hbm, ⟨105, _⟩ => ⟨S2x2048x1, .f32⟩
  | .hbm, ⟨106, _⟩ => ⟨S2x2048x1, .f32⟩
  | .hbm, ⟨107, _⟩ => ⟨S_, .f32⟩
  | .hbm, ⟨108, _⟩ => ⟨S2x2048x1, .f32⟩
  | .hbm, ⟨109, _⟩ => ⟨S2x2048x1, .f32⟩
  | .hbm, ⟨110, _⟩ => ⟨S2x2048x1, .f32⟩
  | .hbm, ⟨111, _⟩ => ⟨S2x2048x1024, .f32⟩
  | .hbm, ⟨112, _⟩ => ⟨S2x2048x1024, .f32⟩
  | .hbm, ⟨113, _⟩ => ⟨S1x1x1024, .f32⟩
  | .hbm, ⟨114, _⟩ => ⟨S2x2048x1024, .f32⟩
  | .hbm, ⟨115, _⟩ => ⟨S2x2048x1024, .f32⟩
  | .hbm, ⟨116, _⟩ => ⟨S2x2048x1024, .f32⟩
  | .hbm, ⟨117, _⟩ => ⟨S2x2048x1024, .f32⟩
  | .hbm, ⟨118, _⟩ => ⟨S4096x1024, .f32⟩
  | .hbm, ⟨119, _⟩ => ⟨S4096x1024, .f32⟩
  | .hbm, ⟨120, _⟩ => ⟨S8192x1024, .f32⟩
  | .hbm, ⟨121, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_cst_6 : Ref sig .tc := ⟨.hbm, 74, rfl⟩
abbrev main_v57 : Ref sig .tc := ⟨.hbm, 75, rfl⟩
abbrev main_v58 : Ref sig .tc := ⟨.hbm, 76, rfl⟩
abbrev main_cst_7 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_8 : Ref sig .tc := ⟨.hbm, 101, rfl⟩
abbrev main_v82 : Ref sig .tc := ⟨.hbm, 102, rfl⟩
abbrev main_v83 : Ref sig .tc := ⟨.hbm, 103, rfl⟩
abbrev main_cst_9 : Ref sig .tc := ⟨.hbm, 104, rfl⟩
abbrev main_v84 : Ref sig .tc := ⟨.hbm, 105, rfl⟩
abbrev main_v85 : Ref sig .tc := ⟨.hbm, 106, rfl⟩
abbrev main_cst_10 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩

abbrev nD : Nat := 1
abbrev τ : Topo := Topo.v7x

variable {F : FTy → Type} [FloatOps F]
-- ==== InEven.lean ====
abbrev S8192x1024 : Shape := ⟨2, ![8192, 1024]⟩
abbrev S4x3x1x6144 : Shape := ⟨4, ![4, 3, 1, 6144]⟩
abbrev S4x1024 : Shape := ⟨2, ![4, 1024]⟩
abbrev S2x1024x2464 : Shape := ⟨3, ![2, 1024, 2464]⟩
abbrev S2x256 : Shape := ⟨2, ![2, 256]⟩
abbrev S2x256x768 : Shape := ⟨3, ![2, 256, 768]⟩
abbrev S2x128 : Shape := ⟨2, ![2, 128]⟩
abbrev S2x128x1024 : Shape := ⟨3, ![2, 128, 1024]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S256x128 : Shape := ⟨2, ![256, 128]⟩
abbrev S2304x128 : Shape := ⟨2, ![2304, 128]⟩
abbrev S1x1024x2464 : Shape := ⟨3, ![1, 1024, 2464]⟩
abbrev S1024x2464 : Shape := ⟨2, ![1024, 2464]⟩
abbrev S1x256x768 : Shape := ⟨3, ![1, 256, 768]⟩
abbrev S256x768 : Shape := ⟨2, ![256, 768]⟩
abbrev S1x128x1024 : Shape := ⟨3, ![1, 128, 1024]⟩
abbrev S128x1024 : Shape := ⟨2, ![128, 1024]⟩
abbrev S1024x32 : Shape := ⟨2, ![1024, 32]⟩
abbrev S1024x64 : Shape := ⟨2, ![1024, 64]⟩
abbrev S1024x16 : Shape := ⟨2, ![1024, 16]⟩
abbrev S1024x256 : Shape := ⟨2, ![1024, 256]⟩
abbrev S256x8x96 : Shape := ⟨3, ![256, 8, 96]⟩
abbrev S256x8x64 : Shape := ⟨3, ![256, 8, 64]⟩
abbrev S256x8x32 : Shape := ⟨3, ![256, 8, 32]⟩
abbrev S256x8x128 : Shape := ⟨3, ![256, 8, 128]⟩
abbrev S256x1024 : Shape := ⟨2, ![256, 1024]⟩
abbrev S256x8x16 : Shape := ⟨3, ![256, 8, 16]⟩
abbrev S256x2048 : Shape := ⟨2, ![256, 2048]⟩
abbrev S128x8x128 : Shape := ⟨3, ![128, 8, 128]⟩
abbrev S128x8x64 : Shape := ⟨3, ![128, 8, 64]⟩
abbrev S128x512 : Shape := ⟨2, ![128, 512]⟩
abbrev S4x1x1024 : Shape := ⟨3, ![4, 1, 1024]⟩
abbrev S1x256 : Shape := ⟨2, ![1, 256]⟩
abbrev S256 : Shape := ⟨1, ![256]⟩
abbrev S1x128 : Shape := ⟨2, ![1, 128]⟩
abbrev S128 : Shape := ⟨1, ![128]⟩
abbrev S8192x2048 : Shape := ⟨2, ![8192, 2048]⟩
abbrev S8192x512 : Shape := ⟨2, ![8192, 512]⟩
abbrev S8192x128 : Shape := ⟨2, ![8192, 128]⟩
abbrev S1x1x1x6144 : Shape := ⟨4, ![1, 1, 1, 6144]⟩
abbrev S1x1x1024 : Shape := ⟨3, ![1, 1, 1024]⟩
abbrev S256x512 : Shape := ⟨2, ![256, 512]⟩
abbrev S1x6144 : Shape := ⟨2, ![1, 6144]⟩
abbrev S1x1024 : Shape := ⟨2, ![1, 1024]⟩
abbrev S256x1 : Shape := ⟨2, ![256, 1]⟩
abbrev S1024x2432 : Shape := ⟨2, ![1024, 2432]⟩
abbrev S256x2432 : Shape := ⟨2, ![256, 2432]⟩
abbrev S256x256 : Shape := ⟨2, ![256, 256]⟩

abbrev nBuf : Space → Nat
  | .hbm => 142
  | .vmem => 28
  | .smem => 0
  | _ => 0

abbrev hbmTy0_0 (i : Nat) : BufTy := match i % 128 with
  | 0 => ⟨S8192x1024, .f32⟩
  | 1 => ⟨S4x3x1x6144, .f32⟩
  | 2 => ⟨S4x1024, .f32⟩
  | 3 => ⟨S2x1024x2464, .f32⟩
  | 4 => ⟨S2x256, .f32⟩
  | 5 => ⟨S2x256x768, .f32⟩
  | 6 => ⟨S2x128, .f32⟩
  | 7 => ⟨S2x128x1024, .f32⟩
  | 8 => ⟨S8, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S2048, .i32⟩
  | 17 => ⟨S_, .i32⟩
  | 18 => ⟨S_, .i32⟩
  | 19 => ⟨S2048, .i32⟩
  | 20 => ⟨S2048, .i32⟩
  | 21 => ⟨S2048, .i32⟩
  | 22 => ⟨S_, .i32⟩
  | 23 => ⟨S2048, .i32⟩
  | 24 => ⟨S2048, .i1⟩
  | 25 => ⟨S2048, .i32⟩
  | 26 => ⟨S2048, .i32⟩
  | 27 => ⟨S_, .i32⟩
  | 28 => ⟨S2048, .i32⟩
  | 29 => ⟨S2048, .i1⟩
  | 30 => ⟨S2048, .i1⟩
  | 31 => ⟨S_, .i32⟩
  | 32 => ⟨S2048, .i32⟩
  | 33 => ⟨S2048, .i32⟩
  | 34 => ⟨S2048, .i32⟩
  | 35 => ⟨S2048, .f32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S2048, .i32⟩
  | 43 => ⟨S2048, .i32⟩
  | 44 => ⟨S_, .i32⟩
  | 45 => ⟨S2048, .i32⟩
  | 46 => ⟨S2048, .i1⟩
  | 47 => ⟨S_, .i32⟩
  | 48 => ⟨S2048, .i32⟩
  | 49 => ⟨S2048, .i1⟩
  | 50 => ⟨S_, .i32⟩
  | 51 => ⟨S_, .i1⟩
  | 52 => ⟨S2048, .i1⟩
  | 53 => ⟨S2048, .i1⟩
  | 54 => ⟨S2048, .i1⟩
  | 55 => ⟨S2048, .i32⟩
  | 56 => ⟨S2048, .i32⟩
  | 57 => ⟨S2048, .i32⟩
  | 58 => ⟨S2048, .f32⟩
  | 59 => ⟨S2048x1, .f32⟩
  | 60 => ⟨S1x8, .f32⟩
  | 61 => ⟨S2048x8, .f32⟩
  | 62 => ⟨S2048x8, .f32⟩
  | 63 => ⟨S2048x8, .f32⟩
  | 64 => ⟨S2048x1, .f32⟩
  | 65 => ⟨S1x8, .f32⟩
  | 66 => ⟨S2048x8, .f32⟩
  | 67 => ⟨S2048x8, .f32⟩
  | 68 => ⟨S2048x8, .f32⟩
  | 69 => ⟨S2048x16, .f32⟩
  | 70 => ⟨S2048x16, .f32⟩
  | 71 => ⟨S2048x16, .f32⟩
  | 72 => ⟨S_, .f32⟩
  | 73 => ⟨S2048x64, .f32⟩
  | 74 => ⟨S_, .f32⟩
  | 75 => ⟨S2048x64, .f32⟩
  | 76 => ⟨S2048x32, .f32⟩
  | 77 => ⟨S2048x128, .f32⟩
  | 78 => ⟨S2048x16, .f32⟩
  | 79 => ⟨S2048x32, .f32⟩
  | 80 => ⟨S2048x128, .f32⟩
  | 81 => ⟨S_, .f32⟩
  | 82 => ⟨S256x128, .f32⟩
  | 83 => ⟨S2304x128, .f32⟩
  | 84 => ⟨S_, .f32⟩
  | 85 => ⟨S256x128, .f32⟩
  | 86 => ⟨S2304x128, .f32⟩
  | 87 => ⟨S1x1024x2464, .f32⟩
  | 88 => ⟨S1024x2464, .f32⟩
  | 89 => ⟨S1x256x768, .f32⟩
  | 90 => ⟨S256x768, .f32⟩
  | 91 => ⟨S1x128x1024, .f32⟩
  | 92 => ⟨S128x1024, .f32⟩
  | 93 => ⟨S1024x32, .f32⟩
  | 94 => ⟨S_, .f32⟩
  | 95 => ⟨S1024x64, .f32⟩
  | 96 => ⟨S_, .f32⟩
  | 97 => ⟨S1024x32, .f32⟩
  | 98 => ⟨S1024x16, .f32⟩
  | 99 => ⟨S1024x16, .f32⟩
  | 100 => ⟨S1024x256, .f32⟩
  | 101 => ⟨S1024x256, .bf16⟩
  | 102 => ⟨S1024x2464, .bf16⟩
  | 103 => ⟨S256x8x96, .f32⟩
  | 104 => ⟨S256x8x64, .f32⟩
  | 105 => ⟨S256x8x32, .f32⟩
  | 106 => ⟨S_, .f32⟩
  | 107 => ⟨S256x8x64, .f32⟩
  | 108 => ⟨S_, .f32⟩
  | 109 => ⟨S256x8x32, .f32⟩
  | 110 => ⟨S256x8x128, .f32⟩
  | 111 => ⟨S256x1024, .f32⟩
  | 112 => ⟨S256x8x16, .f32⟩
  | 113 => ⟨S256x8x16, .f32⟩
  | 114 => ⟨S256x8x128, .f32⟩
  | 115 => ⟨S256x1024, .f32⟩
  | 116 => ⟨S256x2048, .f32⟩
  | 117 => ⟨S256x2048, .bf16⟩
  | 118 => ⟨S128x8x128, .f32⟩
  | 119 => ⟨S128x8x64, .f32⟩
  | 120 => ⟨S128x8x64, .f32⟩
  | 121 => ⟨S_, .f32⟩
  | 122 => ⟨S128x8x64, .f32⟩
  | 123 => ⟨S128x8x128, .f32⟩
  | 124 => ⟨S128x1024, .f32⟩
  | 125 => ⟨S128x1024, .bf16⟩
  | 126 => ⟨S128x8x64, .f32⟩
  | 127 => ⟨S128x512, .f32⟩
  | _ => ⟨S8192x1024, .f32⟩

abbrev hbmTy0_1 (i : Nat) : BufTy := match i % 128 with
  | 0 => ⟨S128x512, .bf16⟩
  | 1 => ⟨S4x1x1024, .f32⟩
  | 2 => ⟨S1x256, .f32⟩
  | 3 => ⟨S256, .f32⟩
  | 4 => ⟨S1x256, .f32⟩
  | 5 => ⟨S1x128, .f32⟩
  | 6 => ⟨S128, .f32⟩
  | 7 => ⟨S1x128, .f32⟩
  | 8 => ⟨S8192x2048, .f32⟩
  | 9 => ⟨S8192x1024, .bf16⟩
  | 10 => ⟨S8192x1024, .bf16⟩
  | 11 => ⟨S8192x512, .bf16⟩
  | 12 => ⟨S8192x128, .f32⟩
  | 13 => ⟨S8192x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1x1x6144, .f32⟩
  | .local _ .vmem, ⟨3, _⟩ => ⟨S1x1x1x6144, .f32⟩
  | .local _ .vmem, ⟨4, _⟩ => ⟨S1x1x1024, .f32⟩
  | .local _ .vmem, ⟨5, _⟩ => ⟨S1024x2464, .bf16⟩
  | .local _ .vmem, ⟨6, _⟩ => ⟨S1024x256, .bf16⟩
  | .local _ .vmem, ⟨7, _⟩ => ⟨S1x256, .f32⟩
  | .local _ .vmem, ⟨8, _⟩ => ⟨S1x128, .f32⟩
  | .local _ .vmem, ⟨9, _⟩ => ⟨S256x2048, .bf16⟩
  | .local _ .vmem, ⟨10, _⟩ => ⟨S128x1024, .bf16⟩
  | .local _ .vmem, ⟨11, _⟩ => ⟨S128x512, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x2048, .f32⟩
  | .local _ .vmem, ⟨17, _⟩ => ⟨S256x2048, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x512, .bf16⟩
  | .local _ .vmem, ⟨23, _⟩ => ⟨S256x512, .bf16⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v7 : Ref sig .tc := ⟨.hbm, 34, rfl⟩
abbrev main_v8 : Ref sig .tc := ⟨.hbm, 35, rfl⟩
abbrev main_c_1 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_cst_2 : Ref sig .tc := ⟨.hbm, 72, rfl⟩
abbrev main_v24 : Ref sig .tc := ⟨.hbm, 73, rfl⟩
abbrev main_cst_3 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_cst_4 : Ref sig .tc := ⟨.hbm, 81, rfl⟩
abbrev main_v31 : Ref sig .tc := ⟨.hbm, 82, rfl⟩
abbrev main_v32 : Ref sig .tc := ⟨.hbm, 83, rfl⟩
abbrev main_cst_5 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_cst_6 : Ref sig .tc := ⟨.hbm, 94, rfl⟩
abbrev main_v42 : Ref sig .tc := ⟨.hbm, 95, rfl⟩
abbrev main_cst_7 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst_8 : Ref sig .tc := ⟨.hbm, 106, rfl⟩
abbrev main_v52 : Ref sig .tc := ⟨.hbm, 107, rfl⟩
abbrev main_cst_9 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_cst_10 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79_0 : Ref sig .tc := ⟨.hbm, 136, rfl⟩
abbrev main_v79_1 : Ref sig .tc := ⟨.hbm, 137, rfl⟩
abbrev main_v79_2 : Ref sig .tc := ⟨.hbm, 138, rfl⟩
abbrev main_v79_3 : Ref sig .tc := ⟨.hbm, 139, rfl⟩
abbrev main_v79_4 : Ref sig .tc := ⟨.hbm, 140, rfl⟩
abbrev main_v79_5 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c2_i32 : BitVec 32 := 2#32
  let c0_i32_7 : BitVec 32 := 0#32
  let c0_i32_8 : BitVec 32 := 0#32
  let c0_i32_9 : BitVec 32 := 0#32
  ![c2_i32.toNat, v20.toNat, c0_i32_7.toNat, c0_i32_8.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_11 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2464 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InEvenRefIdeal.lean ====
abbrev S8192x1024 : Shape := ⟨2, ![8192, 1024]⟩
abbrev S4x3x1x6144 : Shape := ⟨4, ![4, 3, 1, 6144]⟩
abbrev S4x1024 : Shape := ⟨2, ![4, 1024]⟩
abbrev S2x1024x2464 : Shape := ⟨3, ![2, 1024, 2464]⟩
abbrev S2x256 : Shape := ⟨2, ![2, 256]⟩
abbrev S2x256x768 : Shape := ⟨3, ![2, 256, 768]⟩
abbrev S2x128 : Shape := ⟨2, ![2, 128]⟩
abbrev S2x128x1024 : Shape := ⟨3, ![2, 128, 1024]⟩
abbrev S1x3x1x6144 : Shape := ⟨4, ![1, 3, 1, 6144]⟩
abbrev S3x1x6144 : Shape := ⟨3, ![3, 1, 6144]⟩
abbrev S4096x1024 : Shape := ⟨2, ![4096, 1024]⟩
abbrev S16x256x1024 : Shape := ⟨3, ![16, 256, 1024]⟩
abbrev S1x1x6144 : Shape := ⟨3, ![1, 1, 6144]⟩
abbrev S1x6144 : Shape := ⟨2, ![1, 6144]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S2x2048x1024 : Shape := ⟨3, ![2, 2048, 1024]⟩
abbrev S2x1x6144 : Shape := ⟨3, ![2, 1, 6144]⟩
abbrev S2x1x1024 : Shape := ⟨3, ![2, 1, 1024]⟩
abbrev S2x2048 : Shape := ⟨2, ![2, 2048]⟩
abbrev S2x2048x1 : Shape := ⟨3, ![2, 2048, 1]⟩
abbrev S1x1024x2464 : Shape := ⟨3, ![1, 1024, 2464]⟩
abbrev S1024x2464 : Shape := ⟨2, ![1024, 2464]⟩
abbrev S8192x2464 : Shape := ⟨2, ![8192, 2464]⟩
abbrev S8192x2048 : Shape := ⟨2, ![8192, 2048]⟩
abbrev S8192x256 : Shape := ⟨2, ![8192, 256]⟩
abbrev S8192x128 : Shape := ⟨2, ![8192, 128]⟩
abbrev S8192x32 : Shape := ⟨2, ![8192, 32]⟩
abbrev S1x128 : Shape := ⟨2, ![1, 128]⟩
abbrev S128 : Shape := ⟨1, ![128]⟩
abbrev S8192 : Shape := ⟨1, ![8192]⟩
abbrev S8192x1 : Shape := ⟨2, ![8192, 1]⟩
abbrev S1x128x1024 : Shape := ⟨3, ![1, 128, 1024]⟩
abbrev S128x1024 : Shape := ⟨2, ![128, 1024]⟩
abbrev S8192x8x128 : Shape := ⟨3, ![8192, 8, 128]⟩
abbrev S1x256 : Shape := ⟨2, ![1, 256]⟩
abbrev S256 : Shape := ⟨1, ![256]⟩
abbrev S1x256x768 : Shape := ⟨3, ![1, 256, 768]⟩
abbrev S256x768 : Shape := ⟨2, ![256, 768]⟩
abbrev S8192x768 : Shape := ⟨2, ![8192, 768]⟩
abbrev S8192x8x96 : Shape := ⟨3, ![8192, 8, 96]⟩
abbrev S8192x8x32 : Shape := ⟨3, ![8192, 8, 32]⟩
abbrev S8192x1x32 : Shape := ⟨3, ![8192, 1, 32]⟩
abbrev S8 : Shape := ⟨1, ![8]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x16 : Shape := ⟨2, ![2048, 16]⟩
abbrev S2048x1x16 : Shape := ⟨3, ![2048, 1, 16]⟩
abbrev S4096x1x32 : Shape := ⟨3, ![4096, 1, 32]⟩
abbrev S2x2048x1x32 : Shape := ⟨4, ![2, 2048, 1, 32]⟩
abbrev S2x2048x1x16 : Shape := ⟨4, ![2, 2048, 1, 16]⟩
abbrev S1x2048x1x16 : Shape := ⟨4, ![1, 2048, 1, 16]⟩
abbrev S8192x8x64 : Shape := ⟨3, ![8192, 8, 64]⟩
abbrev S4096x8x32 : Shape := ⟨3, ![4096, 8, 32]⟩
abbrev S2x2048x8x32 : Shape := ⟨4, ![2, 2048, 8, 32]⟩
abbrev S2x2048x8x16 : Shape := ⟨4, ![2, 2048, 8, 16]⟩
abbrev S8192x512 : Shape := ⟨2, ![8192, 512]⟩

abbrev nBuf : Space → Nat
  | .hbm => 330
  | .vmem => 0
  | .smem => 0
  | _ => 0

abbrev hbmTy0_0 (i : Nat) : BufTy := match i % 128 with
  | 0 => ⟨S8192x1024, .f32⟩
  | 1 => ⟨S4x3x1x6144, .f32⟩
  | 2 => ⟨S4x1024, .f32⟩
  | 3 => ⟨S2x1024x2464, .f32⟩
  | 4 => ⟨S2x256, .f32⟩
  | 5 => ⟨S2x256x768, .f32⟩
  | 6 => ⟨S2x128, .f32⟩
  | 7 => ⟨S2x128x1024, .f32⟩
  | 8 => ⟨S1x3x1x6144, .f32⟩
  | 9 => ⟨S3x1x6144, .f32⟩
  | 10 => ⟨S4096x1024, .f32⟩
  | 11 => ⟨S16x256x1024, .f32⟩
  | 12 => ⟨S1x1x6144, .f32⟩
  | 13 => ⟨S1x6144, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1024, .f32⟩
  | 22 => ⟨S16x256x1024, .f32⟩
  | 23 => ⟨S_, .f32⟩
  | 24 => ⟨S16x256, .f32⟩
  | 25 => ⟨S16x256x1, .f32⟩
  | 26 => ⟨S_, .f32⟩
  | 27 => ⟨S16x256x1, .f32⟩
  | 28 => ⟨S16x256x1, .f32⟩
  | 29 => ⟨S_, .f32⟩
  | 30 => ⟨S16x256x1, .f32⟩
  | 31 => ⟨S16x256x1, .f32⟩
  | 32 => ⟨S16x256x1, .f32⟩
  | 33 => ⟨S16x256x1024, .f32⟩
  | 34 => ⟨S16x256x1024, .f32⟩
  | 35 => ⟨S1x1x1024, .f32⟩
  | 36 => ⟨S16x256x1024, .f32⟩
  | 37 => ⟨S16x256x1024, .f32⟩
  | 38 => ⟨S_, .f32⟩
  | 39 => ⟨S1x1024, .f32⟩
  | 40 => ⟨S1x1024, .f32⟩
  | 41 => ⟨S1x1x1024, .f32⟩
  | 42 => ⟨S16x256x1024, .f32⟩
  | 43 => ⟨S16x256x1024, .f32⟩
  | 44 => ⟨S1x1x1024, .f32⟩
  | 45 => ⟨S16x256x1024, .f32⟩
  | 46 => ⟨S16x256x1024, .f32⟩
  | 47 => ⟨S4096x1024, .f32⟩
  | 48 => ⟨S2x2048x1024, .f32⟩
  | 49 => ⟨S2x1x6144, .f32⟩
  | 50 => ⟨S2x1x1024, .f32⟩
  | 51 => ⟨S2x1x1024, .f32⟩
  | 52 => ⟨S2x1x1024, .f32⟩
  | 53 => ⟨S2x1x1024, .f32⟩
  | 54 => ⟨S2x1x1024, .f32⟩
  | 55 => ⟨S2x1x1024, .f32⟩
  | 56 => ⟨S1x1024, .f32⟩
  | 57 => ⟨S1024, .f32⟩
  | 58 => ⟨S2x2048x1024, .f32⟩
  | 59 => ⟨S_, .f32⟩
  | 60 => ⟨S2x2048, .f32⟩
  | 61 => ⟨S2x2048x1, .f32⟩
  | 62 => ⟨S_, .f32⟩
  | 63 => ⟨S2x2048x1, .f32⟩
  | 64 => ⟨S2x2048x1, .f32⟩
  | 65 => ⟨S_, .f32⟩
  | 66 => ⟨S2x2048x1, .f32⟩
  | 67 => ⟨S2x2048x1, .f32⟩
  | 68 => ⟨S2x2048x1, .f32⟩
  | 69 => ⟨S2x2048x1024, .f32⟩
  | 70 => ⟨S2x2048x1024, .f32⟩
  | 71 => ⟨S1x1x1024, .f32⟩
  | 72 => ⟨S2x2048x1024, .f32⟩
  | 73 => ⟨S2x2048x1024, .f32⟩
  | 74 => ⟨S_, .f32⟩
  | 75 => ⟨S2x1x1024, .f32⟩
  | 76 => ⟨S2x1x1024, .f32⟩
  | 77 => ⟨S2x2048x1024, .f32⟩
  | 78 => ⟨S2x2048x1024, .f32⟩
  | 79 => ⟨S2x2048x1024, .f32⟩
  | 80 => ⟨S2x2048x1024, .f32⟩
  | 81 => ⟨S4096x1024, .f32⟩
  | 82 => ⟨S4096x1024, .f32⟩
  | 83 => ⟨S8192x1024, .f32⟩
  | 84 => ⟨S1x1024x2464, .f32⟩
  | 85 => ⟨S1024x2464, .f32⟩
  | 86 => ⟨S8192x2464, .f32⟩
  | 87 => ⟨S8192x2048, .f32⟩
  | 88 => ⟨S8192x256, .f32⟩
  | 89 => ⟨S8192x128, .f32⟩
  | 90 => ⟨S8192x32, .f32⟩
  | 91 => ⟨S1x128, .f32⟩
  | 92 => ⟨S128, .f32⟩
  | 93 => ⟨S8192x128, .f32⟩
  | 94 => ⟨S_, .f32⟩
  | 95 => ⟨S8192, .f32⟩
  | 96 => ⟨S8192x1, .f32⟩
  | 97 => ⟨S_, .f32⟩
  | 98 => ⟨S8192x1, .f32⟩
  | 99 => ⟨S8192x1, .f32⟩
  | 100 => ⟨S_, .f32⟩
  | 101 => ⟨S8192x1, .f32⟩
  | 102 => ⟨S8192x1, .f32⟩
  | 103 => ⟨S8192x1, .f32⟩
  | 104 => ⟨S8192x128, .f32⟩
  | 105 => ⟨S8192x128, .f32⟩
  | 106 => ⟨S1x128, .f32⟩
  | 107 => ⟨S8192x128, .f32⟩
  | 108 => ⟨S8192x128, .f32⟩
  | 109 => ⟨S1x128x1024, .f32⟩
  | 110 => ⟨S128x1024, .f32⟩
  | 111 => ⟨S8192x1024, .f32⟩
  | 112 => ⟨S8192x8x128, .f32⟩
  | 113 => ⟨S1x256, .f32⟩
  | 114 => ⟨S256, .f32⟩
  | 115 => ⟨S8192x256, .f32⟩
  | 116 => ⟨S_, .f32⟩
  | 117 => ⟨S8192, .f32⟩
  | 118 => ⟨S8192x1, .f32⟩
  | 119 => ⟨S_, .f32⟩
  | 120 => ⟨S8192x1, .f32⟩
  | 121 => ⟨S8192x1, .f32⟩
  | 122 => ⟨S_, .f32⟩
  | 123 => ⟨S8192x1, .f32⟩
  | 124 => ⟨S8192x1, .f32⟩
  | 125 => ⟨S8192x1, .f32⟩
  | 126 => ⟨S8192x256, .f32⟩
  | 127 => ⟨S8192x256, .f32⟩
  | _ => ⟨S8192x1024, .f32⟩

abbrev hbmTy0_1 (i : Nat) : BufTy := match i % 128 with
  | 0 => ⟨S1x256, .f32⟩
  | 1 => ⟨S8192x256, .f32⟩
  | 2 => ⟨S8192x256, .f32⟩
  | 3 => ⟨S1x256x768, .f32⟩
  | 4 => ⟨S256x768, .f32⟩
  | 5 => ⟨S8192x768, .f32⟩
  | 6 => ⟨S8192x8x96, .f32⟩
  | 7 => ⟨S_, .f32⟩
  | 8 => ⟨S8192x8x32, .f32⟩
  | 9 => ⟨S8192x1x32, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S2048, .i32⟩
  | 19 => ⟨S_, .i32⟩
  | 20 => ⟨S_, .i32⟩
  | 21 => ⟨S2048, .i32⟩
  | 22 => ⟨S2048, .i32⟩
  | 23 => ⟨S2048, .i32⟩
  | 24 => ⟨S_, .i32⟩
  | 25 => ⟨S2048, .i32⟩
  | 26 => ⟨S2048, .i1⟩
  | 27 => ⟨S2048, .i32⟩
  | 28 => ⟨S2048, .i32⟩
  | 29 => ⟨S_, .i32⟩
  | 30 => ⟨S2048, .i32⟩
  | 31 => ⟨S2048, .i1⟩
  | 32 => ⟨S2048, .i1⟩
  | 33 => ⟨S_, .i32⟩
  | 34 => ⟨S2048, .i32⟩
  | 35 => ⟨S2048, .i32⟩
  | 36 => ⟨S2048, .i32⟩
  | 37 => ⟨S2048, .f32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S2048, .i32⟩
  | 45 => ⟨S2048, .i32⟩
  | 46 => ⟨S_, .i32⟩
  | 47 => ⟨S2048, .i32⟩
  | 48 => ⟨S2048, .i1⟩
  | 49 => ⟨S_, .i32⟩
  | 50 => ⟨S2048, .i32⟩
  | 51 => ⟨S2048, .i1⟩
  | 52 => ⟨S_, .i32⟩
  | 53 => ⟨S_, .i1⟩
  | 54 => ⟨S2048, .i1⟩
  | 55 => ⟨S2048, .i1⟩
  | 56 => ⟨S2048, .i1⟩
  | 57 => ⟨S2048, .i32⟩
  | 58 => ⟨S2048, .i32⟩
  | 59 => ⟨S2048, .i32⟩
  | 60 => ⟨S2048, .f32⟩
  | 61 => ⟨S2048x1, .f32⟩
  | 62 => ⟨S1x8, .f32⟩
  | 63 => ⟨S2048x8, .f32⟩
  | 64 => ⟨S2048x8, .f32⟩
  | 65 => ⟨S2048x8, .f32⟩
  | 66 => ⟨S2048x1, .f32⟩
  | 67 => ⟨S1x8, .f32⟩
  | 68 => ⟨S2048x8, .f32⟩
  | 69 => ⟨S2048x8, .f32⟩
  | 70 => ⟨S2048x8, .f32⟩
  | 71 => ⟨S2048x16, .f32⟩
  | 72 => ⟨S2048x16, .f32⟩
  | 73 => ⟨S2048x1x16, .f32⟩
  | 74 => ⟨S2048x16, .f32⟩
  | 75 => ⟨S2048x1x16, .f32⟩
  | 76 => ⟨S4096x1x32, .f32⟩
  | 77 => ⟨S2x2048x1x32, .f32⟩
  | 78 => ⟨S2x2048x1x16, .f32⟩
  | 79 => ⟨S2x2048x1x16, .f32⟩
  | 80 => ⟨S1x2048x1x16, .f32⟩
  | 81 => ⟨S2x2048x1x16, .f32⟩
  | 82 => ⟨S2x2048x1x16, .f32⟩
  | 83 => ⟨S1x2048x1x16, .f32⟩
  | 84 => ⟨S2x2048x1x16, .f32⟩
  | 85 => ⟨S2x2048x1x16, .f32⟩
  | 86 => ⟨S2x2048x1x16, .f32⟩
  | 87 => ⟨S1x2048x1x16, .f32⟩
  | 88 => ⟨S2x2048x1x16, .f32⟩
  | 89 => ⟨S2x2048x1x16, .f32⟩
  | 90 => ⟨S1x2048x1x16, .f32⟩
  | 91 => ⟨S2x2048x1x16, .f32⟩
  | 92 => ⟨S2x2048x1x16, .f32⟩
  | 93 => ⟨S2x2048x1x16, .f32⟩
  | 94 => ⟨S2x2048x1x32, .f32⟩
  | 95 => ⟨S4096x1x32, .f32⟩
  | 96 => ⟨S4096x1x32, .f32⟩
  | 97 => ⟨S8192x1x32, .f32⟩
  | 98 => ⟨S8192x8x32, .f32⟩
  | 99 => ⟨S8192x8x64, .f32⟩
  | 100 => ⟨S8192x8x32, .f32⟩
  | 101 => ⟨S8, .f32⟩
  | 102 => ⟨S8, .f32⟩
  | 103 => ⟨S_, .f32⟩
  | 104 => ⟨S8, .f32⟩
  | 105 => ⟨S8, .f32⟩
  | 106 => ⟨S_, .f32⟩
  | 107 => ⟨S8, .f32⟩
  | 108 => ⟨S8, .f32⟩
  | 109 => ⟨S2048, .i32⟩
  | 110 => ⟨S_, .i32⟩
  | 111 => ⟨S_, .i32⟩
  | 112 => ⟨S2048, .i32⟩
  | 113 => ⟨S2048, .i32⟩
  | 114 => ⟨S2048, .i32⟩
  | 115 => ⟨S_, .i32⟩
  | 116 => ⟨S2048, .i32⟩
  | 117 => ⟨S2048, .i1⟩
  | 118 => ⟨S2048, .i32⟩
  | 119 => ⟨S2048, .i32⟩
  | 120 => ⟨S_, .i32⟩
  | 121 => ⟨S2048, .i32⟩
  | 122 => ⟨S2048, .i1⟩
  | 123 => ⟨S2048, .i1⟩
  | 124 => ⟨S_, .i32⟩
  | 125 => ⟨S2048, .i32⟩
  | 126 => ⟨S2048, .i32⟩
  | 127 => ⟨S2048, .i32⟩
  | _ => ⟨S8192x1024, .f32⟩

abbrev hbmTy0_2 (i : Nat) : BufTy := match i % 128 with
  | 0 => ⟨S2048, .f32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S2048, .i32⟩
  | 8 => ⟨S2048, .i32⟩
  | 9 => ⟨S_, .i32⟩
  | 10 => ⟨S2048, .i32⟩
  | 11 => ⟨S2048, .i1⟩
  | 12 => ⟨S_, .i32⟩
  | 13 => ⟨S2048, .i32⟩
  | 14 => ⟨S2048, .i1⟩
  | 15 => ⟨S_, .i32⟩
  | 16 => ⟨S_, .i1⟩
  | 17 => ⟨S2048, .i1⟩
  | 18 => ⟨S2048, .i1⟩
  | 19 => ⟨S2048, .i1⟩
  | 20 => ⟨S2048, .i32⟩
  | 21 => ⟨S2048, .i32⟩
  | 22 => ⟨S2048, .i32⟩
  | 23 => ⟨S2048, .f32⟩
  | 24 => ⟨S2048x1, .f32⟩
  | 25 => ⟨S1x8, .f32⟩
  | 26 => ⟨S2048x8, .f32⟩
  | 27 => ⟨S2048x8, .f32⟩
  | 28 => ⟨S2048x8, .f32⟩
  | 29 => ⟨S2048x1, .f32⟩
  | 30 => ⟨S1x8, .f32⟩
  | 31 => ⟨S2048x8, .f32⟩
  | 32 => ⟨S2048x8, .f32⟩
  | 33 => ⟨S2048x8, .f32⟩
  | 34 => ⟨S2048x16, .f32⟩
  | 35 => ⟨S2048x16, .f32⟩
  | 36 => ⟨S2048x1x16, .f32⟩
  | 37 => ⟨S2048x16, .f32⟩
  | 38 => ⟨S2048x1x16, .f32⟩
  | 39 => ⟨S4096x8x32, .f32⟩
  | 40 => ⟨S2x2048x8x32, .f32⟩
  | 41 => ⟨S2x2048x8x16, .f32⟩
  | 42 => ⟨S2x2048x8x16, .f32⟩
  | 43 => ⟨S1x2048x1x16, .f32⟩
  | 44 => ⟨S2x2048x8x16, .f32⟩
  | 45 => ⟨S2x2048x8x16, .f32⟩
  | 46 => ⟨S1x2048x1x16, .f32⟩
  | 47 => ⟨S2x2048x8x16, .f32⟩
  | 48 => ⟨S2x2048x8x16, .f32⟩
  | 49 => ⟨S2x2048x8x16, .f32⟩
  | 50 => ⟨S1x2048x1x16, .f32⟩
  | 51 => ⟨S2x2048x8x16, .f32⟩
  | 52 => ⟨S2x2048x8x16, .f32⟩
  | 53 => ⟨S1x2048x1x16, .f32⟩
  | 54 => ⟨S2x2048x8x16, .f32⟩
  | 55 => ⟨S2x2048x8x16, .f32⟩
  | 56 => ⟨S2x2048x8x16, .f32⟩
  | 57 => ⟨S2x2048x8x32, .f32⟩
  | 58 => ⟨S4096x8x32, .f32⟩
  | 59 => ⟨S4096x8x32, .f32⟩
  | 60 => ⟨S8192x8x32, .f32⟩
  | 61 => ⟨S8192x8x128, .f32⟩
  | 62 => ⟨S8192x8x64, .f32⟩
  | 63 => ⟨S8192x8x128, .f32⟩
  | 64 => ⟨S8192x8x64, .f32⟩
  | 65 => ⟨S8192x1024, .f32⟩
  | 66 => ⟨S8192x1024, .bf16⟩
  | 67 => ⟨S8192x1024, .f32⟩
  | 68 => ⟨S8192x1024, .bf16⟩
  | 69 => ⟨S8192x512, .f32⟩
  | 70 => ⟨S8192x512, .bf16⟩
  | 71 => ⟨S_, .i32⟩
  | 72 => ⟨S_, .f32⟩
  | 73 => ⟨S8192x128, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_7 : Ref sig .tc := ⟨.hbm, 94, rfl⟩
abbrev main_v78 : Ref sig .tc := ⟨.hbm, 95, rfl⟩
abbrev main_v79 : Ref sig .tc := ⟨.hbm, 96, rfl⟩
abbrev main_cst_8 : Ref sig .tc := ⟨.hbm, 97, rfl⟩
abbrev main_v80 : Ref sig .tc := ⟨.hbm, 98, rfl⟩
abbrev main_v81 : Ref sig .tc := ⟨.hbm, 99, rfl⟩
abbrev main_cst_9 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_10 : Ref sig .tc := ⟨.hbm, 116, rfl⟩
abbrev main_v97 : Ref sig .tc := ⟨.hbm, 117, rfl⟩
abbrev main_v98 : Ref sig .tc := ⟨.hbm, 118, rfl⟩
abbrev main_cst_11 : Ref sig .tc := ⟨.hbm, 119, rfl⟩
abbrev main_v99 : Ref sig .tc := ⟨.hbm, 120, rfl⟩
abbrev main_v100 : Ref sig .tc := ⟨.hbm, 121, rfl⟩
abbrev main_cst_12 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_cst_13 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_cst_14 : Ref sig .tc := ⟨.hbm, 140, rfl⟩
abbrev main_v117 : Ref sig .tc := ⟨.hbm, 141, rfl⟩
abbrev main_v118 : Ref sig .tc := ⟨.hbm, 142, rfl⟩
abbrev main_cst_15 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_c : Ref sig .tc := ⟨.hbm, 147, rfl⟩
abbrev main_call0_v0 : Ref sig .tc := ⟨.hbm, 148, rfl⟩
abbrev main_call0_v1 : Ref sig .tc := ⟨.hbm, 149, rfl⟩
abbrev main_call0_v2 : Ref sig .tc := ⟨.hbm, 150, rfl⟩
abbrev main_call0_v3 : Ref sig .tc := ⟨.hbm, 151, rfl⟩
abbrev main_call0_v4 : Ref sig .tc := ⟨.hbm, 152, rfl⟩
abbrev main_call0_v5 : Ref sig .tc := ⟨.hbm, 153, rfl⟩
abbrev main_call0_v6 : Ref sig .tc := ⟨.hbm, 154, rfl⟩
abbrev main_call0_v7 : Ref sig .tc := ⟨.hbm, 155, rfl⟩
abbrev main_call0_v8 : Ref sig .tc := ⟨.hbm, 156, rfl⟩
abbrev main_call0_c : Ref sig .tc := ⟨.hbm, 157, rfl⟩
abbrev main_call0_v9 : Ref sig .tc := ⟨.hbm, 158, rfl⟩
abbrev main_call0_v10 : Ref sig .tc := ⟨.hbm, 159, rfl⟩
abbrev main_call0_v11 : Ref sig .tc := ⟨.hbm, 160, rfl⟩
abbrev main_call0_c_0 : Ref sig .tc := ⟨.hbm, 161, rfl⟩
abbrev main_call0_v12 : Ref sig .tc := ⟨.hbm, 162, rfl⟩
abbrev main_call0_v13 : Ref sig .tc := ⟨.hbm, 163, rfl⟩
abbrev main_v122 : Ref sig .tc := ⟨.hbm, 164, rfl⟩
abbrev main_v123 : Ref sig .tc := ⟨.hbm, 165, rfl⟩
abbrev main_c_16 : Ref sig .tc := ⟨.hbm, 166, rfl⟩
abbrev main_call1_v0 : Ref sig .tc := ⟨.hbm, 167, rfl⟩
abbrev main_call1_c : Ref sig .tc := ⟨.hbm, 168, rfl⟩
abbrev main_call1_v1 : Ref sig .tc := ⟨.hbm, 169, rfl⟩
abbrev main_call1_c_0 : Ref sig .tc := ⟨.hbm, 170, rfl⟩
abbrev main_call1_v2 : Ref sig .tc := ⟨.hbm, 171, rfl⟩
abbrev main_call1_v3 : Ref sig .tc := ⟨.hbm, 172, rfl⟩
abbrev main_call1_v4 : Ref sig .tc := ⟨.hbm, 173, rfl⟩
abbrev main_call1_c_1 : Ref sig .tc := ⟨.hbm, 174, rfl⟩
abbrev main_call1_v5 : Ref sig .tc := ⟨.hbm, 175, rfl⟩
abbrev main_call1_v6 : Ref sig .tc := ⟨.hbm, 176, rfl⟩
abbrev main_call1_c_2 : Ref sig .tc := ⟨.hbm, 177, rfl⟩
abbrev main_call1_v7 : Ref sig .tc := ⟨.hbm, 178, rfl⟩
abbrev main_call1_v8 : Ref sig .tc := ⟨.hbm, 179, rfl⟩
abbrev main_call1_c_3 : Ref sig .tc := ⟨.hbm, 180, rfl⟩
abbrev main_call1_v9 : Ref sig .tc := ⟨.hbm, 181, rfl⟩
abbrev main_call1_v10 : Ref sig .tc := ⟨.hbm, 182, rfl⟩
abbrev main_call1_v11 : Ref sig .tc := ⟨.hbm, 183, rfl⟩
abbrev main_call1_v12 : Ref sig .tc := ⟨.hbm, 184, rfl⟩
abbrev main_call1_v13 : Ref sig .tc := ⟨.hbm, 185, rfl⟩
abbrev main_call1_v14 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_cst_17 : Ref sig .tc := ⟨.hbm, 231, rfl⟩
abbrev main_v168 : Ref sig .tc := ⟨.hbm, 232, rfl⟩
abbrev main_v169 : Ref sig .tc := ⟨.hbm, 233, rfl⟩
abbrev main_cst_18 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_c_19 : Ref sig .tc := ⟨.hbm, 238, rfl⟩
abbrev main_call2_v0 : Ref sig .tc := ⟨.hbm, 239, rfl⟩
abbrev main_call2_v1 : Ref sig .tc := ⟨.hbm, 240, rfl⟩
abbrev main_call2_v2 : Ref sig .tc := ⟨.hbm, 241, rfl⟩
abbrev main_call2_v3 : Ref sig .tc := ⟨.hbm, 242, rfl⟩
abbrev main_call2_v4 : Ref sig .tc := ⟨.hbm, 243, rfl⟩
abbrev main_call2_v5 : Ref sig .tc := ⟨.hbm, 244, rfl⟩
abbrev main_call2_v6 : Ref sig .tc := ⟨.hbm, 245, rfl⟩
abbrev main_call2_v7 : Ref sig .tc := ⟨.hbm, 246, rfl⟩
abbrev main_call2_v8 : Ref sig .tc := ⟨.hbm, 247, rfl⟩
abbrev main_call2_c : Ref sig .tc := ⟨.hbm, 248, rfl⟩
abbrev main_call2_v9 : Ref sig .tc := ⟨.hbm, 249, rfl⟩
abbrev main_call2_v10 : Ref sig .tc := ⟨.hbm, 250, rfl⟩
abbrev main_call2_v11 : Ref sig .tc := ⟨.hbm, 251, rfl⟩
abbrev main_call2_c_0 : Ref sig .tc := ⟨.hbm, 252, rfl⟩
abbrev main_call2_v12 : Ref sig .tc := ⟨.hbm, 253, rfl⟩
abbrev main_call2_v13 : Ref sig .tc := ⟨.hbm, 254, rfl⟩
abbrev main_v173 : Ref sig .tc := ⟨.hbm, 255, rfl⟩
abbrev main_v174 : Ref sig .tc := ⟨.hbm, 256, rfl⟩
abbrev main_c_20 : Ref sig .tc := ⟨.hbm, 257, rfl⟩
abbrev main_call3_v0 : Ref sig .tc := ⟨.hbm, 258, rfl⟩
abbrev main_call3_c : Ref sig .tc := ⟨.hbm, 259, rfl⟩
abbrev main_call3_v1 : Ref sig .tc := ⟨.hbm, 260, rfl⟩
abbrev main_call3_c_0 : Ref sig .tc := ⟨.hbm, 261, rfl⟩
abbrev main_call3_v2 : Ref sig .tc := ⟨.hbm, 262, rfl⟩
abbrev main_call3_v3 : Ref sig .tc := ⟨.hbm, 263, rfl⟩
abbrev main_call3_v4 : Ref sig .tc := ⟨.hbm, 264, rfl⟩
abbrev main_call3_c_1 : Ref sig .tc := ⟨.hbm, 265, rfl⟩
abbrev main_call3_v5 : Ref sig .tc := ⟨.hbm, 266, rfl⟩
abbrev main_call3_v6 : Ref sig .tc := ⟨.hbm, 267, rfl⟩
abbrev main_call3_c_2 : Ref sig .tc := ⟨.hbm, 268, rfl⟩
abbrev main_call3_v7 : Ref sig .tc := ⟨.hbm, 269, rfl⟩
abbrev main_call3_v8 : Ref sig .tc := ⟨.hbm, 270, rfl⟩
abbrev main_call3_c_3 : Ref sig .tc := ⟨.hbm, 271, rfl⟩
abbrev main_call3_v9 : Ref sig .tc := ⟨.hbm, 272, rfl⟩
abbrev main_call3_v10 : Ref sig .tc := ⟨.hbm, 273, rfl⟩
abbrev main_call3_v11 : Ref sig .tc := ⟨.hbm, 274, rfl⟩
abbrev main_call3_v12 : Ref sig .tc := ⟨.hbm, 275, rfl⟩
abbrev main_call3_v13 : Ref sig .tc := ⟨.hbm, 276, rfl⟩
abbrev main_call3_v14 : Ref sig .tc := ⟨.hbm, 277, rfl⟩
abbrev main_v175 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_v179 : Ref sig .tc := ⟨.hbm, 282, rfl⟩
abbrev main_v180 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_v190 : Ref sig .tc := ⟨.hbm, 293, rfl⟩
abbrev main_v191 : Ref sig .tc := ⟨.hbm, 294, rfl⟩
abbrev main_v192 : Ref sig .tc := ⟨.hbm, 295, rfl⟩
abbrev main_v193 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_v213 : Ref sig .tc := ⟨.hbm, 316, rfl⟩
abbrev main_v214 : Ref sig .tc := ⟨.hbm, 317, rfl⟩
abbrev main_v215 : Ref sig .tc := ⟨.hbm, 318, rfl⟩
abbrev main_v216 : Ref sig .tc := ⟨.hbm, 319, rfl⟩
abbrev main_v217 : Ref sig .tc := ⟨.hbm, 320, rfl⟩
abbrev main_v218 : Ref sig .tc := ⟨.hbm, 321, rfl⟩
abbrev main_v219 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_c_21 : Ref sig .tc := ⟨.hbm, 327, rfl⟩
abbrev main_call4_v0 : Ref sig .tc := ⟨.hbm, 328, rfl⟩
abbrev main_v224 : Ref sig .tc := ⟨.hbm, 329, rfl⟩

abbrev nD : Nat := 1
abbrev τ : Topo := Topo.v7x

variable {F : FTy → Type} [FloatOps F]
-- ==== Ret.lean ====
abbrev S8192x2048 : Shape := ⟨2, ![8192, 2048]⟩
abbrev S2x2x4 : Shape := ⟨3, ![2, 2, 4]⟩
abbrev S2x512 : Shape := ⟨2, ![2, 512]⟩
abbrev S1x2x4 : Shape := ⟨3, ![1, 2, 4]⟩
abbrev S2x4 : Shape := ⟨2, ![2, 4]⟩
abbrev S4x2 : Shape := ⟨2, ![4, 2]⟩
abbrev S4x2x1x1 : Shape := ⟨4, ![4, 2, 1, 1]⟩
abbrev S1x512 : Shape := ⟨2, ![1, 512]⟩
abbrev S512 : Shape := ⟨1, ![512]⟩
abbrev S_ : Shape := ⟨0, ![]⟩
abbrev S16x2x4x128x128 : Shape := ⟨5, ![16, 2, 4, 128, 128]⟩
abbrev S8192x1024 : Shape := ⟨2, ![8192, 1024]⟩
abbrev S1x2x1x1 : Shape := ⟨4, ![1, 2, 1, 1]⟩
abbrev S256x128 : Shape := ⟨2, ![256, 128]⟩
abbrev S1x128 : Shape := ⟨2, ![1, 128]⟩
abbrev S1x2x1x128x128 : Shape := ⟨5, ![1, 2, 1, 128, 128]⟩
abbrev S2x128x128 : Shape := ⟨3, ![2, 128, 128]⟩
abbrev S2x1x1 : Shape := ⟨3, ![2, 1, 1]⟩
abbrev S1x1x1 : Shape := ⟨3, ![1, 1, 1]⟩
abbrev S1x1 : Shape := ⟨2, ![1, 1]⟩
abbrev S256x256 : Shape := ⟨2, ![256, 256]⟩
abbrev S256x1 : Shape := ⟨2, ![256, 1]⟩
abbrev S1x1x1x128x128 : Shape := ⟨5, ![1, 1, 1, 128, 128]⟩
abbrev S128x128 : Shape := ⟨2, ![128, 128]⟩
abbrev S1x128x128 : Shape := ⟨3, ![1, 128, 128]⟩
abbrev S256 : Shape := ⟨1, ![256]⟩

abbrev nBuf : Space → Nat
  | .hbm => 14
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S2x2x4, .f32⟩
  | .hbm, ⟨2, _⟩ => ⟨S2x512, .f32⟩
  | .hbm, ⟨3, _⟩ => ⟨S1x2x4, .f32⟩
  | .hbm, ⟨4, _⟩ => ⟨S2x4, .f32⟩
  | .hbm, ⟨5, _⟩ => ⟨S4x2, .f32⟩
  | .hbm, ⟨6, _⟩ => ⟨S4x2x1x1, .f32⟩
  | .hbm, ⟨7, _⟩ => ⟨S1x512, .f32⟩
  | .hbm, ⟨8, _⟩ => ⟨S512, .f32⟩
  | .hbm, ⟨9, _⟩ => ⟨S1x512, .f32⟩
  | .hbm, ⟨10, _⟩ => ⟨S_, .f32⟩
  | .hbm, ⟨11, _⟩ => ⟨S16x2x4x128x128, .f32⟩
  | .hbm, ⟨12, _⟩ => ⟨S8192x1024, .bf16⟩
  | .hbm, ⟨13, _⟩ => ⟨S16x2x4x128x128, .f32⟩
  | .local _ .vmem, ⟨0, _⟩ => ⟨S1x2x1x1, .f32⟩
  | .local _ .vmem, ⟨1, _⟩ => ⟨S1x2x1x1, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S1x128, .f32⟩
  | .local _ .vmem, ⟨12, _⟩ => ⟨S1x2x1x128x128, .f32⟩
  | .local _ .vmem, ⟨13, _⟩ => ⟨S1x2x1x128x128, .f32⟩
  | .local _ .vmem, ⟨14, _⟩ => ⟨S256x128, .bf16⟩
  | .local _ .vmem, ⟨15, _⟩ => ⟨S256x128, .bf16⟩
  | .local _ .vmem, ⟨16, _⟩ => ⟨S1x2x1x128x128, .f32⟩
  | .local _ .vmem, ⟨17, _⟩ => ⟨S1x2x1x128x128, .f32⟩
  | .local _ .vmem, ⟨18, _⟩ => ⟨S2x128x128, .f32⟩
  | .local _ .vmem, ⟨19, _⟩ => ⟨S2x128x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c12_i32 : BitVec 32 := 12#32
  let v1 : BitVec 32 := Scalar.addi c12_i32 arg1
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x2x1x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RetRefIdeal.lean ====
abbrev S8192x2048 : Shape := ⟨2, ![8192, 2048]⟩
abbrev S2x2x4 : Shape := ⟨3, ![2, 2, 4]⟩
abbrev S2x512 : Shape := ⟨2, ![2, 512]⟩
abbrev S4096x512 : Shape := ⟨2, ![4096, 512]⟩
abbrev S16x256x4x128 : Shape := ⟨4, ![16, 256, 4, 128]⟩
abbrev S1x2x4 : Shape := ⟨3, ![1, 2, 4]⟩
abbrev S2x4 : Shape := ⟨2, ![2, 4]⟩
abbrev S256 : Shape := ⟨1, ![256]⟩
abbrev S1x4 : Shape := ⟨2, ![1, 4]⟩
abbrev S4 : Shape := ⟨1, ![4]⟩
abbrev S_ : Shape := ⟨0, ![]⟩
abbrev S256x1 : Shape := ⟨2, ![256, 1]⟩
abbrev S256x4 : Shape := ⟨2, ![256, 4]⟩
abbrev S256x4x1 : Shape := ⟨3, ![256, 4, 1]⟩
abbrev S1x256x4x1 : Shape := ⟨4, ![1, 256, 4, 1]⟩
abbrev S16x4x128x128 : Shape := ⟨4, ![16, 4, 128, 128]⟩
abbrev S16x1x4x128x128 : Shape := ⟨5, ![16, 1, 4, 128, 128]⟩
abbrev S16x2x4x128x128 : Shape := ⟨5, ![16, 2, 4, 128, 128]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2x4, .f32⟩
  | .hbm, ⟨2, _⟩ => ⟨S2x512, .f32⟩
  | .hbm, ⟨3, _⟩ => ⟨S4096x512, .f32⟩
  | .hbm, ⟨4, _⟩ => ⟨S16x256x4x128, .f32⟩
  | .hbm, ⟨5, _⟩ => ⟨S4096x512, .f32⟩
  | .hbm, ⟨6, _⟩ => ⟨S16x256x4x128, .f32⟩
  | .hbm, ⟨7, _⟩ => ⟨S1x2x4, .f32⟩
  | .hbm, ⟨8, _⟩ => ⟨S2x4, .f32⟩
  | .hbm, ⟨9, _⟩ => ⟨S2x4, .f32⟩
  | .hbm, ⟨10, _⟩ => ⟨S2x4, .f32⟩
  | .hbm, ⟨11, _⟩ => ⟨S2x4, .f32⟩
  | .hbm, ⟨12, _⟩ => ⟨S2x4, .f32⟩
  | .hbm, ⟨13, _⟩ => ⟨S256, .f32⟩
  | .hbm, ⟨14, _⟩ => ⟨S1x4, .f32⟩
  | .hbm, ⟨15, _⟩ => ⟨S4, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S1x4, .f32⟩
  | .hbm, ⟨20, _⟩ => ⟨S256x1, .f32⟩
  | .hbm, ⟨21, _⟩ => ⟨S256x4, .f32⟩
  | .hbm, ⟨22, _⟩ => ⟨S256x4, .f32⟩
  | .hbm, ⟨23, _⟩ => ⟨S256x4, .f32⟩
  | .hbm, ⟨24, _⟩ => ⟨S256x4, .f32⟩
  | .hbm, ⟨25, _⟩ => ⟨S256x4x1, .f32⟩
  | .hbm, ⟨26, _⟩ => ⟨S1x256x4x1, .f32⟩
  | .hbm, ⟨27, _⟩ => ⟨S16x256x4x128, .f32⟩
  | .hbm, ⟨28, _⟩ => ⟨S16x256x4x128, .f32⟩
  | .hbm, ⟨29, _⟩ => ⟨S16x4x128x128, .f32⟩
  | .hbm, ⟨30, _⟩ => ⟨S1x4, .f32⟩
  | .hbm, ⟨31, _⟩ => ⟨S4, .f32⟩
  | .hbm, ⟨32, _⟩ => ⟨S1x4, .f32⟩
  | .hbm, ⟨33, _⟩ => ⟨S256x1, .f32⟩
  | .hbm, ⟨34, _⟩ => ⟨S256x4, .f32⟩
  | .hbm, ⟨35, _⟩ => ⟨S256x4, .f32⟩
  | .hbm, ⟨36, _⟩ => ⟨S256x4, .f32⟩
  | .hbm, ⟨37, _⟩ => ⟨S256x4, .f32⟩
  | .hbm, ⟨38, _⟩ => ⟨S256x4x1, .f32⟩
  | .hbm, ⟨39, _⟩ => ⟨S1x256x4x1, .f32⟩
  | .hbm, ⟨40, _⟩ => ⟨S16x256x4x128, .f32⟩
  | .hbm, ⟨41, _⟩ => ⟨S16x256x4x128, .f32⟩
  | .hbm, ⟨42, _⟩ => ⟨S16x4x128x128, .f32⟩
  | .hbm, ⟨43, _⟩ => ⟨S16x1x4x128x128, .f32⟩
  | .hbm, ⟨44, _⟩ => ⟨S16x1x4x128x128, .f32⟩
  | .hbm, ⟨45, _⟩ => ⟨S16x2x4x128x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩

abbrev nD : Nat := 1
abbrev τ : Topo := Topo.v7x

variable {F : FTy → Type} [FloatOps F]
-- ==== Proof.MlaHead.lean ====
/- The latent attention's payloads at an entry: the softmax-weighted sum of one head's values, over the keys of the
   sequence and of the cache. -/
module

public import proofs.«01_k».proof.Proof.Gen.MlaIdeal.Value
public import Idealize.ShloMosaic.Lib.Pointwise

@[expose] public section

set_option maxRecDepth 16384

noncomputable section

namespace Cert.MlaIdeal.Att

open Cert.MlaIdeal Cert.MlaIdeal.Gen Idealize.ShloMosaic Idealize.ShloMosaic.TcCoe Idealize.SL.Sem
open Idealize.ShloMosaic.Pipeline (Dat)

/-- The scaled product of a query row and a key row, 128 wide. -/
def score (q k : Fin 128 → EReal) : EReal :=
  (∑ d, q d * k d) * Ideal.ofBits .f32 0x3DD105EC#32

/-- The greatest of the scores of two groups of keys. -/
def top (s : Fin 2048 → EReal) (s' : Fin 512 → EReal) : EReal :=
  max (Finset.univ.fold max ⊥ s) (Finset.univ.fold max ⊥ s')

/-- The softmax-weighted sum of values over two groups of keys, divided once at the end. -/
def attend (s : Fin 2048 → EReal) (s' : Fin 512 → EReal) (v : Fin 2048 → EReal) (v' : Fin 512 → EReal) : EReal :=
  Ideal.div ((∑ k, Ideal.exp (s k - top s s') * v k) + ∑ k, Ideal.exp (s' k - top s s') * v' k)
    ((∑ k, Ideal.exp (s k - top s s')) + ∑ k, Ideal.exp (s' k - top s s'))

/-- One head's payload at an entry: the attention of that row over the head's keys. -/
theorem head_apply (q : Vec Ideal S256x128 .bf16) (k : Vec Ideal S2048x128 .bf16) (kc : Vec Ideal S512x128 .bf16)
    (v : Vec Ideal S2048x128 .bf16) (vc : Vec Ideal S512x128 .bf16) (r : Fin 256) (l : Fin 128) :
    k0_pay3 q k kc v vc (ix2 r l) =
      attend (fun t => score (fun d => q (ix2 r d)) (fun d => k (ix2 t d)))
        (fun t => score (fun d => q (ix2 r d)) (fun d => kc (ix2 t d)))
        (fun t => v (ix2 t l)) (fun t => vc (ix2 t l)) := by
  pointwise [k0_pay3, attend, top, score]
  rfl

/-- The store of the heads kept by a mask: the head's output, or what was there. -/
theorem pay4_eq (w : IVec S256x128 1) (o : FVec Ideal S256x128 .f32) (q : Vec Ideal S256x128 .bf16) (k : Vec Ideal S2048x128 .bf16) (kc : Vec Ideal S512x128 .bf16)
    (v : Vec Ideal S2048x128 .bf16) (vc : Vec Ideal S512x128 .bf16) :
    k0_pay4 w o q k kc v vc = truncf .bf16 (select w o (k0_pay3 q k kc v vc)) bitsLt_bf16_f32 := rfl

/-- The first head's store is that selection. -/
theorem pay1_eq (w : IVec S256x128 1) (o : FVec Ideal S256x128 .f32) (q : Vec Ideal S256x128 .bf16) (k : Vec Ideal S2048x128 .bf16) (kc : Vec Ideal S512x128 .bf16)
    (v : Vec Ideal S2048x128 .bf16) (vc : Vec Ideal S512x128 .bf16) :
    k0_pay1 w o (k0_pay12 q k) (k0_pay13 q kc) k0_pay14 v vc = k0_pay4 w o q k kc v vc := rfl

/-- A head's output, with its scores passed on. -/
theorem pay11_eq (q : Vec Ideal S256x128 .bf16) (k : Vec Ideal S2048x128 .bf16) (kc : Vec Ideal S512x128 .bf16)
    (v : Vec Ideal S2048x128 .bf16) (vc : Vec Ideal S512x128 .bf16) :
    k0_pay11 q (k0_pay10 q k) kc v vc = k0_pay3 q k kc v vc := rfl

/-- A head's store, with its scores passed on. -/
theorem pay9_eq (w : IVec S256x128 1) (o : FVec Ideal S256x128 .f32) (q : Vec Ideal S256x128 .bf16) (k : Vec Ideal S2048x128 .bf16) (kc : Vec Ideal S512x128 .bf16)
    (v : Vec Ideal S2048x128 .bf16) (vc : Vec Ideal S512x128 .bf16) :
    k0_pay9 w o q (k0_pay8 q k) kc v vc = k0_pay4 w o q k kc v vc := rfl

/-- A head's output is the one function of its blocks. -/
theorem pay5_eq (q : Vec Ideal S256x128 .bf16) (k : Vec Ideal S2048x128 .bf16) (kc : Vec Ideal S512x128 .bf16)
    (v : Vec Ideal S2048x128 .bf16) (vc : Vec Ideal S512x128 .bf16) :
    k0_pay5 q k kc v vc = k0_pay3 q k kc v vc := rfl

/-- So is this head's. -/
theorem pay7_eq (q : Vec Ideal S256x128 .bf16) (k : Vec Ideal S2048x128 .bf16) (kc : Vec Ideal S512x128 .bf16)
    (v : Vec Ideal S2048x128 .bf16) (vc : Vec Ideal S512x128 .bf16) :
    k0_pay7 q k kc v vc = k0_pay3 q k kc v vc := rfl

/-- A head's store is the one selection of its blocks. -/
theorem pay6_eq (w : IVec S256x128 1) (o : FVec Ideal S256x128 .f32) (q : Vec Ideal S256x128 .bf16) (k : Vec Ideal S2048x128 .bf16) (kc : Vec Ideal S512x128 .bf16)
    (v : Vec Ideal S2048x128 .bf16) (vc : Vec Ideal S512x128 .bf16) :
    k0_pay6 w o q k kc v vc = k0_pay4 w o q k kc v vc := rfl

/-- A pair of heads' payload at an entry: the low 64 lanes are the first head's, the others the second's. -/
theorem pair_apply (o : FVec Ideal S256x128 .f32) (q : Vec Ideal S256x128 .bf16) (k : Vec Ideal S2048x128 .bf16) (kc : Vec Ideal S512x128 .bf16)
    (v : Vec Ideal S2048x128 .bf16) (vc : Vec Ideal S512x128 .bf16) (r : Fin 256) (l : Fin 128) :
    k0_pay4 k0_pay2 o q k kc v vc (ix2 r l) = if l.val < 64 then o (ix2 r l) else k0_pay3 q k kc v vc (ix2 r l) := by
  rw [pay4_eq]
  generalize k0_pay3 q k kc v vc = p
  pointwise [k0_pay2]
  have h : ∀ l : Fin 128, IntOp.cmpi CmpIPredicate.slt (BitVec.ofNat 32 l.val) 64#32 = BitVec.ofBool (decide (l.val < 64)) := by decide
  rw [h l]
  by_cases hl : l.val < 64 <;> simp [Scalar.select, hl]

end Cert.MlaIdeal.Att

end
-- ==== Proof.MlaBlock.lean ====
/- What one grid point of the sample's latent attention writes: each entry of its block is the softmax-weighted
   sum of one head's values, over the keys of the sequence and of the cache. -/
module

public import proofs.«01_k».proof.Proof.MlaHead

@[expose] public section

set_option maxRecDepth 16384

noncomputable section

namespace Cert.MlaIdeal.Att

open Cert.MlaIdeal Cert.MlaIdeal.Gen Idealize.ShloMosaic Idealize.ShloMosaic.TcCoe Idealize.SL.Sem
open Idealize.ShloMosaic.Pipeline (Dat)

/-- A load of 128 columns starting at column `o` reads the block there. -/
theorem ld_cols {n w : Nat} (X : Vec Ideal (⟨2, ![n, w]⟩ : Shape) .bf16) (o : Nat)
    (inb : ∀ a, (![0, o] : Fin 2 → Nat) a + (![n, 128] : Fin 2 → Nat) a ≤ (⟨2, ![n, w]⟩ : Shape).size a) (t : Fin n) (d : Fin 128) :
    View.ld X (Rect.unit (s := (⟨2, ![n, w]⟩ : Shape)) ![0, o] ![n, 128] inb) (ix2 t d)
      = X (ix2 t ⟨o + d.val, by have := inb 1; have := d.isLt; simp at *; omega⟩) := by
  show X _ = X _
  congr 1
  funext a
  apply Fin.ext
  match a with
  | ⟨0, _⟩ => simp [Rect.emb_apply, ix2]
  | ⟨1, _⟩ => simp [Rect.emb_apply, ix2]

/-- The column of the queries and keys that entry `d` of column `c`'s head takes. -/
def headCol (c : Fin 512) (d : Fin 128) : Fin 1024 := ⟨128 * (c.val / 64) + d.val, by omega⟩

/-- The attention at row `r` and column `c` of a block: column `c` belongs to head `c / 64`, whose queries and keys
    take the 128 columns from `128 * (c / 64)`; its value column is `c` itself. -/
def attendAt (x0 : Vec Ideal S256x1024 .bf16) (x1 : Vec Ideal S2048x1024 .bf16) (x2 : Vec Ideal S2048x512 .bf16) (x3 : Vec Ideal S512x1024 .bf16)
    (x4 : Vec Ideal S512x512 .bf16) (r : Fin 256) (c : Fin 512) : EReal :=
  attend
    (fun t => score (fun d => x0 (ix2 r (headCol c d))) (fun d => x1 (ix2 t (headCol c d))))
    (fun t => score (fun d => x0 (ix2 r (headCol c d))) (fun d => x3 (ix2 t (headCol c d))))
    (fun t => x2 (ix2 t c)) (fun t => x4 (ix2 t c))

/-- What a block holds, entry by entry. -/
def block (x0 : Vec Ideal S256x1024 .bf16) (x1 : Vec Ideal S2048x1024 .bf16) (x2 : Vec Ideal S2048x512 .bf16) (x3 : Vec Ideal S512x1024 .bf16)
    (x4 : Vec Ideal S512x512 .bf16) : S256x512.Idx → EReal := fun y => attendAt x0 x1 x2 x3 x4 (y 0) (y 1)

/-- One head's payload on loads that start at the head's columns is the attention at that head's column. -/
theorem head_ld (x0 : Vec Ideal S256x1024 .bf16) (x1 : Vec Ideal S2048x1024 .bf16) (x2 : Vec Ideal S2048x512 .bf16) (x3 : Vec Ideal S512x1024 .bf16)
    (x4 : Vec Ideal S512x512 .bf16) (o o' : Nat)
    (i1 : ∀ a, (![0, o] : Fin 2 → Nat) a + (![256, 128] : Fin 2 → Nat) a ≤ S256x1024.size a)
    (i2 : ∀ a, (![0, o] : Fin 2 → Nat) a + (![2048, 128] : Fin 2 → Nat) a ≤ S2048x1024.size a)
    (i3 : ∀ a, (![0, o] : Fin 2 → Nat) a + (![512, 128] : Fin 2 → Nat) a ≤ S512x1024.size a)
    (i4 : ∀ a, (![0, o'] : Fin 2 → Nat) a + (![2048, 128] : Fin 2 → Nat) a ≤ S2048x512.size a)
    (i5 : ∀ a, (![0, o'] : Fin 2 → Nat) a + (![512, 128] : Fin 2 → Nat) a ≤ S512x512.size a)
    (r : Fin 256) (l : Fin 128) (hl : o' + l.val < 512) (ho : o = 128 * ((o' + l.val) / 64)) :
    k0_pay3 (F := Ideal) (View.ld x0 (Rect.unit ![0, o] ![256, 128] i1)) (View.ld x1 (Rect.unit ![0, o] ![2048, 128] i2))
        (View.ld x3 (Rect.unit ![0, o] ![512, 128] i3)) (View.ld x2 (Rect.unit ![0, o'] ![2048, 128] i4))
        (View.ld x4 (Rect.unit ![0, o'] ![512, 128] i5)) (ix2 r l)
      = attendAt x0 x1 x2 x3 x4 r ⟨o' + l.val, hl⟩ := by
  rw [head_apply]
  have hd : ∀ d : Fin 128, ∀ h, (⟨o + d.val, h⟩ : Fin 1024) = headCol ⟨o' + l.val, hl⟩ d := fun d h => Fin.ext (by
    show o + d.val = 128 * ((o' + l.val) / 64) + d.val
    omega)
  have e0 : (fun d : Fin 128 => View.ld x0 (Rect.unit (s := S256x1024) ![0, o] ![256, 128] i1) (ix2 r d)) = fun d => x0 (ix2 r (headCol ⟨o' + l.val, hl⟩ d)) :=
    funext fun d => (ld_cols x0 o i1 r d).trans (congrArg (fun z => x0 (ix2 r z)) (hd d _))
  have e1 : ∀ t, (fun d : Fin 128 => View.ld x1 (Rect.unit (s := S2048x1024) ![0, o] ![2048, 128] i2) (ix2 t d)) = fun d => x1 (ix2 t (headCol ⟨o' + l.val, hl⟩ d)) :=
    fun t => funext fun d => (ld_cols x1 o i2 t d).trans (congrArg (fun z => x1 (ix2 t z)) (hd d _))
  have e3 : ∀ t, (fun d : Fin 128 => View.ld x3 (Rect.unit (s := S512x1024) ![0, o] ![512, 128] i3) (ix2 t d)) = fun d => x3 (ix2 t (headCol ⟨o' + l.val, hl⟩ d)) :=
    fun t => funext fun d => (ld_cols x3 o i3 t d).trans (congrArg (fun z => x3 (ix2 t z)) (hd d _))
  have e2 : (fun t : Fin 2048 => View.ld x2 (Rect.unit (s := S2048x512) ![0, o'] ![2048, 128] i4) (ix2 t l)) = fun t => x2 (ix2 t ⟨o' + l.val, hl⟩) :=
    funext fun t => ld_cols x2 o' i4 t l
  have e4 : (fun t : Fin 512 => View.ld x4 (Rect.unit (s := S512x512) ![0, o'] ![512, 128] i5) (ix2 t l)) = fun t => x4 (ix2 t ⟨o' + l.val, hl⟩) :=
    funext fun t => ld_cols x4 o' i5 t l
  unfold attendAt
  rw [e2, e4]
  refine congrArg₂ (fun f g => attend f g _ _) (funext fun t => ?_) (funext fun t => ?_)
  · exact congrArg₂ score e0 (e1 t)
  · exact congrArg₂ score e0 (e3 t)

/-- One pair of heads' store: its payload at a local index is the block's entry at the index it lands on. -/
theorem piece (x0 : Vec Ideal S256x1024 .bf16) (x1 : Vec Ideal S2048x1024 .bf16) (x2 : Vec Ideal S2048x512 .bf16) (x3 : Vec Ideal S512x1024 .bf16)
    (x4 : Vec Ideal S512x512 .bf16) (p : Nat) (hp : p < 4)
    (i0 : ∀ a, (![0, 128 * p] : Fin 2 → Nat) a + (![256, 128] : Fin 2 → Nat) a ≤ S256x512.size a)
    (i1 : ∀ a, (![0, 256 * p] : Fin 2 → Nat) a + (![256, 128] : Fin 2 → Nat) a ≤ S256x1024.size a)
    (i2 : ∀ a, (![0, 256 * p] : Fin 2 → Nat) a + (![2048, 128] : Fin 2 → Nat) a ≤ S2048x1024.size a)
    (i3 : ∀ a, (![0, 256 * p] : Fin 2 → Nat) a + (![512, 128] : Fin 2 → Nat) a ≤ S512x1024.size a)
    (j1 : ∀ a, (![0, 256 * p + 128] : Fin 2 → Nat) a + (![256, 128] : Fin 2 → Nat) a ≤ S256x1024.size a)
    (j2 : ∀ a, (![0, 256 * p + 128] : Fin 2 → Nat) a + (![2048, 128] : Fin 2 → Nat) a ≤ S2048x1024.size a)
    (j3 : ∀ a, (![0, 256 * p + 128] : Fin 2 → Nat) a + (![512, 128] : Fin 2 → Nat) a ≤ S512x1024.size a)
    (i4 : ∀ a, (![0, 128 * p] : Fin 2 → Nat) a + (![2048, 128] : Fin 2 → Nat) a ≤ S2048x512.size a)
    (i5 : ∀ a, (![0, 128 * p] : Fin 2 → Nat) a + (![512, 128] : Fin 2 → Nat) a ≤ S512x512.size a)
    (x : S256x128.Idx) :
    k0_pay4 (F := Ideal) k0_pay2
      (k0_pay3 (View.ld x0 (Rect.unit ![0, 256 * p] ![256, 128] i1)) (View.ld x1 (Rect.unit ![0, 256 * p] ![2048, 128] i2))
        (View.ld x3 (Rect.unit ![0, 256 * p] ![512, 128] i3)) (View.ld x2 (Rect.unit ![0, 128 * p] ![2048, 128] i4))
        (View.ld x4 (Rect.unit ![0, 128 * p] ![512, 128] i5)))
      (View.ld x0 (Rect.unit ![0, 256 * p + 128] ![256, 128] j1)) (View.ld x1 (Rect.unit ![0, 256 * p + 128] ![2048, 128] j2))
      (View.ld x3 (Rect.unit ![0, 256 * p + 128] ![512, 128] j3)) (View.ld x2 (Rect.unit ![0, 128 * p] ![2048, 128] i4))
      (View.ld x4 (Rect.unit ![0, 128 * p] ![512, 128] i5)) x
      = block x0 x1 x2 x3 x4 ((Rect.unit (s := S256x512) ![0, 128 * p] ![256, 128] i0).emb x) := by
  obtain ⟨r, l, rfl⟩ : ∃ (r : Fin 256) (l : Fin 128), x = ix2 r l := ⟨x 0, x 1, eq_ix2 x⟩
  have he : (Rect.unit (s := S256x512) ![0, 128 * p] ![256, 128] i0).emb (ix2 r l)
      = ix2 r (⟨128 * p + l.val, by have := l.isLt; omega⟩ : Fin 512) := by
    funext a
    apply Fin.ext
    match a with
    | ⟨0, _⟩ => simp [Rect.emb_apply, ix2]
    | ⟨1, _⟩ => simp [Rect.emb_apply, ix2]
  rw [he, pair_apply]
  show _ = attendAt x0 x1 x2 x3 x4 r (⟨128 * p + l.val, by have := l.isLt; omega⟩ : Fin 512)
  by_cases hl : l.val < 64
  · rw [if_pos hl]
    exact head_ld x0 x1 x2 x3 x4 (256 * p) (128 * p) _ _ _ _ _ r l _ (by omega)
  · rw [if_neg hl]
    exact head_ld x0 x1 x2 x3 x4 (256 * p + 128) (128 * p) _ _ _ _ _ r l _ (by have := l.isLt; omega)

variable (m : (ℓ : Loc nD τ sig) → Buf (Elt Ideal) ℓ)

/-- What a grid point leaves in the output's staging buffer is `block` of its five input blocks. -/
theorem outs_eq (c : Dev nD) (t : Fin cfg0.N) :
    outsAt0 m c t = block (iblk m c 0 t) (iblk m c 1 t) (iblk m c 2 t) (iblk m c 3 t) (iblk m c 4 t) := by
  unfold outsAt0 out0_A_5
  have hcov := cover0_A_5 (F := Ideal) c (grid0.coords t) (ms0_0 t) (hs0_0 t) (ms0_1 t) (hs0_1 t) (ms0_2 t) (hs0_2 t) (ms0_3 t) (hs0_3 t) (ms0_4 t) (hs0_4 t)
    (ms0_5 t) (hs0_5 t) (iblk m c 0 t) (iblk m c 1 t) (iblk m c 2 t) (iblk m c 3 t) (iblk m c 4 t)
  rw [View.read_writes_eq_canon _ _ _ hcov]
  funext y
  refine View.canon_apply_of_pieces _ _ ?_ y (hcov y)
  unfold kernelRun0_A; dsimp only; sl_unfold_words
  simp only [View.readAt_eq_ld, (hs0_0 t).read_unread, (hs0_1 t).read_unread, (hs0_2 t).read_unread, (hs0_3 t).read_unread, (hs0_4 t).read_unread]
  rw [pay1_eq, pay11_eq, pay9_eq, pay7_eq, pay6_eq, pay5_eq]
  intro q hq
  simp only [List.mem_cons, List.not_mem_nil, or_false] at hq
  rcases hq with rfl | rfl | rfl | rfl
  · exact piece _ _ _ _ _ 3 (by omega) inb_S256x512_S256x128_0_384 _ _ _ _ _ _ _ _
  · exact piece _ _ _ _ _ 2 (by omega) inb_S256x512_S256x128_0_256 _ _ _ _ _ _ _ _
  · exact piece _ _ _ _ _ 1 (by omega) inb_S256x512_S256x128_0_128 _ _ _ _ _ _ _ _
  · exact piece _ _ _ _ _ 0 (by omega) inb_S256x512_S256x128_0_0 _ _ _ _ _ _ _ _

end Cert.MlaIdeal.Att

end
-- ==== Proof.MlaArray.lean ====
/- The sample's latent attention as a whole: the output array after the run, entry by entry. -/
module

public import proofs.«01_k».proof.Proof.MlaBlock

@[expose] public section

set_option maxRecDepth 16384

noncomputable section

namespace Cert.MlaIdeal.Att

open Cert.MlaIdeal Cert.MlaIdeal.Gen Idealize.ShloMosaic Idealize.ShloMosaic.TcCoe Idealize.SL.Sem
open Idealize.ShloMosaic.Pipeline (Dat)

variable (m : (ℓ : Loc nD τ sig) → Buf (Elt Ideal) ℓ)

/-- Which blocks point `t` reads and writes: query and output rows from block `16 + t`, keys and values of sequence
    `t / 8`, the output's columns from the second half. -/
theorem index_facts : ∀ t : Fin cfg0.N,
    (win0_0.index t 0 = 16 + t.val ∧ win0_0.index t 1 = 0) ∧ (win0_1.index t 0 = 2 + t.val / 8 ∧ win0_1.index t 1 = 0)
    ∧ (win0_2.index t 0 = 2 + t.val / 8 ∧ win0_2.index t 1 = 0) ∧ (win0_3.index t 0 = t.val / 8 ∧ win0_3.index t 1 = 0)
    ∧ (win0_4.index t 0 = t.val / 8 ∧ win0_4.index t 1 = 0) ∧ (win0_5.index t 0 = 16 + t.val ∧ win0_5.index t 1 = 1) :=
  (by decide +kernel : ∀ t : Fin grid0.N,
    (win0_0.index t 0 = 16 + t.val ∧ win0_0.index t 1 = 0) ∧ (win0_1.index t 0 = 2 + t.val / 8 ∧ win0_1.index t 1 = 0)
    ∧ (win0_2.index t 0 = 2 + t.val / 8 ∧ win0_2.index t 1 = 0) ∧ (win0_3.index t 0 = t.val / 8 ∧ win0_3.index t 1 = 0)
    ∧ (win0_4.index t 0 = t.val / 8 ∧ win0_4.index t 1 = 0) ∧ (win0_5.index t 0 = 16 + t.val ∧ win0_5.index t 1 = 1))

/-- There are 16 points. -/
theorem lt16 (t : Fin cfg0.N) : t.val < 16 := by have h : t.val < grid0.N := t.isLt; rw [Gen.N_0] at h; exact h

/-- The queries' block at point `t` is rows `4096 + 256 t …` of the query array. -/
theorem iblk0_apply (c : Dev nD) (t : Fin cfg0.N) (r : Fin 256) (e : Fin 1024) :
    iblk m c 0 t (ix2 r e) = m ((c : Thread nD τ).loc main_arg0) (ix2 (⟨4096 + 256 * t.val + r.val, by have := lt16 t; omega⟩ : Fin 8192) e) := by
  have hV : V m c (Pipeline.arrRef spec0 0) = m ((c : Thread nD τ).loc main_arg0) := V_main_arg0 m c
  unfold iblk
  rw [hV]
  show m ((c : Thread nD τ).loc main_arg0) _ = _
  congr 1
  funext a
  apply Fin.ext
  match a with
  | ⟨0, _⟩ =>
    show win0_0.index t 0 * 256 + 1 * r.val = _
    rw [(index_facts t).1.1]; show _ = 4096 + 256 * t.val + r.val; omega
  | ⟨1, _⟩ =>
    show win0_0.index t 1 * 1024 + 1 * e.val = _
    rw [(index_facts t).1.2]; show _ = e.val; omega

/-- The keys' block is the sequence's 2048 rows. -/
theorem iblk1_apply (c : Dev nD) (t : Fin cfg0.N) (r : Fin 2048) (e : Fin 1024) :
    iblk m c 1 t (ix2 r e) = m ((c : Thread nD τ).loc main_arg1) (ix2 (⟨4096 + 2048 * (t.val / 8) + r.val, by have := lt16 t; omega⟩ : Fin 8192) e) := by
  have hV : V m c (Pipeline.arrRef spec0 1) = m ((c : Thread nD τ).loc main_arg1) := V_main_arg1 m c
  unfold iblk
  rw [hV]
  show m ((c : Thread nD τ).loc main_arg1) _ = _
  congr 1
  funext a
  apply Fin.ext
  match a with
  | ⟨0, _⟩ =>
    show win0_1.index t 0 * 2048 + 1 * r.val = _
    rw [(index_facts t).2.1.1]; show _ = 4096 + 2048 * (t.val / 8) + r.val; omega
  | ⟨1, _⟩ =>
    show win0_1.index t 1 * 1024 + 1 * e.val = _
    rw [(index_facts t).2.1.2]; show _ = e.val; omega

/-- The values' block is the sequence's 2048 rows. -/
theorem iblk2_apply (c : Dev nD) (t : Fin cfg0.N) (r : Fin 2048) (e : Fin 512) :
    iblk m c 2 t (ix2 r e) = m ((c : Thread nD τ).loc main_arg2) (ix2 (⟨4096 + 2048 * (t.val / 8) + r.val, by have := lt16 t; omega⟩ : Fin 8192) e) := by
  have hV : V m c (Pipeline.arrRef spec0 2) = m ((c : Thread nD τ).loc main_arg2) := V_main_arg2 m c
  unfold iblk
  rw [hV]
  show m ((c : Thread nD τ).loc main_arg2) _ = _
  congr 1
  funext a
  apply Fin.ext
  match a with
  | ⟨0, _⟩ =>
    show win0_2.index t 0 * 2048 + 1 * r.val = _
    rw [(index_facts t).2.2.1.1]; show _ = 4096 + 2048 * (t.val / 8) + r.val; omega
  | ⟨1, _⟩ =>
    show win0_2.index t 1 * 512 + 1 * e.val = _
    rw [(index_facts t).2.2.1.2]; show _ = e.val; omega

/-- The cached keys' block is the sequence's 512 rows. -/
theorem iblk3_apply (c : Dev nD) (t : Fin cfg0.N) (r : Fin 512) (e : Fin 1024) :
    iblk m c 3 t (ix2 r e) = m ((c : Thread nD τ).loc main_arg3) (ix2 (⟨512 * (t.val / 8) + r.val, by have := lt16 t; omega⟩ : Fin 1024) e) := by
  have hV : V m c (Pipeline.arrRef spec0 3) = m ((c : Thread nD τ).loc main_arg3) := V_main_arg3 m c
  unfold iblk
  rw [hV]
  show m ((c : Thread nD τ).loc main_arg3) _ = _
  congr 1
  funext a
  apply Fin.ext
  match a with
  | ⟨0, _⟩ =>
    show win0_3.index t 0 * 512 + 1 * r.val = _
    rw [(index_facts t).2.2.2.1.1]; show _ = 512 * (t.val / 8) + r.val; omega
  | ⟨1, _⟩ =>
    show win0_3.index t 1 * 1024 + 1 * e.val = _
    rw [(index_facts t).2.2.2.1.2]; show _ = e.val; omega

/-- The cached values' block is the sequence's 512 rows. -/
theorem iblk4_apply (c : Dev nD) (t : Fin cfg0.N) (r : Fin 512) (e : Fin 512) :
    iblk m c 4 t (ix2 r e) = m ((c : Thread nD τ).loc main_arg4) (ix2 (⟨512 * (t.val / 8) + r.val, by have := lt16 t; omega⟩ : Fin 1024) e) := by
  have hV : V m c (Pipeline.arrRef spec0 4) = m ((c : Thread nD τ).loc main_arg4) := V_main_arg4 m c
  unfold iblk
  rw [hV]
  show m ((c : Thread nD τ).loc main_arg4) _ = _
  congr 1
  funext a
  apply Fin.ext
  match a with
  | ⟨0, _⟩ =>
    show win0_4.index t 0 * 512 + 1 * r.val = _
    rw [(index_facts t).2.2.2.2.1.1]; show _ = 512 * (t.val / 8) + r.val; omega
  | ⟨1, _⟩ =>
    show win0_4.index t 1 * 512 + 1 * e.val = _
    rw [(index_facts t).2.2.2.2.1.2]; show _ = e.val; omega

/-- The attention of token row `R` (of the sample's, from 4096 on) at column `c`: over the 2048 keys of the row's own
    sequence and its 512 cached keys. -/
def attendRow (a0 a1 : S8192x1024.Idx → EReal) (a2 : S8192x512.Idx → EReal) (a3 : S1024x1024.Idx → EReal) (a4 : S1024x512.Idx → EReal)
    (R : Fin 8192) (c : Fin 512) : EReal :=
  attend
    (fun t => score (fun d => a0 (ix2 R (headCol c d)))
      (fun d => a1 (ix2 (⟨4096 + 2048 * ((R.val - 4096) / 2048) + t.val, by omega⟩ : Fin 8192) (headCol c d))))
    (fun t => score (fun d => a0 (ix2 R (headCol c d)))
      (fun d => a3 (ix2 (⟨512 * ((R.val - 4096) / 2048) + t.val, by omega⟩ : Fin 1024) (headCol c d))))
    (fun t => a2 (ix2 (⟨4096 + 2048 * ((R.val - 4096) / 2048) + t.val, by omega⟩ : Fin 8192) c))
    (fun t => a4 (ix2 (⟨512 * ((R.val - 4096) / 2048) + t.val, by omega⟩ : Fin 1024) c))

/-- The output at row `R` and column `C`: the attention in the sample's rows and the upper 512 columns, the given
    array elsewhere. -/
def outAt (a0 a1 : S8192x1024.Idx → EReal) (a2 : S8192x512.Idx → EReal) (a3 : S1024x1024.Idx → EReal) (a4 : S1024x512.Idx → EReal)
    (a5 : S8192x1024.Idx → EReal) (R : Fin 8192) (C : Fin 1024) : EReal :=
  if 4096 ≤ R.val ∧ 512 ≤ C.val then attendRow a0 a1 a2 a3 a4 R ⟨C.val - 512, by omega⟩ else a5 (ix2 R C)

/-- The output array of device `c`. -/
def out (c : Dev nD) : S8192x1024.Idx → EReal := fun i =>
  outAt (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (i 0) (i 1)

/-- What a point leaves at an entry of its block is the output array's value at the entry it lands on. -/
theorem outs_apply (c : Dev nD) (t : Fin cfg0.N) (r : Fin 256) (e : Fin 512) :
    outsAt0 m c t (ix2 r e) = out m c (ix2 (⟨4096 + 256 * t.val + r.val, by have := lt16 t; omega⟩ : Fin 8192) (⟨512 + e.val, by omega⟩ : Fin 1024)) := by
  have ht := lt16 t
  rw [outs_eq]
  show attendAt _ _ _ _ _ r e = outAt _ _ _ _ _ _ (⟨4096 + 256 * t.val + r.val, by omega⟩ : Fin 8192) (⟨512 + e.val, by omega⟩ : Fin 1024)
  unfold outAt
  rw [if_pos ⟨by show 4096 ≤ 4096 + 256 * t.val + r.val; omega, by show 512 ≤ 512 + e.val; omega⟩]
  unfold attendAt attendRow
  have he : (⟨512 + e.val - 512, by omega⟩ : Fin 512) = e := Fin.ext (by show 512 + e.val - 512 = e.val; omega)
  have hb : (4096 + 256 * t.val + r.val - 4096) / 2048 = t.val / 8 := by omega
  simp only [he, hb, iblk0_apply, iblk1_apply, iblk2_apply, iblk3_apply, iblk4_apply]

/-- What point `t` writes back is its block of the output array. -/
theorem flushed_eq (c : Dev nD) (t : Fin cfg0.N) :
    (dats m 0 c).flushed 5 t = ((cfg0.win 5).blk t).view.read (Elt Ideal) (out m c) := by
  rw [Value.flushed5]
  funext y
  obtain ⟨r, e, rfl⟩ : ∃ (r : Fin 256) (e : Fin 512), y = ix2 r e := ⟨y 0, y 1, eq_ix2 y⟩
  refine (outs_apply m c t r e).trans ?_
  show out m c _ = out m c _
  congr 1
  funext a
  apply Fin.ext
  match a with
  | ⟨0, _⟩ =>
    show 4096 + 256 * t.val + r.val = win0_5.index t 0 * 256 + 1 * r.val
    rw [(index_facts t).2.2.2.2.2.1]; omega
  | ⟨1, _⟩ =>
    show 512 + e.val = win0_5.index t 1 * 512 + 1 * e.val
    rw [(index_facts t).2.2.2.2.2.2]; omega

/-- An index lies in point `t`'s output block when its row is among the block's 256 and its column in the upper half. -/
theorem mem_blk (t : Fin cfg0.N) (i : S8192x1024.Idx) :
    i ∈ ((cfg0.win 5).blk t).view.set ↔ ∀ a, win0_5.index t a * win0_5.size a ≤ (i a : Nat) ∧ (i a : Nat) < win0_5.index t a * win0_5.size a + win0_5.xsize (grid0.coords t) a := by
  show i ∈ ((View.whole main_v0).slice (win0_5.rect t)).set ↔ _
  rw [View.set_slice_whole, Rect.mem_set_unit]

/-- The output array before the region is the given one. -/
theorem V_out (c : Dev nD) : V m c (Pipeline.arrRef spec0 5) = m ((c : Thread nD τ).loc main_arg5) := by
  show V m c main_v0 = _
  unfold V
  after_results_simp <;> rfl

/-- THE KERNEL'S RESULT: the output array after the run. -/
theorem arr_eq (c : Dev nD) : (dats m 0 c).arrAt 5 cfg0.N = out m c := by
  funext i
  obtain ⟨R, C, rfl⟩ : ∃ (R : Fin 8192) (C : Fin 1024), i = ix2 R C := ⟨i 0, i 1, eq_ix2 i⟩
  by_cases h : 4096 ≤ R.val ∧ 512 ≤ C.val
  · rw [(dats m 0 c).arrAt_eq_piecewise 5 (out m c) (fun t _ => flushed_eq m c t) (ix2 R C)]
    refine if_pos ?_
    have hlt : (R.val - 4096) / 256 < grid0.N := by rw [Gen.N_0]; omega
    refine ⟨⟨(R.val - 4096) / 256, hlt⟩, flush0_5 _, ?_⟩
    rw [mem_blk]
    intro a
    match a with
    | ⟨0, _⟩ =>
      show win0_5.index _ 0 * 256 ≤ R.val ∧ R.val < win0_5.index _ 0 * 256 + 256
      rw [(index_facts _).2.2.2.2.2.1]; show (16 + (R.val - 4096) / 256) * 256 ≤ R.val ∧ R.val < (16 + (R.val - 4096) / 256) * 256 + 256; omega
    | ⟨1, _⟩ =>
      show win0_5.index _ 1 * 512 ≤ C.val ∧ C.val < win0_5.index _ 1 * 512 + 512
      rw [(index_facts _).2.2.2.2.2.2]; omega
  · rw [Value.entry5 m c (ix2 R C) ?_, V_out]
    · show _ = outAt _ _ _ _ _ _ R C
      unfold outAt
      rw [if_neg h]
    · intro t _ hm
      rw [mem_blk] at hm
      have h0 : win0_5.index t 0 * 256 ≤ R.val := (hm 0).1
      have h1 : win0_5.index t 1 * 512 ≤ C.val := (hm 1).1
      rw [(index_facts t).2.2.2.2.2.1] at h0
      rw [(index_facts t).2.2.2.2.2.2] at h1
      exact h ⟨by omega, by omega⟩

end Cert.MlaIdeal.Att

end
-- ==== Proof.MlaRef.lean ====
module

public import proofs.«01_k».proof.Proof.Gen.MlaRefIdeal.Run
public import proofs.«01_k».proof.Proof.Gen.MlaRefIdeal.Read
public import Idealize.ShloMosaic.Lib.Pointwise
public import Idealize.ShloMosaic.Lib.ValueIdx

@[expose] public section

set_option maxRecDepth 16384

noncomputable section

namespace Cert.MlaRefIdeal.Att

open Cert.MlaRefIdeal Cert.MlaRefIdeal.Gen Cert.MlaRefIdeal.Read Idealize.ShloMosaic Idealize.ShloMosaic.TcCoe Idealize.SL.Sem

/-- Row `s` of the sample's sequence `b` in the array of all tokens. -/
def seqRow (b : Fin 2) (s : Fin 2048) : Fin 8192 := ⟨4096 + 2048 * b.val + s.val, by omega⟩

/-- Row `s` of sequence `b` in the cache. -/
def cacheRow (b : Fin 2) (s : Fin 512) : Fin 1024 := ⟨512 * b.val + s.val, by omega⟩

/-- Column `d` of head `h` among the query and key columns. -/
def qkCol (h : Fin 8) (d : Fin 128) : Fin 1024 := ⟨128 * h.val + d.val, by omega⟩

/-- Column `e` of head `h` among the value columns. -/
def vCol (h : Fin 8) (e : Fin 64) : Fin 512 := ⟨64 * h.val + e.val, by omega⟩

variable (x0 x1 : S8192x1024.Idx → EReal) (x2 : S8192x512.Idx → EReal) (x3 : S1024x1024.Idx → EReal) (x4 : S1024x512.Idx → EReal)
  (x5 : S8192x1024.Idx → EReal)

/-- The queries, by sequence, position and head. -/
theorem v2_apply (b : Fin 2) (s : Fin 2048) (h : Fin 8) (d : Fin 128) :
    val_main_v2 (F := Ideal) x0 (ix4 b s h d) = x0 (ix2 (seqRow b s) (qkCol h d)) := by
  rw [val_main_v2_apply, val_main_v1_apply, val_main_v0_apply]
  refine congrArg x0 (funext fun a => Fin.ext ?_)
  match a with
  | ⟨0, _⟩ =>
    simp only [seqRow, qkCol, ix2, ix4]
    have hh : h.val < 8 := h.isLt
    have hd : d.val < 128 := d.isLt
    omega
  | ⟨1, _⟩ =>
    simp only [seqRow, qkCol, ix2, ix4]
    have hh : h.val < 8 := h.isLt
    have hd : d.val < 128 := d.isLt
    omega

/-- The keys: the sequence's own, then the cached ones. -/
theorem v8_apply (b : Fin 2) (t : Fin 2560) (h : Fin 8) (d : Fin 128) :
    val_main_v8 (F := Ideal) x1 x3 (ix4 b t h d)
      = if hk : t.val < 2048 then x1 (ix2 (seqRow b ⟨t.val, hk⟩) (qkCol h d)) else x3 (ix2 (cacheRow b ⟨t.val - 2048, by omega⟩) (qkCol h d)) := by
  pointwise [val_main_v8]
  by_cases hk : t.val < 2048
  · rw [dif_pos hk, dif_pos hk, val_main_v5_apply, val_main_v4_apply, val_main_v3_apply]
    refine congrArg x1 (funext fun a => Fin.ext ?_)
    match a with
    | ⟨0, _⟩ =>
      simp only [seqRow, cacheRow, qkCol, vCol, ix2, ix4]
      have hh : h.val < 8 := h.isLt
      have hd : d.val < 128 := d.isLt
      omega
    | ⟨1, _⟩ =>
      simp only [seqRow, cacheRow, qkCol, vCol, ix2, ix4]
      have hh : h.val < 8 := h.isLt
      have hd : d.val < 128 := d.isLt
      omega
  · rw [dif_neg hk, dif_neg hk, val_main_v7_apply, val_main_v6_apply]
    refine congrArg x3 (funext fun a => Fin.ext ?_)
    match a with
    | ⟨0, _⟩ =>
      simp only [seqRow, cacheRow, qkCol, vCol, ix2, ix4]
      have hh : h.val < 8 := h.isLt
      have hd : d.val < 128 := d.isLt
      omega
    | ⟨1, _⟩ =>
      simp only [seqRow, cacheRow, qkCol, vCol, ix2, ix4]
      have hh : h.val < 8 := h.isLt
      have hd : d.val < 128 := d.isLt
      omega

/-- The values: the sequence's own, then the cached ones. -/
theorem v14_apply (b : Fin 2) (t : Fin 2560) (h : Fin 8) (e : Fin 64) :
    val_main_v14 (F := Ideal) x2 x4 (ix4 b t h e)
      = if hk : t.val < 2048 then x2 (ix2 (seqRow b ⟨t.val, hk⟩) (vCol h e)) else x4 (ix2 (cacheRow b ⟨t.val - 2048, by omega⟩) (vCol h e)) := by
  pointwise [val_main_v14]
  by_cases hk : t.val < 2048
  · rw [dif_pos hk, dif_pos hk, val_main_v11_apply, val_main_v10_apply, val_main_v9_apply]
    refine congrArg x2 (funext fun a => Fin.ext ?_)
    match a with
    | ⟨0, _⟩ =>
      simp only [seqRow, cacheRow, qkCol, vCol, ix2, ix4]
      have hh : h.val < 8 := h.isLt
      have he : e.val < 64 := e.isLt
      omega
    | ⟨1, _⟩ =>
      simp only [seqRow, cacheRow, qkCol, vCol, ix2, ix4]
      have hh : h.val < 8 := h.isLt
      have he : e.val < 64 := e.isLt
      omega
  · rw [dif_neg hk, dif_neg hk, val_main_v13_apply, val_main_v12_apply]
    refine congrArg x4 (funext fun a => Fin.ext ?_)
    match a with
    | ⟨0, _⟩ =>
      simp only [seqRow, cacheRow, qkCol, vCol, ix2, ix4]
      have hh : h.val < 8 := h.isLt
      have he : e.val < 64 := e.isLt
      omega
    | ⟨1, _⟩ =>
      simp only [seqRow, cacheRow, qkCol, vCol, ix2, ix4]
      have hh : h.val < 8 := h.isLt
      have he : e.val < 64 := e.isLt
      omega

/-- The score of key `t` for query `s` of sequence `b`, head `h`. -/
def sc (b : Fin 2) (h : Fin 8) (s : Fin 2048) (t : Fin 2560) : EReal :=
  (∑ d : Fin 128, val_main_v2 (F := Ideal) x0 (ix4 b s h d) * val_main_v8 (F := Ideal) x1 x3 (ix4 b t h d)) * Ideal.ofBits .f32 0x3DD105EC#32

/-- The reference's scores. -/
theorem v17_apply (b : Fin 2) (h : Fin 8) (s : Fin 2048) (t : Fin 2560) :
    val_main_v17 (F := Ideal) x0 x1 x3 (ix4 b h s t) = sc x0 x1 x3 b h s t := by
  rw [val_main_v17_apply, val_main_v15_apply, val_main_v16_apply, val_main_cst_apply]
  unfold sc
  refine congrArg₂ (· * ·) (Finset.sum_congr rfl fun d _ => congrArg₂ (· * ·) (congrArg _ ?_) (congrArg _ ?_)) rfl
  · exact eq_ix4 _
  · exact eq_ix4 _

/-- The bits of −∞. -/
theorem ofBits_bot : Ideal.ofBits .f32 0xFF800000#32 = ⊥ := by
  simp [Ideal.ofBits, Ideal.ieee]

/-- The largest score of a query. -/
theorem v20_apply (b : Fin 2) (h : Fin 8) (s : Fin 2048) :
    val_main_v20 (F := Ideal) x0 x1 x3 (ix3 b h s) = Finset.univ.fold max ⊥ (fun t => sc x0 x1 x3 b h s t) := by
  have e18 : val_main_v18 (F := Ideal) x0 x1 x3 (ix3 b h s) = Finset.univ.fold max ⊥ (fun t => sc x0 x1 x3 b h s t) := by
    pointwise [val_main_v18]
    simp only [v17_apply]
    exact congrArg (fun z => Finset.univ.fold max z (fun t => sc x0 x1 x3 b h s t)) ofBits_bot
  rw [val_main_v20_apply, e18, val_main_v19_apply, val_main_cst_1_apply]
  show max (Ideal.ofBits .f32 0xFF800000#32) _ = _
  rw [ofBits_bot, bot_sup_eq]

/-- The weight of a key before it is normalised. -/
theorem v24_apply (b : Fin 2) (h : Fin 8) (s : Fin 2048) (t : Fin 2560) :
    val_main_v24 (F := Ideal) x0 x1 x3 (ix4 b h s t)
      = Ideal.exp (sc x0 x1 x3 b h s t - Finset.univ.fold max ⊥ (fun t => sc x0 x1 x3 b h s t)) := by
  rw [val_main_v24_apply, val_main_v23_apply, v17_apply, val_main_v22_apply, val_main_v21_apply, ← v20_apply]
  refine congrArg (fun z => Ideal.exp (sc x0 x1 x3 b h s t - val_main_v20 (F := Ideal) x0 x1 x3 z)) ?_
  exact eq_ix3 _

/-- The weights' sum. -/
theorem v25_apply (b : Fin 2) (h : Fin 8) (s : Fin 2048) :
    val_main_v25 (F := Ideal) x0 x1 x3 (ix3 b h s)
      = ∑ t, Ideal.exp (sc x0 x1 x3 b h s t - Finset.univ.fold max ⊥ (fun t => sc x0 x1 x3 b h s t)) := by
  rw [val_main_v25_apply]
  simp only [← v24_apply]
  show Ideal.ofBits .f32 0x00000000#32 + _ = _
  rw [Ideal.ofBits_zero_f32, zero_add]
  exact Finset.sum_congr rfl fun t _ => congrArg _ (eq_ix4 _)

/-- The attention of one query at one value column. -/
theorem v29_apply (b : Fin 2) (h : Fin 8) (e : Fin 64) (s : Fin 2048) :
    val_main_v29 (F := Ideal) x0 x1 x2 x3 x4 (ix4 b h e s)
      = ∑ t, val_main_v14 (F := Ideal) x2 x4 (ix4 b t h e)
          * Ideal.div (Ideal.exp (sc x0 x1 x3 b h s t - Finset.univ.fold max ⊥ (fun t => sc x0 x1 x3 b h s t)))
              (∑ t, Ideal.exp (sc x0 x1 x3 b h s t - Finset.univ.fold max ⊥ (fun t => sc x0 x1 x3 b h s t))) := by
  rw [val_main_v29_apply]
  refine Finset.sum_congr rfl fun t _ => congrArg₂ (· * ·) (congrArg _ (eq_ix4 _)) ?_
  rw [show ridx_main_v29 (ix4 b h e s) t = ix4 b h s t from eq_ix4 _, val_main_v28_apply, v24_apply, val_main_v27_apply, val_main_v26_apply, ← v25_apply]
  refine congrArg (fun z => Ideal.div _ (val_main_v25 (F := Ideal) x0 x1 x3 z)) ?_
  exact eq_ix3 _

/-- The result outside the sample's rows or the upper half of the columns is the given array. -/
theorem v36_keep (R : Fin 8192) (C : Fin 1024) (hn : ¬(4096 ≤ R.val ∧ 512 ≤ C.val)) :
    val_main_v36 (F := Ideal) x0 x1 x2 x3 x4 x5 (ix2 R C) = x5 (ix2 R C) := by
  pointwise [val_main_v36, val_main_v34]
  by_cases hR : R.val < 4096
  · rw [dif_pos hR, val_main_v35_apply]
    refine congrArg x5 (funext fun a => Fin.ext ?_)
    match a with
    | ⟨0, _⟩ => simp only [ix2]
    | ⟨1, _⟩ => simp only [ix2]
  · have hC : C.val < 512 := by omega
    rw [dif_neg hR, dif_pos hC, val_main_v32_apply]
    refine congrArg x5 (funext fun a => Fin.ext ?_)
    match a with
    | ⟨0, _⟩ => simp only [ix2]; omega
    | ⟨1, _⟩ => simp only [ix2]

/-- The result in the sample's rows and the upper half of the columns is the attention. -/
theorem v36_apply (R : Fin 8192) (C : Fin 1024) (hR : 4096 ≤ R.val) (hC : 512 ≤ C.val) :
    val_main_v36 (F := Ideal) x0 x1 x2 x3 x4 x5 (ix2 R C)
      = val_main_v29 (F := Ideal) x0 x1 x2 x3 x4 (ix4 (⟨(R.val - 4096) / 2048, by omega⟩ : Fin 2) (⟨(C.val - 512) / 64, by omega⟩ : Fin 8)
          (⟨(C.val - 512) % 64, by omega⟩ : Fin 64) (⟨(R.val - 4096) % 2048, by omega⟩ : Fin 2048)) := by
  pointwise [val_main_v36, val_main_v34]
  rw [dif_neg (by omega), dif_neg (by omega), val_main_v33_apply, val_main_v31_apply, val_main_v30_apply]
  refine congrArg (val_main_v29 (F := Ideal) x0 x1 x2 x3 x4) (funext fun a => Fin.ext ?_)
  match a with
  | ⟨0, _⟩ => simp only [ix2, ix4]; omega
  | ⟨1, _⟩ => simp only [ix2, ix4]; omega
  | ⟨2, _⟩ => simp only [ix2, ix4]; omega
  | ⟨3, _⟩ => simp only [ix2, ix4]; omega

end Cert.MlaRefIdeal.Att

end
-- ==== Proof.Softmax.lean ====
module

public import Idealize.ShloMosaic.Lib.ValueIdx
public import Mathlib.Data.EReal.Operations
public import Mathlib.Analysis.SpecialFunctions.Exp

@[expose] public section

noncomputable section

/- A weighted mean whose weights are exponentials of finite scores: dividing the sum is dividing each weight. -/
namespace Cert.Softmax

open Idealize.ShloMosaic

/-- A finite number: an extended real that is neither infinity. -/
def Real' (x : EReal) : Prop := ∃ r : ℝ, x = (r : EReal)

/-- A sum of two finite numbers is finite. -/
theorem real_add {x y : EReal} (hx : Real' x) (hy : Real' y) : Real' (x + y) := by
  obtain ⟨a, rfl⟩ := hx
  obtain ⟨b, rfl⟩ := hy
  exact ⟨a + b, (EReal.coe_add a b).symm⟩

/-- A product of two finite numbers is finite. -/
theorem real_mul {x y : EReal} (hx : Real' x) (hy : Real' y) : Real' (x * y) := by
  obtain ⟨a, rfl⟩ := hx
  obtain ⟨b, rfl⟩ := hy
  exact ⟨a * b, (EReal.coe_mul a b).symm⟩

/-- A finite sum of finite numbers is finite. -/
theorem real_sum {ι : Type} (s : Finset ι) (f : ι → EReal) (hf : ∀ k, Real' (f k)) : Real' (∑ k ∈ s, f k) := by
  classical
  induction s using Finset.induction_on with
  | empty => exact ⟨0, by simp⟩
  | insert a s ha ih => rw [Finset.sum_insert ha]; exact real_add (hf a) ih

/-- The largest of finitely many finite numbers, at least one of them, is finite. -/
theorem real_top {n : Nat} (f : Fin (n + 1) → EReal) (hf : ∀ k, Real' (f k)) : Real' (Finset.univ.fold max ⊥ f) := by
  have h : Finset.univ.fold max ⊥ f = Finset.univ.sup f := rfl
  rw [h]
  obtain ⟨k, -, hk⟩ := Finset.exists_mem_eq_sup Finset.univ Finset.univ_nonempty f
  rw [hk]
  exact hf k

/-- Multiplying by a nonnegative real goes inside a sum of extended reals. -/
theorem sum_mul_real {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The sum of the exponentials of finite scores under their maximum is a positive real. -/
theorem exp_sum {n : Nat} (s : Fin (n + 1) → EReal) (hs : ∀ k, Real' (s k)) :
    ∃ L : ℝ, 0 < L ∧ ∑ k, Ideal.exp (s k - Finset.univ.fold max ⊥ s) = (L : EReal) := by
  obtain ⟨M, hM⟩ := real_top s hs
  rw [hM]
  choose r hr using hs
  refine ⟨∑ k, Real.exp (r k - M), Finset.sum_pos (fun k _ => Real.exp_pos _) Finset.univ_nonempty, ?_⟩
  rw [show ((∑ k, Real.exp (r k - M) : ℝ) : EReal) = ∑ k, ((Real.exp (r k - M) : ℝ) : EReal) from
    map_sum (⟨⟨Real.toEReal, EReal.coe_zero⟩, EReal.coe_add⟩ : ℝ →+ EReal) _ _]
  refine Finset.sum_congr rfl fun k _ => ?_
  rw [hr k, ← EReal.coe_sub]
  rfl

/-- THE SOFTMAX EQUATION: for finite scores, the sum of the values under the normalised weights is the sum under the
    plain weights, divided by the weights' sum. The values may be any extended reals. -/
theorem normalise {n : Nat} (s v : Fin (n + 1) → EReal) (hs : ∀ k, Real' (s k)) :
    ∑ k, v k * Ideal.div (Ideal.exp (s k - Finset.univ.fold max ⊥ s)) (∑ j, Ideal.exp (s j - Finset.univ.fold max ⊥ s))
      = Ideal.div (∑ k, Ideal.exp (s k - Finset.univ.fold max ⊥ s) * v k) (∑ j, Ideal.exp (s j - Finset.univ.fold max ⊥ s)) := by
  obtain ⟨L, hL, hsum⟩ := exp_sum s hs
  rw [hsum, Ideal.div_coe hL.ne', sum_mul_real _ _ _ (by positivity)]
  refine Finset.sum_congr rfl fun k _ => ?_
  rw [Ideal.div_coe hL.ne', ← mul_assoc, mul_comm (v k)]

/-- The scale of the scores is finite. -/
theorem real_scale : Real' (Ideal.ofBits .f32 0x3DD105EC#32) := by
  unfold Real'
  simp only [Ideal.ofBits, Ideal.ieee]
  simp
  exact real_mul ⟨_, rfl⟩ ⟨_, rfl⟩

/-- A sum over the first `p` and the last `q` of `p + q`. -/
theorem sum_split {p q n : Nat} (h : p + q = n) (f : Fin n → EReal) :
    ∑ k, f k = (∑ k : Fin p, f ⟨k.val, by omega⟩) + ∑ k : Fin q, f ⟨p + k.val, by omega⟩ := by
  subst h
  exact Fin.sum_univ_add f

/-- The maximum over the first `p` and the last `q` of `p + q`. -/
theorem top_split {p q n : Nat} (h : p + q = n) (f : Fin n → EReal) :
    Finset.univ.fold max ⊥ f
      = max (Finset.univ.fold max ⊥ (fun k : Fin p => f ⟨k.val, by omega⟩)) (Finset.univ.fold max ⊥ (fun k : Fin q => f ⟨p + k.val, by omega⟩)) := by
  show Finset.univ.sup f = max (Finset.univ.sup _) (Finset.univ.sup _)
  apply le_antisymm
  · refine Finset.sup_le fun k _ => ?_
    by_cases hk : k.val < p
    · exact le_max_of_le_left (Finset.le_sup (f := fun k : Fin p => f ⟨k.val, by omega⟩) (Finset.mem_univ (⟨k.val, hk⟩ : Fin p)))
    · have e : f k = (fun k : Fin q => f ⟨p + k.val, by omega⟩) (⟨k.val - p, by omega⟩ : Fin q) :=
        congrArg f (Fin.ext (by show k.val = p + (k.val - p); omega))
      rw [e]
      exact le_max_of_le_right (Finset.le_sup (f := fun k : Fin q => f ⟨p + k.val, by omega⟩) (Finset.mem_univ _))
  · exact max_le (Finset.sup_le fun k _ => Finset.le_sup (f := f) (Finset.mem_univ _)) (Finset.sup_le fun k _ => Finset.le_sup (f := f) (Finset.mem_univ _))

end Cert.Softmax

end
-- ==== Proof.MlaEqual.lean ====
module

public import proofs.«01_k».proof.Proof.MlaArray
public import proofs.«01_k».proof.Proof.MlaRef
public import proofs.«01_k».proof.Proof.Softmax

@[expose] public section

set_option maxRecDepth 16384

noncomputable section

namespace Cert.MlaIdeal.Att

open Idealize.ShloMosaic Cert.Softmax
open Cert.MlaRefIdeal.Read (val_main_v36 val_main_v29 val_main_v2 val_main_v8 val_main_v14)
open Cert.MlaRefIdeal.Att (sc seqRow cacheRow qkCol vCol)

variable (x0 x1 : Cert.MlaIdeal.S8192x1024.Idx → EReal) (x2 : Cert.MlaIdeal.S8192x512.Idx → EReal) (x3 : Cert.MlaIdeal.S1024x1024.Idx → EReal)
  (x4 : Cert.MlaIdeal.S1024x512.Idx → EReal) (x5 : Cert.MlaIdeal.S8192x1024.Idx → EReal)

/-- Where the queries and keys are finite, the kernel's attention of a row and column is the reference's: the kernel
    keeps the sequence's keys and the cached ones apart and divides the summed values once, the reference joins the keys
    and divides each weight. -/
theorem attend_eq (hq : ∀ (R : Fin 8192) (l : Fin 1024), 4096 ≤ R.val → Real' (x0 (ix2 R l)))
    (hk : ∀ (R : Fin 8192) (l : Fin 1024), 4096 ≤ R.val → Real' (x1 (ix2 R l))) (hc : ∀ (R l : Fin 1024), Real' (x3 (ix2 R l)))
    (R : Fin 8192) (hR : 4096 ≤ R.val) (c : Fin 512) :
    attendRow x0 x1 x2 x3 x4 R c
      = val_main_v29 (F := Ideal) x0 x1 x2 x3 x4 (ix4 (⟨(R.val - 4096) / 2048, by omega⟩ : Fin 2) (⟨c.val / 64, by omega⟩ : Fin 8)
          (⟨c.val % 64, by omega⟩ : Fin 64) (⟨(R.val - 4096) % 2048, by omega⟩ : Fin 2048)) := by
  set b : Fin 2 := ⟨(R.val - 4096) / 2048, by omega⟩ with hb
  set h : Fin 8 := ⟨c.val / 64, by omega⟩ with hh
  set e : Fin 64 := ⟨c.val % 64, by omega⟩ with he
  set s : Fin 2048 := ⟨(R.val - 4096) % 2048, by omega⟩ with hs
  have eR : seqRow b s = R := Fin.ext (by show 4096 + 2048 * ((R.val - 4096) / 2048) + (R.val - 4096) % 2048 = R.val; omega)
  have ec : vCol h e = c := Fin.ext (by show 64 * (c.val / 64) + c.val % 64 = c.val; omega)
  have eq : ∀ d, val_main_v2 (F := Ideal) x0 (ix4 b s h d) = x0 (ix2 R (headCol c d)) := fun d => by
    rw [Cert.MlaRefIdeal.Att.v2_apply, eR]; rfl
  -- the scores and values of the two parts
  have s1 : ∀ t : Fin 2048, sc x0 x1 x3 b h s (⟨t.val, by omega⟩ : Fin 2560)
      = score (fun d => x0 (ix2 R (headCol c d))) (fun d => x1 (ix2 (⟨4096 + 2048 * ((R.val - 4096) / 2048) + t.val, by omega⟩ : Fin 8192) (headCol c d))) := fun t => by
    unfold sc score
    simp only [eq, Cert.MlaRefIdeal.Att.v8_apply]
    simp only [dif_pos t.isLt]
    rfl
  have s2 : ∀ t : Fin 512, sc x0 x1 x3 b h s (⟨2048 + t.val, by omega⟩ : Fin 2560)
      = score (fun d => x0 (ix2 R (headCol c d))) (fun d => x3 (ix2 (⟨512 * ((R.val - 4096) / 2048) + t.val, by omega⟩ : Fin 1024) (headCol c d))) := fun t => by
    unfold sc score
    simp only [eq, Cert.MlaRefIdeal.Att.v8_apply]
    simp only [dif_neg (show ¬ 2048 + t.val < 2048 by omega), Nat.add_sub_cancel_left]
    rfl
  have v1 : ∀ t : Fin 2048, val_main_v14 (F := Ideal) x2 x4 (ix4 b (⟨t.val, by omega⟩ : Fin 2560) h e)
      = x2 (ix2 (⟨4096 + 2048 * ((R.val - 4096) / 2048) + t.val, by omega⟩ : Fin 8192) c) := fun t => by
    rw [Cert.MlaRefIdeal.Att.v14_apply, dif_pos t.isLt, ec]
    rfl
  have v2 : ∀ t : Fin 512, val_main_v14 (F := Ideal) x2 x4 (ix4 b (⟨2048 + t.val, by omega⟩ : Fin 2560) h e)
      = x4 (ix2 (⟨512 * ((R.val - 4096) / 2048) + t.val, by omega⟩ : Fin 1024) c) := fun t => by
    rw [Cert.MlaRefIdeal.Att.v14_apply, dif_neg (show ¬ 2048 + t.val < 2048 by omega), ec]
    simp only [Nat.add_sub_cancel_left]
    rfl
  -- every score is finite
  have hsc : ∀ t, Real' (sc x0 x1 x3 b h s t) := fun t => by
    unfold sc
    refine real_mul (real_sum _ _ fun d => real_mul ?_ ?_) real_scale
    · rw [eq]; exact hq _ _ hR
    · rw [Cert.MlaRefIdeal.Att.v8_apply]
      split
      · exact hk _ _ (by show 4096 ≤ 4096 + _ + _; omega)
      · exact hc _ _
  rw [Cert.MlaRefIdeal.Att.v29_apply, normalise (n := 2559) _ _ hsc]
  rw [sum_split (show 2048 + 512 = 2560 from rfl), sum_split (show 2048 + 512 = 2560 from rfl) (fun j => Ideal.exp _),
    top_split (show 2048 + 512 = 2560 from rfl)]
  simp only [s1, s2, v1, v2]
  rfl

/-- THE TWO RESULTS ARE ONE: where the queries and keys are finite, the kernel's output array is the reference's. -/
theorem out_eq (hq : ∀ (R : Fin 8192) (l : Fin 1024), 4096 ≤ R.val → Real' (x0 (ix2 R l)))
    (hk : ∀ (R : Fin 8192) (l : Fin 1024), 4096 ≤ R.val → Real' (x1 (ix2 R l))) (hc : ∀ (R l : Fin 1024), Real' (x3 (ix2 R l)))
    (R : Fin 8192) (C : Fin 1024) :
    outAt x0 x1 x2 x3 x4 x5 R C = val_main_v36 (F := Ideal) x0 x1 x2 x3 x4 x5 (ix2 R C) := by
  unfold outAt
  by_cases h : 4096 ≤ R.val ∧ 512 ≤ C.val
  · rw [if_pos h, Cert.MlaRefIdeal.Att.v36_apply x0 x1 x2 x3 x4 x5 R C h.1 h.2]
    exact attend_eq x0 x1 x2 x3 x4 hq hk hc R h.1 ⟨C.val - 512, by omega⟩
  · rw [if_neg h, Cert.MlaRefIdeal.Att.v36_keep x0 x1 x2 x3 x4 x5 R C h]

end Cert.MlaIdeal.Att

end
-- ==== Proof.MlaPre.lean ====
module

public import proofs.«01_k».proof.Proof.Gen.Pre_mla_finite
public import proofs.«01_k».proof.Proof.Softmax
public import Idealize.ShloMosaic.Lib.Pointwise

@[expose] public section

set_option maxRecDepth 16384

noncomputable section

namespace Cert.Pre_mla_finite.Att

open Cert.Pre_mla_finite Cert.Pre_mla_finite.Gen Idealize.ShloMosaic Cert.Softmax

variable (x0 x1 : S8192x1024.Idx → EReal) (x2 : S8192x512.Idx → EReal) (x3 : S1024x1024.Idx → EReal) (x4 : S1024x512.Idx → EReal)
  (x5 : S8192x1024.Idx → EReal)

/-- A number whose absolute value is below +∞ is finite. -/
theorem real_of_abs {x : EReal} (h : BitVec.ofBool (decide (FloatOps.absf (F := Ideal) (φ := .f32) x < Ideal.ofBits FTy.f32 0x7F800000#32)) = 1#1) :
    Real' x := by
  have ht : Ideal.ofBits .f32 0x7F800000#32 = ⊤ := by simp [Ideal.ofBits, Ideal.ieee]
  rw [ht] at h
  have hl : FloatOps.absf (F := Ideal) (φ := .f32) x < ⊤ := by
    by_contra hn
    rw [decide_eq_false hn] at h
    exact absurd h (by decide)
  induction x using EReal.rec with
  | bot => exact absurd hl (by show ¬ (max (⊥ : EReal) (-⊥) < ⊤); simp)
  | top => exact absurd hl (by show ¬ (max (⊤ : EReal) (-⊤) < ⊤); simp)
  | coe r => exact ⟨r, rfl⟩

/-- The precondition at an entry of the joined arrays. -/
theorem at_entry (h : fn (F := Ideal) x0 x1 x2 x3 x4 x5 = fun _ => 1#1) (r : Fin 9216) (l : Fin 1024) :
    Real' (if h : r.val < 4096 then x0 (ix2 (⟨4096 + r.val, by omega⟩ : Fin 8192) l)
      else if h : r.val - 4096 < 4096 then x1 (ix2 (⟨4096 + (r.val - 4096), by omega⟩ : Fin 8192) l)
      else x3 (ix2 (⟨r.val - 4096 - 4096, by omega⟩ : Fin 1024) l)) := by
  have e : fn (F := Ideal) x0 x1 x2 x3 x4 x5 (ix2 r l) = 1#1 := congrFun h _
  apply real_of_abs
  rw [← e]
  pointwise [fn]

/-- The sample's queries are finite. -/
theorem real_q (h : fn (F := Ideal) x0 x1 x2 x3 x4 x5 = fun _ => 1#1) (R : Fin 8192) (hR : 4096 ≤ R.val) (l : Fin 1024) :
    Real' (x0 (ix2 R l)) := by
  have e := at_entry x0 x1 x2 x3 x4 x5 h ⟨R.val - 4096, by omega⟩ l
  rw [dif_pos (by show R.val - 4096 < 4096; omega)] at e
  rwa [show R = (⟨4096 + (R.val - 4096), by omega⟩ : Fin 8192) from Fin.ext (by show R.val = 4096 + (R.val - 4096); omega)]

/-- The sample's keys are finite. -/
theorem real_k (h : fn (F := Ideal) x0 x1 x2 x3 x4 x5 = fun _ => 1#1) (R : Fin 8192) (hR : 4096 ≤ R.val) (l : Fin 1024) :
    Real' (x1 (ix2 R l)) := by
  have e := at_entry x0 x1 x2 x3 x4 x5 h ⟨R.val, by omega⟩ l
  rw [dif_neg (by show ¬ R.val < 4096; omega), dif_pos (by show R.val - 4096 < 4096; omega)] at e
  rwa [show R = (⟨4096 + (R.val - 4096), by omega⟩ : Fin 8192) from Fin.ext (by show R.val = 4096 + (R.val - 4096); omega)]

/-- The cached keys are finite. -/
theorem real_kc (h : fn (F := Ideal) x0 x1 x2 x3 x4 x5 = fun _ => 1#1) (R : Fin 1024) (l : Fin 1024) :
    Real' (x3 (ix2 R l)) := by
  have e := at_entry x0 x1 x2 x3 x4 x5 h ⟨R.val + 8192, by omega⟩ l
  rw [dif_neg (by show ¬ R.val + 8192 < 4096; omega), dif_neg (by show ¬ R.val + 8192 - 4096 < 4096; omega)] at e
  rwa [show R = (⟨R.val + 8192 - 4096 - 4096, by omega⟩ : Fin 1024) from Fin.ext (by show R.val = R.val + 8192 - 4096 - 4096; omega)]

end Cert.Pre_mla_finite.Att

end
-- ==== Proof.MlaClaim.lean ====
module

public import proofs.«01_k».proof.Defs
public import proofs.«01_k».proof.Proof.MlaEqual
public import proofs.«01_k».proof.Proof.MlaPre

@[expose] public section

noncomputable section

namespace Cert.MlaIdeal.Att

open Idealize.ShloMosaic Idealize.ShloMosaic.TcCoe Idealize.SL.Sem

/-- THE VALUE CLAIM: from arguments whose queries and keys are finite, the kernel and the reference both run to the end,
    keep their arguments, and leave the same array. -/
theorem algebraic : Cert.algebraic_MlaIdeal_MlaRefIdeal_pre_mla_finite := by
  intro m ρ m' ρ' hpre hag
  refine ⟨fun c => out m c, ?_, ?_⟩
  · refine (θ_run _ _ _).mono (fun _ h c => ?_) (Cert.MlaIdeal.Value.run_blocks (F := Ideal) m ρ)
    exact ⟨(h c).1.trans (arr_eq m c), (h c).2⟩
  · refine (θ_run _ _ _).mono (fun _ h c => ?_) (Cert.MlaRefIdeal.Value.run (F := Ideal) m' ρ')
    refine ⟨(h c).1.trans ?_, (h c).2⟩
    obtain ⟨h0, h1, h2, h3, h4, h5⟩ := hag c
    have hp := hpre c
    rw [Cert.MlaRefIdeal.Read.val_main_v36_eq, h0, h1, h2, h3, h4, h5]
    funext i
    rw [eq_ix2 i]
    exact (out_eq _ _ _ _ _ _ (fun R l hR => Cert.Pre_mla_finite.Att.real_q _ _ _ _ _ _ hp R hR l)
      (fun R l hR => Cert.Pre_mla_finite.Att.real_k _ _ _ _ _ _ hp R hR l) (fun R l => Cert.Pre_mla_finite.Att.real_kc _ _ _ _ _ _ hp R l) _ _).symm

end Cert.MlaIdeal.Att

end
-- ==== Proof.FfnChunk.lean ====
/- One 256-column chunk of the FFN's hidden layer: the up-projection of a tile's rows and their two neighbours, the
   depthwise convolution of three rows, and the gate. -/
module

public import proofs.«01_k».proof.Proof.Gen.FfnIdeal.Frame
public import Idealize.ShloMosaic.Lib.Pointwise

@[expose] public section

set_option maxRecDepth 16384

noncomputable section

namespace Cert.FfnIdeal.Ffn

open Cert.FfnIdeal Cert.FfnIdeal.Gen Idealize.ShloMosaic Idealize.ShloMosaic.TcCoe Idealize.SL.Sem

/-- The gate: `g` times its logistic. -/
def silu (g : EReal) : EReal := g * Ideal.div 1 (1 + Ideal.exp (0 - g))

variable (h : Vec Ideal S272x1024 .bf16) (wa wg : Vec Ideal S1024x256 .bf16) (ca cg : Vec Ideal S3x256 .f32) (ba bg : Vec Ideal S1x256 .f32)

/-- The up-projection of row `r` at column `l`. -/
def upAt (w : Vec Ideal S1024x256 .bf16) (r : Fin 272) (l : Fin 256) : EReal := ∑ k : Fin 1024, h (ix2 r k) * w (ix2 k l)

/-- The convolution at row `r` and column `l`: the row before, the row and the row after, weighted, with the bias. The
    row before the first is the last of the 272, the row after the last of the tile is row 256. -/
def convAt (w : Vec Ideal S1024x256 .bf16) (c : Vec Ideal S3x256 .f32) (b : Vec Ideal S1x256 .f32) (r l : Fin 256) : EReal :=
  c (ix2 0 l) * upAt h w ⟨(r.val + 272 - 1) % 272, by omega⟩ l + c (ix2 1 l) * upAt h w ⟨r.val, by omega⟩ l
    + c (ix2 2 l) * upAt h w ⟨(r.val + 272 - 271) % 272, by omega⟩ l + b (ix2 0 l)

/-- A chunk's activation at row `r` and column `l`. -/
def chunkAt (r l : Fin 256) : EReal := silu (convAt h wg cg bg r l) * convAt h wa ca ba r l

/-- The first chunk's store. -/
abbrev chunk0 : FVec Ideal S256x256 .bf16 :=
  k0_pay21 (k0_pay14 h wa) (k0_pay15 h wg) (k0_pay18 ca) (k0_pay19 h wa ca) (k0_pay20 h wa ca) ba cg bg

/-- The first chunk, read at an entry. -/
theorem chunk0_apply (r l : Fin 256) : chunk0 h wa wg ca cg ba bg (ix2 r l) = chunkAt h wa wg ca cg ba bg r l := by
  pointwise [k0_pay21, k0_pay14, k0_pay15, k0_pay18, k0_pay19, k0_pay20]
  rfl

/-- The second chunk computes what the first does, from its own columns. -/
theorem chunk1_eq : k0_pay29 (k0_pay24 (k0_pay16 h wa) ca ba) (k0_pay26 (k0_pay17 h wg) cg) (k0_pay27 cg) (k0_pay28 (k0_pay17 h wg)) bg
    = chunk0 h wa wg ca cg ba bg := rfl

/-- The third chunk computes what the first does, from its own columns. -/
theorem chunk2_eq : k0_pay36 (k0_pay23 h wg) (k0_pay33 (k0_pay22 h wa) ca) (k0_pay34 (k0_pay22 h wa)) (k0_pay35 ca) ba cg bg
    = chunk0 h wa wg ca cg ba bg := rfl

/-- The fourth chunk computes what the first does, from its own columns. -/
theorem chunk3_eq : k0_pay42 (k0_pay40 (k0_pay30 h wa) ca ba) (k0_pay41 (k0_pay31 h wg) cg) bg
    = chunk0 h wa wg ca cg ba bg := rfl

/-- The fifth chunk computes what the first does, from its own columns. -/
theorem chunk4_eq : k0_pay47 (k0_pay39 h wg) (k0_pay45 (k0_pay38 h (k0_pay37 wa) (constant S272x256 .f32 0#32)) ca) (k0_pay46 ba) cg bg
    = chunk0 h wa wg ca cg ba bg := rfl

/-- The sixth chunk computes what the first does, from its own columns. -/
theorem chunk5_eq : k0_pay54 (k0_pay51 (k0_pay43 h wa) ca ba) (k0_pay52 (k0_pay44 h wg) cg bg) (k0_pay53 (k0_pay44 h wg) cg bg)
    = chunk0 h wa wg ca cg ba bg := rfl

/-- The seventh chunk computes what the first does, from its own columns. -/
theorem chunk6_eq : k0_pay59 (k0_pay50 h (k0_pay49 wg) (constant S272x256 .f32 0#32)) (k0_pay57 (k0_pay48 h wa) ca ba) (k0_pay58 cg) bg
    = chunk0 h wa wg ca cg ba bg := rfl

/-- The eighth chunk computes what the first does, from its own columns. -/
theorem chunk7_eq : k0_pay68 (k0_pay64 (k0_pay55 h wa) (k0_pay62 ca) (k0_pay63 ca) ba) (k0_pay65 (k0_pay56 h wg) cg bg) (k0_pay66 (k0_pay56 h wg) cg bg) k0_pay67
    = chunk0 h wa wg ca cg ba bg := rfl

/-- The ninth chunk computes what the first does, from its own columns. -/
theorem chunk8_eq : k0_pay74 (k0_pay61 h wg) (k0_pay71 (k0_pay60 h wa) ca ba) (k0_pay72 cg) (k0_pay73 (k0_pay61 h wg) cg) bg
    = chunk0 h wa wg ca cg ba bg := rfl

/-- The tenth chunk computes what the first does, from its own columns. -/
theorem chunk9_eq : k0_pay81 (k0_pay80 (k0_pay69 h wa) (k0_pay70 h wg) (k0_pay77 ca) (k0_pay78 (k0_pay69 h wa) ca) (k0_pay79 ca) ba cg bg)
    = chunk0 h wa wg ca cg ba bg := rfl

/-- The eleventh chunk computes what the first does, from its own columns. -/
theorem chunk10_eq : k0_pay84 (k0_pay82 (k0_pay75 h wa) ca ba) (k0_pay83 (k0_pay76 h wg) cg bg)
    = chunk0 h wa wg ca cg ba bg := rfl

end Cert.FfnIdeal.Ffn

end
-- ==== Proof.FfnRows.lean ====
/- The FFN's rows: the modulated norm of a row, the rows a tile and its neighbours give the up-projection, and the
   result's row. -/
module

public import proofs.«01_k».proof.Proof.Gen.FfnIdeal.Frame
public import Idealize.ShloMosaic.Lib.Pointwise

@[expose] public section

set_option maxRecDepth 16384

noncomputable section

namespace Cert.FfnIdeal.Ffn

open Cert.FfnIdeal Cert.FfnIdeal.Gen Idealize.ShloMosaic Idealize.ShloMosaic.TcCoe Idealize.SL.Sem

variable (x : Vec Ideal S256x1024 .f32) (xp xn : Vec Ideal S8x1024 .f32) (md : Vec Ideal S1x1x1x6144 .f32) (g : Vec Ideal S1x1x1024 .f32)
  (act : Vec Ideal S256x2816 .bf16) (wd : Vec Ideal S2816x1024 .bf16)

/-- The norm of a row, scaled by a gain. -/
def rms (v g : Fin 1024 → EReal) (k : Fin 1024) : EReal :=
  v k * Ideal.rsqrt (Ideal.div (∑ j, v j * v j) (Ideal.ofBits .f32 0x44800000#32) + Ideal.ofBits .f32 0x358637BD#32) * g k

/-- The norm of a row, modulated by a scale and a shift. -/
def modRow (v g s b : Fin 1024 → EReal) (k : Fin 1024) : EReal := rms v g k * (1 + s k) + b k

/-- The tile's modulation vector, read at an entry. -/
theorem pay2_apply (j : Fin 6144) : k0_pay2 md (ix2 0 j) = md (ix4 0 0 0 j) := by
  pointwise [k0_pay2]

/-- The gain, read at an entry. -/
theorem pay6_apply (k : Fin 1024) : k0_pay6 g (ix2 0 k) = g (ix3 0 0 k) := by
  pointwise [k0_pay6]

/-- The modulated norm of a row `v` under the tile's gain and modulation. -/
def rowAt (md : Vec Ideal S1x1x1x6144 .f32) (g : Vec Ideal S1x1x1024 .f32) (v : Fin 1024 → EReal) (k : Fin 1024) : EReal :=
  modRow v (fun j => g (ix3 0 0 j)) (fun j => md (ix4 0 0 0 (⟨4096 + j.val, by omega⟩ : Fin 6144)))
    (fun j => md (ix4 0 0 0 (⟨3072 + j.val, by omega⟩ : Fin 6144))) k

/-- The rows handed to the up-projection: the tile's 256, the eight after it where `n` is set, the eight before it
    where `p` is set, zeros otherwise. -/
def hRow (p n : BitVec 1) (r : Fin 272) (k : Fin 1024) : EReal :=
  if h : r.val < 256 then rowAt md g (fun j => x (ix2 ⟨r.val, h⟩ j)) k
  else if h' : r.val - 256 < 8 then Scalar.select n (rowAt md g (fun j => xn (ix2 ⟨r.val - 256, h'⟩ j)) k) 0
  else Scalar.select p (rowAt md g (fun j => xp (ix2 ⟨r.val - 256 - 8, by omega⟩ j)) k) 0

/-- The tile's own rows. -/
theorem own_apply (r : Fin 256) (k : Fin 1024) :
    k0_pay9 (k0_pay3 md) (k0_pay4 md) (k0_pay7 x) (k0_pay8 g) (ix2 r k) = rowAt md g (fun j => x (ix2 r j)) k := by
  pointwise [k0_pay9, k0_pay3, k0_pay4, k0_pay7, k0_pay8]
  rw [pay2_apply, pay2_apply, pay6_apply]
  rfl

/-- The sixteen rows after the tile's: the next tile's first eight and the previous tile's last eight. -/
theorem ext_apply (p n : BitVec 1) (r : Fin 16) (k : Fin 1024) :
    k0_pay13 p (k0_pay3 md) (k0_pay4 md) (k0_pay10 n (k0_pay3 md) (k0_pay4 md) (k0_pay6 g) xn) (k0_pay11 xp) (k0_pay12 (k0_pay6 g)) (ix2 r k)
      = if h : r.val < 8 then Scalar.select n (rowAt md g (fun j => xn (ix2 ⟨r.val, h⟩ j)) k) 0
        else Scalar.select p (rowAt md g (fun j => xp (ix2 ⟨r.val - 8, by omega⟩ j)) k) 0 := by
  pointwise [k0_pay13, k0_pay3, k0_pay4, k0_pay10, k0_pay11, k0_pay12, k0_pay6]
  simp only [pay2_apply]
  rfl

/-- The result's row: the tile's row plus the gated norm of the down-projection. -/
theorem res_apply (r : Fin 256) (k : Fin 1024) :
    k0_pay1 (k0_pay5 md) x (k0_pay85 act wd) (k0_pay86 g) (k0_pay87 act wd) k0_pay88 (ix2 r k)
      = x (ix2 r k) + md (ix4 0 0 0 (⟨5120 + k.val, by omega⟩ : Fin 6144))
          * rms (fun k => ∑ j : Fin 2816, act (ix2 r j) * wd (ix2 j k)) (fun j => g (ix3 0 0 j)) k := by
  pointwise [k0_pay1, k0_pay5, k0_pay85, k0_pay86, k0_pay87, k0_pay88]
  rw [pay2_apply]
  rfl

end Cert.FfnIdeal.Ffn

end
-- ==== Proof.FfnBlock.lean ====
/- What one grid point of the FFN writes: the row function of its tile, read off its blocks. -/
module

public import proofs.«01_k».proof.Proof.FfnChunk
public import proofs.«01_k».proof.Proof.FfnRows

@[expose] public section

set_option maxRecDepth 16384

noncomputable section

namespace Cert.FfnIdeal.Ffn

open Cert.FfnIdeal Cert.FfnIdeal.Gen Idealize.ShloMosaic Idealize.ShloMosaic.TcCoe Idealize.SL.Sem
open Idealize.ShloMosaic.Pipeline (Dat)

/-- A load of 256 columns starting at column `o` reads the array there. -/
theorem ld_cols {n w : Nat} {φ : EltTy} (X : Vec Ideal (⟨2, ![n, w]⟩ : Shape) φ) (o : Nat)
    (inb : ∀ a, (![0, o] : Fin 2 → Nat) a + (![n, 256] : Fin 2 → Nat) a ≤ (⟨2, ![n, w]⟩ : Shape).size a) (t : Fin n) (d : Fin 256) :
    View.ld X (Rect.unit (s := (⟨2, ![n, w]⟩ : Shape)) ![0, o] ![n, 256] inb) (ix2 t d)
      = X (ix2 t ⟨o + d.val, by have := inb 1; have := d.isLt; simp at *; omega⟩) := by
  show X _ = X _
  congr 1
  funext a
  apply Fin.ext
  match a with
  | ⟨0, _⟩ => simp [Rect.emb_apply, ix2]
  | ⟨1, _⟩ => simp [Rect.emb_apply, ix2]

/-- The up-projection of row `r` at hidden column `c`. -/
def upCol (h : Vec Ideal S272x1024 .bf16) (wu : Vec Ideal S1024x5632 .bf16) (r : Fin 272) (c : Fin 5632) : EReal :=
  ∑ k : Fin 1024, h (ix2 r k) * wu (ix2 k c)

/-- The convolution at row `r` and hidden column `c`. -/
def convCol (h : Vec Ideal S272x1024 .bf16) (wu : Vec Ideal S1024x5632 .bf16) (cw : Vec Ideal S3x5632 .f32) (cb : Vec Ideal S1x5632 .f32)
    (r : Fin 256) (c : Fin 5632) : EReal :=
  cw (ix2 0 c) * upCol h wu ⟨(r.val + 272 - 1) % 272, by omega⟩ c + cw (ix2 1 c) * upCol h wu ⟨r.val, by omega⟩ c
    + cw (ix2 2 c) * upCol h wu ⟨(r.val + 272 - 271) % 272, by omega⟩ c + cb (ix2 0 c)

/-- The activation at row `r` and column `j`: the gate's column is 2816 further. -/
def actAt (h : Vec Ideal S272x1024 .bf16) (wu : Vec Ideal S1024x5632 .bf16) (cw : Vec Ideal S3x5632 .f32) (cb : Vec Ideal S1x5632 .f32)
    (r : Fin 256) (j : Fin 2816) : EReal :=
  silu (convCol h wu cw cb r ⟨2816 + j.val, by omega⟩) * convCol h wu cw cb r ⟨j.val, by omega⟩

/-- The activations as an array. -/
def act (h : Vec Ideal S272x1024 .bf16) (wu : Vec Ideal S1024x5632 .bf16) (cw : Vec Ideal S3x5632 .f32) (cb : Vec Ideal S1x5632 .f32) :
    Vec Ideal S256x2816 .bf16 := fun i => actAt h wu cw cb (i 0) (i 1)

/-- The convolution of 256 columns starting at column `o` is the convolution at each of them. -/
theorem conv_ld (h : Vec Ideal S272x1024 .bf16) (wu : Vec Ideal S1024x5632 .bf16) (cw : Vec Ideal S3x5632 .f32) (cb : Vec Ideal S1x5632 .f32)
    (o : Nat) (i1 : ∀ a, (![0, o] : Fin 2 → Nat) a + (![1024, 256] : Fin 2 → Nat) a ≤ S1024x5632.size a)
    (i2 : ∀ a, (![0, o] : Fin 2 → Nat) a + (![3, 256] : Fin 2 → Nat) a ≤ S3x5632.size a)
    (i3 : ∀ a, (![0, o] : Fin 2 → Nat) a + (![1, 256] : Fin 2 → Nat) a ≤ S1x5632.size a) (r l : Fin 256) (hl : o + l.val < 5632) :
    convAt h (View.ld wu (Rect.unit ![0, o] ![1024, 256] i1)) (View.ld cw (Rect.unit ![0, o] ![3, 256] i2)) (View.ld cb (Rect.unit ![0, o] ![1, 256] i3)) r l
      = convCol h wu cw cb r ⟨o + l.val, hl⟩ := by
  have e1 : ∀ q, upAt h (View.ld wu (Rect.unit ![0, o] ![1024, 256] i1)) q l = upCol h wu q ⟨o + l.val, hl⟩ := fun q =>
    Finset.sum_congr rfl fun k _ => congrArg (fun z => h (ix2 q k) * z) (ld_cols wu o i1 k l)
  have e2 : ∀ q, View.ld cw (Rect.unit ![0, o] ![3, 256] i2) (ix2 q l) = cw (ix2 q ⟨o + l.val, hl⟩) := fun q => ld_cols cw o i2 q l
  have e3 : ∀ q, View.ld cb (Rect.unit ![0, o] ![1, 256] i3) (ix2 q l) = cb (ix2 q ⟨o + l.val, hl⟩) := fun q => ld_cols cb o i3 q l
  unfold convAt convCol
  simp only [e1]
  exact congrArg₂ (· + ·) (congrArg₂ (· + ·) (congrArg₂ (· + ·) (congrArg (· * _) (e2 0)) (congrArg (· * _) (e2 1))) (congrArg (· * _) (e2 2))) (e3 0)

/-- One chunk's store: its payload at a local index is the activation at the index it lands on. -/
theorem piece (h : Vec Ideal S272x1024 .bf16) (wu : Vec Ideal S1024x5632 .bf16) (cw : Vec Ideal S3x5632 .f32) (cb : Vec Ideal S1x5632 .f32)
    (p : Nat) (hp : p < 11)
    (i0 : ∀ a, (![0, 256 * p] : Fin 2 → Nat) a + (![256, 256] : Fin 2 → Nat) a ≤ S256x2816.size a)
    (i1 : ∀ a, (![0, 256 * p] : Fin 2 → Nat) a + (![1024, 256] : Fin 2 → Nat) a ≤ S1024x5632.size a)
    (i2 : ∀ a, (![0, 256 * p] : Fin 2 → Nat) a + (![3, 256] : Fin 2 → Nat) a ≤ S3x5632.size a)
    (i3 : ∀ a, (![0, 256 * p] : Fin 2 → Nat) a + (![1, 256] : Fin 2 → Nat) a ≤ S1x5632.size a)
    (j1 : ∀ a, (![0, 2816 + 256 * p] : Fin 2 → Nat) a + (![1024, 256] : Fin 2 → Nat) a ≤ S1024x5632.size a)
    (j2 : ∀ a, (![0, 2816 + 256 * p] : Fin 2 → Nat) a + (![3, 256] : Fin 2 → Nat) a ≤ S3x5632.size a)
    (j3 : ∀ a, (![0, 2816 + 256 * p] : Fin 2 → Nat) a + (![1, 256] : Fin 2 → Nat) a ≤ S1x5632.size a) (x : S256x256.Idx) :
    chunk0 h (View.ld wu (Rect.unit ![0, 256 * p] ![1024, 256] i1)) (View.ld wu (Rect.unit ![0, 2816 + 256 * p] ![1024, 256] j1))
      (View.ld cw (Rect.unit ![0, 256 * p] ![3, 256] i2)) (View.ld cw (Rect.unit ![0, 2816 + 256 * p] ![3, 256] j2))
      (View.ld cb (Rect.unit ![0, 256 * p] ![1, 256] i3)) (View.ld cb (Rect.unit ![0, 2816 + 256 * p] ![1, 256] j3)) x
      = act h wu cw cb ((Rect.unit (s := S256x2816) ![0, 256 * p] ![256, 256] i0).emb x) := by
  obtain ⟨r, l, rfl⟩ : ∃ (r l : Fin 256), x = ix2 r l := ⟨x 0, x 1, eq_ix2 x⟩
  have he : (Rect.unit (s := S256x2816) ![0, 256 * p] ![256, 256] i0).emb (ix2 r l)
      = ix2 r (⟨256 * p + l.val, by have := l.isLt; omega⟩ : Fin 2816) := by
    funext a
    apply Fin.ext
    match a with
    | ⟨0, _⟩ => simp [Rect.emb_apply, ix2]
    | ⟨1, _⟩ => simp [Rect.emb_apply, ix2]
  rw [he, chunk0_apply]
  show _ = actAt h wu cw cb r (⟨256 * p + l.val, by have := l.isLt; omega⟩ : Fin 2816)
  unfold chunkAt actAt
  rw [conv_ld h wu cw cb (256 * p) i1 i2 i3 r l (by have := l.isLt; omega), conv_ld h wu cw cb (2816 + 256 * p) j1 j2 j3 r l (by have := l.isLt; omega)]
  refine congrArg (fun z => silu (convCol h wu cw cb r z) * _) (Fin.ext ?_)
  show 2816 + 256 * p + l.val = 2816 + (256 * p + l.val)
  omega

/-- The position of a tile in its sample sequence, as the kernel computes it from the grid point. -/
def seqPos (i : BitVec 32) : BitVec 32 :=
  Scalar.select
    (Scalar.andi (Scalar.xori (Scalar.cmpi CmpIPredicate.slt (Scalar.remsi (Scalar.subi i 16#32) 8#32) 0#32) 0#1)
      (Scalar.cmpi CmpIPredicate.ne (Scalar.remsi (Scalar.subi i 16#32) 8#32) 0#32))
    (Scalar.addi (Scalar.remsi (Scalar.subi i 16#32) 8#32) 8#32) (Scalar.remsi (Scalar.subi i 16#32) 8#32)

/-- Whether the tile before belongs to the same sequence, as the kernel computes it. -/
def prevBit (i : BitVec 32) : BitVec 1 := Scalar.andi (Scalar.cmpi CmpIPredicate.sge i 16#32) (Scalar.cmpi CmpIPredicate.ne (seqPos i) 0#32)

/-- Whether the tile after belongs to the same sequence, as the kernel computes it. -/
def nextBit (i : BitVec 32) : BitVec 1 := Scalar.andi (Scalar.cmpi CmpIPredicate.sge i 16#32) (Scalar.cmpi CmpIPredicate.ne (seqPos i) 7#32)

/-- The rows handed to the up-projection, as an array. -/
def hArr (x : Vec Ideal S256x1024 .f32) (xp xn : Vec Ideal S8x1024 .f32) (md : Vec Ideal S1x1x1x6144 .f32) (g : Vec Ideal S1x1x1024 .f32)
    (p n : BitVec 1) : Vec Ideal S272x1024 .bf16 := fun i => hRow x xp xn md g p n (i 0) (i 1)

/-- No offset, two axes. -/
theorem z2 : (![0, 0] : Fin 2 → Nat) = fun _ => 0 := by decide
/-- No offset, three axes. -/
theorem z3 : (![0, 0, 0] : Fin 3 → Nat) = fun _ => 0 := by decide
/-- No offset, four axes. -/
theorem z4 : (![0, 0, 0, 0] : Fin 4 → Nat) = fun _ => 0 := by decide

/-- What the two stores of normed rows leave in the first scratch array. -/
theorem canon_h (x : Vec Ideal S256x1024 .f32) (xp xn : Vec Ideal S8x1024 .f32) (md : Vec Ideal S1x1x1x6144 .f32) (g : Vec Ideal S1x1x1024 .f32)
    (p n : BitVec 1) (i1 : ∀ a, (![256, 0] : Fin 2 → Nat) a + (![16, 1024] : Fin 2 → Nat) a ≤ S272x1024.size a)
    (i2 : ∀ a, (![0, 0] : Fin 2 → Nat) a + (![256, 1024] : Fin 2 → Nat) a ≤ S272x1024.size a) :
    View.canon (Val := Elt Ideal) (s := S272x1024) (e := .bf16)
      [⟨Rect.unit ![256, 0] ![16, 1024] i1,
          k0_pay13 p (k0_pay3 md) (k0_pay4 md) (k0_pay10 n (k0_pay3 md) (k0_pay4 md) (k0_pay6 g) xn) (k0_pay11 xp) (k0_pay12 (k0_pay6 g))⟩,
        ⟨Rect.unit ![0, 0] ![256, 1024] i2, k0_pay9 (k0_pay3 md) (k0_pay4 md) (k0_pay7 x) (k0_pay8 g)⟩] = hArr x xp xn md g p n := by
  funext y
  refine View.canon_apply_of_pieces (S := S272x1024) _ _ ?_ y ?_
  · intro q hq
    simp only [List.mem_cons, List.not_mem_nil, or_false] at hq
    rcases hq with rfl | rfl
    · intro z
      obtain ⟨r, k, rfl⟩ : ∃ (r : Fin 16) (k : Fin 1024), z = ix2 r k := ⟨z 0, z 1, eq_ix2 z⟩
      have he : (Rect.unit (s := S272x1024) ![256, 0] ![16, 1024] i1).emb (ix2 r k) = ix2 (⟨256 + r.val, by omega⟩ : Fin 272) k := by
        funext a
        apply Fin.ext
        match a with
        | ⟨0, _⟩ => simp [Rect.emb_apply, ix2]
        | ⟨1, _⟩ => simp [Rect.emb_apply, ix2]
      refine Eq.trans (ext_apply xp xn md g p n r k) ?_
      show _ = hArr x xp xn md g p n ((Rect.unit (s := S272x1024) ![256, 0] ![16, 1024] i1).emb (ix2 r k))
      rw [he]
      show _ = hRow x xp xn md g p n ⟨256 + r.val, _⟩ k
      unfold hRow
      simp only [show ¬ (256 + r.val < 256) by omega, dite_false, show 256 + r.val - 256 = r.val by omega]
    · intro z
      obtain ⟨r, k, rfl⟩ : ∃ (r : Fin 256) (k : Fin 1024), z = ix2 r k := ⟨z 0, z 1, eq_ix2 z⟩
      have he : (Rect.unit (s := S272x1024) ![0, 0] ![256, 1024] i2).emb (ix2 r k) = ix2 (⟨r.val, by omega⟩ : Fin 272) k := by
        funext a
        apply Fin.ext
        match a with
        | ⟨0, _⟩ => simp [Rect.emb_apply, ix2]
        | ⟨1, _⟩ => simp [Rect.emb_apply, ix2]
      refine Eq.trans (own_apply x md g r k) ?_
      show _ = hArr x xp xn md g p n ((Rect.unit (s := S272x1024) ![0, 0] ![256, 1024] i2).emb (ix2 r k))
      rw [he]
      show _ = hRow x xp xn md g p n ⟨r.val, _⟩ k
      unfold hRow
      rw [dif_pos r.isLt]
  · by_cases hy : (y 0 : Nat) < 256
    · refine ⟨_, List.mem_cons_of_mem _ (List.mem_singleton.2 rfl), ?_⟩
      rw [Rect.mem_set_unit]
      intro a
      match a with
      | ⟨0, _⟩ => exact ⟨Nat.zero_le _, by show (y 0 : Nat) < 0 + 256; omega⟩
      | ⟨1, _⟩ => exact ⟨Nat.zero_le _, by show (y 1 : Nat) < 0 + 1024; have : (y 1 : Nat) < 1024 := (y 1).isLt; omega⟩
    · refine ⟨_, List.mem_cons_self .., ?_⟩
      rw [Rect.mem_set_unit]
      intro a
      match a with
      | ⟨0, _⟩ => exact ⟨by show 256 ≤ (y 0 : Nat); omega, by show (y 0 : Nat) < 256 + 16; have : (y 0 : Nat) < 272 := (y 0).isLt; omega⟩
      | ⟨1, _⟩ => exact ⟨Nat.zero_le _, by show (y 1 : Nat) < 0 + 1024; have : (y 1 : Nat) < 1024 := (y 1).isLt; omega⟩

/-- The result row of a grid point, from its ten blocks. -/
def blockAt (x : Vec Ideal S256x1024 .f32) (xp xn : Vec Ideal S8x1024 .f32) (md : Vec Ideal S1x1x1x6144 .f32) (g g' : Vec Ideal S1x1x1024 .f32)
    (wu : Vec Ideal S1024x5632 .bf16) (cw : Vec Ideal S3x5632 .f32) (cb : Vec Ideal S1x5632 .f32) (wd : Vec Ideal S2816x1024 .bf16) (p n : BitVec 1)
    (r : Fin 256) (k : Fin 1024) : EReal :=
  x (ix2 r k) + md (ix4 0 0 0 (⟨5120 + k.val, by omega⟩ : Fin 6144))
    * rms (fun k => ∑ j : Fin 2816, actAt (hArr x xp xn md g p n) wu cw cb r j * wd (ix2 j k)) (fun j => g' (ix3 0 0 j)) k

/-- A chunk's columns cover the columns from `256 p`. -/
theorem mem_chunk (p : Nat) (y : S256x2816.Idx) (i0 : ∀ a, (![0, 256 * p] : Fin 2 → Nat) a + (![256, 256] : Fin 2 → Nat) a ≤ S256x2816.size a)
    (h : (y 1 : Nat) / 256 = p) : y ∈ (Rect.unit (s := S256x2816) ![0, 256 * p] ![256, 256] i0).set := by
  rw [Rect.mem_set_unit]
  intro a
  match a with
  | ⟨0, _⟩ => exact ⟨Nat.zero_le _, by show (y 0 : Nat) < 0 + 256; have : (y 0 : Nat) < 256 := (y 0).isLt; omega⟩
  | ⟨1, _⟩ => exact ⟨by show 256 * p ≤ (y 1 : Nat); omega, by show (y 1 : Nat) < 256 * p + 256; omega⟩

/-- The result's row from the activations' entries. -/
theorem res_congr (x : Vec Ideal S256x1024 .f32) (md : Vec Ideal S1x1x1x6144 .f32) (g : Vec Ideal S1x1x1024 .f32) (A : Vec Ideal S256x2816 .bf16)
    (wd : Vec Ideal S2816x1024 .bf16) (r : Fin 256) (k : Fin 1024) (f : Fin 2816 → EReal) (h : ∀ j, A (ix2 r j) = f j) :
    k0_pay1 (k0_pay5 md) x (k0_pay85 A wd) (k0_pay86 g) (k0_pay87 A wd) k0_pay88 (ix2 r k)
      = x (ix2 r k) + md (ix4 0 0 0 (⟨5120 + k.val, by omega⟩ : Fin 6144))
          * rms (fun k => ∑ j : Fin 2816, f j * wd (ix2 j k)) (fun j => g (ix3 0 0 j)) k := by
  rw [res_apply]
  simp only [h]

variable (m : (ℓ : Loc nD τ sig) → Buf (Elt Ideal) ℓ)

/-- What a grid point leaves in the output's staging buffer, entry by entry. -/
theorem outs_eq (c : Dev nD) (t : Fin cfg0.N) (r : Fin 256) (k : Fin 1024) :
    outsAt0 m c t (ix2 r k) = blockAt (iblk m c 0 t) (iblk m c 1 t) (iblk m c 2 t) (iblk m c 3 t) (iblk m c 4 t) (iblk m c 5 t)
      (iblk m c 6 t) (iblk m c 7 t) (iblk m c 8 t) (iblk m c 9 t) (prevBit (BitVec.ofNat 32 ((grid0.coords t) 0).val)) (nextBit (BitVec.ofNat 32 ((grid0.coords t) 0).val)) r k := by
  unfold outsAt0 out0_A_10
  have hcov := cover0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)
  rw [View.read_writes_eq_canon _ _ _ hcov]
  clear hcov
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  unfold kernelRun0_A; dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  rw [View.canon_unit_zero (S := S256x1024) z2]
  simp only [View.ld_unit_zero (S := S256x1024) z2, View.ld_unit_zero (S := S8x1024) z2, View.ld_unit_zero (S := S1x1x1x6144) z4, View.ld_unit_zero (S := S1x1x1024) z3, View.ld_unit_zero (S := S2816x1024) z2]
  have hh : ∀ (v : View sig .tc .vmem S272x1024 .bf16) (p n : BitVec 1), v.readCov
      [⟨Rect.unit ![256, 0] ![16, 1024] inb_S272x1024_S16x1024_256_0,
          k0_pay13 p (k0_pay3 x3) (k0_pay4 x3) (k0_pay10 n (k0_pay3 x3) (k0_pay4 x3) (k0_pay6 x4) x2) (k0_pay11 x1) (k0_pay12 (k0_pay6 x4))⟩,
        ⟨Rect.unit ![0, 0] ![256, 1024] inb_S272x1024_S256x1024_0_0, k0_pay9 (k0_pay3 x3) (k0_pay4 x3) (k0_pay7 x0) (k0_pay8 x4)⟩]
      (Rect.unit ![0, 0] ![272, 1024] inb_S272x1024_S272x1024_0_0).toLoadRect = hArr x0 x1 x2 x3 x4 p n := by
    intro v p n
    rw [View.readCov_eq_canon']
    rw [canon_h]
    funext j
    exact congrFun (View.ld_unit_zero (S := S272x1024) z2 inb_S272x1024_S272x1024_0_0 (hArr x0 x1 x2 x3 x4 p n)) j
  simp only [hh]
  unfold blockAt prevBit nextBit seqPos
  generalize hArr x0 x1 x2 x3 x4 _ _ = H
  clear hh
  refine res_congr _ _ _ _ _ r k _ fun j => ?_
  rw [View.readCov_eq_canon']
  refine (congrFun (View.ld_unit_zero (S := S256x2816) z2 inb_S256x2816_S256x2816_0_0 (View.canon _)) (ix2 r j)).trans ?_
  refine (View.canon_apply_of_pieces (S := S256x2816) (act H x6 x7 x8) _ ?_ (ix2 r j) ?_).trans rfl
  · intro q hq
    simp only [List.mem_cons, List.not_mem_nil, or_false] at hq
    rcases hq with rfl | rfl | rfl | rfl | rfl | rfl | rfl | rfl | rfl | rfl | rfl
    · exact piece H x6 x7 x8 10 (by omega) inb_S256x2816_S256x256_0_2560 inb_S1024x5632_S1024x256_0_2560 inb_S3x5632_S3x256_0_2560 inb_S1x5632_S1x256_0_2560 inb_S1024x5632_S1024x256_0_5376 inb_S3x5632_S3x256_0_5376 inb_S1x5632_S1x256_0_5376
    · exact piece H x6 x7 x8 9 (by omega) inb_S256x2816_S256x256_0_2304 inb_S1024x5632_S1024x256_0_2304 inb_S3x5632_S3x256_0_2304 inb_S1x5632_S1x256_0_2304 inb_S1024x5632_S1024x256_0_5120 inb_S3x5632_S3x256_0_5120 inb_S1x5632_S1x256_0_5120
    · exact piece H x6 x7 x8 8 (by omega) inb_S256x2816_S256x256_0_2048 inb_S1024x5632_S1024x256_0_2048 inb_S3x5632_S3x256_0_2048 inb_S1x5632_S1x256_0_2048 inb_S1024x5632_S1024x256_0_4864 inb_S3x5632_S3x256_0_4864 inb_S1x5632_S1x256_0_4864
    · exact piece H x6 x7 x8 7 (by omega) inb_S256x2816_S256x256_0_1792 inb_S1024x5632_S1024x256_0_1792 inb_S3x5632_S3x256_0_1792 inb_S1x5632_S1x256_0_1792 inb_S1024x5632_S1024x256_0_4608 inb_S3x5632_S3x256_0_4608 inb_S1x5632_S1x256_0_4608
    · exact piece H x6 x7 x8 6 (by omega) inb_S256x2816_S256x256_0_1536 inb_S1024x5632_S1024x256_0_1536 inb_S3x5632_S3x256_0_1536 inb_S1x5632_S1x256_0_1536 inb_S1024x5632_S1024x256_0_4352 inb_S3x5632_S3x256_0_4352 inb_S1x5632_S1x256_0_4352
    · exact piece H x6 x7 x8 5 (by omega) inb_S256x2816_S256x256_0_1280 inb_S1024x5632_S1024x256_0_1280 inb_S3x5632_S3x256_0_1280 inb_S1x5632_S1x256_0_1280 inb_S1024x5632_S1024x256_0_4096 inb_S3x5632_S3x256_0_4096 inb_S1x5632_S1x256_0_4096
    · exact piece H x6 x7 x8 4 (by omega) inb_S256x2816_S256x256_0_1024 inb_S1024x5632_S1024x256_0_1024 inb_S3x5632_S3x256_0_1024 inb_S1x5632_S1x256_0_1024 inb_S1024x5632_S1024x256_0_3840 inb_S3x5632_S3x256_0_3840 inb_S1x5632_S1x256_0_3840
    · exact piece H x6 x7 x8 3 (by omega) inb_S256x2816_S256x256_0_768 inb_S1024x5632_S1024x256_0_768 inb_S3x5632_S3x256_0_768 inb_S1x5632_S1x256_0_768 inb_S1024x5632_S1024x256_0_3584 inb_S3x5632_S3x256_0_3584 inb_S1x5632_S1x256_0_3584
    · exact piece H x6 x7 x8 2 (by omega) inb_S256x2816_S256x256_0_512 inb_S1024x5632_S1024x256_0_512 inb_S3x5632_S3x256_0_512 inb_S1x5632_S1x256_0_512 inb_S1024x5632_S1024x256_0_3328 inb_S3x5632_S3x256_0_3328 inb_S1x5632_S1x256_0_3328
    · exact piece H x6 x7 x8 1 (by omega) inb_S256x2816_S256x256_0_256 inb_S1024x5632_S1024x256_0_256 inb_S3x5632_S3x256_0_256 inb_S1x5632_S1x256_0_256 inb_S1024x5632_S1024x256_0_3072 inb_S3x5632_S3x256_0_3072 inb_S1x5632_S1x256_0_3072
    · exact piece H x6 x7 x8 0 (by omega) inb_S256x2816_S256x256_0_0 inb_S1024x5632_S1024x256_0_0 inb_S3x5632_S3x256_0_0 inb_S1x5632_S1x256_0_0 inb_S1024x5632_S1024x256_0_2816 inb_S3x5632_S3x256_0_2816 inb_S1x5632_S1x256_0_2816
  · have hj : j.val / 256 < 11 := by have := j.isLt; omega
    have hm := fun p i0 h => mem_chunk p (ix2 r j) i0 h
    have hc : j.val / 256 = 10 ∨ j.val / 256 = 9 ∨ j.val / 256 = 8 ∨ j.val / 256 = 7 ∨ j.val / 256 = 6 ∨ j.val / 256 = 5 ∨ j.val / 256 = 4 ∨ j.val / 256 = 3
        ∨ j.val / 256 = 2 ∨ j.val / 256 = 1 ∨ j.val / 256 = 0 := by omega
    simp only [List.exists_mem_cons_iff]
    rcases hc with h | h | h | h | h | h | h | h | h | h | h
    · exact Or.inl (hm 10 inb_S256x2816_S256x256_0_2560 h)
    · exact Or.inr (Or.inl (hm 9 inb_S256x2816_S256x256_0_2304 h))
    · exact Or.inr (Or.inr (Or.inl (hm 8 inb_S256x2816_S256x256_0_2048 h)))
    · exact Or.inr (Or.inr (Or.inr (Or.inl (hm 7 inb_S256x2816_S256x256_0_1792 h))))
    · exact Or.inr (Or.inr (Or.inr (Or.inr (Or.inl (hm 6 inb_S256x2816_S256x256_0_1536 h)))))
    · exact Or.inr (Or.inr (Or.inr (Or.inr (Or.inr (Or.inl (hm 5 inb_S256x2816_S256x256_0_1280 h))))))
    · exact Or.inr (Or.inr (Or.inr (Or.inr (Or.inr (Or.inr (Or.inl (hm 4 inb_S256x2816_S256x256_0_1024 h)))))))
    · exact Or.inr (Or.inr (Or.inr (Or.inr (Or.inr (Or.inr (Or.inr (Or.inl (hm 3 inb_S256x2816_S256x256_0_768 h))))))))
    · exact Or.inr (Or.inr (Or.inr (Or.inr (Or.inr (Or.inr (Or.inr (Or.inr (Or.inl (hm 2 inb_S256x2816_S256x256_0_512 h)))))))))
    · exact Or.inr (Or.inr (Or.inr (Or.inr (Or.inr (Or.inr (Or.inr (Or.inr (Or.inr (Or.inl (hm 1 inb_S256x2816_S256x256_0_256 h))))))))))
    · exact Or.inr (Or.inr (Or.inr (Or.inr (Or.inr (Or.inr (Or.inr (Or.inr (Or.inr (Or.inr (Or.inl (hm 0 inb_S256x2816_S256x256_0_0 h)))))))))))

end Cert.FfnIdeal.Ffn

end
-- ==== Proof.FfnSpec.lean ====
/- The last layer's FFN as functions of the given arrays, entry by entry: the modulated norm, the up-projection, the
   convolution over neighbouring rows of a sequence, the gated activation, the down-projection, the gated norm. -/
module

public import proofs.«01_k».proof.Proof.FfnChunk
public import proofs.«01_k».proof.Proof.FfnRows

@[expose] public section

set_option maxRecDepth 16384

noncomputable section

namespace Cert.FfnIdeal.Ffn

open Cert.FfnIdeal Cert.FfnIdeal.Gen Idealize.ShloMosaic Idealize.ShloMosaic.TcCoe Idealize.SL.Sem
open Idealize.ShloMosaic.Pipeline (Dat)

/-- The modulation row of a token row: 0 for the prompt's rows, then one per sample sequence. -/
def mrow (R : Fin 8192) : Fin 3 := ⟨if R.val < 4096 then 0 else 1 + (R.val - 4096) / 2048, by split <;> omega⟩

/-- Whether row `R` is the first of its sequence: of 256 rows in the prompt, of 2048 in the sample. -/
def IsFirst (R : Fin 8192) : Prop := (R.val < 4096 ∧ R.val % 256 = 0) ∨ (4096 ≤ R.val ∧ R.val % 2048 = 0)

/-- Whether row `R` is the last of its sequence. -/
def IsLast (R : Fin 8192) : Prop := (R.val < 4096 ∧ R.val % 256 = 255) ∨ (4096 ≤ R.val ∧ R.val % 2048 = 2047)

instance (R : Fin 8192) : Decidable (IsFirst R) := inferInstanceAs (Decidable (_ ∨ _))
instance (R : Fin 8192) : Decidable (IsLast R) := inferInstanceAs (Decidable (_ ∨ _))

variable (x : S8192x1024.Idx → EReal) (md : S4x3x1x6144.Idx → EReal) (g1 g2 : S4x1024.Idx → EReal) (wu : S4x1024x5632.Idx → EReal)
  (cw : S4x3x5632.Idx → EReal) (cb : S4x5632.Idx → EReal) (wd : S4x2816x1024.Idx → EReal)

/-- The modulated norm of row `R`. -/
def hAt (R : Fin 8192) (k : Fin 1024) : EReal :=
  modRow (fun j => x (ix2 R j)) (fun j => g1 (ix2 3 j)) (fun j => md (ix4 3 (mrow R) 0 (⟨4096 + j.val, by omega⟩ : Fin 6144)))
    (fun j => md (ix4 3 (mrow R) 0 (⟨3072 + j.val, by omega⟩ : Fin 6144))) k

/-- The up-projection of row `R` at hidden column `c`. -/
def uAt (R : Fin 8192) (c : Fin 5632) : EReal := ∑ k : Fin 1024, hAt x md g1 R k * wu (ix3 3 k c)

/-- The up-projection of the row before, zero at a sequence's start. -/
def beforeAt (R : Fin 8192) (c : Fin 5632) : EReal := if IsFirst R then 0 else uAt x md g1 wu ⟨R.val - 1, by omega⟩ c

/-- The up-projection of the row after, zero at a sequence's end. -/
def afterAt (R : Fin 8192) (c : Fin 5632) : EReal := if IsLast R then 0 else uAt x md g1 wu ⟨(R.val + 1) % 8192, by omega⟩ c

/-- The convolution at row `R` and hidden column `c`. -/
def cAt (R : Fin 8192) (c : Fin 5632) : EReal :=
  cw (ix3 3 0 c) * beforeAt x md g1 wu R c + cw (ix3 3 1 c) * uAt x md g1 wu R c + cw (ix3 3 2 c) * afterAt x md g1 wu R c + cb (ix2 3 c)

/-- The activation at row `R` and column `j`. -/
def aAt (R : Fin 8192) (j : Fin 2816) : EReal :=
  silu (cAt x md g1 wu cw cb R ⟨2816 + j.val, by omega⟩) * cAt x md g1 wu cw cb R ⟨j.val, by omega⟩

/-- The down-projection of row `R` at column `k`. -/
def yAt (R : Fin 8192) (k : Fin 1024) : EReal := ∑ j : Fin 2816, aAt x md g1 wu cw cb R j * wd (ix3 3 j k)

/-- The FFN's result at row `R` and column `k`. -/
def ffnAt (R : Fin 8192) (k : Fin 1024) : EReal :=
  x (ix2 R k) + md (ix4 3 (mrow R) 0 (⟨5120 + k.val, by omega⟩ : Fin 6144)) * rms (yAt x md g1 wu cw cb wd R) (fun j => g2 (ix2 3 j)) k

end Cert.FfnIdeal.Ffn

end
-- ==== Proof.FfnArray.lean ====
/- The FFN as a whole: the output array after the run, entry by entry. -/
module

public import proofs.«01_k».proof.Proof.FfnBlock
public import proofs.«01_k».proof.Proof.Gen.FfnIdeal.Value
public import proofs.«01_k».proof.Proof.FfnSpec

@[expose] public section

set_option maxRecDepth 16384

noncomputable section

namespace Cert.FfnIdeal.Ffn

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- There are 32 points. -/
theorem lt32 (t : Fin cfg0.N) : t.val < 32 := t.isLt

/-- Which blocks point `t` reads of the rows, the modulations and the gains. -/
theorem index_facts : ∀ t : Fin cfg0.N,
    (win0_0.index t 0 = t.val ∧ win0_0.index t 1 = 0) ∧ (win0_1.index t 0 = 32 * t.val - 1 ∧ win0_1.index t 1 = 0)
    ∧ (win0_2.index t 0 = min (32 * t.val + 32) 1023 ∧ win0_2.index t 1 = 0)
    ∧ (win0_3.index t 0 = 3 ∧ win0_3.index t 1 = (if t.val < 16 then 0 else 1 + (t.val - 16) / 8) ∧ win0_3.index t 2 = 0 ∧ win0_3.index t 3 = 0)
    ∧ (win0_4.index t 0 = 3 ∧ win0_4.index t 1 = 0 ∧ win0_4.index t 2 = 0)
    ∧ (win0_5.index t 0 = 3 ∧ win0_5.index t 1 = 0 ∧ win0_5.index t 2 = 0) :=
  (by decide +kernel : ∀ t : Fin grid0.N,
    (win0_0.index t 0 = t.val ∧ win0_0.index t 1 = 0) ∧ (win0_1.index t 0 = 32 * t.val - 1 ∧ win0_1.index t 1 = 0)
    ∧ (win0_2.index t 0 = min (32 * t.val + 32) 1023 ∧ win0_2.index t 1 = 0)
    ∧ (win0_3.index t 0 = 3 ∧ win0_3.index t 1 = (if t.val < 16 then 0 else 1 + (t.val - 16) / 8) ∧ win0_3.index t 2 = 0 ∧ win0_3.index t 3 = 0)
    ∧ (win0_4.index t 0 = 3 ∧ win0_4.index t 1 = 0 ∧ win0_4.index t 2 = 0)
    ∧ (win0_5.index t 0 = 3 ∧ win0_5.index t 1 = 0 ∧ win0_5.index t 2 = 0))

/-- The weights are read whole; point `t` writes the rows from `256 t`. -/
theorem index_rest : ∀ t : Fin cfg0.N,
    (win0_6.index t 0 = 0 ∧ win0_6.index t 1 = 0) ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = t.val ∧ win0_10.index t 1 = 0) :=
  (by decide +kernel : ∀ t : Fin grid0.N,
    (win0_6.index t 0 = 0 ∧ win0_6.index t 1 = 0) ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = t.val ∧ win0_10.index t 1 = 0))

/-- The neighbours' bits at point `t`: only the sample's tiles have neighbours, and only inside a sequence of eight tiles. -/
theorem bits : ∀ t : Fin cfg0.N,
    prevBit (BitVec.ofNat 32 ((grid0.coords t) 0).val) = (if 16 ≤ t.val ∧ (t.val - 16) % 8 ≠ 0 then 1#1 else 0#1)
    ∧ nextBit (BitVec.ofNat 32 ((grid0.coords t) 0).val) = (if 16 ≤ t.val ∧ (t.val - 16) % 8 ≠ 7 then 1#1 else 0#1) :=
  (by decide +kernel : ∀ t : Fin grid0.N,
    prevBit (BitVec.ofNat 32 ((grid0.coords t) 0).val) = (if 16 ≤ t.val ∧ (t.val - 16) % 8 ≠ 0 then 1#1 else 0#1)
    ∧ nextBit (BitVec.ofNat 32 ((grid0.coords t) 0).val) = (if 16 ≤ t.val ∧ (t.val - 16) % 8 ≠ 7 then 1#1 else 0#1))

/-- The first gain as the kernel reads it. -/
theorem V_g1 (c : Dev nD) (l : Fin 4) (j : Fin 1024) : V m c main_v0 (ix3 l 0 j) = m ((c : Thread nD τ).loc main_arg2) (ix2 l j) := by
  unfold V
  after_results_simp
  generalize hX : m ((c : Thread nD τ).loc main_arg2) = X
  change S4x1024.Idx → EReal at X
  show shapeCast S4x1x1024 X shapeCasts_S4x1024_S4x1x1024 (ix3 l 0 j) = _
  pointwise []

/-- The second gain as the kernel reads it. -/
theorem V_g2 (c : Dev nD) (l : Fin 4) (j : Fin 1024) : V m c main_v1 (ix3 l 0 j) = m ((c : Thread nD τ).loc main_arg3) (ix2 l j) := by
  unfold V
  after_results_simp
  generalize hX : m ((c : Thread nD τ).loc main_arg3) = X
  change S4x1024.Idx → EReal at X
  show shapeCast S4x1x1024 X shapeCasts_S4x1024_S4x1x1024 (ix3 l 0 j) = _
  pointwise []

/-- The up-projection as the kernel reads it. -/
theorem V_wu (c : Dev nD) (k : Fin 1024) (j : Fin 5632) : V m c main_v4 (ix2 k j) = m ((c : Thread nD τ).loc main_arg4) (ix3 3 k j) := by
  unfold V
  after_results_simp
  generalize hX : m ((c : Thread nD τ).loc main_arg4) = X
  change S4x1024x5632.Idx → EReal at X
  show truncf (F := Ideal) FTy.bf16 (fun i => shapeCast S1024x5632 (extractStridedSlice S1x1024x5632 ![3, 0, 0] X slices_S4x1024x5632_S1x1024x5632_3_0_0) shapeCasts_S1x1024x5632_S1024x5632 i) bitsLt_bf16_f32 (ix2 k j) = _
  pointwise []

/-- The taps as the kernel reads them. -/
theorem V_cw (c : Dev nD) (k : Fin 3) (j : Fin 5632) : V m c main_v6 (ix2 k j) = m ((c : Thread nD τ).loc main_arg5) (ix3 3 k j) := by
  unfold V
  after_results_simp
  generalize hX : m ((c : Thread nD τ).loc main_arg5) = X
  change S4x3x5632.Idx → EReal at X
  show shapeCast S3x5632 (extractStridedSlice S1x3x5632 ![3, 0, 0] X slices_S4x3x5632_S1x3x5632_3_0_0) shapeCasts_S1x3x5632_S3x5632 (ix2 k j) = _
  pointwise []

/-- The bias as the kernel reads it. -/
theorem V_cb (c : Dev nD) (j : Fin 5632) : V m c main_v9 (ix2 0 j) = m ((c : Thread nD τ).loc main_arg6) (ix2 3 j) := by
  unfold V
  after_results_simp
  generalize hX : m ((c : Thread nD τ).loc main_arg6) = X
  change S4x5632.Idx → EReal at X
  show broadcastInDim S1x5632 ![1] bcast_S5632_S1x5632_1 (fun i => shapeCast S5632 (extractStridedSlice S1x5632 ![3, 0] X slices_S4x5632_S1x5632_3_0) shapeCasts_S1x5632_S5632 i) (ix2 0 j) = _
  pointwise []

/-- The down-projection as the kernel reads it. -/
theorem V_wd (c : Dev nD) (k : Fin 2816) (j : Fin 1024) : V m c main_v12 (ix2 k j) = m ((c : Thread nD τ).loc main_arg7) (ix3 3 k j) := by
  unfold V
  after_results_simp
  generalize hX : m ((c : Thread nD τ).loc main_arg7) = X
  change S4x2816x1024.Idx → EReal at X
  show truncf (F := Ideal) FTy.bf16 (fun i => shapeCast S2816x1024 (extractStridedSlice S1x2816x1024 ![3, 0, 0] X slices_S4x2816x1024_S1x2816x1024_3_0_0) shapeCasts_S1x2816x1024_S2816x1024 i) bitsLt_bf16_f32 (ix2 k j) = _
  pointwise []

/-- The rows' block is the tile's 256 rows. -/
theorem iblk0_apply (c : Dev nD) (t : Fin cfg0.N) (r : Fin 256) (k : Fin 1024) :
    iblk m c 0 t (ix2 r k) = m ((c : Thread nD τ).loc main_arg0) (ix2 (⟨256 * t.val + r.val, by have := lt32 t; omega⟩ : Fin 8192) k) := by
  unfold iblk
  have hV : V m c (Pipeline.arrRef spec0 0) = m ((c : Thread nD τ).loc main_arg0) := V_main_arg0 m c
  rw [hV]
  show m ((c : Thread nD τ).loc main_arg0) _ = _
  congr 1
  funext a
  apply Fin.ext
  match a with
  | ⟨0, _⟩ =>
    show win0_0.index t 0 * 256 + 1 * r.val = _
    rw [(index_facts t).1.1]; show _ = 256 * t.val + r.val; omega
  | ⟨1, _⟩ =>
    show win0_0.index t 1 * 1024 + 1 * k.val = _
    rw [(index_facts t).1.2]; show _ = k.val; omega

/-- The eight rows before the tile (of the first tile its own first eight). -/
theorem iblk1_apply (c : Dev nD) (t : Fin cfg0.N) (r : Fin 8) (k : Fin 1024) :
    iblk m c 1 t (ix2 r k) = m ((c : Thread nD τ).loc main_arg0) (ix2 (⟨8 * (32 * t.val - 1) + r.val, by have := lt32 t; omega⟩ : Fin 8192) k) := by
  unfold iblk
  have hV : V m c (Pipeline.arrRef spec0 1) = m ((c : Thread nD τ).loc main_arg0) := V_main_arg0 m c
  rw [hV]
  show m ((c : Thread nD τ).loc main_arg0) _ = _
  congr 1
  funext a
  apply Fin.ext
  match a with
  | ⟨0, _⟩ =>
    show win0_1.index t 0 * 8 + 1 * r.val = _
    rw [(index_facts t).2.1.1]; show _ = 8 * (32 * t.val - 1) + r.val; omega
  | ⟨1, _⟩ =>
    show win0_1.index t 1 * 1024 + 1 * k.val = _
    rw [(index_facts t).2.1.2]; show _ = k.val; omega

/-- The eight rows after the tile (of the last tile its own last eight). -/
theorem iblk2_apply (c : Dev nD) (t : Fin cfg0.N) (r : Fin 8) (k : Fin 1024) :
    iblk m c 2 t (ix2 r k) = m ((c : Thread nD τ).loc main_arg0) (ix2 (⟨8 * min (32 * t.val + 32) 1023 + r.val, by have := lt32 t; omega⟩ : Fin 8192) k) := by
  unfold iblk
  have hV : V m c (Pipeline.arrRef spec0 2) = m ((c : Thread nD τ).loc main_arg0) := V_main_arg0 m c
  rw [hV]
  show m ((c : Thread nD τ).loc main_arg0) _ = _
  congr 1
  funext a
  apply Fin.ext
  match a with
  | ⟨0, _⟩ =>
    show win0_2.index t 0 * 8 + 1 * r.val = _
    rw [(index_facts t).2.2.1.1]; show _ = 8 * min (32 * t.val + 32) 1023 + r.val; omega
  | ⟨1, _⟩ =>
    show win0_2.index t 1 * 1024 + 1 * k.val = _
    rw [(index_facts t).2.2.1.2]; show _ = k.val; omega

/-- The tile's modulation row. -/
theorem iblk3_apply (c : Dev nD) (t : Fin cfg0.N) (j : Fin 6144) :
    iblk m c 3 t (ix4 0 0 0 j) = m ((c : Thread nD τ).loc main_arg1) (ix4 3 (⟨if t.val < 16 then 0 else 1 + (t.val - 16) / 8, by have := lt32 t; split <;> omega⟩ : Fin 3) 0 j) := by
  unfold iblk
  have hV : V m c (Pipeline.arrRef spec0 3) = m ((c : Thread nD τ).loc main_arg1) := V_main_arg1 m c
  rw [hV]
  show m ((c : Thread nD τ).loc main_arg1) _ = _
  congr 1
  funext a
  apply Fin.ext
  match a with
  | ⟨0, _⟩ =>
    show win0_3.index t 0 * 1 + 1 * 0 = _
    rw [(index_facts t).2.2.2.1.1]; rfl
  | ⟨1, _⟩ =>
    show win0_3.index t 1 * 1 + 1 * 0 = _
    rw [(index_facts t).2.2.2.1.2.1]; show _ = (if t.val < 16 then 0 else 1 + (t.val - 16) / 8); omega
  | ⟨2, _⟩ =>
    show win0_3.index t 2 * 1 + 1 * 0 = _
    rw [(index_facts t).2.2.2.1.2.2.1]; rfl
  | ⟨3, _⟩ =>
    show win0_3.index t 3 * 6144 + 1 * j.val = _
    rw [(index_facts t).2.2.2.1.2.2.2]; show _ = j.val; omega

/-- The first gain's block is the layer's. -/
theorem iblk4_apply (c : Dev nD) (t : Fin cfg0.N) (j : Fin 1024) :
    iblk m c 4 t (ix3 0 0 j) = m ((c : Thread nD τ).loc main_arg2) (ix2 3 j) := by
  unfold iblk
  refine Eq.trans ?_ (V_g1 m c 3 j)
  show V m c main_v0 _ = V m c main_v0 _
  congr 1
  funext a
  apply Fin.ext
  match a with
  | ⟨0, _⟩ =>
    show win0_4.index t 0 * 1 + 1 * 0 = _
    rw [(index_facts t).2.2.2.2.1.1]; rfl
  | ⟨1, _⟩ =>
    show win0_4.index t 1 * 1 + 1 * 0 = _
    rw [(index_facts t).2.2.2.2.1.2.1]; rfl
  | ⟨2, _⟩ =>
    show win0_4.index t 2 * 1024 + 1 * j.val = _
    rw [(index_facts t).2.2.2.2.1.2.2]; show _ = j.val; omega

/-- The second gain's block is the layer's. -/
theorem iblk5_apply (c : Dev nD) (t : Fin cfg0.N) (j : Fin 1024) :
    iblk m c 5 t (ix3 0 0 j) = m ((c : Thread nD τ).loc main_arg3) (ix2 3 j) := by
  unfold iblk
  refine Eq.trans ?_ (V_g2 m c 3 j)
  show V m c main_v1 _ = V m c main_v1 _
  congr 1
  funext a
  apply Fin.ext
  match a with
  | ⟨0, _⟩ =>
    show win0_5.index t 0 * 1 + 1 * 0 = _
    rw [(index_facts t).2.2.2.2.2.1]; rfl
  | ⟨1, _⟩ =>
    show win0_5.index t 1 * 1 + 1 * 0 = _
    rw [(index_facts t).2.2.2.2.2.2.1]; rfl
  | ⟨2, _⟩ =>
    show win0_5.index t 2 * 1024 + 1 * j.val = _
    rw [(index_facts t).2.2.2.2.2.2.2]; show _ = j.val; omega

/-- The up-projection: the block is the layer's whole array. -/
theorem iblk6_apply (c : Dev nD) (t : Fin cfg0.N) (k : Fin 1024) (j : Fin 5632) :
    iblk m c 6 t (ix2 k j) = m ((c : Thread nD τ).loc main_arg4) (ix3 3 k j) := by
  unfold iblk
  refine Eq.trans ?_ (V_wu m c k j)
  show V m c main_v4 _ = V m c main_v4 _
  congr 1
  funext a
  apply Fin.ext
  match a with
  | ⟨0, _⟩ =>
    show win0_6.index t 0 * 1024 + 1 * k.val = _
    rw [(index_rest t).1.1]; show _ = k.val; omega
  | ⟨1, _⟩ =>
    show win0_6.index t 1 * 5632 + 1 * j.val = _
    rw [(index_rest t).1.2]; show _ = j.val; omega

/-- The taps: the block is the layer's whole array. -/
theorem iblk7_apply (c : Dev nD) (t : Fin cfg0.N) (k : Fin 3) (j : Fin 5632) :
    iblk m c 7 t (ix2 k j) = m ((c : Thread nD τ).loc main_arg5) (ix3 3 k j) := by
  unfold iblk
  refine Eq.trans ?_ (V_cw m c k j)
  show V m c main_v6 _ = V m c main_v6 _
  congr 1
  funext a
  apply Fin.ext
  match a with
  | ⟨0, _⟩ =>
    show win0_7.index t 0 * 3 + 1 * k.val = _
    rw [(index_rest t).2.1.1]; show _ = k.val; omega
  | ⟨1, _⟩ =>
    show win0_7.index t 1 * 5632 + 1 * j.val = _
    rw [(index_rest t).2.1.2]; show _ = j.val; omega

/-- The bias: the block is the layer's whole array. -/
theorem iblk8_apply (c : Dev nD) (t : Fin cfg0.N) (j : Fin 5632) :
    iblk m c 8 t (ix2 0 j) = m ((c : Thread nD τ).loc main_arg6) (ix2 3 j) := by
  unfold iblk
  refine Eq.trans ?_ (V_cb m c j)
  show V m c main_v9 _ = V m c main_v9 _
  congr 1
  funext a
  apply Fin.ext
  match a with
  | ⟨0, _⟩ =>
    show win0_8.index t 0 * 1 + 1 * 0 = _
    rw [(index_rest t).2.2.1.1]; rfl
  | ⟨1, _⟩ =>
    show win0_8.index t 1 * 5632 + 1 * j.val = _
    rw [(index_rest t).2.2.1.2]; show _ = j.val; omega

/-- The down-projection: the block is the layer's whole array. -/
theorem iblk9_apply (c : Dev nD) (t : Fin cfg0.N) (k : Fin 2816) (j : Fin 1024) :
    iblk m c 9 t (ix2 k j) = m ((c : Thread nD τ).loc main_arg7) (ix3 3 k j) := by
  unfold iblk
  refine Eq.trans ?_ (V_wd m c k j)
  show V m c main_v12 _ = V m c main_v12 _
  congr 1
  funext a
  apply Fin.ext
  match a with
  | ⟨0, _⟩ =>
    show win0_9.index t 0 * 2816 + 1 * k.val = _
    rw [(index_rest t).2.2.2.1.1]; show _ = k.val; omega
  | ⟨1, _⟩ =>
    show win0_9.index t 1 * 1024 + 1 * j.val = _
    rw [(index_rest t).2.2.2.1.2]; show _ = j.val; omega

/-- The modulation row of a tile's rows. -/
theorem mrow_tile (t : Fin cfg0.N) (R : Fin 8192) (h : R.val / 256 = t.val) :
    mrow R = (⟨if t.val < 16 then 0 else 1 + (t.val - 16) / 8, by have := lt32 t; split <;> omega⟩ : Fin 3) := by
  have ht := lt32 t
  apply Fin.ext
  show (if R.val < 4096 then 0 else 1 + (R.val - 4096) / 2048) = if t.val < 16 then 0 else 1 + (t.val - 16) / 8
  split <;> split <;> omega

/-- A row normed and modulated under the tile's blocks is `hAt` of a row of the tile's sequence. -/
theorem rowAt_tile (c : Dev nD) (t : Fin cfg0.N) (R : Fin 8192) (hm : mrow R = (⟨if t.val < 16 then 0 else 1 + (t.val - 16) / 8, by have := lt32 t; split <;> omega⟩ : Fin 3))
    (v : Fin 1024 → EReal) (hv : ∀ j, v j = m ((c : Thread nD τ).loc main_arg0) (ix2 R j)) (k : Fin 1024) :
    rowAt (iblk m c 3 t) (iblk m c 4 t) v k = hAt (m ((c : Thread nD τ).loc main_arg0)) (m ((c : Thread nD τ).loc main_arg1)) (m ((c : Thread nD τ).loc main_arg2)) R k := by
  unfold rowAt hAt
  rw [hm, funext hv]
  simp only [iblk3_apply, iblk4_apply]

/-- The rows the tile hands to the up-projection. -/
abbrev tileH (c : Dev nD) (t : Fin cfg0.N) : Vec Ideal S272x1024 .bf16 :=
  hArr (iblk m c 0 t) (iblk m c 1 t) (iblk m c 2 t) (iblk m c 3 t) (iblk m c 4 t)
    (prevBit (BitVec.ofNat 32 ((grid0.coords t) 0).val)) (nextBit (BitVec.ofNat 32 ((grid0.coords t) 0).val))

/-- Up-projections of rows that agree with a given row. -/
theorem up_of_row (c : Dev nD) (t : Fin cfg0.N) (q : Fin 272) (R : Fin 8192) (h : ∀ k, tileH m c t (ix2 q k) = hAt (m ((c : Thread nD τ).loc main_arg0)) (m ((c : Thread nD τ).loc main_arg1)) (m ((c : Thread nD τ).loc main_arg2)) R k) (j : Fin 5632) :
    upCol (tileH m c t) (iblk m c 6 t) q j = uAt (m ((c : Thread nD τ).loc main_arg0)) (m ((c : Thread nD τ).loc main_arg1)) (m ((c : Thread nD τ).loc main_arg2)) (m ((c : Thread nD τ).loc main_arg4)) R j := by
  unfold upCol uAt
  exact Finset.sum_congr rfl fun k _ => congrArg₂ (· * ·) (h k) (iblk6_apply m c t k j)

/-- The up-projection of a row of zeros is zero. -/
theorem up_of_zero (c : Dev nD) (t : Fin cfg0.N) (q : Fin 272) (h : ∀ k, tileH m c t (ix2 q k) = 0) (j : Fin 5632) :
    upCol (tileH m c t) (iblk m c 6 t) q j = 0 := by
  unfold upCol
  refine Finset.sum_eq_zero fun k _ => ?_
  rw [h k]
  exact zero_mul _

/-- The tile's own rows. -/
theorem tileH_own (c : Dev nD) (t : Fin cfg0.N) (q : Fin 272) (hq : q.val < 256) (R : Fin 8192) (hR : R.val = 256 * t.val + q.val) (k : Fin 1024) :
    tileH m c t (ix2 q k) = hAt (m ((c : Thread nD τ).loc main_arg0)) (m ((c : Thread nD τ).loc main_arg1)) (m ((c : Thread nD τ).loc main_arg2)) R k := by
  show hRow _ _ _ _ _ _ _ q k = _
  unfold hRow
  rw [dif_pos hq]
  refine rowAt_tile m c t R (mrow_tile t R (by omega)) _ (fun j => ?_) k
  rw [iblk0_apply]
  exact congrArg (fun z => m ((c : Thread nD τ).loc main_arg0) (ix2 z j)) (Fin.ext hR.symm)

/-- The up-projection of the tile's own row. -/
theorem up_own (c : Dev nD) (t : Fin cfg0.N) (q : Fin 272) (hq : q.val < 256) (R : Fin 8192) (hR : R.val = 256 * t.val + q.val) (j : Fin 5632) :
    upCol (tileH m c t) (iblk m c 6 t) q j = uAt (m ((c : Thread nD τ).loc main_arg0)) (m ((c : Thread nD τ).loc main_arg1)) (m ((c : Thread nD τ).loc main_arg2)) (m ((c : Thread nD τ).loc main_arg4)) R j :=
  up_of_row m c t q R (tileH_own m c t q hq R hR) j

/-- The up-projection of the row before, which the tile rolls in from the row above or from its last row. -/
theorem up_before (c : Dev nD) (t : Fin cfg0.N) (r : Fin 256) (R : Fin 8192) (hR : R.val = 256 * t.val + r.val) (j : Fin 5632) :
    upCol (tileH m c t) (iblk m c 6 t) ⟨(r.val + 272 - 1) % 272, by omega⟩ j = beforeAt (m ((c : Thread nD τ).loc main_arg0)) (m ((c : Thread nD τ).loc main_arg1)) (m ((c : Thread nD τ).loc main_arg2)) (m ((c : Thread nD τ).loc main_arg4)) R j := by
  have ht := lt32 t
  have hr := r.isLt
  unfold beforeAt
  by_cases h0 : r.val = 0
  · by_cases hp : 16 ≤ t.val ∧ (t.val - 16) % 8 ≠ 0
    · rw [if_neg (by unfold IsFirst; omega)]
      refine up_of_row m c t _ _ (fun k => ?_) j
      show hRow _ _ _ _ _ _ _ _ k = _
      unfold hRow
      rw [dif_neg (by show ¬ ((r.val + 272 - 1) % 272 < 256); omega), dif_neg (by show ¬ ((r.val + 272 - 1) % 272 - 256 < 8); omega), (bits t).1, if_pos hp]
      show rowAt _ _ _ k = _
      refine rowAt_tile m c t _ ?_ _ (fun j => ?_) k
      · apply Fin.ext
        show (if R.val - 1 < 4096 then 0 else 1 + (R.val - 1 - 4096) / 2048) = if t.val < 16 then 0 else 1 + (t.val - 16) / 8
        rw [if_neg (by omega), if_neg (by omega)]; omega
      · rw [iblk1_apply]
        exact congrArg (fun z => m ((c : Thread nD τ).loc main_arg0) (ix2 z j)) (Fin.ext (by show 8 * (32 * t.val - 1) + ((r.val + 272 - 1) % 272 - 256 - 8) = R.val - 1; omega))
    · rw [if_pos (by unfold IsFirst; omega)]
      refine up_of_zero m c t _ (fun k => ?_) j
      show hRow _ _ _ _ _ _ _ _ k = _
      unfold hRow
      rw [dif_neg (by show ¬ ((r.val + 272 - 1) % 272 < 256); omega), dif_neg (by show ¬ ((r.val + 272 - 1) % 272 - 256 < 8); omega), (bits t).1, if_neg hp]
      rfl
  · rw [if_neg (by unfold IsFirst; omega)]
    exact up_own m c t _ (by show (r.val + 272 - 1) % 272 < 256; omega) _ (by show R.val - 1 = 256 * t.val + (r.val + 272 - 1) % 272; omega) j

/-- The up-projection of the row after. -/
theorem up_after (c : Dev nD) (t : Fin cfg0.N) (r : Fin 256) (R : Fin 8192) (hR : R.val = 256 * t.val + r.val) (j : Fin 5632) :
    upCol (tileH m c t) (iblk m c 6 t) ⟨(r.val + 272 - 271) % 272, by omega⟩ j = afterAt (m ((c : Thread nD τ).loc main_arg0)) (m ((c : Thread nD τ).loc main_arg1)) (m ((c : Thread nD τ).loc main_arg2)) (m ((c : Thread nD τ).loc main_arg4)) R j := by
  have ht := lt32 t
  have hr := r.isLt
  unfold afterAt
  by_cases h0 : r.val = 255
  · by_cases hp : 16 ≤ t.val ∧ (t.val - 16) % 8 ≠ 7
    · rw [if_neg (by unfold IsLast; omega)]
      refine up_of_row m c t _ _ (fun k => ?_) j
      show hRow _ _ _ _ _ _ _ _ k = _
      unfold hRow
      rw [dif_neg (by show ¬ ((r.val + 272 - 271) % 272 < 256); omega), dif_pos (by show (r.val + 272 - 271) % 272 - 256 < 8; omega), (bits t).2, if_pos hp]
      show rowAt _ _ _ k = _
      refine rowAt_tile m c t _ ?_ _ (fun j => ?_) k
      · apply Fin.ext
        show (if (R.val + 1) % 8192 < 4096 then 0 else 1 + ((R.val + 1) % 8192 - 4096) / 2048) = if t.val < 16 then 0 else 1 + (t.val - 16) / 8
        rw [if_neg (by omega), if_neg (by omega)]; omega
      · rw [iblk2_apply]
        exact congrArg (fun z => m ((c : Thread nD τ).loc main_arg0) (ix2 z j)) (Fin.ext (by show 8 * min (32 * t.val + 32) 1023 + ((r.val + 272 - 271) % 272 - 256) = (R.val + 1) % 8192; omega))
    · rw [if_pos (by unfold IsLast; omega)]
      refine up_of_zero m c t _ (fun k => ?_) j
      show hRow _ _ _ _ _ _ _ _ k = _
      unfold hRow
      rw [dif_neg (by show ¬ ((r.val + 272 - 271) % 272 < 256); omega), dif_pos (by show (r.val + 272 - 271) % 272 - 256 < 8; omega), (bits t).2, if_neg hp]
      rfl
  · rw [if_neg (by unfold IsLast; omega)]
    exact up_own m c t _ (by show (r.val + 272 - 271) % 272 < 256; omega) _ (by show (R.val + 1) % 8192 = 256 * t.val + (r.val + 272 - 271) % 272; omega) j

/-- The convolution of the tile's row. -/
theorem conv_tile (c : Dev nD) (t : Fin cfg0.N) (r : Fin 256) (R : Fin 8192) (hR : R.val = 256 * t.val + r.val) (j : Fin 5632) :
    convCol (tileH m c t) (iblk m c 6 t) (iblk m c 7 t) (iblk m c 8 t) r j = cAt (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) R j := by
  unfold convCol cAt
  rw [up_before m c t r R hR j, up_after m c t r R hR j, up_own m c t ⟨r.val, by omega⟩ r.isLt R hR j, iblk7_apply, iblk7_apply, iblk7_apply, iblk8_apply]

/-- The activation of the tile's row. -/
theorem act_tile (c : Dev nD) (t : Fin cfg0.N) (r : Fin 256) (R : Fin 8192) (hR : R.val = 256 * t.val + r.val) (j : Fin 2816) :
    actAt (tileH m c t) (iblk m c 6 t) (iblk m c 7 t) (iblk m c 8 t) r j = aAt (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) R j := by
  unfold actAt aAt
  rw [conv_tile m c t r R hR, conv_tile m c t r R hR]

/-- The output array of device `c`. -/
def out (c : Dev nD) : S8192x1024.Idx → EReal := fun i => ffnAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1)

/-- What a point leaves at an entry of its block is the output array's value at the entry it lands on. -/
theorem outs_apply (c : Dev nD) (t : Fin cfg0.N) (r : Fin 256) (k : Fin 1024) :
    outsAt0 m c t (ix2 r k) = out m c (ix2 (⟨256 * t.val + r.val, by have := lt32 t; omega⟩ : Fin 8192) k) := by
  have ht := lt32 t
  rw [outs_eq]
  show blockAt _ _ _ _ _ _ _ _ _ _ _ _ r k = ffnAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (⟨256 * t.val + r.val, by omega⟩ : Fin 8192) k
  unfold blockAt ffnAt yAt
  rw [iblk0_apply, iblk3_apply, mrow_tile t _ (by show (256 * t.val + r.val) / 256 = t.val; omega)]
  refine congrArg₂ (fun a b : EReal => a + b) rfl (congrArg₂ (fun a b : EReal => a * b) rfl ?_)
  refine congrFun (congrArg₂ rms (funext fun k => Finset.sum_congr rfl fun j _ => congrArg₂ (· * ·) ?_ (iblk9_apply m c t j k)) (funext fun j => iblk5_apply m c t j)) k
  exact act_tile m c t r _ rfl j

/-- What point `t` writes back is its block of the output array. -/
theorem flushed_eq (c : Dev nD) (t : Fin cfg0.N) :
    (dats m 0 c).flushed 10 t = ((cfg0.win 10).blk t).view.read (Elt Ideal) (out m c) := by
  rw [Value.flushed10]
  funext y
  obtain ⟨r, e, rfl⟩ : ∃ (r : Fin 256) (e : Fin 1024), y = ix2 r e := ⟨y 0, y 1, eq_ix2 y⟩
  refine (outs_apply m c t r e).trans ?_
  show out m c _ = out m c _
  congr 1
  funext a
  apply Fin.ext
  match a with
  | ⟨0, _⟩ =>
    show 256 * t.val + r.val = win0_10.index t 0 * 256 + 1 * r.val
    rw [(index_rest t).2.2.2.2.1]; omega
  | ⟨1, _⟩ =>
    show e.val = win0_10.index t 1 * 1024 + 1 * e.val
    rw [(index_rest t).2.2.2.2.2]; omega

/-- An index lies in point `t`'s output block when its row is among the block's 256. -/
theorem mem_blk (t : Fin cfg0.N) (i : S8192x1024.Idx) :
    i ∈ ((cfg0.win 10).blk t).view.set ↔ ∀ a, win0_10.index t a * win0_10.size a ≤ (i a : Nat) ∧ (i a : Nat) < win0_10.index t a * win0_10.size a + win0_10.xsize (grid0.coords t) a := by
  show i ∈ ((View.whole main_v13).slice (win0_10.rect t)).set ↔ _
  rw [View.set_slice_whole, Rect.mem_set_unit]

/-- THE KERNEL'S RESULT: the output array after the run. -/
theorem arr_eq (c : Dev nD) : (dats m 0 c).arrAt 10 cfg0.N = out m c := by
  refine Dat.arrAt_eq_of_cover (dats m 0 c) 10 (out m c) (fun t _ => flushed_eq m c t) fun i => ?_
  obtain ⟨R, C, rfl⟩ : ∃ (R : Fin 8192) (C : Fin 1024), i = ix2 R C := ⟨i 0, i 1, eq_ix2 i⟩
  refine ⟨(⟨R.val / 256, by show R.val / 256 < 32; omega⟩ : Fin cfg0.N), flush0_10 _, ?_⟩
  rw [mem_blk]
  intro a
  match a with
  | ⟨0, _⟩ =>
    show win0_10.index _ 0 * 256 ≤ R.val ∧ R.val < win0_10.index _ 0 * 256 + 256
    rw [(index_rest _).2.2.2.2.1]; show R.val / 256 * 256 ≤ R.val ∧ R.val < R.val / 256 * 256 + 256; omega
  | ⟨1, _⟩ =>
    show win0_10.index _ 1 * 1024 ≤ C.val ∧ C.val < win0_10.index _ 1 * 1024 + 1024
    rw [(index_rest _).2.2.2.2.2]; omega

end Cert.FfnIdeal.Ffn

end
-- ==== Proof.FfnRef.lean ====
/- The plain FFN, read entry by entry: its prompt part and its sample part are the row function of the whole. -/
module

public import proofs.«01_k».proof.Proof.FfnSpec
public import proofs.«01_k».proof.Proof.Gen.FfnRefIdeal.Read

@[expose] public section

set_option maxRecDepth 16384

noncomputable section

namespace Cert.FfnIdeal.Ffn

open Cert.FfnRefIdeal Cert.FfnRefIdeal.Read Idealize.ShloMosaic Idealize.ShloMosaic.TcCoe

variable (x : S8192x1024.Idx → EReal) (md : S4x3x1x6144.Idx → EReal) (g1 g2 : S4x1024.Idx → EReal) (wu : S4x1024x5632.Idx → EReal)
  (cw : S4x3x5632.Idx → EReal) (cb : S4x5632.Idx → EReal) (wd : S4x2816x1024.Idx → EReal)

/-- Row `r` of the prompt's sequence `b`. -/
def rowP (b : Fin 16) (r : Fin 256) : Fin 8192 := ⟨b.val * 256 + r.val, by omega⟩

/-- Row `r` of the sample's sequence `b`. -/
def rowS (b : Fin 2) (r : Fin 2048) : Fin 8192 := ⟨4096 + (b.val * 2048 + r.val), by omega⟩

/-- The prompt's rows have the first modulation row. -/
theorem mrow_P (b : Fin 16) (r : Fin 256) : mrow (rowP b r) = 0 :=
  Fin.ext (by show (if b.val * 256 + r.val < 4096 then 0 else 1 + (b.val * 256 + r.val - 4096) / 2048) = 0; rw [if_pos (by omega)])

/-- The sample's sequences have one modulation row each. -/
theorem mrow_S (b : Fin 2) (r : Fin 2048) : mrow (rowS b r) = ⟨1 + b.val, by omega⟩ :=
  Fin.ext (by
    show (if 4096 + (b.val * 2048 + r.val) < 4096 then 0 else 1 + (4096 + (b.val * 2048 + r.val) - 4096) / 2048) = 1 + b.val
    rw [if_neg (by omega)]; omega)

/-- The prompt's modulated norms. -/
theorem h_P (b : Fin 16) (r : Fin 256) (k : Fin 1024) : val_main_v40 (F := Ideal) x md g1 (ix3 b r k) = hAt x md g1 (rowP b r) k := by
  pointwise [val_main_v8, val_main_v9, val_main_v10, val_main_v11, val_main_v15, val_main_v16, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_cst, val_main_cst_0, val_main_cst_1, val_main_cst_2]
  unfold hAt
  rw [mrow_P]
  rfl

/-- The prompt's up-projections. -/
theorem u_P (b : Fin 16) (r : Fin 256) (j : Fin 5632) : val_main_v41 (F := Ideal) x md g1 wu (ix3 b r j) = uAt x md g1 wu (rowP b r) j := by
  pointwise [val_main_v41, val_main_v0, val_main_v1]
  unfold uAt
  exact Finset.sum_congr rfl fun k _ => congrArg (fun z => z * wu (ix3 3 k j)) (h_P x md g1 b r k)

/-- The prompt's up-projections of the rows before. -/
theorem before_P (b : Fin 16) (r : Fin 256) (j : Fin 5632) : val_main_v45 (F := Ideal) x md g1 wu (ix3 b r j) = beforeAt x md g1 wu (rowP b r) j := by
  pointwise [val_main_v45, val_main_v43, val_main_v44, val_main_cst_3]
  unfold beforeAt
  by_cases h : r.val = 0
  · refine (dif_pos (by omega)).trans (Eq.trans ?_ (if_pos (show IsFirst (rowP b r) by unfold IsFirst rowP; dsimp only; omega)).symm)
    simp [Ideal.ofBits_zero_f32]
  · refine (dif_neg (by omega)).trans (Eq.trans ?_ (if_neg (show ¬ IsFirst (rowP b r) by unfold IsFirst rowP; dsimp only; omega)).symm)
    rw [u_P]
    exact congrArg (fun z => uAt x md g1 wu z j) (Fin.ext (by unfold rowP; dsimp only; omega))

/-- The prompt's up-projections of the rows after. -/
theorem after_P (b : Fin 16) (r : Fin 256) (j : Fin 5632) : val_main_v47 (F := Ideal) x md g1 wu (ix3 b r j) = afterAt x md g1 wu (rowP b r) j := by
  pointwise [val_main_v47, val_main_v43, val_main_v46, val_main_cst_3]
  unfold afterAt
  by_cases h : r.val = 255
  · refine (dif_neg (by omega)).trans (Eq.trans ?_ (if_pos (show IsLast (rowP b r) by unfold IsLast rowP; dsimp only; omega)).symm)
    simp [Ideal.ofBits_zero_f32]
  · refine (dif_pos (by omega)).trans (Eq.trans ?_ (if_neg (show ¬ IsLast (rowP b r) by unfold IsLast rowP; dsimp only; omega)).symm)
    rw [u_P]
    exact congrArg (fun z => uAt x md g1 wu z j) (Fin.ext (by unfold rowP; dsimp only; omega))

/-- The prompt's convolutions. -/
theorem c_P (b : Fin 16) (r : Fin 256) (j : Fin 5632) : val_main_v67 (F := Ideal) x md g1 wu cw cb (ix3 b r j) = cAt x md g1 wu cw cb (rowP b r) j := by
  pointwise [val_main_v2, val_main_v3, val_main_v4, val_main_v5, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67]
  rw [before_P, after_P, u_P]
  rfl

/-- The prompt's activations. -/
theorem a_P (b : Fin 16) (r : Fin 256) (j : Fin 2816) : val_main_v71 (F := Ideal) x md g1 wu cw cb (ix3 b r j) = aAt x md g1 wu cw cb (rowP b r) j := by
  pointwise [val_main_v68, val_main_v69, val_main_v70, val_main_v71, val_main_call0_v0, val_main_call0_v1, val_main_call0_cst, val_main_call0_v2, val_main_call0_v3, val_main_call0_cst_0, val_main_call0_v4, val_main_call0_v5]
  rw [c_P, c_P]
  unfold aAt silu
  rw [zero_sub]

/-- The prompt's down-projections. -/
theorem y_P (b : Fin 16) (r : Fin 256) (k : Fin 1024) : val_main_v72 (F := Ideal) x md g1 wu cw cb wd (ix3 b r k) = yAt x md g1 wu cw cb wd (rowP b r) k := by
  pointwise [val_main_v72, val_main_v6, val_main_v7]
  unfold yAt
  exact Finset.sum_congr rfl fun j _ => congrArg (fun z => z * wd (ix3 3 j k)) (a_P x md g1 wu cw cb b r j)

/-- The prompt's results. -/
theorem out_P (b : Fin 16) (r : Fin 256) (k : Fin 1024) :
    val_main_v91 (F := Ideal) x md g1 g2 wu cw cb wd (ix3 b r k) = ffnAt x md g1 g2 wu cw cb wd (rowP b r) k := by
  pointwise [val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v8, val_main_v9, val_main_v10, val_main_v11, val_main_v17, val_main_cst_4, val_main_cst_5, val_main_cst_6]
  simp only [y_P]
  unfold ffnAt rms
  rw [mrow_P]
  rfl

/-- The sample's modulated norms. -/
theorem h_S (b : Fin 2) (r : Fin 2048) (k : Fin 1024) : val_main_v122 (F := Ideal) x md g1 (ix3 b r k) = hAt x md g1 (rowS b r) k := by
  pointwise [val_main_v92, val_main_v93, val_main_v94, val_main_v95, val_main_v99, val_main_v100, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_cst_7, val_main_cst_8, val_main_cst_9, val_main_cst_10]
  unfold hAt
  rw [mrow_S]
  rfl

/-- The sample's up-projections. -/
theorem u_S (b : Fin 2) (r : Fin 2048) (j : Fin 5632) : val_main_v123 (F := Ideal) x md g1 wu (ix3 b r j) = uAt x md g1 wu (rowS b r) j := by
  pointwise [val_main_v123, val_main_v0, val_main_v1]
  unfold uAt
  exact Finset.sum_congr rfl fun k _ => congrArg (fun z => z * wu (ix3 3 k j)) (h_S x md g1 b r k)

/-- The sample's up-projections of the rows before. -/
theorem before_S (b : Fin 2) (r : Fin 2048) (j : Fin 5632) : val_main_v127 (F := Ideal) x md g1 wu (ix3 b r j) = beforeAt x md g1 wu (rowS b r) j := by
  pointwise [val_main_v127, val_main_v125, val_main_v126, val_main_cst_11]
  unfold beforeAt
  by_cases h : r.val = 0
  · refine (dif_pos (by omega)).trans (Eq.trans ?_ (if_pos (show IsFirst (rowS b r) by unfold IsFirst rowS; dsimp only; omega)).symm)
    simp [Ideal.ofBits_zero_f32]
  · refine (dif_neg (by omega)).trans (Eq.trans ?_ (if_neg (show ¬ IsFirst (rowS b r) by unfold IsFirst rowS; dsimp only; omega)).symm)
    rw [u_S]
    exact congrArg (fun z => uAt x md g1 wu z j) (Fin.ext (by unfold rowS; dsimp only; omega))

/-- The sample's up-projections of the rows after. -/
theorem after_S (b : Fin 2) (r : Fin 2048) (j : Fin 5632) : val_main_v129 (F := Ideal) x md g1 wu (ix3 b r j) = afterAt x md g1 wu (rowS b r) j := by
  pointwise [val_main_v129, val_main_v125, val_main_v128, val_main_cst_11]
  unfold afterAt
  by_cases h : r.val = 2047
  · refine (dif_neg (by omega)).trans (Eq.trans ?_ (if_pos (show IsLast (rowS b r) by unfold IsLast rowS; dsimp only; omega)).symm)
    simp [Ideal.ofBits_zero_f32]
  · refine (dif_pos (by omega)).trans (Eq.trans ?_ (if_neg (show ¬ IsLast (rowS b r) by unfold IsLast rowS; dsimp only; omega)).symm)
    rw [u_S]
    exact congrArg (fun z => uAt x md g1 wu z j) (Fin.ext (by unfold rowS; dsimp only; omega))

/-- The sample's convolutions. -/
theorem c_S (b : Fin 2) (r : Fin 2048) (j : Fin 5632) : val_main_v149 (F := Ideal) x md g1 wu cw cb (ix3 b r j) = cAt x md g1 wu cw cb (rowS b r) j := by
  pointwise [val_main_v2, val_main_v3, val_main_v4, val_main_v5, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149]
  rw [before_S, after_S, u_S]
  rfl

/-- The sample's activations. -/
theorem a_S (b : Fin 2) (r : Fin 2048) (j : Fin 2816) : val_main_v153 (F := Ideal) x md g1 wu cw cb (ix3 b r j) = aAt x md g1 wu cw cb (rowS b r) j := by
  pointwise [val_main_v150, val_main_v151, val_main_v152, val_main_v153, val_main_call1_v0, val_main_call1_v1, val_main_call1_cst, val_main_call1_v2, val_main_call1_v3, val_main_call1_cst_0, val_main_call1_v4, val_main_call1_v5]
  rw [c_S, c_S]
  unfold aAt silu
  rw [zero_sub]

/-- The sample's down-projections. -/
theorem y_S (b : Fin 2) (r : Fin 2048) (k : Fin 1024) : val_main_v154 (F := Ideal) x md g1 wu cw cb wd (ix3 b r k) = yAt x md g1 wu cw cb wd (rowS b r) k := by
  pointwise [val_main_v154, val_main_v6, val_main_v7]
  unfold yAt
  exact Finset.sum_congr rfl fun j _ => congrArg (fun z => z * wd (ix3 3 j k)) (a_S x md g1 wu cw cb b r j)

/-- The sample's results. -/
theorem out_S (b : Fin 2) (r : Fin 2048) (k : Fin 1024) :
    val_main_v172 (F := Ideal) x md g1 g2 wu cw cb wd (ix3 b r k) = ffnAt x md g1 g2 wu cw cb wd (rowS b r) k := by
  pointwise [val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v92, val_main_v93, val_main_v94, val_main_v95, val_main_v101, val_main_cst_12, val_main_cst_13, val_main_cst_14]
  simp only [y_S]
  unfold ffnAt rms
  rw [mrow_S]
  rfl

/-- The whole result. -/
theorem ref_apply (R : Fin 8192) (k : Fin 1024) :
    val_main_v175 (F := Ideal) x md g1 g2 wu cw cb wd (ix2 R k) = ffnAt x md g1 g2 wu cw cb wd R k := by
  pointwise [val_main_v173, val_main_v174, val_main_v175]
  by_cases h : R.val < 4096
  · refine (dif_pos h).trans ((out_P x md g1 g2 wu cw cb wd _ _ k).trans ?_)
    exact congrArg (fun z => ffnAt x md g1 g2 wu cw cb wd z k) (Fin.ext (by unfold rowP; dsimp only; omega))
  · refine (dif_neg h).trans ((out_S x md g1 g2 wu cw cb wd _ _ k).trans ?_)
    exact congrArg (fun z => ffnAt x md g1 g2 wu cw cb wd z k) (Fin.ext (by unfold rowS; dsimp only; omega))

end Cert.FfnIdeal.Ffn

end
-- ==== Proof.FfnClaim.lean ====
/- The value claim of the FFN: kernel and reference leave the same array. -/
module

public import proofs.«01_k».proof.Defs
public import proofs.«01_k».proof.Proof.FfnArray
public import proofs.«01_k».proof.Proof.FfnRef

@[expose] public section

noncomputable section

namespace Cert.FfnIdeal.Ffn

open Idealize.ShloMosaic Idealize.ShloMosaic.TcCoe Idealize.SL.Sem

/-- THE VALUE CLAIM: from equal arguments the kernel and the reference both run to the end, keep their arguments, and
    leave the same array. -/
theorem algebraic : Cert.algebraic_FfnIdeal_FfnRefIdeal := by
  intro m ρ m' ρ' _ hag
  refine ⟨fun c => out m c, ?_, ?_⟩
  · refine (θ_run _ _ _).mono (fun _ h c => ?_) (Cert.FfnIdeal.Value.run_blocks (F := Ideal) m ρ)
    exact ⟨(h c).1.trans (arr_eq m c), (h c).2⟩
  · refine (θ_run _ _ _).mono (fun _ h c => ?_) (Cert.FfnRefIdeal.Value.run (F := Ideal) m' ρ')
    refine ⟨(h c).1.trans ?_, (h c).2⟩
    obtain ⟨h0, h1, h2, h3, h4, h5, h6, h7⟩ := hag c
    refine (Cert.FfnRefIdeal.Read.val_main_v175_eq (StableHlo.launchContents m' c)).trans ?_
    have e0 : StableHlo.launchContents m' c (Proc.devRef .tc Cert.FfnRefIdeal.main_arg0) = m ((c : Thread Cert.FfnIdeal.nD Cert.FfnIdeal.τ).loc Cert.FfnIdeal.main_arg0) := h0
    have e1 : StableHlo.launchContents m' c (Proc.devRef .tc Cert.FfnRefIdeal.main_arg1) = m ((c : Thread Cert.FfnIdeal.nD Cert.FfnIdeal.τ).loc Cert.FfnIdeal.main_arg1) := h1
    have e2 : StableHlo.launchContents m' c (Proc.devRef .tc Cert.FfnRefIdeal.main_arg2) = m ((c : Thread Cert.FfnIdeal.nD Cert.FfnIdeal.τ).loc Cert.FfnIdeal.main_arg2) := h2
    have e3 : StableHlo.launchContents m' c (Proc.devRef .tc Cert.FfnRefIdeal.main_arg3) = m ((c : Thread Cert.FfnIdeal.nD Cert.FfnIdeal.τ).loc Cert.FfnIdeal.main_arg3) := h3
    have e4 : StableHlo.launchContents m' c (Proc.devRef .tc Cert.FfnRefIdeal.main_arg4) = m ((c : Thread Cert.FfnIdeal.nD Cert.FfnIdeal.τ).loc Cert.FfnIdeal.main_arg4) := h4
    have e5 : StableHlo.launchContents m' c (Proc.devRef .tc Cert.FfnRefIdeal.main_arg5) = m ((c : Thread Cert.FfnIdeal.nD Cert.FfnIdeal.τ).loc Cert.FfnIdeal.main_arg5) := h5
    have e6 : StableHlo.launchContents m' c (Proc.devRef .tc Cert.FfnRefIdeal.main_arg6) = m ((c : Thread Cert.FfnIdeal.nD Cert.FfnIdeal.τ).loc Cert.FfnIdeal.main_arg6) := h6
    have e7 : StableHlo.launchContents m' c (Proc.devRef .tc Cert.FfnRefIdeal.main_arg7) = m ((c : Thread Cert.FfnIdeal.nD Cert.FfnIdeal.τ).loc Cert.FfnIdeal.main_arg7) := h7
    rw [e0, e1, e2, e3, e4, e5, e6, e7]
    funext i
    rw [eq_ix2 i]
    exact ref_apply _ _ _ _ _ _ _ _ _ _

end Cert.FfnIdeal.Ffn

end
-- ==== Proof.MixRows.lean ====
/- Rows of a layer's projections: the norm of a row, the modulated norm before a mixer, the gated norm after it, and
   which modulation vectors a token's row has. -/
module

public import Idealize.ShloMosaic.Lib.Pointwise

@[expose] public section

noncomputable section

namespace Cert.Mix

open Idealize.ShloMosaic

/-- Two zero offsets. -/
theorem z2 : (![0, 0] : Fin 2 → Nat) = fun _ => 0 := by decide

/-- Three zero offsets. -/
theorem z3 : (![0, 0, 0] : Fin 3 → Nat) = fun _ => 0 := by decide

/-- Four zero offsets. -/
theorem z4 : (![0, 0, 0, 0] : Fin 4 → Nat) = fun _ => 0 := by decide

/-- The norm of a row, scaled by a gain; `w` is the literal of the row's length. -/
def rms {n : Nat} (w : BitVec 32) (v g : Fin n → EReal) (k : Fin n) : EReal :=
  v k * Ideal.rsqrt (Ideal.div (∑ j, v j * v j) (Ideal.ofBits .f32 w) + Ideal.ofBits .f32 0x358637BD#32) * g k

/-- The norm of a row of 1024, modulated by a scale and a shift. -/
def modRow (v g s b : Fin 1024 → EReal) (k : Fin 1024) : EReal := rms 0x44800000#32 v g k * (1 + s k) + b k

/-- The modulation row of a token row: 0 for the prompt's rows, then one per sample sequence. -/
def mrow (R : Fin 8192) : Fin 3 := ⟨if R.val < 4096 then 0 else 1 + (R.val - 4096) / 2048, by split <;> omega⟩

/-- Row `r` of the prompt's sequence `b`. -/
def rowP (b : Fin 16) (r : Fin 256) : Fin 8192 := ⟨b.val * 256 + r.val, by omega⟩

/-- Row `r` of the sample's sequence `b`. -/
def rowS (b : Fin 2) (r : Fin 2048) : Fin 8192 := ⟨4096 + (b.val * 2048 + r.val), by omega⟩

/-- The prompt's rows have the first modulation row. -/
theorem mrow_P (b : Fin 16) (r : Fin 256) : mrow (rowP b r) = 0 :=
  Fin.ext (by show (if b.val * 256 + r.val < 4096 then 0 else 1 + (b.val * 256 + r.val - 4096) / 2048) = 0; rw [if_pos (by omega)])

/-- The sample's sequences have one modulation row each. -/
theorem mrow_S (b : Fin 2) (r : Fin 2048) : mrow (rowS b r) = ⟨1 + b.val, by omega⟩ :=
  Fin.ext (by
    show (if 4096 + (b.val * 2048 + r.val) < 4096 then 0 else 1 + (4096 + (b.val * 2048 + r.val) - 4096) / 2048) = 1 + b.val
    rw [if_neg (by omega)]; omega)

/-- The modulation row of tile `t`. -/
def mtile (t : Nat) (ht : t < 32) : Fin 3 := ⟨if t < 16 then 0 else 1 + (t - 16) / 8, by split <;> omega⟩

/-- Row `r` of tile `t`. -/
def rowT (t : Nat) (ht : t < 32) (r : Fin 256) : Fin 8192 := ⟨256 * t + r.val, by omega⟩

/-- A tile's rows have the tile's modulation row. -/
theorem mrow_T (t : Nat) (ht : t < 32) (r : Fin 256) : mrow (rowT t ht r) = mtile t ht := by
  apply Fin.ext
  show (if 256 * t + r.val < 4096 then 0 else 1 + (256 * t + r.val - 4096) / 2048) = if t < 16 then 0 else 1 + (t - 16) / 8
  split <;> split <;> omega

variable (x : Fin 8192 → Fin 1024 → EReal) (md : Fin 3 → Fin 6144 → EReal) (g : Fin 1024 → EReal)

/-- The modulated norm of row `R`, before a mixer. -/
def hAt (R : Fin 8192) (k : Fin 1024) : EReal :=
  modRow (x R) g (fun j => md (mrow R) ⟨1024 + j.val, by omega⟩) (fun j => md (mrow R) ⟨j.val, by omega⟩) k

/-- The projection of row `R`'s modulated norm by a weight. -/
def projAt {n : Nat} (w : Fin 1024 → Fin n → EReal) (R : Fin 8192) (j : Fin n) : EReal := ∑ k, hAt x md g R k * w k j

/-- A row plus the gated norm of another. -/
def gated (x gate v g : Fin 1024 → EReal) (k : Fin 1024) : EReal := x k + gate k * rms 0x44800000#32 v g k

/-- Row `R` after a mixer whose projected output is `r`. -/
def resAt (r : Fin 8192 → Fin 1024 → EReal) (R : Fin 8192) (k : Fin 1024) : EReal :=
  gated (x R) (fun j => md (mrow R) ⟨2048 + j.val, by omega⟩) (r R) g k

/-- The product of a row and a weight. -/
def rowDot {a n : Nat} (y : Fin a → EReal) (w : Fin a → Fin n → EReal) (k : Fin n) : EReal := ∑ j, y j * w j k

/-- A value with a weighted skip. -/
def skip (a b d : EReal) : EReal := a + b * d

/-- The tanh form of GELU. -/
def gelu (z : EReal) : EReal :=
  z * (Ideal.ofBits .f32 0x3F000000#32 * (1 + Ideal.tanh (Ideal.ofBits .f32 0x3F4C422A#32 * (z + Ideal.ofBits .f32 0x3D372713#32 * (z * z * z)))))

/-- The gated linear unit of a row: its GELU times the logistic of a projection of its GELU. -/
def glu (z : Fin 512 → EReal) (w : Fin 512 → Fin 512 → EReal) (b : Fin 512 → EReal) (j : Fin 512) : EReal :=
  gelu (z j) * Ideal.div 1 (1 + Ideal.exp (-(rowDot (fun i => gelu (z i)) w j + b j)))

/-- The product of two rows of 512, side by side, and a weight. -/
def rowDot2 (a b : Fin 512 → EReal) (w : Fin 1024 → Fin 1024 → EReal) (k : Fin 1024) : EReal :=
  rowDot a (fun j k => w ⟨j.val, by omega⟩ k) k + rowDot b (fun j k => w ⟨512 + j.val, by omega⟩ k) k

/-- It is the product of the row of 1024 they make. -/
theorem rowDot2_eq (a b : Fin 512 → EReal) (w : Fin 1024 → Fin 1024 → EReal) (k : Fin 1024) (f : Fin 1024 → EReal)
    (ha : ∀ j : Fin 512, f ⟨j.val, by omega⟩ = a j) (hb : ∀ j : Fin 512, f ⟨512 + j.val, by omega⟩ = b j) :
    ∑ j : Fin 1024, f j * w j k = rowDot2 a b w k := by
  refine (Fin.sum_univ_add (a := 512) (b := 512) (fun j => f j * w j k)).trans ?_
  refine congrArg₂ (fun a b : EReal => a + b) (Finset.sum_congr rfl fun j _ => ?_) (Finset.sum_congr rfl fun j _ => ?_)
  · exact congrArg (fun z => z * w _ k) (ha j)
  · exact congrArg (fun z => z * w _ k) (hb j)

end Cert.Mix

end
-- ==== Proof.InOddArray.lean ====
/- The rows' projection before the odd layer's mixers: what each window's block holds, what a point writes back, and the three
   output arrays. -/
module

public import proofs.«01_k».proof.Proof.MixRows
public import proofs.«01_k».proof.Proof.Gen.InOddIdeal.Value

@[expose] public section

set_option maxRecDepth 16384

noncomputable section

namespace Cert.InOddIdeal.Mix

open Cert.InOddIdeal Cert.InOddIdeal.Gen Idealize.ShloMosaic Idealize.ShloMosaic.TcCoe Idealize.SL.Sem Cert.Mix
open Idealize.ShloMosaic.Pipeline (Dat)

variable (m : (ℓ : Loc nD τ sig) → Buf (Elt Ideal) ℓ)

/-- There are 32 points. -/
theorem lt32 (t : Fin cfg0.N) : t.val < 32 := t.isLt

/-- Window 0's block at point `t`. -/
theorem idx0 : ∀ t : Fin cfg0.N,
    (win0_0.index t 0 = t.val ∧ win0_0.index t 1 = 0) :=
  (by decide +kernel : ∀ t : Fin grid0.N,
    (win0_0.index t 0 = t.val ∧ win0_0.index t 1 = 0))

/-- Window 1's block at point `t`. -/
theorem idx1 : ∀ t : Fin cfg0.N,
    (win0_1.index t 0 = 3 ∧ win0_1.index t 1 = (if t.val < 16 then 0 else 1 + (t.val - 16) / 8) ∧ win0_1.index t 2 = 0 ∧ win0_1.index t 3 = 0) :=
  (by decide +kernel : ∀ t : Fin grid0.N,
    (win0_1.index t 0 = 3 ∧ win0_1.index t 1 = (if t.val < 16 then 0 else 1 + (t.val - 16) / 8) ∧ win0_1.index t 2 = 0 ∧ win0_1.index t 3 = 0))

/-- Window 2's block at point `t`. -/
theorem idx2 : ∀ t : Fin cfg0.N,
    (win0_2.index t 0 = 3 ∧ win0_2.index t 1 = 0 ∧ win0_2.index t 2 = 0) :=
  (by decide +kernel : ∀ t : Fin grid0.N,
    (win0_2.index t 0 = 3 ∧ win0_2.index t 1 = 0 ∧ win0_2.index t 2 = 0))

/-- Window 3's block at point `t`. -/
theorem idx3 : ∀ t : Fin cfg0.N,
    (win0_3.index t 0 = 0 ∧ win0_3.index t 1 = 0) :=
  (by decide +kernel : ∀ t : Fin grid0.N,
    (win0_3.index t 0 = 0 ∧ win0_3.index t 1 = 0))

/-- Window 4's block at point `t`. -/
theorem idx4 : ∀ t : Fin cfg0.N,
    (win0_4.index t 0 = t.val ∧ win0_4.index t 1 = 0) :=
  (by decide +kernel : ∀ t : Fin grid0.N,
    (win0_4.index t 0 = t.val ∧ win0_4.index t 1 = 0))

/-- Window 5's block at point `t`. -/
theorem idx5 : ∀ t : Fin cfg0.N,
    (win0_5.index t 0 = t.val ∧ win0_5.index t 1 = 0) :=
  (by decide +kernel : ∀ t : Fin grid0.N,
    (win0_5.index t 0 = t.val ∧ win0_5.index t 1 = 0))

/-- Window 6's block at point `t`. -/
theorem idx6 : ∀ t : Fin cfg0.N,
    (win0_6.index t 0 = t.val ∧ win0_6.index t 1 = 0) :=
  (by decide +kernel : ∀ t : Fin grid0.N,
    (win0_6.index t 0 = t.val ∧ win0_6.index t 1 = 0))

/-- The gains, one row a layer. -/
theorem V_g (c : Dev nD) (l : Fin 4) (j : Fin 1024) : V m c main_v0 (ix3 l 0 j) = m ((c : Thread nD τ).loc main_arg2) (ix2 l j) := by
  unfold V
  after_results_simp
  generalize hX : m ((c : Thread nD τ).loc main_arg2) = X
  change S4x1024.Idx → EReal at X
  show shapeCast S4x1x1024 X shapeCasts_S4x1024_S4x1x1024 (ix3 l 0 j) = _
  pointwise []

/-- The weight, as prepared on the host: the second of the two. -/
theorem V_w (c : Dev nD) (k : Fin 1024) (j : Fin 2048) : V m c main_v3 (ix2 k j) = m ((c : Thread nD τ).loc main_arg3) (ix3 1 k j) := by
  unfold V
  after_results_simp
  generalize hX : m ((c : Thread nD τ).loc main_arg3) = X
  change S2x1024x2048.Idx → EReal at X
  show truncf (F := Ideal) FTy.bf16 (fun i => shapeCast S1024x2048 (extractStridedSlice S1x1024x2048 ![1, 0, 0] X slices_S2x1024x2048_S1x1024x2048_1_0_0) shapeCasts_S1x1024x2048_S1024x2048 i) bitsLt_bf16_f32 (ix2 k j) = _
  pointwise []

/-- The rows' block. -/
theorem iblk0_apply (c : Dev nD) (t : Fin cfg0.N) (r : Fin 256) (k : Fin 1024) :
    iblk m c 0 t (ix2 r k) = m ((c : Thread nD τ).loc main_arg0) (ix2 (rowT t.val (lt32 t) r) k) := by
  unfold iblk
  have hV : V m c (Pipeline.arrRef spec0 0) = m ((c : Thread nD τ).loc main_arg0) := V_main_arg0 m c
  rw [hV]
  show m ((c : Thread nD τ).loc main_arg0) _ = _
  congr 1
  funext a
  apply Fin.ext
  match a with
  | ⟨0, _⟩ =>
    have h := (idx0 t).1
    show win0_0.index t 0 * 256 + 1 * r.val = 256 * t.val + r.val
    omega
  | ⟨1, _⟩ =>
    have h := (idx0 t).2
    show win0_0.index t 1 * 1024 + 1 * k.val = k.val
    omega

/-- The tile's modulation row. -/
theorem iblk1_apply (c : Dev nD) (t : Fin cfg0.N) (j : Fin 6144) :
    iblk m c 1 t (ix4 0 0 0 j) = m ((c : Thread nD τ).loc main_arg1) (ix4 3 (mtile t.val (lt32 t)) 0 j) := by
  unfold iblk
  have hV : V m c (Pipeline.arrRef spec0 1) = m ((c : Thread nD τ).loc main_arg1) := V_main_arg1 m c
  rw [hV]
  show m ((c : Thread nD τ).loc main_arg1) _ = _
  congr 1
  funext a
  apply Fin.ext
  match a with
  | ⟨0, _⟩ =>
    have h := (idx1 t).1
    show win0_1.index t 0 * 1 + 1 * 0 = 3
    omega
  | ⟨1, _⟩ =>
    have h := (idx1 t).2.1
    show win0_1.index t 1 * 1 + 1 * 0 = (if t.val < 16 then 0 else 1 + (t.val - 16) / 8)
    omega
  | ⟨2, _⟩ =>
    have h := (idx1 t).2.2.1
    show win0_1.index t 2 * 1 + 1 * 0 = 0
    omega
  | ⟨3, _⟩ =>
    have h := (idx1 t).2.2.2
    show win0_1.index t 3 * 6144 + 1 * j.val = j.val
    omega

/-- The gain's block is the layer's. -/
theorem iblk2_apply (c : Dev nD) (t : Fin cfg0.N) (j : Fin 1024) :
    iblk m c 2 t (ix3 0 0 j) = m ((c : Thread nD τ).loc main_arg2) (ix2 3 j) := by
  unfold iblk
  refine Eq.trans ?_ (V_g m c 3 j)
  show V m c main_v0 _ = V m c main_v0 _
  congr 1
  funext a
  apply Fin.ext
  match a with
  | ⟨0, _⟩ =>
    have h := (idx2 t).1
    show win0_2.index t 0 * 1 + 1 * 0 = 3
    omega
  | ⟨1, _⟩ =>
    have h := (idx2 t).2.1
    show win0_2.index t 1 * 1 + 1 * 0 = 0
    omega
  | ⟨2, _⟩ =>
    have h := (idx2 t).2.2
    show win0_2.index t 2 * 1024 + 1 * j.val = j.val
    omega

/-- The weight's block is the whole weight. -/
theorem iblk3_apply (c : Dev nD) (t : Fin cfg0.N) (k : Fin 1024) (j : Fin 2048) :
    iblk m c 3 t (ix2 k j) = m ((c : Thread nD τ).loc main_arg3) (ix3 1 k j) := by
  unfold iblk
  refine Eq.trans ?_ (V_w m c k j)
  show V m c main_v3 _ = V m c main_v3 _
  congr 1
  funext a
  apply Fin.ext
  match a with
  | ⟨0, _⟩ =>
    have h := (idx3 t).1
    show win0_3.index t 0 * 1024 + 1 * k.val = k.val
    omega
  | ⟨1, _⟩ =>
    have h := (idx3 t).2
    show win0_3.index t 1 * 2048 + 1 * j.val = j.val
    omega

/-- The product at a row and column: the row's modulated norm times the weight's column. -/
theorem pay1_apply (b : Vec Ideal S1x1x1x6144 .f32) (a : Vec Ideal S256x1024 .f32) (e : Vec Ideal S1x1x1024 .f32)
    (w : Vec Ideal S1024x2048 .bf16) (r : Fin 256) (j : Fin 2048) :
    k0_pay1 b a e w (ix2 r j) = ∑ k : Fin 1024, modRow (fun j => a (ix2 r j)) (fun j => e (ix3 0 0 j)) (fun j => b (ix4 0 0 0 ⟨1024 + j.val, by omega⟩))
      (fun j => b (ix4 0 0 0 ⟨j.val, by omega⟩)) k * w (ix2 k j) := by
  pointwise [k0_pay1]
  rfl

/-- The projection of the kernel's arguments. -/
def proj (c : Dev nD) (R : Fin 8192) (j : Fin 2048) : EReal :=
  projAt (fun R j => m ((c : Thread nD τ).loc main_arg0) (ix2 R j)) (fun r j => m ((c : Thread nD τ).loc main_arg1) (ix4 3 r 0 j))
    (fun j => m ((c : Thread nD τ).loc main_arg2) (ix2 3 j)) (fun k j => m ((c : Thread nD τ).loc main_arg3) (ix3 1 k j)) R j

/-- A point's product is the projection of its rows. -/
theorem pay1_eq (c : Dev nD) (t : Fin cfg0.N) (r : Fin 256) (j : Fin 2048) :
    k0_pay1 (iblk m c 1 t) (iblk m c 0 t) (iblk m c 2 t) (iblk m c 3 t) (ix2 r j) = proj m c (rowT t.val (lt32 t) r) j := by
  rw [pay1_apply]
  unfold proj projAt hAt
  rw [mrow_T]
  refine Finset.sum_congr rfl fun k _ => ?_
  refine congrArg₂ (fun a b : EReal => a * b) ?_ (iblk3_apply m c t k j)
  have e0 : (fun j => iblk m c 0 t (ix2 r j)) = fun j : Fin 1024 => m ((c : Thread nD τ).loc main_arg0) (ix2 (rowT t.val (lt32 t) r) j) :=
    funext fun j => iblk0_apply m c t r j
  have e2 : (fun j => iblk m c 2 t (ix3 0 0 j)) = fun j : Fin 1024 => m ((c : Thread nD τ).loc main_arg2) (ix2 3 j) :=
    funext fun j => iblk2_apply m c t j
  have e1 : ∀ j : Fin 6144, iblk m c 1 t (ix4 0 0 0 j) = m ((c : Thread nD τ).loc main_arg1) (ix4 3 (mtile t.val (lt32 t)) 0 j) :=
    fun j => iblk1_apply m c t j
  exact congr (congr (congr (congr (congrArg modRow e0) e2) (funext fun j => e1 _)) (funext fun j => e1 _)) rfl

/-- The output array of columns 0 to 511. -/
def out4 (c : Dev nD) : S8192x512.Idx → EReal := fun i => proj m c (i 0) ⟨0 + (i 1).val, by have : (i 1).val < 512 := (i 1).isLt; omega⟩

/-- A point's block of it. -/
theorem out0_4_eq (c : Dev nD) (t : Fin cfg0.N) (r : Fin 256) (k : Fin 512) :
    out0_4 (iblk m c 0 t) (iblk m c 1 t) (iblk m c 2 t) (iblk m c 3 t) (ix2 r k) = out4 m c (ix2 (rowT t.val (lt32 t) r) k) := by
  unfold out0_4
  rw [View.canon_unit_zero (S := S256x512) z2, View.ld_unit_zero (S := S256x1024) z2, View.ld_unit_zero (S := S1x1x1x6144) z4,
    View.ld_unit_zero (S := S1x1x1024) z3, View.ld_unit_zero (S := S1024x2048) z2]
  pointwise [k0_pay2]
  refine (pay1_eq m c t r _).trans (congrArg (proj m c _) (Fin.ext ?_))
  show k.val = 0 + k.val
  omega

/-- What point `t` writes back is its block of the output array. -/
theorem flushed_eq4 (c : Dev nD) (t : Fin cfg0.N) :
    (dats m 0 c).flushed 4 t = ((cfg0.win 4).blk t).view.read (Elt Ideal) (out4 m c) := by
  rw [Value.flushed4]
  funext y
  obtain ⟨r, e, rfl⟩ : ∃ (r : Fin 256) (e : Fin 512), y = ix2 r e := ⟨y 0, y 1, eq_ix2 y⟩
  refine (out0_4_eq m c t r e).trans ?_
  show out4 m c _ = out4 m c _
  congr 1
  funext a
  apply Fin.ext
  match a with
  | ⟨0, _⟩ =>
    show 256 * t.val + r.val = win0_4.index t 0 * 256 + 1 * r.val
    rw [(idx4 t).1]; omega
  | ⟨1, _⟩ =>
    show e.val = win0_4.index t 1 * 512 + 1 * e.val
    rw [(idx4 t).2]; omega

/-- An index lies in point `t`'s output block when its row is among the block's 256. -/
theorem mem_blk4 (t : Fin cfg0.N) (i : S8192x512.Idx) :
    i ∈ ((cfg0.win 4).blk t).view.set ↔ ∀ a, win0_4.index t a * win0_4.size a ≤ (i a : Nat) ∧ (i a : Nat) < win0_4.index t a * win0_4.size a + win0_4.xsize (grid0.coords t) a := by
  show i ∈ ((View.whole main_v4_0).slice (win0_4.rect t)).set ↔ _
  rw [View.set_slice_whole, Rect.mem_set_unit]

/-- The output array of columns 0 to 511 at the end. -/
theorem arr_eq4 (c : Dev nD) : (dats m 0 c).arrAt 4 cfg0.N = out4 m c := by
  refine Dat.arrAt_eq_of_cover (dats m 0 c) 4 (out4 m c) (fun t _ => flushed_eq4 m c t) fun i => ?_
  obtain ⟨R, C, rfl⟩ : ∃ (R : Fin 8192) (C : Fin 512), i = ix2 R C := ⟨i 0, i 1, eq_ix2 i⟩
  refine ⟨(⟨R.val / 256, by show R.val / 256 < 32; omega⟩ : Fin cfg0.N), flush0_4 _, ?_⟩
  rw [mem_blk4]
  intro a
  match a with
  | ⟨0, _⟩ =>
    show win0_4.index _ 0 * 256 ≤ R.val ∧ R.val < win0_4.index _ 0 * 256 + 256
    rw [(idx4 _).1]; show R.val / 256 * 256 ≤ R.val ∧ R.val < R.val / 256 * 256 + 256; omega
  | ⟨1, _⟩ =>
    show win0_4.index _ 1 * 512 ≤ C.val ∧ C.val < win0_4.index _ 1 * 512 + 512
    rw [(idx4 _).2]; omega

/-- The output array of columns 512 to 2047. -/
def out5 (c : Dev nD) : S8192x1536.Idx → EReal := fun i => proj m c (i 0) ⟨512 + (i 1).val, by have : (i 1).val < 1536 := (i 1).isLt; omega⟩

/-- A point's block of it. -/
theorem out0_5_eq (c : Dev nD) (t : Fin cfg0.N) (r : Fin 256) (k : Fin 1536) :
    out0_5 (iblk m c 0 t) (iblk m c 1 t) (iblk m c 2 t) (iblk m c 3 t) (ix2 r k) = out5 m c (ix2 (rowT t.val (lt32 t) r) k) := by
  unfold out0_5
  rw [View.canon_unit_zero (S := S256x1536) z2, View.ld_unit_zero (S := S256x1024) z2, View.ld_unit_zero (S := S1x1x1x6144) z4,
    View.ld_unit_zero (S := S1x1x1024) z3, View.ld_unit_zero (S := S1024x2048) z2]
  pointwise [k0_pay3]
  exact pay1_eq m c t r _

/-- What point `t` writes back is its block of the output array. -/
theorem flushed_eq5 (c : Dev nD) (t : Fin cfg0.N) :
    (dats m 0 c).flushed 5 t = ((cfg0.win 5).blk t).view.read (Elt Ideal) (out5 m c) := by
  rw [Value.flushed5]
  funext y
  obtain ⟨r, e, rfl⟩ : ∃ (r : Fin 256) (e : Fin 1536), y = ix2 r e := ⟨y 0, y 1, eq_ix2 y⟩
  refine (out0_5_eq m c t r e).trans ?_
  show out5 m c _ = out5 m c _
  congr 1
  funext a
  apply Fin.ext
  match a with
  | ⟨0, _⟩ =>
    show 256 * t.val + r.val = win0_5.index t 0 * 256 + 1 * r.val
    rw [(idx5 t).1]; omega
  | ⟨1, _⟩ =>
    show e.val = win0_5.index t 1 * 1536 + 1 * e.val
    rw [(idx5 t).2]; omega

/-- An index lies in point `t`'s output block when its row is among the block's 256. -/
theorem mem_blk5 (t : Fin cfg0.N) (i : S8192x1536.Idx) :
    i ∈ ((cfg0.win 5).blk t).view.set ↔ ∀ a, win0_5.index t a * win0_5.size a ≤ (i a : Nat) ∧ (i a : Nat) < win0_5.index t a * win0_5.size a + win0_5.xsize (grid0.coords t) a := by
  show i ∈ ((View.whole main_v4_1).slice (win0_5.rect t)).set ↔ _
  rw [View.set_slice_whole, Rect.mem_set_unit]

/-- The output array of columns 512 to 2047 at the end. -/
theorem arr_eq5 (c : Dev nD) : (dats m 0 c).arrAt 5 cfg0.N = out5 m c := by
  refine Dat.arrAt_eq_of_cover (dats m 0 c) 5 (out5 m c) (fun t _ => flushed_eq5 m c t) fun i => ?_
  obtain ⟨R, C, rfl⟩ : ∃ (R : Fin 8192) (C : Fin 1536), i = ix2 R C := ⟨i 0, i 1, eq_ix2 i⟩
  refine ⟨(⟨R.val / 256, by show R.val / 256 < 32; omega⟩ : Fin cfg0.N), flush0_5 _, ?_⟩
  rw [mem_blk5]
  intro a
  match a with
  | ⟨0, _⟩ =>
    show win0_5.index _ 0 * 256 ≤ R.val ∧ R.val < win0_5.index _ 0 * 256 + 256
    rw [(idx5 _).1]; show R.val / 256 * 256 ≤ R.val ∧ R.val < R.val / 256 * 256 + 256; omega
  | ⟨1, _⟩ =>
    show win0_5.index _ 1 * 1536 ≤ C.val ∧ C.val < win0_5.index _ 1 * 1536 + 1536
    rw [(idx5 _).2]; omega

/-- The output array of columns 1024 to 2047. -/
def out6 (c : Dev nD) : S8192x1024.Idx → EReal := fun i => proj m c (i 0) ⟨1024 + (i 1).val, by have : (i 1).val < 1024 := (i 1).isLt; omega⟩

/-- A point's block of it. -/
theorem out0_6_eq (c : Dev nD) (t : Fin cfg0.N) (r : Fin 256) (k : Fin 1024) :
    out0_6 (iblk m c 0 t) (iblk m c 1 t) (iblk m c 2 t) (iblk m c 3 t) (ix2 r k) = out6 m c (ix2 (rowT t.val (lt32 t) r) k) := by
  unfold out0_6
  rw [View.canon_unit_zero (S := S256x1024) z2, View.ld_unit_zero (S := S256x1024) z2, View.ld_unit_zero (S := S1x1x1x6144) z4,
    View.ld_unit_zero (S := S1x1x1024) z3, View.ld_unit_zero (S := S1024x2048) z2]
  pointwise [k0_pay4]
  exact pay1_eq m c t r _

/-- What point `t` writes back is its block of the output array. -/
theorem flushed_eq6 (c : Dev nD) (t : Fin cfg0.N) :
    (dats m 0 c).flushed 6 t = ((cfg0.win 6).blk t).view.read (Elt Ideal) (out6 m c) := by
  rw [Value.flushed6]
  funext y
  obtain ⟨r, e, rfl⟩ : ∃ (r : Fin 256) (e : Fin 1024), y = ix2 r e := ⟨y 0, y 1, eq_ix2 y⟩
  refine (out0_6_eq m c t r e).trans ?_
  show out6 m c _ = out6 m c _
  congr 1
  funext a
  apply Fin.ext
  match a with
  | ⟨0, _⟩ =>
    show 256 * t.val + r.val = win0_6.index t 0 * 256 + 1 * r.val
    rw [(idx6 t).1]; omega
  | ⟨1, _⟩ =>
    show e.val = win0_6.index t 1 * 1024 + 1 * e.val
    rw [(idx6 t).2]; omega

/-- An index lies in point `t`'s output block when its row is among the block's 256. -/
theorem mem_blk6 (t : Fin cfg0.N) (i : S8192x1024.Idx) :
    i ∈ ((cfg0.win 6).blk t).view.set ↔ ∀ a, win0_6.index t a * win0_6.size a ≤ (i a : Nat) ∧ (i a : Nat) < win0_6.index t a * win0_6.size a + win0_6.xsize (grid0.coords t) a := by
  show i ∈ ((View.whole main_v4_2).slice (win0_6.rect t)).set ↔ _
  rw [View.set_slice_whole, Rect.mem_set_unit]

/-- The output array of columns 1024 to 2047 at the end. -/
theorem arr_eq6 (c : Dev nD) : (dats m 0 c).arrAt 6 cfg0.N = out6 m c := by
  refine Dat.arrAt_eq_of_cover (dats m 0 c) 6 (out6 m c) (fun t _ => flushed_eq6 m c t) fun i => ?_
  obtain ⟨R, C, rfl⟩ : ∃ (R : Fin 8192) (C : Fin 1024), i = ix2 R C := ⟨i 0, i 1, eq_ix2 i⟩
  refine ⟨(⟨R.val / 256, by show R.val / 256 < 32; omega⟩ : Fin cfg0.N), flush0_6 _, ?_⟩
  rw [mem_blk6]
  intro a
  match a with
  | ⟨0, _⟩ =>
    show win0_6.index _ 0 * 256 ≤ R.val ∧ R.val < win0_6.index _ 0 * 256 + 256
    rw [(idx6 _).1]; show R.val / 256 * 256 ≤ R.val ∧ R.val < R.val / 256 * 256 + 256; omega
  | ⟨1, _⟩ =>
    show win0_6.index _ 1 * 1024 ≤ C.val ∧ C.val < win0_6.index _ 1 * 1024 + 1024
    rw [(idx6 _).2]; omega

end Cert.InOddIdeal.Mix

end
-- ==== Proof.InOddRef.lean ====
/- The odd layer's projection as the plain reference computes it. -/
module

public import proofs.«01_k».proof.Proof.MixRows
public import proofs.«01_k».proof.Proof.Gen.InOddRefIdeal.Read

@[expose] public section

set_option maxRecDepth 16384

noncomputable section

namespace Cert.InOddRefIdeal.Mix

open Cert.InOddRefIdeal Cert.InOddRefIdeal.Gen Cert.InOddRefIdeal.Read Idealize.ShloMosaic Idealize.ShloMosaic.TcCoe Idealize.SL.Sem Cert.Mix

variable (x : (⟨S8192x1024, .f32⟩ : BufTy).Contents (Elt Ideal)) (md : (⟨S4x3x1x6144, .f32⟩ : BufTy).Contents (Elt Ideal))
  (g : (⟨S4x1024, .f32⟩ : BufTy).Contents (Elt Ideal)) (w : (⟨S2x1024x2048, .f32⟩ : BufTy).Contents (Elt Ideal))

/-- The prompt's modulated norms. -/
theorem h_P (b : Fin 16) (r : Fin 256) (k : Fin 1024) :
    val_main_v34 (F := Ideal) x md g (ix3 b r k) = hAt (fun R j => x (ix2 R j)) (fun r j => md (ix4 3 r 0 j)) (fun j => g (ix2 3 j)) (rowP b r) k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_cst, val_main_cst_0, val_main_cst_1, val_main_cst_2]
  unfold hAt
  rw [mrow_P]
  rfl

/-- The sample's modulated norms. -/
theorem h_S (b : Fin 2) (r : Fin 2048) (k : Fin 1024) :
    val_main_v64 (F := Ideal) x md g (ix3 b r k) = hAt (fun R j => x (ix2 R j)) (fun r j => md (ix4 3 r 0 j)) (fun j => g (ix2 3 j)) (rowS b r) k := by
  pointwise [val_main_v0, val_main_v1, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_cst_3, val_main_cst_4, val_main_cst_5, val_main_cst_6]
  unfold hAt
  rw [mrow_S]
  rfl

/-- All rows' modulated norms. -/
theorem h_all (R : Fin 8192) (k : Fin 1024) :
    val_main_v67 (F := Ideal) x md g (ix2 R k) = hAt (fun R j => x (ix2 R j)) (fun r j => md (ix4 3 r 0 j)) (fun j => g (ix2 3 j)) R k := by
  pointwise [val_main_v65, val_main_v66, val_main_v67]
  by_cases h : R.val < 4096
  · refine (dif_pos h).trans ((h_P x md g _ _ k).trans ?_)
    exact congrArg (fun z => hAt _ _ _ z k) (Fin.ext (by unfold rowP; dsimp only; omega))
  · refine (dif_neg h).trans ((h_S x md g _ _ k).trans ?_)
    exact congrArg (fun z => hAt _ _ _ z k) (Fin.ext (by unfold rowS; dsimp only; omega))

/-- The product. -/
theorem v70_apply (R : Fin 8192) (j : Fin 2048) :
    val_main_v70 (F := Ideal) x md g w (ix2 R j)
      = projAt (fun R j => x (ix2 R j)) (fun r j => md (ix4 3 r 0 j)) (fun j => g (ix2 3 j)) (fun k j => w (ix3 1 k j)) R j := by
  pointwise [val_main_v68, val_main_v69, val_main_v70]
  exact Finset.sum_congr rfl fun k _ => congrArg (fun z => z * w (ix3 1 k j)) (h_all x md g R k)

/-- The first result: columns 0 to 511 of the product. -/
theorem v71_apply (R : Fin 8192) (j : Fin 512) :
    val_main_v71 (F := Ideal) x md g w (ix2 R j)
      = projAt (fun R j => x (ix2 R j)) (fun r j => md (ix4 3 r 0 j)) (fun j => g (ix2 3 j)) (fun k j => w (ix3 1 k j)) R ⟨0 + j.val, by omega⟩ := by
  pointwise [val_main_v71]
  refine (v70_apply x md g w R _).trans (congrArg (projAt _ _ _ _ R) (Fin.ext ?_))
  dsimp only

/-- The second result: columns 512 to 2047. -/
theorem v76_apply (R : Fin 8192) (j : Fin 1536) :
    val_main_v76 (F := Ideal) x md g w (ix2 R j)
      = projAt (fun R j => x (ix2 R j)) (fun r j => md (ix4 3 r 0 j)) (fun j => g (ix2 3 j)) (fun k j => w (ix3 1 k j)) R ⟨512 + j.val, by omega⟩ := by
  pointwise [val_main_v72, val_main_v73, val_main_v74, val_main_v75, val_main_v76]
  split
  · refine (v70_apply x md g w R _).trans (congrArg (projAt _ _ _ _ R) (Fin.ext ?_))
    dsimp only
  · split
    · refine (v70_apply x md g w R _).trans (congrArg (projAt _ _ _ _ R) (Fin.ext ?_))
      dsimp only
      omega
    · refine (v70_apply x md g w R _).trans (congrArg (projAt _ _ _ _ R) (Fin.ext ?_))
      dsimp only
      omega

/-- The third result: columns 1024 to 2047. -/
theorem v77_apply (R : Fin 8192) (j : Fin 1024) :
    val_main_v77 (F := Ideal) x md g w (ix2 R j)
      = projAt (fun R j => x (ix2 R j)) (fun r j => md (ix4 3 r 0 j)) (fun j => g (ix2 3 j)) (fun k j => w (ix3 1 k j)) R ⟨1024 + j.val, by omega⟩ := by
  pointwise [val_main_v73, val_main_v74, val_main_v77]
  split
  · refine (v70_apply x md g w R _).trans (congrArg (projAt _ _ _ _ R) (Fin.ext ?_))
    dsimp only
  · refine (v70_apply x md g w R _).trans (congrArg (projAt _ _ _ _ R) (Fin.ext ?_))
    dsimp only
    omega

end Cert.InOddRefIdeal.Mix

end
-- ==== Proof.InOddClaim.lean ====
/- The projection before the odd layer's mixers: the kernel's three arrays are the reference's. -/
module

public import proofs.«01_k».proof.Defs
public import proofs.«01_k».proof.Proof.InOddArray
public import proofs.«01_k».proof.Proof.InOddRef

@[expose] public section

noncomputable section

namespace Cert.InOddIdeal.Mix

open Idealize.ShloMosaic Idealize.ShloMosaic.TcCoe Idealize.SL.Sem

/-- The kernel and the reference give the same three arrays for the same arguments. -/
theorem algebraic : Cert.algebraic_InOddIdeal_InOddRefIdeal := by
  intro m ρ m' ρ' _ hag
  refine ⟨fun c => out4 m c, fun c => out5 m c, fun c => out6 m c, ?_, ?_⟩
  · refine (θ_run _ _ _).mono (fun _ h c => ?_) (Cert.InOddIdeal.Value.run_blocks (F := Ideal) m ρ)
    exact ⟨(h c).1.trans (arr_eq4 m c), (h c).2.1.trans (arr_eq5 m c), (h c).2.2.1.trans (arr_eq6 m c), (h c).2.2.2⟩
  · refine (θ_run _ _ _).mono (fun _ h c => ?_) (Cert.InOddRefIdeal.Value.run (F := Ideal) m' ρ')
    obtain ⟨h0, h1, h2, h3⟩ := hag c
    have e0 : m' ((c : Thread Cert.InOddRefIdeal.nD Cert.InOddRefIdeal.τ).loc Cert.InOddRefIdeal.main_arg0) = m ((c : Thread Cert.InOddIdeal.nD Cert.InOddIdeal.τ).loc Cert.InOddIdeal.main_arg0) := h0
    have e1 : m' ((c : Thread Cert.InOddRefIdeal.nD Cert.InOddRefIdeal.τ).loc Cert.InOddRefIdeal.main_arg1) = m ((c : Thread Cert.InOddIdeal.nD Cert.InOddIdeal.τ).loc Cert.InOddIdeal.main_arg1) := h1
    have e2 : m' ((c : Thread Cert.InOddRefIdeal.nD Cert.InOddRefIdeal.τ).loc Cert.InOddRefIdeal.main_arg2) = m ((c : Thread Cert.InOddIdeal.nD Cert.InOddIdeal.τ).loc Cert.InOddIdeal.main_arg2) := h2
    have e3 : m' ((c : Thread Cert.InOddRefIdeal.nD Cert.InOddRefIdeal.τ).loc Cert.InOddRefIdeal.main_arg3) = m ((c : Thread Cert.InOddIdeal.nD Cert.InOddIdeal.τ).loc Cert.InOddIdeal.main_arg3) := h3
    refine ⟨(h c).1.trans ?_, (h c).2.1.trans ?_, (h c).2.2.1.trans ?_, (h c).2.2.2⟩
    · refine (Cert.InOddRefIdeal.Read.val_main_v71_eq m' c).trans ?_
      rw [e0, e1, e2, e3]
      funext i
      rw [eq_ix2 i]
      exact Cert.InOddRefIdeal.Mix.v71_apply _ _ _ _ _ _
    · refine (Cert.InOddRefIdeal.Read.val_main_v76_eq m' c).trans ?_
      rw [e0, e1, e2, e3]
      funext i
      rw [eq_ix2 i]
      exact Cert.InOddRefIdeal.Mix.v76_apply _ _ _ _ _ _
    · refine (Cert.InOddRefIdeal.Read.val_main_v77_eq m' c).trans ?_
      rw [e0, e1, e2, e3]
      funext i
      rw [eq_ix2 i]
      exact Cert.InOddRefIdeal.Mix.v77_apply _ _ _ _ _ _

end Cert.InOddIdeal.Mix

end
-- ==== Proof.OutEvenArray.lean ====
/- The projection after the even layer's mixers: what each window's block holds, what a point writes back, and the output array. -/
module

public import proofs.«01_k».proof.Proof.MixRows
public import proofs.«01_k».proof.Proof.Gen.OutEvenIdeal.Value

@[expose] public section

set_option maxRecDepth 16384

noncomputable section

namespace Cert.OutEvenIdeal.Mix

open Cert.OutEvenIdeal Cert.OutEvenIdeal.Gen Idealize.ShloMosaic Idealize.ShloMosaic.TcCoe Idealize.SL.Sem Cert.Mix
open Idealize.ShloMosaic.Pipeline (Dat)

variable (m : (ℓ : Loc nD τ sig) → Buf (Elt Ideal) ℓ)

/-- There are 32 points. -/
theorem lt32 (t : Fin cfg0.N) : t.val < 32 := t.isLt

/-- Window 0's block at point `t`. -/
theorem idx0 : ∀ t : Fin cfg0.N,
    (win0_0.index t 0 = t.val ∧ win0_0.index t 1 = 0) :=
  (by decide +kernel : ∀ t : Fin grid0.N,
    (win0_0.index t 0 = t.val ∧ win0_0.index t 1 = 0))

/-- Window 1's block at point `t`. -/
theorem idx1 : ∀ t : Fin cfg0.N,
    (win0_1.index t 0 = t.val ∧ win0_1.index t 1 = 0) :=
  (by decide +kernel : ∀ t : Fin grid0.N,
    (win0_1.index t 0 = t.val ∧ win0_1.index t 1 = 0))

/-- Window 2's block at point `t`. -/
theorem idx2 : ∀ t : Fin cfg0.N,
    (win0_2.index t 0 = 2 ∧ win0_2.index t 1 = (if t.val < 16 then 0 else 1 + (t.val - 16) / 8) ∧ win0_2.index t 2 = 0 ∧ win0_2.index t 3 = 0) :=
  (by decide +kernel : ∀ t : Fin grid0.N,
    (win0_2.index t 0 = 2 ∧ win0_2.index t 1 = (if t.val < 16 then 0 else 1 + (t.val - 16) / 8) ∧ win0_2.index t 2 = 0 ∧ win0_2.index t 3 = 0))

/-- Window 3's block at point `t`. -/
theorem idx3 : ∀ t : Fin cfg0.N,
    (win0_3.index t 0 = 2 ∧ win0_3.index t 1 = 0 ∧ win0_3.index t 2 = 0) :=
  (by decide +kernel : ∀ t : Fin grid0.N,
    (win0_3.index t 0 = 2 ∧ win0_3.index t 1 = 0 ∧ win0_3.index t 2 = 0))

/-- Window 4's block at point `t`. -/
theorem idx4 : ∀ t : Fin cfg0.N,
    (win0_4.index t 0 = 0 ∧ win0_4.index t 1 = 0) :=
  (by decide +kernel : ∀ t : Fin grid0.N,
    (win0_4.index t 0 = 0 ∧ win0_4.index t 1 = 0))

/-- Window 5's block at point `t`. -/
theorem idx5 : ∀ t : Fin cfg0.N,
    (win0_5.index t 0 = t.val ∧ win0_5.index t 1 = 0) :=
  (by decide +kernel : ∀ t : Fin grid0.N,
    (win0_5.index t 0 = t.val ∧ win0_5.index t 1 = 0))

/-- The gains, one row a layer. -/
theorem V_g (c : Dev nD) (l : Fin 4) (j : Fin 1024) : V m c main_v0 (ix3 l 0 j) = m ((c : Thread nD τ).loc main_arg3) (ix2 l j) := by
  unfold V
  after_results_simp
  generalize hX : m ((c : Thread nD τ).loc main_arg3) = X
  change S4x1024.Idx → EReal at X
  show shapeCast S4x1x1024 X shapeCasts_S4x1024_S4x1x1024 (ix3 l 0 j) = _
  pointwise []

/-- The weight, as prepared on the host: the second of the two. -/
theorem V_w (c : Dev nD) (k : Fin 1024) (j : Fin 1024) : V m c main_v3 (ix2 k j) = m ((c : Thread nD τ).loc main_arg4) (ix3 1 k j) := by
  unfold V
  after_results_simp
  generalize hX : m ((c : Thread nD τ).loc main_arg4) = X
  change S2x1024x1024.Idx → EReal at X
  show truncf (F := Ideal) FTy.bf16 (fun i => shapeCast S1024x1024 (extractStridedSlice S1x1024x1024 ![1, 0, 0] X slices_S2x1024x1024_S1x1024x1024_1_0_0) shapeCasts_S1x1024x1024_S1024x1024 i) bitsLt_bf16_f32 (ix2 k j) = _
  pointwise []

/-- The rows' block. -/
theorem iblk0_apply (c : Dev nD) (t : Fin cfg0.N) (r : Fin 256) (k : Fin 1024) :
    iblk m c 0 t (ix2 r k) = m ((c : Thread nD τ).loc main_arg0) (ix2 (rowT t.val (lt32 t) r) k) := by
  unfold iblk
  have hV : V m c (Pipeline.arrRef spec0 0) = m ((c : Thread nD τ).loc main_arg0) := V_main_arg0 m c
  rw [hV]
  show m ((c : Thread nD τ).loc main_arg0) _ = _
  congr 1
  funext a
  apply Fin.ext
  match a with
  | ⟨0, _⟩ =>
    have h := (idx0 t).1
    show win0_0.index t 0 * 256 + 1 * r.val = 256 * t.val + r.val
    omega
  | ⟨1, _⟩ =>
    have h := (idx0 t).2
    show win0_0.index t 1 * 1024 + 1 * k.val = k.val
    omega

/-- The mixers' block. -/
theorem iblk1_apply (c : Dev nD) (t : Fin cfg0.N) (r : Fin 256) (k : Fin 1024) :
    iblk m c 1 t (ix2 r k) = m ((c : Thread nD τ).loc main_arg1) (ix2 (rowT t.val (lt32 t) r) k) := by
  unfold iblk
  have hV : V m c (Pipeline.arrRef spec0 1) = m ((c : Thread nD τ).loc main_arg1) := V_main_arg1 m c
  rw [hV]
  show m ((c : Thread nD τ).loc main_arg1) _ = _
  congr 1
  funext a
  apply Fin.ext
  match a with
  | ⟨0, _⟩ =>
    have h := (idx1 t).1
    show win0_1.index t 0 * 256 + 1 * r.val = 256 * t.val + r.val
    omega
  | ⟨1, _⟩ =>
    have h := (idx1 t).2
    show win0_1.index t 1 * 1024 + 1 * k.val = k.val
    omega

/-- The tile's modulation row. -/
theorem iblk2_apply (c : Dev nD) (t : Fin cfg0.N) (j : Fin 6144) :
    iblk m c 2 t (ix4 0 0 0 j) = m ((c : Thread nD τ).loc main_arg2) (ix4 2 (mtile t.val (lt32 t)) 0 j) := by
  unfold iblk
  have hV : V m c (Pipeline.arrRef spec0 2) = m ((c : Thread nD τ).loc main_arg2) := V_main_arg2 m c
  rw [hV]
  show m ((c : Thread nD τ).loc main_arg2) _ = _
  congr 1
  funext a
  apply Fin.ext
  match a with
  | ⟨0, _⟩ =>
    have h := (idx2 t).1
    show win0_2.index t 0 * 1 + 1 * 0 = 2
    omega
  | ⟨1, _⟩ =>
    have h := (idx2 t).2.1
    show win0_2.index t 1 * 1 + 1 * 0 = (if t.val < 16 then 0 else 1 + (t.val - 16) / 8)
    omega
  | ⟨2, _⟩ =>
    have h := (idx2 t).2.2.1
    show win0_2.index t 2 * 1 + 1 * 0 = 0
    omega
  | ⟨3, _⟩ =>
    have h := (idx2 t).2.2.2
    show win0_2.index t 3 * 6144 + 1 * j.val = j.val
    omega

/-- The gain's block is the layer's. -/
theorem iblk3_apply (c : Dev nD) (t : Fin cfg0.N) (j : Fin 1024) :
    iblk m c 3 t (ix3 0 0 j) = m ((c : Thread nD τ).loc main_arg3) (ix2 2 j) := by
  unfold iblk
  refine Eq.trans ?_ (V_g m c 2 j)
  show V m c main_v0 _ = V m c main_v0 _
  congr 1
  funext a
  apply Fin.ext
  match a with
  | ⟨0, _⟩ =>
    have h := (idx3 t).1
    show win0_3.index t 0 * 1 + 1 * 0 = 2
    omega
  | ⟨1, _⟩ =>
    have h := (idx3 t).2.1
    show win0_3.index t 1 * 1 + 1 * 0 = 0
    omega
  | ⟨2, _⟩ =>
    have h := (idx3 t).2.2
    show win0_3.index t 2 * 1024 + 1 * j.val = j.val
    omega

/-- The weight's block is the whole weight. -/
theorem iblk4_apply (c : Dev nD) (t : Fin cfg0.N) (k : Fin 1024) (j : Fin 1024) :
    iblk m c 4 t (ix2 k j) = m ((c : Thread nD τ).loc main_arg4) (ix3 1 k j) := by
  unfold iblk
  refine Eq.trans ?_ (V_w m c k j)
  show V m c main_v3 _ = V m c main_v3 _
  congr 1
  funext a
  apply Fin.ext
  match a with
  | ⟨0, _⟩ =>
    have h := (idx4 t).1
    show win0_4.index t 0 * 1024 + 1 * k.val = k.val
    omega
  | ⟨1, _⟩ =>
    have h := (idx4 t).2
    show win0_4.index t 1 * 1024 + 1 * j.val = j.val
    omega

/-- A block's results, of the blocks the point reads. -/
theorem pay1_apply (b : Vec Ideal S1x1x1x6144 .f32) (y : Vec Ideal S256x1024 .bf16) (w : Vec Ideal S1024x1024 .bf16) (a : Vec Ideal S256x1024 .f32)
    (e : Vec Ideal S1x1x1024 .f32) (r : Fin 256) (k : Fin 1024) :
    k0_pay1 b y w a e (ix2 r k) = gated (fun j => a (ix2 r j)) (fun j => b (ix4 0 0 0 ⟨2048 + j.val, by omega⟩))
      (rowDot (fun j => y (ix2 r j)) (fun j k => w (ix2 j k))) (fun j => e (ix3 0 0 j)) k := by
  pointwise [k0_pay1]
  rfl

/-- The results of the kernel's arguments. -/
def out5 (c : Dev nD) : S8192x1024.Idx → EReal := fun i =>
  resAt (fun R j => m ((c : Thread nD τ).loc main_arg0) (ix2 R j)) (fun r j => m ((c : Thread nD τ).loc main_arg2) (ix4 2 r 0 j)) (fun j => m ((c : Thread nD τ).loc main_arg3) (ix2 2 j))
    (fun R => rowDot (fun j => m ((c : Thread nD τ).loc main_arg1) (ix2 R j)) (fun j k => m ((c : Thread nD τ).loc main_arg4) (ix3 1 j k))) (i 0) (i 1)

/-- A point's block of it. -/
theorem out0_5_eq (c : Dev nD) (t : Fin cfg0.N) (r : Fin 256) (k : Fin 1024) :
    out0_5 (iblk m c 0 t) (iblk m c 1 t) (iblk m c 2 t) (iblk m c 3 t) (iblk m c 4 t) (ix2 r k) = out5 m c (ix2 (rowT t.val (lt32 t) r) k) := by
  unfold out0_5
  rw [View.canon_unit_zero (S := S256x1024) z2, View.ld_unit_zero (S := S256x1024) z2, View.ld_unit_zero (S := S256x1024) z2,
    View.ld_unit_zero (S := S1x1x1x6144) z4, View.ld_unit_zero (S := S1x1x1024) z3, View.ld_unit_zero (S := S1024x1024) z2]
  refine (pay1_apply _ _ _ _ _ r k).trans ?_
  unfold out5 resAt
  show gated _ _ _ _ k = gated _ (fun j => m ((c : Thread nD τ).loc main_arg2) (ix4 2 (mrow (rowT t.val (lt32 t) r)) 0 _)) (rowDot (fun j => m ((c : Thread nD τ).loc main_arg1) (ix2 (rowT t.val (lt32 t) r) j)) _) _ k
  rw [mrow_T]
  have e0 : (fun j => iblk m c 0 t (ix2 r j)) = fun j : Fin 1024 => m ((c : Thread nD τ).loc main_arg0) (ix2 (rowT t.val (lt32 t) r) j) :=
    funext fun j => iblk0_apply m c t r j
  have e1 : (fun j => iblk m c 1 t (ix2 r j)) = fun j : Fin 1024 => m ((c : Thread nD τ).loc main_arg1) (ix2 (rowT t.val (lt32 t) r) j) :=
    funext fun j => iblk1_apply m c t r j
  have e2 : ∀ j : Fin 6144, iblk m c 2 t (ix4 0 0 0 j) = m ((c : Thread nD τ).loc main_arg2) (ix4 2 (mtile t.val (lt32 t)) 0 j) := fun j => iblk2_apply m c t j
  have e3 : (fun j => iblk m c 3 t (ix3 0 0 j)) = fun j : Fin 1024 => m ((c : Thread nD τ).loc main_arg3) (ix2 2 j) := funext fun j => iblk3_apply m c t j
  have e4 : (fun j k => iblk m c 4 t (ix2 j k)) = fun (j k : Fin 1024) => m ((c : Thread nD τ).loc main_arg4) (ix3 1 j k) := funext fun j => funext fun k => iblk4_apply m c t j k
  exact congr (congr (congr (congr (congrArg gated e0) (funext fun j => e2 _)) (congr (congrArg rowDot e1) e4)) e3) rfl

/-- What point `t` writes back is its block of the output array. -/
theorem flushed_eq5 (c : Dev nD) (t : Fin cfg0.N) :
    (dats m 0 c).flushed 5 t = ((cfg0.win 5).blk t).view.read (Elt Ideal) (out5 m c) := by
  rw [Value.flushed5]
  funext y
  obtain ⟨r, e, rfl⟩ : ∃ (r : Fin 256) (e : Fin 1024), y = ix2 r e := ⟨y 0, y 1, eq_ix2 y⟩
  refine (out0_5_eq m c t r e).trans ?_
  show out5 m c _ = out5 m c _
  congr 1
  funext a
  apply Fin.ext
  match a with
  | ⟨0, _⟩ =>
    show 256 * t.val + r.val = win0_5.index t 0 * 256 + 1 * r.val
    rw [(idx5 t).1]; omega
  | ⟨1, _⟩ =>
    show e.val = win0_5.index t 1 * 1024 + 1 * e.val
    rw [(idx5 t).2]; omega

/-- An index lies in point `t`'s output block when its row is among the block's 256. -/
theorem mem_blk5 (t : Fin cfg0.N) (i : S8192x1024.Idx) :
    i ∈ ((cfg0.win 5).blk t).view.set ↔ ∀ a, win0_5.index t a * win0_5.size a ≤ (i a : Nat) ∧ (i a : Nat) < win0_5.index t a * win0_5.size a + win0_5.xsize (grid0.coords t) a := by
  show i ∈ ((View.whole main_v4).slice (win0_5.rect t)).set ↔ _
  rw [View.set_slice_whole, Rect.mem_set_unit]

/-- The output array at the end. -/
theorem arr_eq5 (c : Dev nD) : (dats m 0 c).arrAt 5 cfg0.N = out5 m c := by
  refine Dat.arrAt_eq_of_cover (dats m 0 c) 5 (out5 m c) (fun t _ => flushed_eq5 m c t) fun i => ?_
  obtain ⟨R, C, rfl⟩ : ∃ (R : Fin 8192) (C : Fin 1024), i = ix2 R C := ⟨i 0, i 1, eq_ix2 i⟩
  refine ⟨(⟨R.val / 256, by show R.val / 256 < 32; omega⟩ : Fin cfg0.N), flush0_5 _, ?_⟩
  rw [mem_blk5]
  intro a
  match a with
  | ⟨0, _⟩ =>
    show win0_5.index _ 0 * 256 ≤ R.val ∧ R.val < win0_5.index _ 0 * 256 + 256
    rw [(idx5 _).1]; show R.val / 256 * 256 ≤ R.val ∧ R.val < R.val / 256 * 256 + 256; omega
  | ⟨1, _⟩ =>
    show win0_5.index _ 1 * 1024 ≤ C.val ∧ C.val < win0_5.index _ 1 * 1024 + 1024
    rw [(idx5 _).2]; omega

end Cert.OutEvenIdeal.Mix

end
-- ==== Proof.OutEvenRef.lean ====
/- The projection after the even layer's mixers as the plain reference computes it. -/
module

public import proofs.«01_k».proof.Proof.MixRows
public import proofs.«01_k».proof.Proof.Gen.OutEvenRefIdeal.Read

@[expose] public section

set_option maxRecDepth 16384

noncomputable section

namespace Cert.OutEvenRefIdeal.Mix

open Cert.OutEvenRefIdeal Cert.OutEvenRefIdeal.Gen Cert.OutEvenRefIdeal.Read Idealize.ShloMosaic Idealize.ShloMosaic.TcCoe Idealize.SL.Sem Cert.Mix

variable (x : (⟨S8192x1024, .f32⟩ : BufTy).Contents (Elt Ideal)) (y : (⟨S8192x1024, .bf16⟩ : BufTy).Contents (Elt Ideal)) (md : (⟨S4x3x1x6144, .f32⟩ : BufTy).Contents (Elt Ideal))
  (g : (⟨S4x1024, .f32⟩ : BufTy).Contents (Elt Ideal)) (w : (⟨S2x1024x1024, .f32⟩ : BufTy).Contents (Elt Ideal))

/-- The product. -/
theorem v3_apply (R : Fin 8192) (k : Fin 1024) : val_main_v3 (F := Ideal) y w (ix2 R k) = rowDot (fun j => y (ix2 R j)) (fun j k => w (ix3 1 j k)) k := by
  pointwise [val_main_v0, val_main_v1, val_main_v2, val_main_v3]
  rfl

/-- The prompt's gated norms. -/
theorem out_P (b : Fin 16) (r : Fin 256) (k : Fin 1024) :
    val_main_v33 (F := Ideal) y md g w (ix3 b r k)
      = md (ix4 2 (mrow (rowP b r)) 0 ⟨2048 + k.val, by omega⟩) * rms 0x44800000#32 (fun j => (fun R => rowDot (fun j => y (ix2 R j)) (fun j k => w (ix3 1 j k))) (rowP b r) j) (fun j => g (ix2 2 j)) k := by
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst, val_main_cst_0, val_main_cst_1]
  simp only [v3_apply]
  rw [mrow_P]
  rfl

/-- The sample's gated norms. -/
theorem out_S (b : Fin 2) (r : Fin 2048) (k : Fin 1024) :
    val_main_v59 (F := Ideal) y md g w (ix3 b r k)
      = md (ix4 2 (mrow (rowS b r)) 0 ⟨2048 + k.val, by omega⟩) * rms 0x44800000#32 (fun j => (fun R => rowDot (fun j => y (ix2 R j)) (fun j k => w (ix3 1 j k))) (rowS b r) j) (fun j => g (ix2 2 j)) k := by
  pointwise [val_main_v4, val_main_v5, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_cst_2, val_main_cst_3, val_main_cst_4]
  simp only [v3_apply]
  rw [mrow_S]
  rfl

/-- The result at a row and column. -/
theorem ref_apply (R : Fin 8192) (k : Fin 1024) :
    val_main_v63 (F := Ideal) x y md g w (ix2 R k)
      = resAt (fun R j => x (ix2 R j)) (fun r j => md (ix4 2 r 0 j)) (fun j => g (ix2 2 j)) (fun R j => (fun R => rowDot (fun j => y (ix2 R j)) (fun j k => w (ix3 1 j k))) R j) R k := by
  pointwise [val_main_v60, val_main_v61, val_main_v62, val_main_v63]
  unfold resAt gated
  refine congrArg (fun z : EReal => x (ix2 R k) + z) ?_
  by_cases h : R.val < 4096
  · refine (dif_pos h).trans ((out_P y md g w _ _ k).trans ?_)
    exact congrArg (fun z => md (ix4 2 (mrow z) 0 ⟨2048 + k.val, by omega⟩) * rms 0x44800000#32 (fun j => (fun R => rowDot (fun j => y (ix2 R j)) (fun j k => w (ix3 1 j k))) z j) (fun j => g (ix2 2 j)) k)
      (Fin.ext (by unfold rowP; dsimp only; omega))
  · refine (dif_neg h).trans ((out_S y md g w _ _ k).trans ?_)
    exact congrArg (fun z => md (ix4 2 (mrow z) 0 ⟨2048 + k.val, by omega⟩) * rms 0x44800000#32 (fun j => (fun R => rowDot (fun j => y (ix2 R j)) (fun j k => w (ix3 1 j k))) z j) (fun j => g (ix2 2 j)) k)
      (Fin.ext (by unfold rowS; dsimp only; omega))

end Cert.OutEvenRefIdeal.Mix

end
-- ==== Proof.OutEvenClaim.lean ====
/- The projection after the even layer's mixers: the kernel's array is the reference's. -/
module

public import proofs.«01_k».proof.Defs
public import proofs.«01_k».proof.Proof.OutEvenArray
public import proofs.«01_k».proof.Proof.OutEvenRef

@[expose] public section

noncomputable section

namespace Cert.OutEvenIdeal.Mix

open Idealize.ShloMosaic Idealize.ShloMosaic.TcCoe Idealize.SL.Sem

/-- The kernel and the reference give the same array for the same arguments. -/
theorem algebraic : Cert.algebraic_OutEvenIdeal_OutEvenRefIdeal := by
  intro m ρ m' ρ' _ hag
  refine ⟨fun c => out5 m c, ?_, ?_⟩
  · refine (θ_run _ _ _).mono (fun _ h c => ?_) (Cert.OutEvenIdeal.Value.run_blocks (F := Ideal) m ρ)
    exact ⟨(h c).1.trans (arr_eq5 m c), (h c).2⟩
  · refine (θ_run _ _ _).mono (fun _ h c => ?_) (Cert.OutEvenRefIdeal.Value.run (F := Ideal) m' ρ')
    obtain ⟨h0, h1, h2, h3, h4⟩ := hag c
    have e0 : m' ((c : Thread Cert.OutEvenRefIdeal.nD Cert.OutEvenRefIdeal.τ).loc Cert.OutEvenRefIdeal.main_arg0) = m ((c : Thread Cert.OutEvenIdeal.nD Cert.OutEvenIdeal.τ).loc Cert.OutEvenIdeal.main_arg0) := h0
    have e1 : m' ((c : Thread Cert.OutEvenRefIdeal.nD Cert.OutEvenRefIdeal.τ).loc Cert.OutEvenRefIdeal.main_arg1) = m ((c : Thread Cert.OutEvenIdeal.nD Cert.OutEvenIdeal.τ).loc Cert.OutEvenIdeal.main_arg1) := h1
    have e2 : m' ((c : Thread Cert.OutEvenRefIdeal.nD Cert.OutEvenRefIdeal.τ).loc Cert.OutEvenRefIdeal.main_arg2) = m ((c : Thread Cert.OutEvenIdeal.nD Cert.OutEvenIdeal.τ).loc Cert.OutEvenIdeal.main_arg2) := h2
    have e3 : m' ((c : Thread Cert.OutEvenRefIdeal.nD Cert.OutEvenRefIdeal.τ).loc Cert.OutEvenRefIdeal.main_arg3) = m ((c : Thread Cert.OutEvenIdeal.nD Cert.OutEvenIdeal.τ).loc Cert.OutEvenIdeal.main_arg3) := h3
    have e4 : m' ((c : Thread Cert.OutEvenRefIdeal.nD Cert.OutEvenRefIdeal.τ).loc Cert.OutEvenRefIdeal.main_arg4) = m ((c : Thread Cert.OutEvenIdeal.nD Cert.OutEvenIdeal.τ).loc Cert.OutEvenIdeal.main_arg4) := h4
    refine ⟨(h c).1.trans ?_, (h c).2⟩
    · refine (Cert.OutEvenRefIdeal.Read.val_main_v63_eq m' c).trans ?_
      rw [e0, e1, e2, e3, e4]
      funext i
      rw [eq_ix2 i]
      exact Cert.OutEvenRefIdeal.Mix.ref_apply _ _ _ _ _ _ _

end Cert.OutEvenIdeal.Mix

end
-- ==== Proof.OutOddArray.lean ====
/- The projection after the odd layer's mixers, with its gated linear unit: what each window's block holds, what a point writes
   back, and the output array. -/
module

public import proofs.«01_k».proof.Proof.MixRows
public import proofs.«01_k».proof.Proof.Gen.OutOddIdeal.Value

@[expose] public section

set_option maxRecDepth 16384

noncomputable section

namespace Cert.OutOddIdeal.Mix

open Cert.OutOddIdeal Cert.OutOddIdeal.Gen Idealize.ShloMosaic Idealize.ShloMosaic.TcCoe Idealize.SL.Sem Cert.Mix
open Idealize.ShloMosaic.Pipeline (Dat)

variable (m : (ℓ : Loc nD τ sig) → Buf (Elt Ideal) ℓ)

/-- There are 32 points. -/
theorem lt32 (t : Fin cfg0.N) : t.val < 32 := t.isLt

/-- Window 0's block at point `t`. -/
theorem idx0 : ∀ t : Fin cfg0.N,
    (win0_0.index t 0 = t.val ∧ win0_0.index t 1 = 0) :=
  (by decide +kernel : ∀ t : Fin grid0.N,
    (win0_0.index t 0 = t.val ∧ win0_0.index t 1 = 0))

/-- Window 1's block at point `t`. -/
theorem idx1 : ∀ t : Fin cfg0.N,
    (win0_1.index t 0 = t.val ∧ win0_1.index t 1 = 0) :=
  (by decide +kernel : ∀ t : Fin grid0.N,
    (win0_1.index t 0 = t.val ∧ win0_1.index t 1 = 0))

/-- Window 2's block at point `t`. -/
theorem idx2 : ∀ t : Fin cfg0.N,
    (win0_2.index t 0 = t.val ∧ win0_2.index t 1 = 0) :=
  (by decide +kernel : ∀ t : Fin grid0.N,
    (win0_2.index t 0 = t.val ∧ win0_2.index t 1 = 0))

/-- Window 3's block at point `t`. -/
theorem idx3 : ∀ t : Fin cfg0.N,
    (win0_3.index t 0 = t.val ∧ win0_3.index t 1 = 1) :=
  (by decide +kernel : ∀ t : Fin grid0.N,
    (win0_3.index t 0 = t.val ∧ win0_3.index t 1 = 1))

/-- Window 4's block at point `t`. -/
theorem idx4 : ∀ t : Fin cfg0.N,
    (win0_4.index t 0 = 3 ∧ win0_4.index t 1 = (if t.val < 16 then 0 else 1 + (t.val - 16) / 8) ∧ win0_4.index t 2 = 0 ∧ win0_4.index t 3 = 0) :=
  (by decide +kernel : ∀ t : Fin grid0.N,
    (win0_4.index t 0 = 3 ∧ win0_4.index t 1 = (if t.val < 16 then 0 else 1 + (t.val - 16) / 8) ∧ win0_4.index t 2 = 0 ∧ win0_4.index t 3 = 0))

/-- Window 5's block at point `t`. -/
theorem idx5 : ∀ t : Fin cfg0.N,
    (win0_5.index t 0 = 3 ∧ win0_5.index t 1 = 0 ∧ win0_5.index t 2 = 0) :=
  (by decide +kernel : ∀ t : Fin grid0.N,
    (win0_5.index t 0 = 3 ∧ win0_5.index t 1 = 0 ∧ win0_5.index t 2 = 0))

/-- Window 6's block at point `t`. -/
theorem idx6 : ∀ t : Fin cfg0.N,
    (win0_6.index t 0 = 0 ∧ win0_6.index t 1 = 0) :=
  (by decide +kernel : ∀ t : Fin grid0.N,
    (win0_6.index t 0 = 0 ∧ win0_6.index t 1 = 0))

/-- Window 7's block at point `t`. -/
theorem idx7 : ∀ t : Fin cfg0.N,
    (win0_7.index t 0 = 0 ∧ win0_7.index t 1 = 0) :=
  (by decide +kernel : ∀ t : Fin grid0.N,
    (win0_7.index t 0 = 0 ∧ win0_7.index t 1 = 0))

/-- Window 8's block at point `t`. -/
theorem idx8 : ∀ t : Fin cfg0.N,
    (win0_8.index t 0 = 0 ∧ win0_8.index t 1 = 0) :=
  (by decide +kernel : ∀ t : Fin grid0.N,
    (win0_8.index t 0 = 0 ∧ win0_8.index t 1 = 0))

/-- Window 9's block at point `t`. -/
theorem idx9 : ∀ t : Fin cfg0.N,
    (win0_9.index t 0 = 0 ∧ win0_9.index t 1 = 0) :=
  (by decide +kernel : ∀ t : Fin grid0.N,
    (win0_9.index t 0 = 0 ∧ win0_9.index t 1 = 0))

/-- Window 10's block at point `t`. -/
theorem idx10 : ∀ t : Fin cfg0.N,
    (win0_10.index t 0 = t.val ∧ win0_10.index t 1 = 0) :=
  (by decide +kernel : ∀ t : Fin grid0.N,
    (win0_10.index t 0 = t.val ∧ win0_10.index t 1 = 0))

/-- The gains, one row a layer. -/
theorem V_g (c : Dev nD) (l : Fin 4) (j : Fin 1024) : V m c main_v0 (ix3 l 0 j) = m ((c : Thread nD τ).loc main_arg5) (ix2 l j) := by
  unfold V
  after_results_simp
  generalize hX : m ((c : Thread nD τ).loc main_arg5) = X
  change S4x1024.Idx → EReal at X
  show shapeCast S4x1x1024 X shapeCasts_S4x1024_S4x1x1024 (ix3 l 0 j) = _
  pointwise []

/-- The skip weights, as prepared on the host: the second of the two. -/
theorem V_d (c : Dev nD) (j : Fin 512) : V m c main_v3 (ix2 0 j) = m ((c : Thread nD τ).loc main_arg6) (ix2 1 j) := by
  unfold V
  after_results_simp
  generalize hX : m ((c : Thread nD τ).loc main_arg6) = X
  change S2x512.Idx → EReal at X
  show broadcastInDim S1x512 ![1] bcast_S512_S1x512_1 (fun i => shapeCast S512 (extractStridedSlice S1x512 ![1, 0] X slices_S2x512_S1x512_1_0) shapeCasts_S1x512_S512 i) (ix2 0 j) = _
  pointwise []

/-- The unit's weight: the second of the two. -/
theorem V_gw (c : Dev nD) (k : Fin 512) (j : Fin 512) : V m c main_v6 (ix2 k j) = m ((c : Thread nD τ).loc main_arg7) (ix3 1 k j) := by
  unfold V
  after_results_simp
  generalize hX : m ((c : Thread nD τ).loc main_arg7) = X
  change S2x512x512.Idx → EReal at X
  show truncf (F := Ideal) FTy.bf16 (fun i => shapeCast S512x512 (extractStridedSlice S1x512x512 ![1, 0, 0] X slices_S2x512x512_S1x512x512_1_0_0) shapeCasts_S1x512x512_S512x512 i) bitsLt_bf16_f32 (ix2 k j) = _
  pointwise []

/-- The unit's bias: the second of the two. -/
theorem V_gb (c : Dev nD) (j : Fin 512) : V m c main_v9 (ix2 0 j) = m ((c : Thread nD τ).loc main_arg8) (ix2 1 j) := by
  unfold V
  after_results_simp
  generalize hX : m ((c : Thread nD τ).loc main_arg8) = X
  change S2x512.Idx → EReal at X
  show broadcastInDim S1x512 ![1] bcast_S512_S1x512_1 (fun i => shapeCast S512 (extractStridedSlice S1x512 ![1, 0] X slices_S2x512_S1x512_1_0) shapeCasts_S1x512_S512 i) (ix2 0 j) = _
  pointwise []

/-- The projection's weight: the second of the two. -/
theorem V_w (c : Dev nD) (k : Fin 1024) (j : Fin 1024) : V m c main_v12 (ix2 k j) = m ((c : Thread nD τ).loc main_arg9) (ix3 1 k j) := by
  unfold V
  after_results_simp
  generalize hX : m ((c : Thread nD τ).loc main_arg9) = X
  change S2x1024x1024.Idx → EReal at X
  show truncf (F := Ideal) FTy.bf16 (fun i => shapeCast S1024x1024 (extractStridedSlice S1x1024x1024 ![1, 0, 0] X slices_S2x1024x1024_S1x1024x1024_1_0_0) shapeCasts_S1x1024x1024_S1024x1024 i) bitsLt_bf16_f32 (ix2 k j) = _
  pointwise []

/-- The rows' block. -/
theorem iblk0_apply (c : Dev nD) (t : Fin cfg0.N) (r : Fin 256) (k : Fin 1024) :
    iblk m c 0 t (ix2 r k) = m ((c : Thread nD τ).loc main_arg0) (ix2 (rowT t.val (lt32 t) r) k) := by
  unfold iblk
  have hV : V m c (Pipeline.arrRef spec0 0) = m ((c : Thread nD τ).loc main_arg0) := V_main_arg0 m c
  rw [hV]
  show m ((c : Thread nD τ).loc main_arg0) _ = _
  congr 1
  funext a
  apply Fin.ext
  match a with
  | ⟨0, _⟩ =>
    have h := (idx0 t).1
    show win0_0.index t 0 * 256 + 1 * r.val = 256 * t.val + r.val
    omega
  | ⟨1, _⟩ =>
    have h := (idx0 t).2
    show win0_0.index t 1 * 1024 + 1 * k.val = k.val
    omega

/-- The recurrence's block. -/
theorem iblk1_apply (c : Dev nD) (t : Fin cfg0.N) (r : Fin 256) (k : Fin 512) :
    iblk m c 1 t (ix2 r k) = m ((c : Thread nD τ).loc main_arg1) (ix2 (rowT t.val (lt32 t) r) k) := by
  unfold iblk
  have hV : V m c (Pipeline.arrRef spec0 1) = m ((c : Thread nD τ).loc main_arg1) := V_main_arg1 m c
  rw [hV]
  show m ((c : Thread nD τ).loc main_arg1) _ = _
  congr 1
  funext a
  apply Fin.ext
  match a with
  | ⟨0, _⟩ =>
    have h := (idx1 t).1
    show win0_1.index t 0 * 256 + 1 * r.val = 256 * t.val + r.val
    omega
  | ⟨1, _⟩ =>
    have h := (idx1 t).2
    show win0_1.index t 1 * 512 + 1 * k.val = k.val
    omega

/-- The recurrence's inputs. -/
theorem iblk2_apply (c : Dev nD) (t : Fin cfg0.N) (r : Fin 256) (k : Fin 512) :
    iblk m c 2 t (ix2 r k) = m ((c : Thread nD τ).loc main_arg2) (ix2 (rowT t.val (lt32 t) r) k) := by
  unfold iblk
  have hV : V m c (Pipeline.arrRef spec0 2) = m ((c : Thread nD τ).loc main_arg2) := V_main_arg2 m c
  rw [hV]
  show m ((c : Thread nD τ).loc main_arg2) _ = _
  congr 1
  funext a
  apply Fin.ext
  match a with
  | ⟨0, _⟩ =>
    have h := (idx2 t).1
    show win0_2.index t 0 * 256 + 1 * r.val = 256 * t.val + r.val
    omega
  | ⟨1, _⟩ =>
    have h := (idx2 t).2
    show win0_2.index t 1 * 512 + 1 * k.val = k.val
    omega

/-- The attention's block: the right half of its array. -/
theorem iblk3_apply (c : Dev nD) (t : Fin cfg0.N) (r : Fin 256) (k : Fin 512) :
    iblk m c 3 t (ix2 r k) = m ((c : Thread nD τ).loc main_arg3) (ix2 (rowT t.val (lt32 t) r) ⟨512 + k.val, by omega⟩) := by
  unfold iblk
  have hV : V m c (Pipeline.arrRef spec0 3) = m ((c : Thread nD τ).loc main_arg3) := V_main_arg3 m c
  rw [hV]
  show m ((c : Thread nD τ).loc main_arg3) _ = _
  congr 1
  funext a
  apply Fin.ext
  match a with
  | ⟨0, _⟩ =>
    have h := (idx3 t).1
    show win0_3.index t 0 * 256 + 1 * r.val = 256 * t.val + r.val
    omega
  | ⟨1, _⟩ =>
    have h := (idx3 t).2
    show win0_3.index t 1 * 512 + 1 * k.val = 512 + k.val
    omega

/-- The tile's modulation row. -/
theorem iblk4_apply (c : Dev nD) (t : Fin cfg0.N) (j : Fin 6144) :
    iblk m c 4 t (ix4 0 0 0 j) = m ((c : Thread nD τ).loc main_arg4) (ix4 3 (mtile t.val (lt32 t)) 0 j) := by
  unfold iblk
  have hV : V m c (Pipeline.arrRef spec0 4) = m ((c : Thread nD τ).loc main_arg4) := V_main_arg4 m c
  rw [hV]
  show m ((c : Thread nD τ).loc main_arg4) _ = _
  congr 1
  funext a
  apply Fin.ext
  match a with
  | ⟨0, _⟩ =>
    have h := (idx4 t).1
    show win0_4.index t 0 * 1 + 1 * 0 = 3
    omega
  | ⟨1, _⟩ =>
    have h := (idx4 t).2.1
    show win0_4.index t 1 * 1 + 1 * 0 = (if t.val < 16 then 0 else 1 + (t.val - 16) / 8)
    omega
  | ⟨2, _⟩ =>
    have h := (idx4 t).2.2.1
    show win0_4.index t 2 * 1 + 1 * 0 = 0
    omega
  | ⟨3, _⟩ =>
    have h := (idx4 t).2.2.2
    show win0_4.index t 3 * 6144 + 1 * j.val = j.val
    omega

/-- The gain's block is the layer's. -/
theorem iblk5_apply (c : Dev nD) (t : Fin cfg0.N) (j : Fin 1024) :
    iblk m c 5 t (ix3 0 0 j) = m ((c : Thread nD τ).loc main_arg5) (ix2 3 j) := by
  unfold iblk
  refine Eq.trans ?_ (V_g m c 3 j)
  show V m c main_v0 _ = V m c main_v0 _
  congr 1
  funext a
  apply Fin.ext
  match a with
  | ⟨0, _⟩ =>
    have h := (idx5 t).1
    show win0_5.index t 0 * 1 + 1 * 0 = 3
    omega
  | ⟨1, _⟩ =>
    have h := (idx5 t).2.1
    show win0_5.index t 1 * 1 + 1 * 0 = 0
    omega
  | ⟨2, _⟩ =>
    have h := (idx5 t).2.2
    show win0_5.index t 2 * 1024 + 1 * j.val = j.val
    omega

/-- The skip weights' block. -/
theorem iblk6_apply (c : Dev nD) (t : Fin cfg0.N) (j : Fin 512) :
    iblk m c 6 t (ix2 0 j) = m ((c : Thread nD τ).loc main_arg6) (ix2 1 j) := by
  unfold iblk
  refine Eq.trans ?_ (V_d m c j)
  show V m c main_v3 _ = V m c main_v3 _
  congr 1
  funext a
  apply Fin.ext
  match a with
  | ⟨0, _⟩ =>
    have h := (idx6 t).1
    show win0_6.index t 0 * 1 + 1 * 0 = 0
    omega
  | ⟨1, _⟩ =>
    have h := (idx6 t).2
    show win0_6.index t 1 * 512 + 1 * j.val = j.val
    omega

/-- The unit's weight. -/
theorem iblk7_apply (c : Dev nD) (t : Fin cfg0.N) (k : Fin 512) (j : Fin 512) :
    iblk m c 7 t (ix2 k j) = m ((c : Thread nD τ).loc main_arg7) (ix3 1 k j) := by
  unfold iblk
  refine Eq.trans ?_ (V_gw m c k j)
  show V m c main_v6 _ = V m c main_v6 _
  congr 1
  funext a
  apply Fin.ext
  match a with
  | ⟨0, _⟩ =>
    have h := (idx7 t).1
    show win0_7.index t 0 * 512 + 1 * k.val = k.val
    omega
  | ⟨1, _⟩ =>
    have h := (idx7 t).2
    show win0_7.index t 1 * 512 + 1 * j.val = j.val
    omega

/-- The unit's bias. -/
theorem iblk8_apply (c : Dev nD) (t : Fin cfg0.N) (j : Fin 512) :
    iblk m c 8 t (ix2 0 j) = m ((c : Thread nD τ).loc main_arg8) (ix2 1 j) := by
  unfold iblk
  refine Eq.trans ?_ (V_gb m c j)
  show V m c main_v9 _ = V m c main_v9 _
  congr 1
  funext a
  apply Fin.ext
  match a with
  | ⟨0, _⟩ =>
    have h := (idx8 t).1
    show win0_8.index t 0 * 1 + 1 * 0 = 0
    omega
  | ⟨1, _⟩ =>
    have h := (idx8 t).2
    show win0_8.index t 1 * 512 + 1 * j.val = j.val
    omega

/-- The projection's weight. -/
theorem iblk9_apply (c : Dev nD) (t : Fin cfg0.N) (k : Fin 1024) (j : Fin 1024) :
    iblk m c 9 t (ix2 k j) = m ((c : Thread nD τ).loc main_arg9) (ix3 1 k j) := by
  unfold iblk
  refine Eq.trans ?_ (V_w m c k j)
  show V m c main_v12 _ = V m c main_v12 _
  congr 1
  funext a
  apply Fin.ext
  match a with
  | ⟨0, _⟩ =>
    have h := (idx9 t).1
    show win0_9.index t 0 * 1024 + 1 * k.val = k.val
    omega
  | ⟨1, _⟩ =>
    have h := (idx9 t).2
    show win0_9.index t 1 * 1024 + 1 * j.val = j.val
    omega

/-- The recurrence's output with its skip, through GELU. -/
theorem pay3_apply (yr : Vec Ideal S256x512 .f32) (d : Vec Ideal S1x512 .f32) (u : Vec Ideal S256x512 .f32) (r : Fin 256) (j : Fin 512) :
    k0_pay3 yr d u (ix2 r j) = gelu (yr (ix2 r j) + d (ix2 0 j) * u (ix2 r j)) := by
  pointwise [k0_pay3]
  unfold gelu
  exact (congrArg (fun z : EReal => z * _) (mul_comm _ _)).trans (mul_assoc _ _ _)

/-- The logistic of its projection. -/
theorem pay4_apply (yr : Vec Ideal S256x512 .f32) (d : Vec Ideal S1x512 .f32) (u : Vec Ideal S256x512 .f32) (gw : Vec Ideal S512x512 .bf16) (gb : Vec Ideal S1x512 .f32)
    (r : Fin 256) (j : Fin 512) :
    k0_pay4 yr d u gw gb (ix2 r j)
      = Ideal.div 1 (1 + Ideal.exp (-(rowDot (fun i => gelu (yr (ix2 r i) + d (ix2 0 i) * u (ix2 r i))) (fun i j => gw (ix2 i j)) j + gb (ix2 0 j)))) := by
  pointwise [k0_pay4]
  simp only [pay3_apply]
  rw [zero_sub]
  rfl

/-- A block's results, of the unit's two factors and the blocks the point reads. -/
theorem pay1_apply (b : FVec Ideal S1x6144 .f32) (p q : FVec Ideal S256x512 .f32) (w1 : Vec Ideal S512x1024 .bf16) (y : Vec Ideal S256x512 .bf16)
    (w2 : Vec Ideal S512x1024 .bf16) (a : Vec Ideal S256x1024 .f32) (e : Vec Ideal S1x1x1024 .f32) (r : Fin 256) (k : Fin 1024) :
    k0_pay1 b p q w1 y w2 a e (ix2 r k) = gated (fun j => a (ix2 r j)) (fun j => b (ix2 0 ⟨2048 + j.val, by omega⟩))
      (fun k => rowDot (fun j => p (ix2 r j) * q (ix2 r j)) (fun j k => w1 (ix2 j k)) k + rowDot (fun j => y (ix2 r j)) (fun j k => w2 (ix2 j k)) k)
      (fun j => e (ix3 0 0 j)) k := by
  pointwise [k0_pay1]
  rfl

/-- The load of the weight's upper half. -/
theorem ld_top (w : Vec Ideal S1024x1024 .bf16) (j : Fin 512) (k : Fin 1024) : View.ld w r0_4 (ix2 j k) = w (ix2 ⟨j.val, by omega⟩ k) := by
  show w _ = w _
  congr 1
  funext a
  apply Fin.ext
  match a with
  | ⟨0, _⟩ => show 0 + 1 * j.val = j.val; omega
  | ⟨1, _⟩ => show 0 + 1 * k.val = k.val; omega

/-- The load of the weight's lower half. -/
theorem ld_low (w : Vec Ideal S1024x1024 .bf16) (j : Fin 512) (k : Fin 1024) : View.ld w r0_5 (ix2 j k) = w (ix2 ⟨512 + j.val, by omega⟩ k) := by
  show w _ = w _
  congr 1
  funext a
  apply Fin.ext
  match a with
  | ⟨0, _⟩ => show 512 + 1 * j.val = 512 + j.val; omega
  | ⟨1, _⟩ => show 0 + 1 * k.val = k.val; omega

/-- A block's results, of the blocks the point reads. -/
theorem block_apply (x0 : Vec Ideal S256x1024 .f32) (x1 x2 : Vec Ideal S256x512 .f32) (x3 : Vec Ideal S256x512 .bf16) (x4 : Vec Ideal S1x1x1x6144 .f32)
    (x5 : Vec Ideal S1x1x1024 .f32) (x6 : Vec Ideal S1x512 .f32) (x7 : Vec Ideal S512x512 .bf16) (x8 : Vec Ideal S1x512 .f32) (x9 : Vec Ideal S1024x1024 .bf16)
    (r : Fin 256) (k : Fin 1024) :
    out0_10 x0 x1 x2 x3 x4 x5 x6 x7 x8 x9 (ix2 r k) = gated (fun j => x0 (ix2 r j)) (fun j => x4 (ix4 0 0 0 ⟨2048 + j.val, by omega⟩))
      (rowDot2 (glu (fun j => x1 (ix2 r j) + x6 (ix2 0 j) * x2 (ix2 r j)) (fun i j => x7 (ix2 i j)) (fun j => x8 (ix2 0 j))) (fun j => x3 (ix2 r j)) (fun j k => x9 (ix2 j k)))
      (fun j => x5 (ix3 0 0 j)) k := by
  unfold out0_10
  rw [View.canon_unit_zero (S := S256x1024) z2, View.ld_unit_zero (S := S256x1024) z2, View.ld_unit_zero (S := S256x512) z2, View.ld_unit_zero (S := S256x512) z2,
    View.ld_unit_zero (S := S256x512) z2, View.ld_unit_zero (S := S1x1x1x6144) z4, View.ld_unit_zero (S := S1x1x1024) z3, View.ld_unit_zero (S := S1x512) z2,
    View.ld_unit_zero (S := S1x512) z2, View.ld_unit_zero (S := S512x512) z2]
  refine (pay1_apply _ _ _ _ _ _ _ _ r k).trans ?_
  have e2 : ∀ j : Fin 6144, k0_pay2 x4 (ix2 0 j) = x4 (ix4 0 0 0 j) := fun j => by pointwise [k0_pay2]
  simp only [pay3_apply, pay4_apply, e2]
  exact congrArg (fun f => gated _ _ f _ k) (funext fun k => congrArg₂ (fun a b : EReal => a + b)
    (congrArg (fun w => rowDot _ w k) (funext fun j => funext fun k => ld_top x9 j k)) (congrArg (fun w => rowDot _ w k) (funext fun j => funext fun k => ld_low x9 j k)))

/-- The results of the kernel's arguments. -/
def out10 (c : Dev nD) : S8192x1024.Idx → EReal := fun i =>
  resAt (fun R j => m ((c : Thread nD τ).loc main_arg0) (ix2 R j)) (fun r j => m ((c : Thread nD τ).loc main_arg4) (ix4 3 r 0 j)) (fun j => m ((c : Thread nD τ).loc main_arg5) (ix2 3 j))
    (fun R => rowDot2 (glu (fun j => skip (m ((c : Thread nD τ).loc main_arg1) (ix2 R j)) (m ((c : Thread nD τ).loc main_arg6) (ix2 1 j)) (m ((c : Thread nD τ).loc main_arg2) (ix2 R j))) (fun i j => m ((c : Thread nD τ).loc main_arg7) (ix3 1 i j)) (fun j => m ((c : Thread nD τ).loc main_arg8) (ix2 1 j)))
      (fun j => m ((c : Thread nD τ).loc main_arg3) (ix2 R ⟨512 + j.val, by omega⟩)) (fun j k => m ((c : Thread nD τ).loc main_arg9) (ix3 1 j k))) (i 0) (i 1)

/-- A point's block of it. -/
theorem out0_10_eq (c : Dev nD) (t : Fin cfg0.N) (r : Fin 256) (k : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r k)
      = out10 m c (ix2 (rowT t.val (lt32 t) r) k) := by
  refine (block_apply _ _ _ _ _ _ _ _ _ _ r k).trans ?_
  unfold out10 resAt
  show gated _ _ _ _ k = gated _ (fun j => m ((c : Thread nD τ).loc main_arg4) (ix4 3 (mrow (rowT t.val (lt32 t) r)) 0 _)) (rowDot2 (glu (fun j => skip (m ((c : Thread nD τ).loc main_arg1) (ix2 (rowT t.val (lt32 t) r) j)) (m ((c : Thread nD τ).loc main_arg6) (ix2 1 j)) (m ((c : Thread nD τ).loc main_arg2) (ix2 (rowT t.val (lt32 t) r) j))) (fun i j => m ((c : Thread nD τ).loc main_arg7) (ix3 1 i j)) (fun j => m ((c : Thread nD τ).loc main_arg8) (ix2 1 j)))
      (fun j => m ((c : Thread nD τ).loc main_arg3) (ix2 (rowT t.val (lt32 t) r) ⟨512 + j.val, by omega⟩)) (fun j k => m ((c : Thread nD τ).loc main_arg9) (ix3 1 j k))) _ k
  rw [mrow_T]
  have e0 : (fun j => iblk m c 0 t (ix2 r j)) = fun j : Fin 1024 => m ((c : Thread nD τ).loc main_arg0) (ix2 (rowT t.val (lt32 t) r) j) :=
    funext fun j => iblk0_apply m c t r j
  have e3 : (fun j => iblk m c 3 t (ix2 r j)) = fun j : Fin 512 => m ((c : Thread nD τ).loc main_arg3) (ix2 (rowT t.val (lt32 t) r) ⟨512 + j.val, by omega⟩) :=
    funext fun j => iblk3_apply m c t r j
  have e4 : ∀ j : Fin 6144, iblk m c 4 t (ix4 0 0 0 j) = m ((c : Thread nD τ).loc main_arg4) (ix4 3 (mtile t.val (lt32 t)) 0 j) := fun j => iblk4_apply m c t j
  have e5 : (fun j => iblk m c 5 t (ix3 0 0 j)) = fun j : Fin 1024 => m ((c : Thread nD τ).loc main_arg5) (ix2 3 j) := funext fun j => iblk5_apply m c t j
  have e7 : (fun j k => iblk m c 7 t (ix2 j k)) = fun (j k : Fin 512) => m ((c : Thread nD τ).loc main_arg7) (ix3 1 j k) := funext fun j => funext fun k => iblk7_apply m c t j k
  have e8 : (fun j => iblk m c 8 t (ix2 0 j)) = fun j : Fin 512 => m ((c : Thread nD τ).loc main_arg8) (ix2 1 j) := funext fun j => iblk8_apply m c t j
  have e9 : (fun j k => iblk m c 9 t (ix2 j k)) = fun (j k : Fin 1024) => m ((c : Thread nD τ).loc main_arg9) (ix3 1 j k) := funext fun j => funext fun k => iblk9_apply m c t j k
  have ez : ∀ j : Fin 512, skip (iblk m c 1 t (ix2 r j)) (iblk m c 6 t (ix2 0 j)) (iblk m c 2 t (ix2 r j))
      = skip (m ((c : Thread nD τ).loc main_arg1) (ix2 (rowT t.val (lt32 t) r) j)) (m ((c : Thread nD τ).loc main_arg6) (ix2 1 j)) (m ((c : Thread nD τ).loc main_arg2) (ix2 (rowT t.val (lt32 t) r) j)) := fun j =>
    congr (congr (congrArg skip (iblk1_apply m c t r j)) (iblk6_apply m c t j)) (iblk2_apply m c t r j)
  exact congr (congr (congr (congr (congrArg gated e0) (funext fun j => e4 _)) (congr (congr (congrArg rowDot2 (congr (congr (congrArg glu (funext ez)) e7) e8)) e3) e9)) e5) rfl

/-- What point `t` writes back is its block of the output array. -/
theorem flushed_eq10 (c : Dev nD) (t : Fin cfg0.N) :
    (dats m 0 c).flushed 10 t = ((cfg0.win 10).blk t).view.read (Elt Ideal) (out10 m c) := by
  rw [Value.flushed10]
  funext y
  obtain ⟨r, e, rfl⟩ : ∃ (r : Fin 256) (e : Fin 1024), y = ix2 r e := ⟨y 0, y 1, eq_ix2 y⟩
  refine (out0_10_eq m c t r e).trans ?_
  show out10 m c _ = out10 m c _
  congr 1
  funext a
  apply Fin.ext
  match a with
  | ⟨0, _⟩ =>
    show 256 * t.val + r.val = win0_10.index t 0 * 256 + 1 * r.val
    rw [(idx10 t).1]; omega
  | ⟨1, _⟩ =>
    show e.val = win0_10.index t 1 * 1024 + 1 * e.val
    rw [(idx10 t).2]; omega

/-- An index lies in point `t`'s output block when its row is among the block's 256. -/
theorem mem_blk10 (t : Fin cfg0.N) (i : S8192x1024.Idx) :
    i ∈ ((cfg0.win 10).blk t).view.set ↔ ∀ a, win0_10.index t a * win0_10.size a ≤ (i a : Nat) ∧ (i a : Nat) < win0_10.index t a * win0_10.size a + win0_10.xsize (grid0.coords t) a := by
  show i ∈ ((View.whole main_v13).slice (win0_10.rect t)).set ↔ _
  rw [View.set_slice_whole, Rect.mem_set_unit]

/-- The output array at the end. -/
theorem arr_eq10 (c : Dev nD) : (dats m 0 c).arrAt 10 cfg0.N = out10 m c := by
  refine Dat.arrAt_eq_of_cover (dats m 0 c) 10 (out10 m c) (fun t _ => flushed_eq10 m c t) fun i => ?_
  obtain ⟨R, C, rfl⟩ : ∃ (R : Fin 8192) (C : Fin 1024), i = ix2 R C := ⟨i 0, i 1, eq_ix2 i⟩
  refine ⟨(⟨R.val / 256, by show R.val / 256 < 32; omega⟩ : Fin cfg0.N), flush0_10 _, ?_⟩
  rw [mem_blk10]
  intro a
  match a with
  | ⟨0, _⟩ =>
    show win0_10.index _ 0 * 256 ≤ R.val ∧ R.val < win0_10.index _ 0 * 256 + 256
    rw [(idx10 _).1]; show R.val / 256 * 256 ≤ R.val ∧ R.val < R.val / 256 * 256 + 256; omega
  | ⟨1, _⟩ =>
    show win0_10.index _ 1 * 1024 ≤ C.val ∧ C.val < win0_10.index _ 1 * 1024 + 1024
    rw [(idx10 _).2]; omega

end Cert.OutOddIdeal.Mix

end
-- ==== Proof.OutOddRef.lean ====
/- The projection after the odd layer's mixers as the plain reference computes it. -/
module

public import proofs.«01_k».proof.Proof.MixRows
public import proofs.«01_k».proof.Proof.Gen.OutOddRefIdeal.Read

@[expose] public section

set_option maxRecDepth 16384

noncomputable section

namespace Cert.OutOddRefIdeal.Mix

open Cert.OutOddRefIdeal Cert.OutOddRefIdeal.Gen Cert.OutOddRefIdeal.Read Idealize.ShloMosaic Idealize.ShloMosaic.TcCoe Idealize.SL.Sem Cert.Mix

variable (x : (⟨S8192x1024, .f32⟩ : BufTy).Contents (Elt Ideal)) (yr u : (⟨S8192x512, .f32⟩ : BufTy).Contents (Elt Ideal)) (y : (⟨S8192x1024, .bf16⟩ : BufTy).Contents (Elt Ideal))
  (md : (⟨S4x3x1x6144, .f32⟩ : BufTy).Contents (Elt Ideal)) (g : (⟨S4x1024, .f32⟩ : BufTy).Contents (Elt Ideal)) (d : (⟨S2x512, .f32⟩ : BufTy).Contents (Elt Ideal))
  (gw : (⟨S2x512x512, .f32⟩ : BufTy).Contents (Elt Ideal)) (gb : (⟨S2x512, .f32⟩ : BufTy).Contents (Elt Ideal)) (w : (⟨S2x1024x1024, .f32⟩ : BufTy).Contents (Elt Ideal))

/-- The recurrence's output with its skip, through GELU. -/
theorem v18_apply (R : Fin 8192) (j : Fin 512) : val_main_v18 (F := Ideal) yr u d (ix2 R j) = gelu (yr (ix2 R j) + d (ix2 1 j) * u (ix2 R j)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_cst, val_main_cst_0, val_main_cst_1, val_main_cst_2]
  rfl

/-- The gated linear unit. -/
theorem v33_apply (R : Fin 8192) (j : Fin 512) : val_main_v33 (F := Ideal) yr u d gw gb (ix2 R j)
      = glu (fun j => yr (ix2 R j) + d (ix2 1 j) * u (ix2 R j)) (fun i j => gw (ix3 1 i j)) (fun j => gb (ix2 1 j)) j := by
  pointwise [val_main_v19, val_main_v20, val_main_v21, val_main_v22, val_main_v23, val_main_v24, val_main_v25, val_main_v26, val_main_v27, val_main_v28, val_main_v29, val_main_v30, val_main_v31, val_main_v32, val_main_v33, val_main_cst_3, val_main_cst_4]
  simp only [v18_apply]
  rfl

/-- The product. -/
theorem v39_apply (R : Fin 8192) (k : Fin 1024) : val_main_v39 (F := Ideal) yr u y d gw gb w (ix2 R k)
      = (fun R => rowDot2 (glu (fun j => yr (ix2 R j) + d (ix2 1 j) * u (ix2 R j)) (fun i j => gw (ix3 1 i j)) (fun j => gb (ix2 1 j))) (fun j => y (ix2 R ⟨512 + j.val, by omega⟩)) (fun j k => w (ix3 1 j k))) R k := by
  pointwise [val_main_v37, val_main_v38, val_main_v39]
  refine rowDot2_eq _ _ (fun j k => w (ix3 1 j k)) k (fun j => val_main_v36 (F := Ideal) yr u y d gw gb (ix2 R j)) (fun j => ?_) fun j => ?_
  · pointwise [val_main_v34, val_main_v35, val_main_v36]
    exact v33_apply yr u d gw gb R j
  · pointwise [val_main_v34, val_main_v35, val_main_v36]

/-- The prompt's gated norms. -/
theorem out_P (b : Fin 16) (r : Fin 256) (k : Fin 1024) :
    val_main_v69 (F := Ideal) yr u y md g d gw gb w (ix3 b r k)
      = md (ix4 3 (mrow (rowP b r)) 0 ⟨2048 + k.val, by omega⟩) * rms 0x44800000#32 (fun j => (fun R => rowDot2 (glu (fun j => yr (ix2 R j) + d (ix2 1 j) * u (ix2 R j)) (fun i j => gw (ix3 1 i j)) (fun j => gb (ix2 1 j))) (fun j => y (ix2 R ⟨512 + j.val, by omega⟩)) (fun j k => w (ix3 1 j k))) (rowP b r) j) (fun j => g (ix2 3 j)) k := by
  pointwise [val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_cst_5, val_main_cst_6, val_main_cst_7]
  simp only [v39_apply]
  rw [mrow_P]
  rfl

/-- The sample's gated norms. -/
theorem out_S (b : Fin 2) (r : Fin 2048) (k : Fin 1024) :
    val_main_v95 (F := Ideal) yr u y md g d gw gb w (ix3 b r k)
      = md (ix4 3 (mrow (rowS b r)) 0 ⟨2048 + k.val, by omega⟩) * rms 0x44800000#32 (fun j => (fun R => rowDot2 (glu (fun j => yr (ix2 R j) + d (ix2 1 j) * u (ix2 R j)) (fun i j => gw (ix3 1 i j)) (fun j => gb (ix2 1 j))) (fun j => y (ix2 R ⟨512 + j.val, by omega⟩)) (fun j k => w (ix3 1 j k))) (rowS b r) j) (fun j => g (ix2 3 j)) k := by
  pointwise [val_main_v40, val_main_v41, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_cst_8, val_main_cst_9, val_main_cst_10]
  simp only [v39_apply]
  rw [mrow_S]
  rfl

/-- The result at a row and column. -/
theorem ref_apply (R : Fin 8192) (k : Fin 1024) :
    val_main_v99 (F := Ideal) x yr u y md g d gw gb w (ix2 R k)
      = resAt (fun R j => x (ix2 R j)) (fun r j => md (ix4 3 r 0 j)) (fun j => g (ix2 3 j)) (fun R j => (fun R => rowDot2 (glu (fun j => yr (ix2 R j) + d (ix2 1 j) * u (ix2 R j)) (fun i j => gw (ix3 1 i j)) (fun j => gb (ix2 1 j))) (fun j => y (ix2 R ⟨512 + j.val, by omega⟩)) (fun j k => w (ix3 1 j k))) R j) R k := by
  pointwise [val_main_v96, val_main_v97, val_main_v98, val_main_v99]
  unfold resAt gated
  refine congrArg (fun z : EReal => x (ix2 R k) + z) ?_
  by_cases h : R.val < 4096
  · refine (dif_pos h).trans ((out_P yr u y md g d gw gb w _ _ k).trans ?_)
    exact congrArg (fun z => md (ix4 3 (mrow z) 0 ⟨2048 + k.val, by omega⟩) * rms 0x44800000#32 (fun j => (fun R => rowDot2 (glu (fun j => yr (ix2 R j) + d (ix2 1 j) * u (ix2 R j)) (fun i j => gw (ix3 1 i j)) (fun j => gb (ix2 1 j))) (fun j => y (ix2 R ⟨512 + j.val, by omega⟩)) (fun j k => w (ix3 1 j k))) z j) (fun j => g (ix2 3 j)) k)
      (Fin.ext (by unfold rowP; dsimp only; omega))
  · refine (dif_neg h).trans ((out_S yr u y md g d gw gb w _ _ k).trans ?_)
    exact congrArg (fun z => md (ix4 3 (mrow z) 0 ⟨2048 + k.val, by omega⟩) * rms 0x44800000#32 (fun j => (fun R => rowDot2 (glu (fun j => yr (ix2 R j) + d (ix2 1 j) * u (ix2 R j)) (fun i j => gw (ix3 1 i j)) (fun j => gb (ix2 1 j))) (fun j => y (ix2 R ⟨512 + j.val, by omega⟩)) (fun j k => w (ix3 1 j k))) z j) (fun j => g (ix2 3 j)) k)
      (Fin.ext (by unfold rowS; dsimp only; omega))

end Cert.OutOddRefIdeal.Mix

end
-- ==== Proof.OutOddClaim.lean ====
/- The projection after the odd layer's mixers: the kernel's array is the reference's. -/
module

public import proofs.«01_k».proof.Defs
public import proofs.«01_k».proof.Proof.OutOddArray
public import proofs.«01_k».proof.Proof.OutOddRef

@[expose] public section

noncomputable section

namespace Cert.OutOddIdeal.Mix

open Idealize.ShloMosaic Idealize.ShloMosaic.TcCoe Idealize.SL.Sem

/-- The kernel and the reference give the same array for the same arguments. -/
theorem algebraic : Cert.algebraic_OutOddIdeal_OutOddRefIdeal := by
  intro m ρ m' ρ' _ hag
  refine ⟨fun c => out10 m c, ?_, ?_⟩
  · refine (θ_run _ _ _).mono (fun _ h c => ?_) (Cert.OutOddIdeal.Value.run_blocks (F := Ideal) m ρ)
    exact ⟨(h c).1.trans (arr_eq10 m c), (h c).2⟩
  · refine (θ_run _ _ _).mono (fun _ h c => ?_) (Cert.OutOddRefIdeal.Value.run (F := Ideal) m' ρ')
    obtain ⟨h0, h1, h2, h3, h4, h5, h6, h7, h8, h9⟩ := hag c
    have e0 : m' ((c : Thread Cert.OutOddRefIdeal.nD Cert.OutOddRefIdeal.τ).loc Cert.OutOddRefIdeal.main_arg0) = m ((c : Thread Cert.OutOddIdeal.nD Cert.OutOddIdeal.τ).loc Cert.OutOddIdeal.main_arg0) := h0
    have e1 : m' ((c : Thread Cert.OutOddRefIdeal.nD Cert.OutOddRefIdeal.τ).loc Cert.OutOddRefIdeal.main_arg1) = m ((c : Thread Cert.OutOddIdeal.nD Cert.OutOddIdeal.τ).loc Cert.OutOddIdeal.main_arg1) := h1
    have e2 : m' ((c : Thread Cert.OutOddRefIdeal.nD Cert.OutOddRefIdeal.τ).loc Cert.OutOddRefIdeal.main_arg2) = m ((c : Thread Cert.OutOddIdeal.nD Cert.OutOddIdeal.τ).loc Cert.OutOddIdeal.main_arg2) := h2
    have e3 : m' ((c : Thread Cert.OutOddRefIdeal.nD Cert.OutOddRefIdeal.τ).loc Cert.OutOddRefIdeal.main_arg3) = m ((c : Thread Cert.OutOddIdeal.nD Cert.OutOddIdeal.τ).loc Cert.OutOddIdeal.main_arg3) := h3
    have e4 : m' ((c : Thread Cert.OutOddRefIdeal.nD Cert.OutOddRefIdeal.τ).loc Cert.OutOddRefIdeal.main_arg4) = m ((c : Thread Cert.OutOddIdeal.nD Cert.OutOddIdeal.τ).loc Cert.OutOddIdeal.main_arg4) := h4
    have e5 : m' ((c : Thread Cert.OutOddRefIdeal.nD Cert.OutOddRefIdeal.τ).loc Cert.OutOddRefIdeal.main_arg5) = m ((c : Thread Cert.OutOddIdeal.nD Cert.OutOddIdeal.τ).loc Cert.OutOddIdeal.main_arg5) := h5
    have e6 : m' ((c : Thread Cert.OutOddRefIdeal.nD Cert.OutOddRefIdeal.τ).loc Cert.OutOddRefIdeal.main_arg6) = m ((c : Thread Cert.OutOddIdeal.nD Cert.OutOddIdeal.τ).loc Cert.OutOddIdeal.main_arg6) := h6
    have e7 : m' ((c : Thread Cert.OutOddRefIdeal.nD Cert.OutOddRefIdeal.τ).loc Cert.OutOddRefIdeal.main_arg7) = m ((c : Thread Cert.OutOddIdeal.nD Cert.OutOddIdeal.τ).loc Cert.OutOddIdeal.main_arg7) := h7
    have e8 : m' ((c : Thread Cert.OutOddRefIdeal.nD Cert.OutOddRefIdeal.τ).loc Cert.OutOddRefIdeal.main_arg8) = m ((c : Thread Cert.OutOddIdeal.nD Cert.OutOddIdeal.τ).loc Cert.OutOddIdeal.main_arg8) := h8
    have e9 : m' ((c : Thread Cert.OutOddRefIdeal.nD Cert.OutOddRefIdeal.τ).loc Cert.OutOddRefIdeal.main_arg9) = m ((c : Thread Cert.OutOddIdeal.nD Cert.OutOddIdeal.τ).loc Cert.OutOddIdeal.main_arg9) := h9
    refine ⟨(h c).1.trans ?_, (h c).2⟩
    · refine (Cert.OutOddRefIdeal.Read.val_main_v99_eq m' c).trans ?_
      rw [e0, e1, e2, e3, e4, e5, e6, e7, e8, e9]
      funext i
      rw [eq_ix2 i]
      exact Cert.OutOddRefIdeal.Mix.ref_apply _ _ _ _ _ _ _ _ _ _ _ _

end Cert.OutOddIdeal.Mix

end
-- ==== Proof.EvenSpec.lean ====
/- The projection before the even layer's mixers, row by row: the queries and keys of each head, the rotation of their last
   32 entries by the place of a sample's row in its image, and the layout of a head in 128 columns. -/
module

public import proofs.«01_k».proof.Proof.MixRows

@[expose] public section

noncomputable section

namespace Cert.Mix

open Idealize.ShloMosaic

/-- A head's 128 columns with 32 entries at columns 64 to 95 and zeros elsewhere. -/
def padR (w : Fin 32 → EReal) (d : Fin 128) : EReal :=
  if h : 64 ≤ d.val ∧ d.val < 96 then w ⟨d.val - 64, by omega⟩ else 0

/-- The same with the two halves of the 32 entries exchanged. -/
def swapR (w : Fin 32 → EReal) (d : Fin 128) : EReal :=
  if h : 64 ≤ d.val ∧ d.val < 80 then w ⟨d.val - 48, by omega⟩
  else if h : 80 ≤ d.val ∧ d.val < 96 then w ⟨d.val - 80, by omega⟩ else 0

/-- A head's 128 columns: 64 entries, then 32 more, then 32 zeros. -/
def headP (a : Fin 64 → EReal) (w : Fin 32 → EReal) (d : Fin 128) : EReal :=
  if h : d.val < 64 then a ⟨d.val, h⟩ else padR w d

/-- The cosines of a row over a head's 128 columns: at columns 64 to 79, again at 80 to 95, and one elsewhere. -/
def cosRow (cs : Fin 16 → EReal) (d : Fin 128) : EReal :=
  if h : 64 ≤ d.val ∧ d.val < 80 then cs ⟨d.val - 64, by omega⟩
  else if h : 80 ≤ d.val ∧ d.val < 96 then cs ⟨d.val - 80, by omega⟩ else 1

/-- The sines of a row over a head's 128 columns: negated at columns 64 to 79, as they are at 80 to 95, and zero elsewhere. -/
def sinRow (sn : Fin 16 → EReal) (d : Fin 128) : EReal :=
  if h : 64 ≤ d.val ∧ d.val < 80 then -sn ⟨d.val - 64, by omega⟩
  else if h : 80 ≤ d.val ∧ d.val < 96 then sn ⟨d.val - 80, by omega⟩ else 0

/-- The rotation of 32 entries, the entry `i` paired with the entry `i + 16`. -/
def turn (cs sn : Fin 16 → EReal) (a : Fin 32 → EReal) (i : Fin 32) : EReal :=
  if h : i.val < 16 then a i * cs ⟨i.val, h⟩ - a ⟨i.val + 16, by omega⟩ * sn ⟨i.val, h⟩
  else a ⟨i.val - 16, by omega⟩ * sn ⟨i.val - 16, by omega⟩ + a i * cs ⟨i.val - 16, by omega⟩

/-- The rotation at row `R`: none at the prompt's 4096 rows, and at a sample's row by its place among the image's 2048. -/
def rope (cs sn : Fin 2048 → Fin 16 → EReal) (R : Fin 8192) (a : Fin 32 → EReal) (i : Fin 32) : EReal :=
  if R.val < 4096 then a i
  else turn (cs ⟨(R.val - 4096) % 2048, Nat.mod_lt _ (by omega)⟩) (sn ⟨(R.val - 4096) % 2048, Nat.mod_lt _ (by omega)⟩) a i

/-- A product of a padded row with cosines and of the exchanged one with sines is the padded rotation. -/
theorem padR_turn (cs sn : Fin 16 → EReal) (a : Fin 32 → EReal) (d : Fin 128) :
    padR a d * cosRow cs d + swapR a d * sinRow sn d = padR (turn cs sn a) d := by
  unfold padR cosRow swapR sinRow turn
  by_cases h1 : 64 ≤ d.val ∧ d.val < 80
  · have h2 : 64 ≤ d.val ∧ d.val < 96 := by omega
    have h3 : d.val - 64 < 16 := by omega
    have e : (⟨d.val - 48, by omega⟩ : Fin 32) = ⟨d.val - 64 + 16, by omega⟩ := Fin.ext (by dsimp only; omega)
    simp only [dif_pos h1, dif_pos h2, dif_pos h3, e, mul_neg, sub_eq_add_neg]
  · by_cases h2 : 80 ≤ d.val ∧ d.val < 96
    · have h3 : 64 ≤ d.val ∧ d.val < 96 := by omega
      have h4 : ¬ d.val - 64 < 16 := by omega
      have e : (⟨d.val - 80, by omega⟩ : Fin 32) = ⟨d.val - 64 - 16, by omega⟩ := Fin.ext (by dsimp only; omega)
      have e' : (⟨d.val - 80, by omega⟩ : Fin 16) = ⟨d.val - 64 - 16, by omega⟩ := Fin.ext (by dsimp only; omega)
      simp only [dif_neg h1, dif_pos h2, dif_pos h3, dif_neg h4, e, e']
      exact add_comm _ _
    · have h3 : ¬ (64 ≤ d.val ∧ d.val < 96) := by omega
      simp only [dif_neg h1, dif_neg h2, dif_neg h3, zero_mul, add_zero]

/-- The same with 64 further entries ahead, which the rotation leaves. -/
theorem headP_turn (cs sn : Fin 16 → EReal) (b : Fin 64 → EReal) (a : Fin 32 → EReal) (d : Fin 128) :
    headP b a d * cosRow cs d + swapR a d * sinRow sn d = headP b (turn cs sn a) d := by
  unfold headP
  by_cases h : d.val < 64
  · have h1 : ¬ (64 ≤ d.val ∧ d.val < 80) := by omega
    have h2 : ¬ (80 ≤ d.val ∧ d.val < 96) := by omega
    simp only [dif_pos h]
    unfold cosRow swapR sinRow
    simp only [dif_neg h1, dif_neg h2, mul_one, zero_mul, add_zero]
  · simp only [dif_neg h]
    exact padR_turn cs sn a d

/-- Keys: 64 entries and zeros, plus a padded row, are the 64 entries and then that row's 32. -/
theorem headP_add (b : Fin 64 → EReal) (a : Fin 32 → EReal) (d : Fin 128) :
    headP b (fun _ => 0) d + padR a d = headP b a d := by
  unfold headP
  by_cases h : d.val < 64
  · have h1 : ¬ (64 ≤ d.val ∧ d.val < 96) := by omega
    simp only [dif_pos h]
    unfold padR
    simp only [dif_neg h1, add_zero]
  · simp only [dif_neg h]
    unfold padR
    split <;> simp only [zero_add]

/-- Sums against padded weights are the padded sums. -/
theorem sum_padR {n : Nat} (c : Fin n → EReal) (w : Fin n → Fin 32 → EReal) (d : Fin 128) :
    ∑ k, c k * padR (w k) d = padR (fun i => ∑ k, c k * w k i) d := by
  unfold padR
  by_cases h : 64 ≤ d.val ∧ d.val < 96
  · simp only [dif_pos h]
  · simp only [dif_neg h, mul_zero, Finset.sum_const_zero]

/-- Sums against padded weights with exchanged halves are the padded sums with exchanged halves. -/
theorem sum_swapR {n : Nat} (c : Fin n → EReal) (w : Fin n → Fin 32 → EReal) (d : Fin 128) :
    ∑ k, c k * swapR (w k) d = swapR (fun i => ∑ k, c k * w k i) d := by
  unfold swapR
  by_cases h : 64 ≤ d.val ∧ d.val < 80
  · simp only [dif_pos h]
  · by_cases h' : 80 ≤ d.val ∧ d.val < 96
    · simp only [dif_neg h, dif_pos h']
    · simp only [dif_neg h, dif_neg h', mul_zero, Finset.sum_const_zero]

/-- Sums against a head's weights are the head of the sums. -/
theorem sum_headP {n : Nat} (c : Fin n → EReal) (v : Fin n → Fin 64 → EReal) (w : Fin n → Fin 32 → EReal) (d : Fin 128) :
    ∑ k, c k * headP (v k) (w k) d = headP (fun i => ∑ k, c k * v k i) (fun i => ∑ k, c k * w k i) d := by
  unfold headP
  by_cases h : d.val < 64
  · simp only [dif_pos h]
  · simp only [dif_neg h]
    exact sum_padR c w d

/-- Where the cosines are one and the sines zero, a head is left as it is. -/
theorem head_still (b : Fin 64 → EReal) (a : Fin 32 → EReal) (d : Fin 128) :
    headP b a d * 1 + swapR a d * 0 = headP b a d := by rw [mul_one, mul_zero, add_zero]

/-- The same for a padded row. -/
theorem padR_still (a : Fin 32 → EReal) (d : Fin 128) :
    padR a d * 1 + swapR a d * 0 = padR a d := by rw [mul_one, mul_zero, add_zero]

/-- A head's products with a row's table are the head with its last 32 entries rotated at that row. -/
theorem headP_rope (cs sn : Fin 2048 → Fin 16 → EReal) (R : Fin 8192) (b : Fin 64 → EReal) (a : Fin 32 → EReal) (d : Fin 128) :
    headP b a d * (if R.val < 4096 then 1 else cosRow (cs ⟨(R.val - 4096) % 2048, Nat.mod_lt _ (by omega)⟩) d)
      + swapR a d * (if R.val < 4096 then 0 else sinRow (sn ⟨(R.val - 4096) % 2048, Nat.mod_lt _ (by omega)⟩) d)
      = headP b (rope cs sn R a) d := by
  by_cases h : R.val < 4096
  · have e : rope cs sn R a = a := funext fun i => if_pos h
    rw [if_pos h, if_pos h, e]
    exact head_still b a d
  · have e : rope cs sn R a = turn (cs ⟨(R.val - 4096) % 2048, Nat.mod_lt _ (by omega)⟩) (sn ⟨(R.val - 4096) % 2048, Nat.mod_lt _ (by omega)⟩) a :=
      funext fun i => if_neg h
    rw [if_neg h, if_neg h, e]
    exact headP_turn _ _ b a d

/-- The same for a padded row. -/
theorem padR_rope (cs sn : Fin 2048 → Fin 16 → EReal) (R : Fin 8192) (a : Fin 32 → EReal) (d : Fin 128) :
    padR a d * (if R.val < 4096 then 1 else cosRow (cs ⟨(R.val - 4096) % 2048, Nat.mod_lt _ (by omega)⟩) d)
      + swapR a d * (if R.val < 4096 then 0 else sinRow (sn ⟨(R.val - 4096) % 2048, Nat.mod_lt _ (by omega)⟩) d)
      = padR (rope cs sn R a) d := by
  by_cases h : R.val < 4096
  · have e : rope cs sn R a = a := funext fun i => if_pos h
    rw [if_pos h, if_pos h, e]
    exact padR_still a d
  · have e : rope cs sn R a = turn (cs ⟨(R.val - 4096) % 2048, Nat.mod_lt _ (by omega)⟩) (sn ⟨(R.val - 4096) % 2048, Nat.mod_lt _ (by omega)⟩) a :=
      funext fun i => if_neg h
    rw [if_neg h, if_neg h, e]
    exact padR_turn _ _ a d

variable (x : Fin 8192 → Fin 1024 → EReal) (md : Fin 3 → Fin 6144 → EReal) (g : Fin 1024 → EReal) (w : Fin 1024 → Fin 2464 → EReal)
variable (qn : Fin 256 → EReal) (wq : Fin 256 → Fin 768 → EReal) (kn : Fin 128 → EReal) (wkv : Fin 128 → Fin 1024 → EReal)
variable (cs sn : Fin 2048 → Fin 16 → EReal)

/-- The queries' compressed row, normalised. -/
def cqAt (R : Fin 8192) (k : Fin 256) : EReal := rms 0x43800000#32 (fun k : Fin 256 => projAt x md g w R ⟨2048 + k.val, by omega⟩) qn k

/-- The keys' and values' compressed row, normalised. -/
def ckvAt (R : Fin 8192) (k : Fin 128) : EReal := rms 0x43000000#32 (fun k : Fin 128 => projAt x md g w R ⟨2304 + k.val, by omega⟩) kn k

/-- The key's 32 entries that all heads share, before the rotation. -/
def krAt (R : Fin 8192) (i : Fin 32) : EReal := projAt x md g w R ⟨2432 + i.val, by omega⟩

/-- The queries of head `h`, before the rotation. -/
def qAt (R : Fin 8192) (h : Fin 8) (d : Fin 96) : EReal := ∑ k, cqAt x md g w qn R k * wq k ⟨h.val * 96 + d.val, by omega⟩

/-- The keys and values of head `h`. -/
def kvAt (R : Fin 8192) (h : Fin 8) (d : Fin 128) : EReal := ∑ k, ckvAt x md g w kn R k * wkv k ⟨h.val * 128 + d.val, by omega⟩

/-- The queries of head `h` in 128 columns. -/
def qHead (R : Fin 8192) (h : Fin 8) (d : Fin 128) : EReal :=
  headP (fun i => qAt x md g w qn wq R h ⟨i.val, by omega⟩) (rope cs sn R fun i => qAt x md g w qn wq R h ⟨64 + i.val, by omega⟩) d

/-- The keys of head `h` in 128 columns. -/
def kHead (R : Fin 8192) (h : Fin 8) (d : Fin 128) : EReal :=
  headP (fun i => kvAt x md g w kn wkv R h ⟨i.val, by omega⟩) (rope cs sn R (krAt x md g w R)) d

end Cert.Mix
-- ==== Proof.InEvenHost.lean ====
/- The arrays the host prepares for the projection before the even layer's mixers: the weights with their zero columns, and the
   tables of cosines and sines. -/
module

public import proofs.«01_k».proof.Proof.EvenSpec
public import proofs.«01_k».proof.Proof.Gen.InEvenIdeal.Value
import Idealize.ShloMosaic.Lib.Pointwise
public import Idealize.ShloMosaic.Lib.StableHlo.RunRead

@[expose] public section

set_option maxRecDepth 16384

noncomputable section

namespace Cert.InEvenIdeal.Mix

open Cert.InEvenIdeal Cert.InEvenIdeal.Gen Idealize.ShloMosaic Idealize.ShloMosaic.TcCoe Idealize.SL.Sem Cert.Mix
open Idealize.ShloMosaic.Pipeline (Dat)
variable (m : (ℓ : Loc nD τ sig) → Buf (Elt Ideal) ℓ)

/-- The buffers of core `c` after the host operations that make the angles' integer parts. -/
def pre (c : Dev nD) : Valuation τ sig (Elt Ideal) :=
  StableHlo.after (List.flatten [hostOps0, hostOps0_1, hostOps0_2, hostOps0_3]) (fun b => m (c, b))

/-- The contents at the call are those after the last stretch of host operations. -/
theorem V_pre (c : Dev nD) (b : Ref sig .tc) : V m c b = StableHlo.after hostOps0_4 (pre m c) b := by
  show StableHlo.after (List.flatten ([hostOps0, hostOps0_1, hostOps0_2, hostOps0_3] ++ [hostOps0_4])) _ _ = _
  rw [List.flatten_append, StableHlo.after_append, List.flatten_singleton]
  rfl

/-- Argument 2 is as launched before the last stretch. -/
theorem pre_arg2 (c : Dev nD) : pre m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Argument 3 is as launched before the last stretch. -/
theorem pre_arg3 (c : Dev nD) : pre m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Argument 4 is as launched before the last stretch. -/
theorem pre_arg4 (c : Dev nD) : pre m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Argument 5 is as launched before the last stretch. -/
theorem pre_arg5 (c : Dev nD) : pre m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Argument 6 is as launched before the last stretch. -/
theorem pre_arg6 (c : Dev nD) : pre m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Argument 7 is as launched before the last stretch. -/
theorem pre_arg7 (c : Dev nD) : pre m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The rotated key's weights are the projection's last 32 columns. -/
theorem r42_v41 (c : Dev nD) (k : Fin 1024) (j : Fin 32) :
    (StableHlo.upto hostOps0_4 (pre m c) 42 (Proc.tc.devRef main_v41) : Vec Ideal S1024x32 .f32) (ix2 k j) = m ((c : Thread nD τ).loc main_arg3) (ix3 1 k ⟨2432 + j.val, by omega⟩) := by
  after_reads_simp
  rw [pre_arg3]
  generalize m ((c : Thread nD τ).loc main_arg3) = w
  pointwise []

/-- The 64 columns put before the rotated key are zero. -/
theorem r42_v42 (c : Dev nD) (k : Fin 1024) (j : Fin 64) :
    (StableHlo.upto hostOps0_4 (pre m c) 42 (Proc.tc.devRef main_v42) : Vec Ideal S1024x64 .f32) (ix2 k j) = (0 : EReal) := by
  after_reads_simp
  pointwise []

/-- The 32 columns put after the rotated key are zero. -/
theorem r42_v43 (c : Dev nD) (k : Fin 1024) (j : Fin 32) :
    (StableHlo.upto hostOps0_4 (pre m c) 42 (Proc.tc.devRef main_v43) : Vec Ideal S1024x32 .f32) (ix2 k j) = (0 : EReal) := by
  after_reads_simp
  pointwise []

/-- The upper half of the rotated key's weights. -/
theorem r42_v44 (c : Dev nD) (k : Fin 1024) (j : Fin 16) :
    (StableHlo.upto hostOps0_4 (pre m c) 42 (Proc.tc.devRef main_v44) : Vec Ideal S1024x16 .f32) (ix2 k j) = m ((c : Thread nD τ).loc main_arg3) (ix3 1 k ⟨2432 + (16 + j.val), by omega⟩) := by
  after_reads_simp
  rw [pre_arg3]
  generalize m ((c : Thread nD τ).loc main_arg3) = w
  pointwise []

/-- The lower half of the rotated key's weights. -/
theorem r42_v45 (c : Dev nD) (k : Fin 1024) (j : Fin 16) :
    (StableHlo.upto hostOps0_4 (pre m c) 42 (Proc.tc.devRef main_v45) : Vec Ideal S1024x16 .f32) (ix2 k j) = m ((c : Thread nD τ).loc main_arg3) (ix3 1 k ⟨2432 + j.val, by omega⟩) := by
  after_reads_simp
  rw [pre_arg3]
  generalize m ((c : Thread nD τ).loc main_arg3) = w
  pointwise []

/-- The first 64 columns of each head of the queries' weights. -/
theorem r52_v50 (c : Dev nD) (k : Fin 256) (h : Fin 8) (d : Fin 64) :
    (StableHlo.upto hostOps0_4 (pre m c) 52 (Proc.tc.devRef main_v50) : Vec Ideal S256x8x64 .f32) (ix3 k h d) = m ((c : Thread nD τ).loc main_arg5) (ix3 1 k ⟨h.val * 96 + d.val, by omega⟩) := by
  after_reads_simp
  rw [pre_arg5]
  generalize m ((c : Thread nD τ).loc main_arg5) = w
  pointwise []

/-- The last 32 columns of each head of the queries' weights. -/
theorem r52_v51 (c : Dev nD) (k : Fin 256) (h : Fin 8) (d : Fin 32) :
    (StableHlo.upto hostOps0_4 (pre m c) 52 (Proc.tc.devRef main_v51) : Vec Ideal S256x8x32 .f32) (ix3 k h d) = m ((c : Thread nD τ).loc main_arg5) (ix3 1 k ⟨h.val * 96 + (64 + d.val), by omega⟩) := by
  after_reads_simp
  rw [pre_arg5]
  generalize m ((c : Thread nD τ).loc main_arg5) = w
  pointwise []

/-- The columns put after each head are zero. -/
theorem r52_v53 (c : Dev nD) (k : Fin 256) (h : Fin 8) (d : Fin 32) :
    (StableHlo.upto hostOps0_4 (pre m c) 52 (Proc.tc.devRef main_v53) : Vec Ideal S256x8x32 .f32) (ix3 k h d) = (0 : EReal) := by
  after_reads_simp
  pointwise []

/-- The columns put before each head's exchanged halves are zero. -/
theorem r56_v52 (c : Dev nD) (k : Fin 256) (h : Fin 8) (d : Fin 64) :
    (StableHlo.upto hostOps0_4 (pre m c) 56 (Proc.tc.devRef main_v52) : Vec Ideal S256x8x64 .f32) (ix3 k h d) = (0 : EReal) := by
  after_reads_simp
  pointwise []

/-- The columns put after each head's exchanged halves are zero. -/
theorem r56_v53 (c : Dev nD) (k : Fin 256) (h : Fin 8) (d : Fin 32) :
    (StableHlo.upto hostOps0_4 (pre m c) 56 (Proc.tc.devRef main_v53) : Vec Ideal S256x8x32 .f32) (ix3 k h d) = (0 : EReal) := by
  after_reads_simp
  pointwise []

/-- The upper half of each head's rotated columns. -/
theorem r56_v56 (c : Dev nD) (k : Fin 256) (h : Fin 8) (d : Fin 16) :
    (StableHlo.upto hostOps0_4 (pre m c) 56 (Proc.tc.devRef main_v56) : Vec Ideal S256x8x16 .f32) (ix3 k h d) = m ((c : Thread nD τ).loc main_arg5) (ix3 1 k ⟨h.val * 96 + (64 + (16 + d.val)), by omega⟩) := by
  after_reads_simp
  rw [pre_arg5]
  generalize m ((c : Thread nD τ).loc main_arg5) = w
  pointwise []

/-- The lower half of each head's rotated columns. -/
theorem r56_v57 (c : Dev nD) (k : Fin 256) (h : Fin 8) (d : Fin 16) :
    (StableHlo.upto hostOps0_4 (pre m c) 56 (Proc.tc.devRef main_v57) : Vec Ideal S256x8x16 .f32) (ix3 k h d) = m ((c : Thread nD τ).loc main_arg5) (ix3 1 k ⟨h.val * 96 + (64 + d.val), by omega⟩) := by
  after_reads_simp
  rw [pre_arg5]
  generalize m ((c : Thread nD τ).loc main_arg5) = w
  pointwise []

/-- The rotated key's weights as laid out: the 32 columns between zero columns, then again with their halves exchanged. -/
theorem v47_eq (c : Dev nD) : (V m c main_v47 : Vec Ideal S1024x256 .bf16) =
    truncf (F := Ideal) .bf16 (concatenate S1024x256 1 [⟨S1024x64, (StableHlo.upto hostOps0_4 (pre m c) 42 (Proc.tc.devRef main_v42) : Vec Ideal S1024x64 .f32)⟩, ⟨S1024x32, (StableHlo.upto hostOps0_4 (pre m c) 42 (Proc.tc.devRef main_v41) : Vec Ideal S1024x32 .f32)⟩, ⟨S1024x32, (StableHlo.upto hostOps0_4 (pre m c) 42 (Proc.tc.devRef main_v43) : Vec Ideal S1024x32 .f32)⟩, ⟨S1024x64, (StableHlo.upto hostOps0_4 (pre m c) 42 (Proc.tc.devRef main_v42) : Vec Ideal S1024x64 .f32)⟩, ⟨S1024x16, (StableHlo.upto hostOps0_4 (pre m c) 42 (Proc.tc.devRef main_v44) : Vec Ideal S1024x16 .f32)⟩, ⟨S1024x16, (StableHlo.upto hostOps0_4 (pre m c) 42 (Proc.tc.devRef main_v45) : Vec Ideal S1024x16 .f32)⟩, ⟨S1024x32, (StableHlo.upto hostOps0_4 (pre m c) 42 (Proc.tc.devRef main_v43) : Vec Ideal S1024x32 .f32)⟩] concatenates_S1024x64_S1024x32_S1024x32_S1024x64_S1024x16_S1024x16_S1024x32_S1024x256_d1) bitsLt_bf16_f32 := by
  rw [V_pre]
  after_reads_simp
  rfl

set_option maxHeartbeats 2000000 in  -- several nested cases of one column
/-- The rotated key's weights, padded. -/
theorem v47_lo (c : Dev nD) (k : Fin 1024) (d : Fin 128) :
    (V m c main_v47 : Vec Ideal S1024x256 .bf16) (ix2 k ⟨d.val, by omega⟩) = padR (fun i => m ((c : Thread nD τ).loc main_arg3) (ix3 1 k ⟨2432 + i.val, by omega⟩)) d := by
  have h0 := r42_v41 m c
  have h1 := r42_v42 m c
  have h2 := r42_v43 m c
  have h3 := r42_v44 m c
  have h4 := r42_v45 m c
  rw [v47_eq]
  generalize (StableHlo.upto hostOps0_4 (pre m c) 42 (Proc.tc.devRef main_v41) : Vec Ideal S1024x32 .f32) = a0 at h0 ⊢
  generalize (StableHlo.upto hostOps0_4 (pre m c) 42 (Proc.tc.devRef main_v42) : Vec Ideal S1024x64 .f32) = a1 at h1 ⊢
  generalize (StableHlo.upto hostOps0_4 (pre m c) 42 (Proc.tc.devRef main_v43) : Vec Ideal S1024x32 .f32) = a2 at h2 ⊢
  generalize (StableHlo.upto hostOps0_4 (pre m c) 42 (Proc.tc.devRef main_v44) : Vec Ideal S1024x16 .f32) = a3 at h3 ⊢
  generalize (StableHlo.upto hostOps0_4 (pre m c) 42 (Proc.tc.devRef main_v45) : Vec Ideal S1024x16 .f32) = a4 at h4 ⊢
  pointwise []
  simp only [h0, h1, h2, h3, h4]
  unfold padR
  generalize m ((c : Thread nD τ).loc main_arg3) = w
  repeat' split
  all_goals first
    | rfl
    | (exfalso; omega)
    | exact congrArg (fun z => w (ix3 1 k z)) (Fin.ext (by dsimp only; omega))

set_option maxHeartbeats 2000000 in  -- several nested cases of one column
/-- The rotated key's weights, padded, with exchanged halves. -/
theorem v47_hi (c : Dev nD) (k : Fin 1024) (d : Fin 128) :
    (V m c main_v47 : Vec Ideal S1024x256 .bf16) (ix2 k ⟨128 + d.val, by omega⟩) = swapR (fun i => m ((c : Thread nD τ).loc main_arg3) (ix3 1 k ⟨2432 + i.val, by omega⟩)) d := by
  have h0 := r42_v41 m c
  have h1 := r42_v42 m c
  have h2 := r42_v43 m c
  have h3 := r42_v44 m c
  have h4 := r42_v45 m c
  rw [v47_eq]
  generalize (StableHlo.upto hostOps0_4 (pre m c) 42 (Proc.tc.devRef main_v41) : Vec Ideal S1024x32 .f32) = a0 at h0 ⊢
  generalize (StableHlo.upto hostOps0_4 (pre m c) 42 (Proc.tc.devRef main_v42) : Vec Ideal S1024x64 .f32) = a1 at h1 ⊢
  generalize (StableHlo.upto hostOps0_4 (pre m c) 42 (Proc.tc.devRef main_v43) : Vec Ideal S1024x32 .f32) = a2 at h2 ⊢
  generalize (StableHlo.upto hostOps0_4 (pre m c) 42 (Proc.tc.devRef main_v44) : Vec Ideal S1024x16 .f32) = a3 at h3 ⊢
  generalize (StableHlo.upto hostOps0_4 (pre m c) 42 (Proc.tc.devRef main_v45) : Vec Ideal S1024x16 .f32) = a4 at h4 ⊢
  pointwise []
  simp only [h0, h1, h2, h3, h4]
  unfold swapR
  generalize m ((c : Thread nD τ).loc main_arg3) = w
  repeat' split
  all_goals first
    | rfl
    | (exfalso; omega)
    | exact congrArg (fun z => w (ix3 1 k z)) (Fin.ext (by dsimp only; omega))

set_option maxHeartbeats 2000000 in  -- a long layout
/-- The queries' weights as laid out: each head in 128 columns, then again with the rotated columns' halves exchanged. -/
theorem v61_eq (c : Dev nD) : (V m c main_v61 : Vec Ideal S256x2048 .bf16) =
    truncf (F := Ideal) .bf16 (concatenate S256x2048 1 [⟨S256x1024, shapeCast S256x1024 (concatenate S256x8x128 2 [⟨S256x8x64, (StableHlo.upto hostOps0_4 (pre m c) 52 (Proc.tc.devRef main_v50) : Vec Ideal S256x8x64 .f32)⟩, ⟨S256x8x32, (StableHlo.upto hostOps0_4 (pre m c) 52 (Proc.tc.devRef main_v51) : Vec Ideal S256x8x32 .f32)⟩, ⟨S256x8x32, (StableHlo.upto hostOps0_4 (pre m c) 52 (Proc.tc.devRef main_v53) : Vec Ideal S256x8x32 .f32)⟩] concatenates_S256x8x64_S256x8x32_S256x8x32_S256x8x128_d2) shapeCasts_S256x8x128_S256x1024⟩, ⟨S256x1024, shapeCast S256x1024 (concatenate S256x8x128 2 [⟨S256x8x64, (StableHlo.upto hostOps0_4 (pre m c) 56 (Proc.tc.devRef main_v52) : Vec Ideal S256x8x64 .f32)⟩, ⟨S256x8x16, (StableHlo.upto hostOps0_4 (pre m c) 56 (Proc.tc.devRef main_v56) : Vec Ideal S256x8x16 .f32)⟩, ⟨S256x8x16, (StableHlo.upto hostOps0_4 (pre m c) 56 (Proc.tc.devRef main_v57) : Vec Ideal S256x8x16 .f32)⟩, ⟨S256x8x32, (StableHlo.upto hostOps0_4 (pre m c) 56 (Proc.tc.devRef main_v53) : Vec Ideal S256x8x32 .f32)⟩] concatenates_S256x8x64_S256x8x16_S256x8x16_S256x8x32_S256x8x128_d2) shapeCasts_S256x8x128_S256x1024⟩] concatenates_S256x1024_S256x1024_S256x2048_d1) bitsLt_bf16_f32 := by
  rw [V_pre]
  after_reads_simp
  rfl

set_option maxHeartbeats 2000000 in  -- several nested cases of one column
/-- The queries' weights of head `h`. -/
theorem v61_lo (c : Dev nD) (k : Fin 256) (h : Fin 8) (d : Fin 128) :
    (V m c main_v61 : Vec Ideal S256x2048 .bf16) (ix2 k ⟨h.val * 128 + d.val, by omega⟩) = headP (fun i => m ((c : Thread nD τ).loc main_arg5) (ix3 1 k ⟨h.val * 96 + i.val, by omega⟩)) (fun i => m ((c : Thread nD τ).loc main_arg5) (ix3 1 k ⟨h.val * 96 + (64 + i.val), by omega⟩)) d := by
  have h0 := r52_v50 m c
  have h1 := r52_v51 m c
  have h2 := r52_v53 m c
  have h3 := r56_v52 m c
  have h4 := r56_v56 m c
  have h5 := r56_v57 m c
  have h6 := r56_v53 m c
  rw [v61_eq]
  generalize (StableHlo.upto hostOps0_4 (pre m c) 52 (Proc.tc.devRef main_v50) : Vec Ideal S256x8x64 .f32) = a0 at h0 ⊢
  generalize (StableHlo.upto hostOps0_4 (pre m c) 52 (Proc.tc.devRef main_v51) : Vec Ideal S256x8x32 .f32) = a1 at h1 ⊢
  generalize (StableHlo.upto hostOps0_4 (pre m c) 52 (Proc.tc.devRef main_v53) : Vec Ideal S256x8x32 .f32) = a2 at h2 ⊢
  generalize (StableHlo.upto hostOps0_4 (pre m c) 56 (Proc.tc.devRef main_v52) : Vec Ideal S256x8x64 .f32) = a3 at h3 ⊢
  generalize (StableHlo.upto hostOps0_4 (pre m c) 56 (Proc.tc.devRef main_v56) : Vec Ideal S256x8x16 .f32) = a4 at h4 ⊢
  generalize (StableHlo.upto hostOps0_4 (pre m c) 56 (Proc.tc.devRef main_v57) : Vec Ideal S256x8x16 .f32) = a5 at h5 ⊢
  generalize (StableHlo.upto hostOps0_4 (pre m c) 56 (Proc.tc.devRef main_v53) : Vec Ideal S256x8x32 .f32) = a6 at h6 ⊢
  pointwise []
  simp only [h0, h1, h2, h3, h4, h5, h6]
  unfold headP padR
  generalize m ((c : Thread nD τ).loc main_arg5) = w
  repeat' split
  all_goals first
    | rfl
    | (exfalso; omega)
    | exact congrArg (fun z => w (ix3 1 k z)) (Fin.ext (by dsimp only; omega))

set_option maxHeartbeats 2000000 in  -- several nested cases of one column
/-- The rotated queries' weights of head `h`, padded, with exchanged halves. -/
theorem v61_hi (c : Dev nD) (k : Fin 256) (h : Fin 8) (d : Fin 128) :
    (V m c main_v61 : Vec Ideal S256x2048 .bf16) (ix2 k ⟨1024 + (h.val * 128 + d.val), by omega⟩) = swapR (fun i => m ((c : Thread nD τ).loc main_arg5) (ix3 1 k ⟨h.val * 96 + (64 + i.val), by omega⟩)) d := by
  have h0 := r52_v50 m c
  have h1 := r52_v51 m c
  have h2 := r52_v53 m c
  have h3 := r56_v52 m c
  have h4 := r56_v56 m c
  have h5 := r56_v57 m c
  have h6 := r56_v53 m c
  rw [v61_eq]
  generalize (StableHlo.upto hostOps0_4 (pre m c) 52 (Proc.tc.devRef main_v50) : Vec Ideal S256x8x64 .f32) = a0 at h0 ⊢
  generalize (StableHlo.upto hostOps0_4 (pre m c) 52 (Proc.tc.devRef main_v51) : Vec Ideal S256x8x32 .f32) = a1 at h1 ⊢
  generalize (StableHlo.upto hostOps0_4 (pre m c) 52 (Proc.tc.devRef main_v53) : Vec Ideal S256x8x32 .f32) = a2 at h2 ⊢
  generalize (StableHlo.upto hostOps0_4 (pre m c) 56 (Proc.tc.devRef main_v52) : Vec Ideal S256x8x64 .f32) = a3 at h3 ⊢
  generalize (StableHlo.upto hostOps0_4 (pre m c) 56 (Proc.tc.devRef main_v56) : Vec Ideal S256x8x16 .f32) = a4 at h4 ⊢
  generalize (StableHlo.upto hostOps0_4 (pre m c) 56 (Proc.tc.devRef main_v57) : Vec Ideal S256x8x16 .f32) = a5 at h5 ⊢
  generalize (StableHlo.upto hostOps0_4 (pre m c) 56 (Proc.tc.devRef main_v53) : Vec Ideal S256x8x32 .f32) = a6 at h6 ⊢
  pointwise []
  simp only [h0, h1, h2, h3, h4, h5, h6]
  unfold swapR
  generalize m ((c : Thread nD τ).loc main_arg5) = w
  repeat' split
  all_goals first
    | rfl
    | (exfalso; omega)
    | exact congrArg (fun z => w (ix3 1 k z)) (Fin.ext (by dsimp only; omega))

/-- The projection's weights are the second layer's. -/
theorem v48_at (c : Dev nD) (k : Fin 1024) (j : Fin 2464) :
    (V m c main_v48 : Vec Ideal S1024x2464 .bf16) (ix2 k j) = m ((c : Thread nD τ).loc main_arg3) (ix3 1 k j) := by
  rw [V_pre]
  after_reads_simp
  rw [pre_arg3]
  generalize m ((c : Thread nD τ).loc main_arg3) = w
  pointwise []

/-- The gains, one row a layer. -/
theorem v72_at (c : Dev nD) (l : Fin 4) (j : Fin 1024) :
    (V m c main_v72 : Vec Ideal S4x1x1024 .f32) (ix3 l 0 j) = m ((c : Thread nD τ).loc main_arg2) (ix2 l j) := by
  rw [V_pre]
  after_reads_simp
  rw [pre_arg2]
  generalize m ((c : Thread nD τ).loc main_arg2) = w
  pointwise []

/-- The queries' gain is the second layer's. -/
theorem v75_at (c : Dev nD) (j : Fin 256) :
    (V m c main_v75 : Vec Ideal S1x256 .f32) (ix2 0 j) = m ((c : Thread nD τ).loc main_arg4) (ix2 1 j) := by
  rw [V_pre]
  after_reads_simp
  rw [pre_arg4]
  generalize m ((c : Thread nD τ).loc main_arg4) = w
  pointwise []

/-- The keys' and values' gain is the second layer's. -/
theorem v78_at (c : Dev nD) (j : Fin 128) :
    (V m c main_v78 : Vec Ideal S1x128 .f32) (ix2 0 j) = m ((c : Thread nD τ).loc main_arg6) (ix2 1 j) := by
  rw [V_pre]
  after_reads_simp
  rw [pre_arg6]
  generalize m ((c : Thread nD τ).loc main_arg6) = w
  pointwise []

/-- The values' weights of head `h`. -/
theorem v71_at (c : Dev nD) (k : Fin 128) (h : Fin 8) (d : Fin 64) :
    (V m c main_v71 : Vec Ideal S128x512 .bf16) (ix2 k ⟨h.val * 64 + d.val, by omega⟩) = m ((c : Thread nD τ).loc main_arg7) (ix3 1 k ⟨h.val * 128 + (64 + d.val), by omega⟩) := by
  rw [V_pre]
  after_reads_simp
  rw [pre_arg7]
  generalize m ((c : Thread nD τ).loc main_arg7) = w
  pointwise []
  exact congrArg (fun z => w (ix3 1 k z)) (Fin.ext (by dsimp only; omega))

/-- The first 64 columns of each head of the keys' weights. -/
theorem r65_v63 (c : Dev nD) (k : Fin 128) (h : Fin 8) (d : Fin 64) :
    (StableHlo.upto hostOps0_4 (pre m c) 65 (Proc.tc.devRef main_v63) : Vec Ideal S128x8x64 .f32) (ix3 k h d) = m ((c : Thread nD τ).loc main_arg7) (ix3 1 k ⟨h.val * 128 + d.val, by omega⟩) := by
  after_reads_simp
  rw [pre_arg7]
  generalize m ((c : Thread nD τ).loc main_arg7) = w
  pointwise []

/-- The columns put after them are zero. -/
theorem r65_v65 (c : Dev nD) (k : Fin 128) (h : Fin 8) (d : Fin 64) :
    (StableHlo.upto hostOps0_4 (pre m c) 65 (Proc.tc.devRef main_v65) : Vec Ideal S128x8x64 .f32) (ix3 k h d) = (0 : EReal) := by
  after_reads_simp
  pointwise []

set_option maxHeartbeats 2000000 in  -- a long layout
/-- The keys' weights as laid out: each head's 64 columns in 128. -/
theorem v68_eq (c : Dev nD) : (V m c main_v68 : Vec Ideal S128x1024 .bf16) =
    truncf (F := Ideal) .bf16 (shapeCast S128x1024 (concatenate S128x8x128 2 [⟨S128x8x64, (StableHlo.upto hostOps0_4 (pre m c) 65 (Proc.tc.devRef main_v63) : Vec Ideal S128x8x64 .f32)⟩, ⟨S128x8x64, (StableHlo.upto hostOps0_4 (pre m c) 65 (Proc.tc.devRef main_v65) : Vec Ideal S128x8x64 .f32)⟩] concatenates_S128x8x64_S128x8x64_S128x8x128_d2) shapeCasts_S128x8x128_S128x1024) bitsLt_bf16_f32 := by
  rw [V_pre]
  after_reads_simp
  rfl

set_option maxHeartbeats 2000000 in  -- several nested cases of one column
/-- The keys' weights of head `h`. -/
theorem v68_at (c : Dev nD) (k : Fin 128) (h : Fin 8) (d : Fin 128) :
    (V m c main_v68 : Vec Ideal S128x1024 .bf16) (ix2 k ⟨h.val * 128 + d.val, by omega⟩) = headP (fun i => m ((c : Thread nD τ).loc main_arg7) (ix3 1 k ⟨h.val * 128 + i.val, by omega⟩)) (fun _ => 0) d := by
  have h0 := r65_v63 m c
  have h1 := r65_v65 m c
  rw [v68_eq]
  generalize (StableHlo.upto hostOps0_4 (pre m c) 65 (Proc.tc.devRef main_v63) : Vec Ideal S128x8x64 .f32) = a0 at h0 ⊢
  generalize (StableHlo.upto hostOps0_4 (pre m c) 65 (Proc.tc.devRef main_v65) : Vec Ideal S128x8x64 .f32) = a1 at h1 ⊢
  pointwise []
  simp only [h0, h1]
  unfold headP padR
  generalize m ((c : Thread nD τ).loc main_arg5) = w
  repeat' split
  all_goals first
    | rfl
    | (exfalso; omega)
    | exact congrArg (fun z => w (ix3 1 k z)) (Fin.ext (by dsimp only; omega))

/-- The columns of the table of cosines before the rotated ones. -/
theorem r19_v24 (c : Dev nD) (p : Fin 2048) (d : Fin 64) :
    (StableHlo.upto hostOps0_4 (pre m c) 19 (Proc.tc.devRef main_v24) : Vec Ideal S2048x64 .f32) (ix2 p d) = (1 : EReal) := by
  after_reads_simp
  pointwise []

/-- The columns of the table of cosines after the rotated ones. -/
theorem r19_v26 (c : Dev nD) (p : Fin 2048) (d : Fin 32) :
    (StableHlo.upto hostOps0_4 (pre m c) 19 (Proc.tc.devRef main_v26) : Vec Ideal S2048x32 .f32) (ix2 p d) = (1 : EReal) := by
  after_reads_simp
  pointwise []

/-- The rows of the table of cosines for the prompt. -/
theorem r25_v31 (c : Dev nD) (p : Fin 256) (d : Fin 128) :
    (StableHlo.upto hostOps0_4 (pre m c) 25 (Proc.tc.devRef main_v31) : Vec Ideal S256x128 .f32) (ix2 p d) = (1 : EReal) := by
  after_reads_simp
  pointwise []

/-- The cosines in the table are those the host makes. -/
theorem r19_v22 (c : Dev nD) : (StableHlo.upto hostOps0_4 (pre m c) 19 (Proc.tc.devRef main_v22) : Vec Ideal S2048x16 .f32) = V m c main_v22 := by
  rw [V_pre]
  after_reads_simp

/-- A sample's rows of the table of cosines, in parts. -/
theorem r25_v27_eq (c : Dev nD) : (StableHlo.upto hostOps0_4 (pre m c) 25 (Proc.tc.devRef main_v27) : Vec Ideal S2048x128 .f32) = concatenate S2048x128 1 [⟨S2048x64, (StableHlo.upto hostOps0_4 (pre m c) 19 (Proc.tc.devRef main_v24) : Vec Ideal S2048x64 .f32)⟩, ⟨S2048x16, (StableHlo.upto hostOps0_4 (pre m c) 19 (Proc.tc.devRef main_v22) : Vec Ideal S2048x16 .f32)⟩, ⟨S2048x16, (StableHlo.upto hostOps0_4 (pre m c) 19 (Proc.tc.devRef main_v22) : Vec Ideal S2048x16 .f32)⟩, ⟨S2048x32, (StableHlo.upto hostOps0_4 (pre m c) 19 (Proc.tc.devRef main_v26) : Vec Ideal S2048x32 .f32)⟩] concatenates_S2048x64_S2048x16_S2048x16_S2048x32_S2048x128_d1 := by
  after_reads_simp
  rfl

set_option maxHeartbeats 2000000 in  -- several nested cases of one column
/-- A sample's rows of the table of cosines. -/
theorem r25_v27 (c : Dev nD) (p : Fin 2048) (d : Fin 128) :
    (StableHlo.upto hostOps0_4 (pre m c) 25 (Proc.tc.devRef main_v27) : Vec Ideal S2048x128 .f32) (ix2 p d) = cosRow (fun i => (V m c main_v22 : Vec Ideal S2048x16 .f32) (ix2 p i)) d := by
  have h0 := r19_v24 m c
  have h3 := r19_v26 m c
  rw [r25_v27_eq, r19_v22]
  generalize V m c main_v22 = a at *
  generalize (StableHlo.upto hostOps0_4 (pre m c) 19 (Proc.tc.devRef main_v24) : Vec Ideal S2048x64 .f32) = b at h0 ⊢
  generalize (StableHlo.upto hostOps0_4 (pre m c) 19 (Proc.tc.devRef main_v26) : Vec Ideal S2048x32 .f32) = e at h3 ⊢
  pointwise []
  simp only [h0, h3]
  unfold cosRow
  repeat' split
  all_goals first
    | rfl
    | (exfalso; omega)
    | exact congrArg (fun z => a (ix2 p z)) (Fin.ext (by dsimp only; omega))
    | exact congrArg (fun z => Neg.neg (α := EReal) (a (ix2 p z))) (Fin.ext (by dsimp only; omega))

set_option maxHeartbeats 2000000 in  -- a long layout
/-- The table of cosines: the prompt's rows, then a sample's. -/
theorem v32_eq (c : Dev nD) : (V m c main_v32 : Vec Ideal S2304x128 .f32) =
    concatenate S2304x128 0 [⟨S256x128, (StableHlo.upto hostOps0_4 (pre m c) 25 (Proc.tc.devRef main_v31) : Vec Ideal S256x128 .f32)⟩, ⟨S2048x128, (StableHlo.upto hostOps0_4 (pre m c) 25 (Proc.tc.devRef main_v27) : Vec Ideal S2048x128 .f32)⟩] concatenates_S256x128_S2048x128_S2304x128_d0 := by
  rw [V_pre]
  after_reads_simp

/-- The table of cosines at the prompt's rows. -/
theorem v32_prompt (c : Dev nD) (p : Fin 256) (d : Fin 128) :
    (V m c main_v32 : Vec Ideal S2304x128 .f32) (ix2 ⟨p.val, by omega⟩ d) = (1 : EReal) := by
  have h0 := r25_v31 m c
  have h1 := r25_v27 m c
  rw [v32_eq]
  generalize V m c main_v22 = a at *
  generalize (StableHlo.upto hostOps0_4 (pre m c) 25 (Proc.tc.devRef main_v31) : Vec Ideal S256x128 .f32) = b at h0 ⊢
  generalize (StableHlo.upto hostOps0_4 (pre m c) 25 (Proc.tc.devRef main_v27) : Vec Ideal S2048x128 .f32) = e at h1 ⊢
  pointwise []
  simp only [h0, h1]

/-- The table of cosines at the sample's rows. -/
theorem v32_sample (c : Dev nD) (p : Fin 2048) (d : Fin 128) :
    (V m c main_v32 : Vec Ideal S2304x128 .f32) (ix2 ⟨256 + p.val, by omega⟩ d) = cosRow (fun i => (V m c main_v22 : Vec Ideal S2048x16 .f32) (ix2 p i)) d := by
  have h0 := r25_v31 m c
  have h1 := r25_v27 m c
  rw [v32_eq]
  generalize V m c main_v22 = a at *
  generalize (StableHlo.upto hostOps0_4 (pre m c) 25 (Proc.tc.devRef main_v31) : Vec Ideal S256x128 .f32) = b at h0 ⊢
  generalize (StableHlo.upto hostOps0_4 (pre m c) 25 (Proc.tc.devRef main_v27) : Vec Ideal S2048x128 .f32) = e at h1 ⊢
  pointwise []
  simp only [h0, h1]

/-- The columns of the table of sines before the rotated ones. -/
theorem r22_v25 (c : Dev nD) (p : Fin 2048) (d : Fin 64) :
    (StableHlo.upto hostOps0_4 (pre m c) 22 (Proc.tc.devRef main_v25) : Vec Ideal S2048x64 .f32) (ix2 p d) = (0 : EReal) := by
  after_reads_simp
  pointwise []

/-- The columns of the table of sines after the rotated ones. -/
theorem r22_v29 (c : Dev nD) (p : Fin 2048) (d : Fin 32) :
    (StableHlo.upto hostOps0_4 (pre m c) 22 (Proc.tc.devRef main_v29) : Vec Ideal S2048x32 .f32) (ix2 p d) = (0 : EReal) := by
  after_reads_simp
  pointwise []

/-- The rows of the table of sines for the prompt. -/
theorem r28_v33 (c : Dev nD) (p : Fin 256) (d : Fin 128) :
    (StableHlo.upto hostOps0_4 (pre m c) 28 (Proc.tc.devRef main_v33) : Vec Ideal S256x128 .f32) (ix2 p d) = (0 : EReal) := by
  after_reads_simp
  pointwise []

/-- The sines in the table are those the host makes. -/
theorem r22_v23 (c : Dev nD) : (StableHlo.upto hostOps0_4 (pre m c) 22 (Proc.tc.devRef main_v23) : Vec Ideal S2048x16 .f32) = V m c main_v23 := by
  rw [V_pre]
  after_reads_simp

/-- The negated sines in the table. -/
theorem r22_v28 (c : Dev nD) (p : Fin 2048) (i : Fin 16) : (StableHlo.upto hostOps0_4 (pre m c) 22 (Proc.tc.devRef main_v28) : Vec Ideal S2048x16 .f32) (ix2 p i) = Neg.neg (α := EReal) ((V m c main_v23 : Vec Ideal S2048x16 .f32) (ix2 p i)) := by
  rw [V_pre]
  after_reads_simp
  rfl

/-- A sample's rows of the table of sines, in parts. -/
theorem r28_v30_eq (c : Dev nD) : (StableHlo.upto hostOps0_4 (pre m c) 28 (Proc.tc.devRef main_v30) : Vec Ideal S2048x128 .f32) = concatenate S2048x128 1 [⟨S2048x64, (StableHlo.upto hostOps0_4 (pre m c) 22 (Proc.tc.devRef main_v25) : Vec Ideal S2048x64 .f32)⟩, ⟨S2048x16, (StableHlo.upto hostOps0_4 (pre m c) 22 (Proc.tc.devRef main_v28) : Vec Ideal S2048x16 .f32)⟩, ⟨S2048x16, (StableHlo.upto hostOps0_4 (pre m c) 22 (Proc.tc.devRef main_v23) : Vec Ideal S2048x16 .f32)⟩, ⟨S2048x32, (StableHlo.upto hostOps0_4 (pre m c) 22 (Proc.tc.devRef main_v29) : Vec Ideal S2048x32 .f32)⟩] concatenates_S2048x64_S2048x16_S2048x16_S2048x32_S2048x128_d1 := by
  after_reads_simp
  rfl

set_option maxHeartbeats 2000000 in  -- several nested cases of one column
/-- A sample's rows of the table of sines. -/
theorem r28_v30 (c : Dev nD) (p : Fin 2048) (d : Fin 128) :
    (StableHlo.upto hostOps0_4 (pre m c) 28 (Proc.tc.devRef main_v30) : Vec Ideal S2048x128 .f32) (ix2 p d) = sinRow (fun i => (V m c main_v23 : Vec Ideal S2048x16 .f32) (ix2 p i)) d := by
  have h0 := r22_v25 m c
  have h3 := r22_v29 m c
  rw [r28_v30_eq, r22_v23]
  have h1 := r22_v28 m c
  generalize (StableHlo.upto hostOps0_4 (pre m c) 22 (Proc.tc.devRef main_v28) : Vec Ideal S2048x16 .f32) = a1 at h1 ⊢
  generalize V m c main_v23 = a at *
  generalize (StableHlo.upto hostOps0_4 (pre m c) 22 (Proc.tc.devRef main_v25) : Vec Ideal S2048x64 .f32) = b at h0 ⊢
  generalize (StableHlo.upto hostOps0_4 (pre m c) 22 (Proc.tc.devRef main_v29) : Vec Ideal S2048x32 .f32) = e at h3 ⊢
  pointwise []
  simp only [h0, h3, h1]
  unfold sinRow
  repeat' split
  all_goals first
    | rfl
    | (exfalso; omega)
    | exact congrArg (fun z => a (ix2 p z)) (Fin.ext (by dsimp only; omega))
    | exact congrArg (fun z => Neg.neg (α := EReal) (a (ix2 p z))) (Fin.ext (by dsimp only; omega))

set_option maxHeartbeats 2000000 in  -- a long layout
/-- The table of sines: the prompt's rows, then a sample's. -/
theorem v34_eq (c : Dev nD) : (V m c main_v34 : Vec Ideal S2304x128 .f32) =
    concatenate S2304x128 0 [⟨S256x128, (StableHlo.upto hostOps0_4 (pre m c) 28 (Proc.tc.devRef main_v33) : Vec Ideal S256x128 .f32)⟩, ⟨S2048x128, (StableHlo.upto hostOps0_4 (pre m c) 28 (Proc.tc.devRef main_v30) : Vec Ideal S2048x128 .f32)⟩] concatenates_S256x128_S2048x128_S2304x128_d0 := by
  rw [V_pre]
  after_reads_simp

/-- The table of sines at the prompt's rows. -/
theorem v34_prompt (c : Dev nD) (p : Fin 256) (d : Fin 128) :
    (V m c main_v34 : Vec Ideal S2304x128 .f32) (ix2 ⟨p.val, by omega⟩ d) = (0 : EReal) := by
  have h0 := r28_v33 m c
  have h1 := r28_v30 m c
  rw [v34_eq]
  generalize V m c main_v23 = a at *
  generalize (StableHlo.upto hostOps0_4 (pre m c) 28 (Proc.tc.devRef main_v33) : Vec Ideal S256x128 .f32) = b at h0 ⊢
  generalize (StableHlo.upto hostOps0_4 (pre m c) 28 (Proc.tc.devRef main_v30) : Vec Ideal S2048x128 .f32) = e at h1 ⊢
  pointwise []
  simp only [h0, h1]

/-- The table of sines at the sample's rows. -/
theorem v34_sample (c : Dev nD) (p : Fin 2048) (d : Fin 128) :
    (V m c main_v34 : Vec Ideal S2304x128 .f32) (ix2 ⟨256 + p.val, by omega⟩ d) = sinRow (fun i => (V m c main_v23 : Vec Ideal S2048x16 .f32) (ix2 p i)) d := by
  have h0 := r28_v33 m c
  have h1 := r28_v30 m c
  rw [v34_eq]
  generalize V m c main_v23 = a at *
  generalize (StableHlo.upto hostOps0_4 (pre m c) 28 (Proc.tc.devRef main_v33) : Vec Ideal S256x128 .f32) = b at h0 ⊢
  generalize (StableHlo.upto hostOps0_4 (pre m c) 28 (Proc.tc.devRef main_v30) : Vec Ideal S2048x128 .f32) = e at h1 ⊢
  pointwise []
  simp only [h0, h1]

end Cert.InEvenIdeal.Mix
-- ==== Proof.InEvenBlock.lean ====
/- The projection before the even layer's mixers: what each window's block holds and what the kernel's steps make of the blocks. -/
module

public import proofs.«01_k».proof.Proof.InEvenHost

@[expose] public section

set_option maxRecDepth 16384

noncomputable section

namespace Cert.InEvenIdeal.Mix

open Cert.InEvenIdeal Cert.InEvenIdeal.Gen Idealize.ShloMosaic Idealize.ShloMosaic.TcCoe Idealize.SL.Sem Cert.Mix
open Idealize.ShloMosaic.Pipeline (Dat)

variable (m : (ℓ : Loc nD τ sig) → Buf (Elt Ideal) ℓ)

/-- There are 32 points. -/
theorem lt32 (t : Fin cfg0.N) : t.val < 32 := t.isLt

/-- Window 0's block at point `t`. -/
theorem idx0 : ∀ t : Fin cfg0.N,
    (win0_0.index t 0 = t.val ∧ win0_0.index t 1 = 0) :=
  (by decide +kernel : ∀ t : Fin grid0.N,
    (win0_0.index t 0 = t.val ∧ win0_0.index t 1 = 0))

/-- Window 1's block at point `t`. -/
theorem idx1 : ∀ t : Fin cfg0.N,
    (win0_1.index t 0 = 2 ∧ win0_1.index t 1 = (if t.val < 16 then 0 else 1 + (t.val - 16) / 8) ∧ win0_1.index t 2 = 0 ∧ win0_1.index t 3 = 0) :=
  (by decide +kernel : ∀ t : Fin grid0.N,
    (win0_1.index t 0 = 2 ∧ win0_1.index t 1 = (if t.val < 16 then 0 else 1 + (t.val - 16) / 8) ∧ win0_1.index t 2 = 0 ∧ win0_1.index t 3 = 0))

/-- Window 2's block at point `t`. -/
theorem idx2 : ∀ t : Fin cfg0.N,
    (win0_2.index t 0 = 2 ∧ win0_2.index t 1 = 0 ∧ win0_2.index t 2 = 0) :=
  (by decide +kernel : ∀ t : Fin grid0.N,
    (win0_2.index t 0 = 2 ∧ win0_2.index t 1 = 0 ∧ win0_2.index t 2 = 0))

/-- Window 3's block at point `t`. -/
theorem idx3 : ∀ t : Fin cfg0.N,
    (win0_3.index t 0 = 0 ∧ win0_3.index t 1 = 0) :=
  (by decide +kernel : ∀ t : Fin grid0.N,
    (win0_3.index t 0 = 0 ∧ win0_3.index t 1 = 0))

/-- Window 4's block at point `t`. -/
theorem idx4 : ∀ t : Fin cfg0.N,
    (win0_4.index t 0 = 0 ∧ win0_4.index t 1 = 0) :=
  (by decide +kernel : ∀ t : Fin grid0.N,
    (win0_4.index t 0 = 0 ∧ win0_4.index t 1 = 0))

/-- Window 5's block at point `t`. -/
theorem idx5 : ∀ t : Fin cfg0.N,
    (win0_5.index t 0 = 0 ∧ win0_5.index t 1 = 0) :=
  (by decide +kernel : ∀ t : Fin grid0.N,
    (win0_5.index t 0 = 0 ∧ win0_5.index t 1 = 0))

/-- Window 6's block at point `t`. -/
theorem idx6 : ∀ t : Fin cfg0.N,
    (win0_6.index t 0 = 0 ∧ win0_6.index t 1 = 0) :=
  (by decide +kernel : ∀ t : Fin grid0.N,
    (win0_6.index t 0 = 0 ∧ win0_6.index t 1 = 0))

/-- Window 7's block at point `t`. -/
theorem idx7 : ∀ t : Fin cfg0.N,
    (win0_7.index t 0 = 0 ∧ win0_7.index t 1 = 0) :=
  (by decide +kernel : ∀ t : Fin grid0.N,
    (win0_7.index t 0 = 0 ∧ win0_7.index t 1 = 0))

/-- Window 8's block at point `t`. -/
theorem idx8 : ∀ t : Fin cfg0.N,
    (win0_8.index t 0 = 0 ∧ win0_8.index t 1 = 0) :=
  (by decide +kernel : ∀ t : Fin grid0.N,
    (win0_8.index t 0 = 0 ∧ win0_8.index t 1 = 0))

/-- Window 9's block at point `t`. -/
theorem idx9 : ∀ t : Fin cfg0.N,
    (win0_9.index t 0 = 0 ∧ win0_9.index t 1 = 0) :=
  (by decide +kernel : ∀ t : Fin grid0.N,
    (win0_9.index t 0 = 0 ∧ win0_9.index t 1 = 0))

/-- Window 10's block at point `t`. -/
theorem idx10 : ∀ t : Fin cfg0.N,
    (win0_10.index t 0 = (if t.val < 16 then 0 else 1 + (t.val - 16) % 8) ∧ win0_10.index t 1 = 0) :=
  (by decide +kernel : ∀ t : Fin grid0.N,
    (win0_10.index t 0 = (if t.val < 16 then 0 else 1 + (t.val - 16) % 8) ∧ win0_10.index t 1 = 0))

/-- Window 11's block at point `t`. -/
theorem idx11 : ∀ t : Fin cfg0.N,
    (win0_11.index t 0 = (if t.val < 16 then 0 else 1 + (t.val - 16) % 8) ∧ win0_11.index t 1 = 0) :=
  (by decide +kernel : ∀ t : Fin grid0.N,
    (win0_11.index t 0 = (if t.val < 16 then 0 else 1 + (t.val - 16) % 8) ∧ win0_11.index t 1 = 0))

/-- Window 12's block at point `t`. -/
theorem idx12 : ∀ t : Fin cfg0.N,
    (win0_12.index t 0 = t.val ∧ win0_12.index t 1 = 0) :=
  (by decide +kernel : ∀ t : Fin grid0.N,
    (win0_12.index t 0 = t.val ∧ win0_12.index t 1 = 0))

/-- Window 13's block at point `t`. -/
theorem idx13 : ∀ t : Fin cfg0.N,
    (win0_13.index t 0 = t.val ∧ win0_13.index t 1 = 0) :=
  (by decide +kernel : ∀ t : Fin grid0.N,
    (win0_13.index t 0 = t.val ∧ win0_13.index t 1 = 0))

/-- Window 14's block at point `t`. -/
theorem idx14 : ∀ t : Fin cfg0.N,
    (win0_14.index t 0 = t.val ∧ win0_14.index t 1 = 0) :=
  (by decide +kernel : ∀ t : Fin grid0.N,
    (win0_14.index t 0 = t.val ∧ win0_14.index t 1 = 0))

/-- Window 15's block at point `t`. -/
theorem idx15 : ∀ t : Fin cfg0.N,
    (win0_15.index t 0 = t.val ∧ win0_15.index t 1 = 0) :=
  (by decide +kernel : ∀ t : Fin grid0.N,
    (win0_15.index t 0 = t.val ∧ win0_15.index t 1 = 0))

/-- Window 16's block at point `t`. -/
theorem idx16 : ∀ t : Fin cfg0.N,
    (win0_16.index t 0 = t.val ∧ win0_16.index t 1 = 0) :=
  (by decide +kernel : ∀ t : Fin grid0.N,
    (win0_16.index t 0 = t.val ∧ win0_16.index t 1 = 0))

/-- Window 17's block at point `t`. -/
theorem idx17 : ∀ t : Fin cfg0.N,
    (win0_17.index t 0 = t.val ∧ win0_17.index t 1 = 0) :=
  (by decide +kernel : ∀ t : Fin grid0.N,
    (win0_17.index t 0 = t.val ∧ win0_17.index t 1 = 0))

/-- The rows' block. -/
theorem iblk0_apply (c : Dev nD) (t : Fin cfg0.N) (r : Fin 256) (k : Fin 1024) :
    iblk m c 0 t (ix2 r k) = m ((c : Thread nD τ).loc main_arg0) (ix2 (rowT t.val (lt32 t) r) k) := by
  unfold iblk
  have hV : V m c (Pipeline.arrRef spec0 0) = m ((c : Thread nD τ).loc main_arg0) := V_main_arg0 m c
  rw [hV]
  show m ((c : Thread nD τ).loc main_arg0) _ = _
  congr 1
  funext a
  apply Fin.ext
  match a with
  | ⟨0, _⟩ =>
    have h := (idx0 t).1
    show win0_0.index t 0 * 256 + 1 * r.val = 256 * t.val + r.val
    omega
  | ⟨1, _⟩ =>
    have h := (idx0 t).2
    show win0_0.index t 1 * 1024 + 1 * k.val = k.val
    omega

/-- The tile's modulation row. -/
theorem iblk1_apply (c : Dev nD) (t : Fin cfg0.N) (j : Fin 6144) :
    iblk m c 1 t (ix4 0 0 0 j) = m ((c : Thread nD τ).loc main_arg1) (ix4 2 (mtile t.val (lt32 t)) 0 j) := by
  unfold iblk
  have hV : V m c (Pipeline.arrRef spec0 1) = m ((c : Thread nD τ).loc main_arg1) := V_main_arg1 m c
  rw [hV]
  show m ((c : Thread nD τ).loc main_arg1) _ = _
  congr 1
  funext a
  apply Fin.ext
  match a with
  | ⟨0, _⟩ =>
    have h := (idx1 t).1
    show win0_1.index t 0 * 1 + 1 * 0 = 2
    omega
  | ⟨1, _⟩ =>
    have h := (idx1 t).2.1
    show win0_1.index t 1 * 1 + 1 * 0 = (if t.val < 16 then 0 else 1 + (t.val - 16) / 8)
    omega
  | ⟨2, _⟩ =>
    have h := (idx1 t).2.2.1
    show win0_1.index t 2 * 1 + 1 * 0 = 0
    omega
  | ⟨3, _⟩ =>
    have h := (idx1 t).2.2.2
    show win0_1.index t 3 * 6144 + 1 * j.val = j.val
    omega

/-- The gain's block is the layer's. -/
theorem iblk2_apply (c : Dev nD) (t : Fin cfg0.N) (j : Fin 1024) :
    iblk m c 2 t (ix3 0 0 j) = m ((c : Thread nD τ).loc main_arg2) (ix2 2 j) := by
  unfold iblk
  refine Eq.trans ?_ (v72_at m c 2 j)
  show V m c main_v72 _ = V m c main_v72 _
  congr 1
  funext a
  apply Fin.ext
  match a with
  | ⟨0, _⟩ =>
    have h := (idx2 t).1
    show win0_2.index t 0 * 1 + 1 * 0 = 2
    omega
  | ⟨1, _⟩ =>
    have h := (idx2 t).2.1
    show win0_2.index t 1 * 1 + 1 * 0 = 0
    omega
  | ⟨2, _⟩ =>
    have h := (idx2 t).2.2
    show win0_2.index t 2 * 1024 + 1 * j.val = j.val
    omega

/-- The projection's weight is whole. -/
theorem iblk3_apply (c : Dev nD) (t : Fin cfg0.N) (k : Fin 1024) (j : Fin 2464) :
    iblk m c 3 t (ix2 k j) = (V m c main_v48 : Vec Ideal S1024x2464 .bf16) (ix2 k j) := by
  unfold iblk
  refine Eq.trans ?_ (rfl)
  show V m c main_v48 _ = V m c main_v48 _
  congr 1
  funext a
  apply Fin.ext
  match a with
  | ⟨0, _⟩ =>
    have h := (idx3 t).1
    show win0_3.index t 0 * 1024 + 1 * k.val = k.val
    omega
  | ⟨1, _⟩ =>
    have h := (idx3 t).2
    show win0_3.index t 1 * 2464 + 1 * j.val = j.val
    omega

/-- The rotated key's weight is whole. -/
theorem iblk4_apply (c : Dev nD) (t : Fin cfg0.N) (k : Fin 1024) (j : Fin 256) :
    iblk m c 4 t (ix2 k j) = (V m c main_v47 : Vec Ideal S1024x256 .bf16) (ix2 k j) := by
  unfold iblk
  refine Eq.trans ?_ (rfl)
  show V m c main_v47 _ = V m c main_v47 _
  congr 1
  funext a
  apply Fin.ext
  match a with
  | ⟨0, _⟩ =>
    have h := (idx4 t).1
    show win0_4.index t 0 * 1024 + 1 * k.val = k.val
    omega
  | ⟨1, _⟩ =>
    have h := (idx4 t).2
    show win0_4.index t 1 * 256 + 1 * j.val = j.val
    omega

/-- The queries' gain is whole. -/
theorem iblk5_apply (c : Dev nD) (t : Fin cfg0.N) (k : Fin 1) (j : Fin 256) :
    iblk m c 5 t (ix2 k j) = (V m c main_v75 : Vec Ideal S1x256 .f32) (ix2 k j) := by
  unfold iblk
  refine Eq.trans ?_ (rfl)
  show V m c main_v75 _ = V m c main_v75 _
  congr 1
  funext a
  apply Fin.ext
  match a with
  | ⟨0, _⟩ =>
    have h := (idx5 t).1
    show win0_5.index t 0 * 1 + 1 * k.val = k.val
    omega
  | ⟨1, _⟩ =>
    have h := (idx5 t).2
    show win0_5.index t 1 * 256 + 1 * j.val = j.val
    omega

/-- The keys' and values' gain is whole. -/
theorem iblk6_apply (c : Dev nD) (t : Fin cfg0.N) (k : Fin 1) (j : Fin 128) :
    iblk m c 6 t (ix2 k j) = (V m c main_v78 : Vec Ideal S1x128 .f32) (ix2 k j) := by
  unfold iblk
  refine Eq.trans ?_ (rfl)
  show V m c main_v78 _ = V m c main_v78 _
  congr 1
  funext a
  apply Fin.ext
  match a with
  | ⟨0, _⟩ =>
    have h := (idx6 t).1
    show win0_6.index t 0 * 1 + 1 * k.val = k.val
    omega
  | ⟨1, _⟩ =>
    have h := (idx6 t).2
    show win0_6.index t 1 * 128 + 1 * j.val = j.val
    omega

/-- The queries' weight is whole. -/
theorem iblk7_apply (c : Dev nD) (t : Fin cfg0.N) (k : Fin 256) (j : Fin 2048) :
    iblk m c 7 t (ix2 k j) = (V m c main_v61 : Vec Ideal S256x2048 .bf16) (ix2 k j) := by
  unfold iblk
  refine Eq.trans ?_ (rfl)
  show V m c main_v61 _ = V m c main_v61 _
  congr 1
  funext a
  apply Fin.ext
  match a with
  | ⟨0, _⟩ =>
    have h := (idx7 t).1
    show win0_7.index t 0 * 256 + 1 * k.val = k.val
    omega
  | ⟨1, _⟩ =>
    have h := (idx7 t).2
    show win0_7.index t 1 * 2048 + 1 * j.val = j.val
    omega

/-- The keys' weight is whole. -/
theorem iblk8_apply (c : Dev nD) (t : Fin cfg0.N) (k : Fin 128) (j : Fin 1024) :
    iblk m c 8 t (ix2 k j) = (V m c main_v68 : Vec Ideal S128x1024 .bf16) (ix2 k j) := by
  unfold iblk
  refine Eq.trans ?_ (rfl)
  show V m c main_v68 _ = V m c main_v68 _
  congr 1
  funext a
  apply Fin.ext
  match a with
  | ⟨0, _⟩ =>
    have h := (idx8 t).1
    show win0_8.index t 0 * 128 + 1 * k.val = k.val
    omega
  | ⟨1, _⟩ =>
    have h := (idx8 t).2
    show win0_8.index t 1 * 1024 + 1 * j.val = j.val
    omega

/-- The values' weight is whole. -/
theorem iblk9_apply (c : Dev nD) (t : Fin cfg0.N) (k : Fin 128) (j : Fin 512) :
    iblk m c 9 t (ix2 k j) = (V m c main_v71 : Vec Ideal S128x512 .bf16) (ix2 k j) := by
  unfold iblk
  refine Eq.trans ?_ (rfl)
  show V m c main_v71 _ = V m c main_v71 _
  congr 1
  funext a
  apply Fin.ext
  match a with
  | ⟨0, _⟩ =>
    have h := (idx9 t).1
    show win0_9.index t 0 * 128 + 1 * k.val = k.val
    omega
  | ⟨1, _⟩ =>
    have h := (idx9 t).2
    show win0_9.index t 1 * 512 + 1 * j.val = j.val
    omega

/-- The block of the table of cosines at a point's row: constant for the prompt, and for a sample's row its own. -/
theorem iblk10_apply (c : Dev nD) (t : Fin cfg0.N) (r : Fin 256) (d : Fin 128) :
    iblk m c 10 t (ix2 r d) = (if (rowT t.val (lt32 t) r).val < 4096 then (1 : EReal)
      else cosRow ((fun p i => (V m c main_v22 : Vec Ideal S2048x16 .f32) (ix2 p i) : Fin 2048 → Fin 16 → EReal) ⟨((rowT t.val (lt32 t) r).val - 4096) % 2048, Nat.mod_lt _ (by omega)⟩) d) := by
  have ht := lt32 t
  have h0 := (idx10 t).1
  have h1 := (idx10 t).2
  have hR : (rowT t.val (lt32 t) r).val = 256 * t.val + r.val := rfl
  unfold iblk
  by_cases h : t.val < 16
  · rw [if_pos (by omega)]
    refine Eq.trans ?_ (v32_prompt m c r d)
    show V m c main_v32 _ = V m c main_v32 _
    congr 1
    funext a
    apply Fin.ext
    rw [if_pos h] at h0
    match a with
    | ⟨0, _⟩ =>
      show win0_10.index t 0 * 256 + 1 * r.val = r.val
      omega
    | ⟨1, _⟩ =>
      show win0_10.index t 1 * 128 + 1 * d.val = d.val
      omega
  · rw [if_neg (by omega)]
    refine Eq.trans ?_ (v32_sample m c _ d)
    show V m c main_v32 _ = V m c main_v32 _
    congr 1
    funext a
    apply Fin.ext
    rw [if_neg h] at h0
    match a with
    | ⟨0, _⟩ =>
      show win0_10.index t 0 * 256 + 1 * r.val = 256 + ((rowT t.val (lt32 t) r).val - 4096) % 2048
      omega
    | ⟨1, _⟩ =>
      show win0_10.index t 1 * 128 + 1 * d.val = d.val
      omega

/-- The block of the table of sines at a point's row: constant for the prompt, and for a sample's row its own. -/
theorem iblk11_apply (c : Dev nD) (t : Fin cfg0.N) (r : Fin 256) (d : Fin 128) :
    iblk m c 11 t (ix2 r d) = (if (rowT t.val (lt32 t) r).val < 4096 then (0 : EReal)
      else sinRow ((fun p i => (V m c main_v23 : Vec Ideal S2048x16 .f32) (ix2 p i) : Fin 2048 → Fin 16 → EReal) ⟨((rowT t.val (lt32 t) r).val - 4096) % 2048, Nat.mod_lt _ (by omega)⟩) d) := by
  have ht := lt32 t
  have h0 := (idx11 t).1
  have h1 := (idx11 t).2
  have hR : (rowT t.val (lt32 t) r).val = 256 * t.val + r.val := rfl
  unfold iblk
  by_cases h : t.val < 16
  · rw [if_pos (by omega)]
    refine Eq.trans ?_ (v34_prompt m c r d)
    show V m c main_v34 _ = V m c main_v34 _
    congr 1
    funext a
    apply Fin.ext
    rw [if_pos h] at h0
    match a with
    | ⟨0, _⟩ =>
      show win0_11.index t 0 * 256 + 1 * r.val = r.val
      omega
    | ⟨1, _⟩ =>
      show win0_11.index t 1 * 128 + 1 * d.val = d.val
      omega
  · rw [if_neg (by omega)]
    refine Eq.trans ?_ (v34_sample m c _ d)
    show V m c main_v34 _ = V m c main_v34 _
    congr 1
    funext a
    apply Fin.ext
    rw [if_neg h] at h0
    match a with
    | ⟨0, _⟩ =>
      show win0_11.index t 0 * 256 + 1 * r.val = 256 + ((rowT t.val (lt32 t) r).val - 4096) % 2048
      omega
    | ⟨1, _⟩ =>
      show win0_11.index t 1 * 128 + 1 * d.val = d.val
      omega

/-- The load of the projection's columns 0 to 2431. -/
theorem ld_w (w : Vec Ideal S1024x2464 .bf16) (k : Fin 1024) (j : Fin 2432) : View.ld w r0_3 (ix2 k j) = w (ix2 k ⟨j.val, by omega⟩) := by
  show w _ = w _
  congr 1
  funext a
  apply Fin.ext
  match a with
  | ⟨0, _⟩ => show 0 + 1 * k.val = k.val; omega
  | ⟨1, _⟩ => show 0 + 1 * j.val = j.val; omega

/-- The modulated norm of the block's rows. -/
theorem pay6_apply (b : Vec Ideal S1x1x1x6144 .f32) (a : Vec Ideal S256x1024 .f32) (e : Vec Ideal S1x1x1024 .f32) (r : Fin 256) (k : Fin 1024) :
    k0_pay6 b a e (ix2 r k) = modRow (fun j => a (ix2 r j)) (fun j => e (ix3 0 0 j)) (fun j => b (ix4 0 0 0 ⟨1024 + j.val, by omega⟩)) (fun j => b (ix4 0 0 0 ⟨j.val, by omega⟩)) k := by
  pointwise [k0_pay6]
  rfl

/-- The projection at a row and column: the row's modulated norm times the weight's column. -/
theorem pay7_apply (b : Vec Ideal S1x1x1x6144 .f32) (a : Vec Ideal S256x1024 .f32) (e : Vec Ideal S1x1x1024 .f32)
    (w : Vec Ideal S1024x2432 .bf16) (r : Fin 256) (j : Fin 2432) :
    k0_pay7 b a e w (ix2 r j) = ∑ k : Fin 1024, k0_pay6 b a e (ix2 r k) * w (ix2 k j) := by
  pointwise [k0_pay7]

/-- The same for the rotated key's weights. -/
theorem pay11_apply (b : Vec Ideal S1x1x1x6144 .f32) (a : Vec Ideal S256x1024 .f32) (e : Vec Ideal S1x1x1024 .f32)
    (w : Vec Ideal S1024x256 .bf16) (r : Fin 256) (j : Fin 256) :
    k0_pay11 b a e w (ix2 r j) = ∑ k : Fin 1024, k0_pay6 b a e (ix2 r k) * w (ix2 k j) := by
  pointwise [k0_pay11]

/-- The queries before the rotation: the normalised compressed row times the weight's column. -/
theorem pay16_apply (v : FVec Ideal S256x256 .f32) (q : Vec Ideal S1x256 .f32) (w : Vec Ideal S256x2048 .bf16) (r : Fin 256) (j : Fin 2048) :
    k0_pay16 v q w (ix2 r j) = ∑ k : Fin 256, rms 0x43800000#32 (fun k : Fin 256 => v (ix2 r k)) (fun k => q (ix2 0 k)) k * w (ix2 k j) := by
  pointwise [k0_pay16]
  rfl

/-- The compressed row of keys and values, normalised. -/
theorem pay17_apply (v : FVec Ideal S256x128 .f32) (q : Vec Ideal S1x128 .f32) (r : Fin 256) (k : Fin 128) :
    k0_pay17 v q (ix2 r k) = rms 0x43000000#32 (fun k : Fin 128 => v (ix2 r k)) (fun k => q (ix2 0 k)) k := by
  pointwise [k0_pay17]
  rfl

/-- The keys before the shared part is added. -/
theorem pay19_apply (v : FVec Ideal S256x128 .f32) (w : Vec Ideal S128x1024 .bf16) (r : Fin 256) (j : Fin 1024) :
    k0_pay19 v w (ix2 r j) = ∑ k : Fin 128, v (ix2 r k) * w (ix2 k j) := by
  pointwise [k0_pay19, k0_pay18]

/-- The values. -/
theorem pay20_apply (v : FVec Ideal S256x128 .f32) (w : Vec Ideal S128x512 .bf16) (r : Fin 256) (j : Fin 512) :
    k0_pay20 v w (ix2 r j) = ∑ k : Fin 128, v (ix2 r k) * w (ix2 k j) := by
  pointwise [k0_pay20, k0_pay18]

end Cert.InEvenIdeal.Mix

end
-- ==== Proof.InEvenHeads.lean ====
/- The projection before the even layer's mixers: what the steps of a point make, entry by entry. -/
module

public import proofs.«01_k».proof.Proof.InEvenBlock

@[expose] public section

set_option maxRecDepth 16384

noncomputable section

namespace Cert.InEvenIdeal.Mix

open Cert.InEvenIdeal Cert.InEvenIdeal.Gen Idealize.ShloMosaic Idealize.ShloMosaic.TcCoe Idealize.SL.Sem Cert.Mix
open Idealize.ShloMosaic.Pipeline (Dat)

variable (m : (ℓ : Loc nD τ sig) → Buf (Elt Ideal) ℓ)

/-- The rows. -/
def sX (c : Dev nD) : Fin 8192 → Fin 1024 → EReal := fun R k => m ((c : Thread nD τ).loc main_arg0) (ix2 R k)

/-- The layer's modulation rows. -/
def sM (c : Dev nD) : Fin 3 → Fin 6144 → EReal := fun r j => m ((c : Thread nD τ).loc main_arg1) (ix4 2 r 0 j)

/-- The layer's gain. -/
def sG (c : Dev nD) : Fin 1024 → EReal := fun j => m ((c : Thread nD τ).loc main_arg2) (ix2 2 j)

/-- The projection's weight. -/
def sW (c : Dev nD) : Fin 1024 → Fin 2464 → EReal := fun k j => m ((c : Thread nD τ).loc main_arg3) (ix3 1 k j)

/-- The queries' gain. -/
def sQ (c : Dev nD) : Fin 256 → EReal := fun j => m ((c : Thread nD τ).loc main_arg4) (ix2 1 j)

/-- The queries' weight. -/
def sU (c : Dev nD) : Fin 256 → Fin 768 → EReal := fun k j => m ((c : Thread nD τ).loc main_arg5) (ix3 1 k j)

/-- The keys' and values' gain. -/
def sK (c : Dev nD) : Fin 128 → EReal := fun j => m ((c : Thread nD τ).loc main_arg6) (ix2 1 j)

/-- The keys' and values' weight. -/
def sV (c : Dev nD) : Fin 128 → Fin 1024 → EReal := fun k j => m ((c : Thread nD τ).loc main_arg7) (ix3 1 k j)

/-- The cosines of a sample's rows. -/
def cs (c : Dev nD) : Fin 2048 → Fin 16 → EReal := fun p i => (V m c main_v22 : Vec Ideal S2048x16 .f32) (ix2 p i)

/-- The sines of a sample's rows. -/
def sn (c : Dev nD) : Fin 2048 → Fin 16 → EReal := fun p i => (V m c main_v23 : Vec Ideal S2048x16 .f32) (ix2 p i)

/-- The modulated norm of a point's rows. -/
theorem h_eq (c : Dev nD) (t : Fin cfg0.N) (r : Fin 256) (k : Fin 1024) :
    k0_pay6 (iblk m c 1 t) (iblk m c 0 t) (iblk m c 2 t) (ix2 r k) = hAt (sX m c) (sM m c) (sG m c) (rowT t.val (lt32 t) r) k := by
  rw [pay6_apply]
  unfold hAt
  rw [mrow_T]
  have e0 : (fun j => iblk m c 0 t (ix2 r j)) = fun j : Fin 1024 => sX m c (rowT t.val (lt32 t) r) j :=
    funext fun j => iblk0_apply m c t r j
  have e2 : (fun j => iblk m c 2 t (ix3 0 0 j)) = fun j : Fin 1024 => sG m c j :=
    funext fun j => iblk2_apply m c t j
  have e1 : ∀ j : Fin 6144, iblk m c 1 t (ix4 0 0 0 j) = sM m c (mtile t.val (lt32 t)) j :=
    fun j => iblk1_apply m c t j
  exact congr (congr (congr (congr (congrArg modRow e0) e2) (funext fun j => e1 _)) (funext fun j => e1 _)) rfl

/-- A point's projection. -/
theorem pay7_eq (c : Dev nD) (t : Fin cfg0.N) (r : Fin 256) (j : Fin 2432) :
    k0_pay7 (iblk m c 1 t) (iblk m c 0 t) (iblk m c 2 t) (View.ld (iblk m c 3 t) r0_3) (ix2 r j) = projAt (sX m c) (sM m c) (sG m c) (sW m c) (rowT t.val (lt32 t) r) ⟨j.val, by omega⟩ := by
  rw [pay7_apply]
  unfold projAt
  refine Finset.sum_congr rfl fun k _ => ?_
  exact congrArg₂ (fun a b : EReal => a * b) (h_eq m c t r k) ((ld_w (iblk m c 3 t) k j).trans ((iblk3_apply m c t k _).trans (v48_at m c k _)))

/-- A point's shared key, in 128 columns. -/
theorem pay11_lo (c : Dev nD) (t : Fin cfg0.N) (r : Fin 256) (d : Fin 128) :
    k0_pay11 (iblk m c 1 t) (iblk m c 0 t) (iblk m c 2 t) (iblk m c 4 t) (ix2 r ⟨d.val, by omega⟩) = padR (krAt (sX m c) (sM m c) (sG m c) (sW m c) (rowT t.val (lt32 t) r)) d := by
  rw [pay11_apply]
  refine Eq.trans ?_ (sum_padR (fun k => hAt (sX m c) (sM m c) (sG m c) (rowT t.val (lt32 t) r) k) (fun k i => sW m c k ⟨2432 + i.val, by omega⟩) d)
  refine Finset.sum_congr rfl fun k _ => ?_
  exact congrArg₂ (fun a b : EReal => a * b) (h_eq m c t r k) ((iblk4_apply m c t k _).trans (v47_lo m c k d))

/-- A point's shared key with its halves exchanged. -/
theorem pay11_hi (c : Dev nD) (t : Fin cfg0.N) (r : Fin 256) (d : Fin 128) :
    k0_pay11 (iblk m c 1 t) (iblk m c 0 t) (iblk m c 2 t) (iblk m c 4 t) (ix2 r ⟨128 + d.val, by omega⟩) = swapR (krAt (sX m c) (sM m c) (sG m c) (sW m c) (rowT t.val (lt32 t) r)) d := by
  rw [pay11_apply]
  refine Eq.trans ?_ (sum_swapR (fun k => hAt (sX m c) (sM m c) (sG m c) (rowT t.val (lt32 t) r) k) (fun k i => sW m c k ⟨2432 + i.val, by omega⟩) d)
  refine Finset.sum_congr rfl fun k _ => ?_
  exact congrArg₂ (fun a b : EReal => a * b) (h_eq m c t r k) ((iblk4_apply m c t k _).trans (v47_hi m c k d))

/-- The compressed row of keys and values. -/
theorem pay36_eq (c : Dev nD) (t : Fin cfg0.N) (r : Fin 256) (k : Fin 128) :
    k0_pay36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r k) = projAt (sX m c) (sM m c) (sG m c) (sW m c) (rowT t.val (lt32 t) r) ⟨2304 + k.val, by omega⟩ := by
  unfold k0_pay36
  rw [View.ld_unit_zero (S := S1x1x1x6144) z4, View.ld_unit_zero (S := S256x1024) z2, View.ld_unit_zero (S := S1x1x1024) z3]
  pointwise [k0_pay10]
  exact pay7_eq m c t r _

/-- The shared key, in 128 columns. -/
theorem pay37_eq (c : Dev nD) (t : Fin cfg0.N) (r : Fin 256) (d : Fin 128) :
    k0_pay37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = padR (krAt (sX m c) (sM m c) (sG m c) (sW m c) (rowT t.val (lt32 t) r)) d := by
  unfold k0_pay37
  rw [View.ld_unit_zero (S := S1x1x1x6144) z4, View.ld_unit_zero (S := S256x1024) z2, View.ld_unit_zero (S := S1x1x1024) z3, View.ld_unit_zero (S := S1024x256) z2]
  refine Eq.trans ?_ (pay11_lo m c t r d)
  pointwise [k0_pay12]
  try rfl

/-- The shared key with its halves exchanged. -/
theorem pay38_eq (c : Dev nD) (t : Fin cfg0.N) (r : Fin 256) (d : Fin 128) :
    k0_pay38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = swapR (krAt (sX m c) (sM m c) (sG m c) (sW m c) (rowT t.val (lt32 t) r)) d := by
  unfold k0_pay38
  rw [View.ld_unit_zero (S := S1x1x1x6144) z4, View.ld_unit_zero (S := S256x1024) z2, View.ld_unit_zero (S := S1x1x1024) z3, View.ld_unit_zero (S := S1024x256) z2]
  refine Eq.trans ?_ (pay11_hi m c t r d)
  pointwise [k0_pay13]
  try rfl

/-- The cosines of a point's rows. -/
theorem pay39_eq (c : Dev nD) (t : Fin cfg0.N) (r : Fin 256) (d : Fin 128) :
    k0_pay39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = (if (rowT t.val (lt32 t) r).val < 4096 then (1 : EReal) else cosRow (cs m c ⟨((rowT t.val (lt32 t) r).val - 4096) % 2048, Nat.mod_lt _ (by omega)⟩) d) := by
  unfold k0_pay39
  rw [View.ld_unit_zero (S := S256x128) z2]
  refine Eq.trans ?_ (iblk10_apply m c t r d)
  pointwise [k0_pay14]
  try rfl

/-- The sines of a point's rows. -/
theorem pay40_eq (c : Dev nD) (t : Fin cfg0.N) (r : Fin 256) (d : Fin 128) :
    k0_pay40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = (if (rowT t.val (lt32 t) r).val < 4096 then (0 : EReal) else sinRow (sn m c ⟨((rowT t.val (lt32 t) r).val - 4096) % 2048, Nat.mod_lt _ (by omega)⟩) d) := by
  unfold k0_pay40
  rw [View.ld_unit_zero (S := S256x128) z2]
  refine Eq.trans ?_ (iblk11_apply m c t r d)
  pointwise [k0_pay15]
  try rfl

/-- The queries' compressed row, normalised. -/
theorem cq_eq (c : Dev nD) (t : Fin cfg0.N) (r : Fin 256) (k : Fin 256) :
    rms 0x43800000#32 (fun k : Fin 256 => k0_pay9 (iblk m c 1 t) (iblk m c 0 t) (iblk m c 2 t) (View.ld (iblk m c 3 t) r0_3) (ix2 r k)) (fun k => iblk m c 5 t (ix2 0 k)) k
      = cqAt (sX m c) (sM m c) (sG m c) (sW m c) (sQ m c) (rowT t.val (lt32 t) r) k := by
  unfold cqAt
  have e0 : (fun k : Fin 256 => k0_pay9 (iblk m c 1 t) (iblk m c 0 t) (iblk m c 2 t) (View.ld (iblk m c 3 t) r0_3) (ix2 r k))
      = fun k : Fin 256 => projAt (sX m c) (sM m c) (sG m c) (sW m c) (rowT t.val (lt32 t) r) ⟨2048 + k.val, by omega⟩ := by
    funext k
    pointwise [k0_pay9]
    exact pay7_eq m c t r _
  have e1 : (fun k : Fin 256 => iblk m c 5 t (ix2 0 k)) = sQ m c := funext fun k => (iblk5_apply m c t 0 k).trans (v75_at m c k)
  exact congrFun (congr (congrArg (rms 0x43800000#32) e0) e1) k

/-- The queries of head `h`, before the rotation. -/
theorem pay41_lo (c : Dev nD) (t : Fin cfg0.N) (r : Fin 256) (h : Fin 8) (d : Fin 128) (j : Fin 2048) (hj : j.val = h.val * 128 + d.val) :
    k0_pay41 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = headP (fun i => qAt (sX m c) (sM m c) (sG m c) (sW m c) (sQ m c) (sU m c) (rowT t.val (lt32 t) r) h ⟨i.val, by omega⟩) (fun i => qAt (sX m c) (sM m c) (sG m c) (sW m c) (sQ m c) (sU m c) (rowT t.val (lt32 t) r) h ⟨64 + i.val, by omega⟩) d := by
  rw [show j = ⟨h.val * 128 + d.val, by omega⟩ from Fin.ext hj]
  unfold k0_pay41
  rw [View.ld_unit_zero (S := S1x1x1x6144) z4, View.ld_unit_zero (S := S256x1024) z2, View.ld_unit_zero (S := S1x1x1024) z3, View.ld_unit_zero (S := S1x256) z2, View.ld_unit_zero (S := S256x2048) z2]
  rw [pay16_apply]
  refine Eq.trans ?_ (sum_headP (fun k => cqAt (sX m c) (sM m c) (sG m c) (sW m c) (sQ m c) (rowT t.val (lt32 t) r) k) (fun k i => sU m c k ⟨h.val * 96 + i.val, by omega⟩) (fun k i => sU m c k ⟨h.val * 96 + (64 + i.val), by omega⟩) d)
  refine Finset.sum_congr rfl fun k _ => ?_
  exact congrArg₂ (fun a b : EReal => a * b) (cq_eq m c t r k) ((iblk7_apply m c t k _).trans (v61_lo m c k h d))

/-- The rotated queries of head `h` with their halves exchanged. -/
theorem pay41_hi (c : Dev nD) (t : Fin cfg0.N) (r : Fin 256) (h : Fin 8) (d : Fin 128) (j : Fin 2048) (hj : j.val = 1024 + (h.val * 128 + d.val)) :
    k0_pay41 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = swapR (fun i => qAt (sX m c) (sM m c) (sG m c) (sW m c) (sQ m c) (sU m c) (rowT t.val (lt32 t) r) h ⟨64 + i.val, by omega⟩) d := by
  rw [show j = ⟨1024 + (h.val * 128 + d.val), by omega⟩ from Fin.ext hj]
  unfold k0_pay41
  rw [View.ld_unit_zero (S := S1x1x1x6144) z4, View.ld_unit_zero (S := S256x1024) z2, View.ld_unit_zero (S := S1x1x1024) z3, View.ld_unit_zero (S := S1x256) z2, View.ld_unit_zero (S := S256x2048) z2]
  rw [pay16_apply]
  refine Eq.trans ?_ (sum_swapR (fun k => cqAt (sX m c) (sM m c) (sG m c) (sW m c) (sQ m c) (rowT t.val (lt32 t) r) k) (fun k i => sU m c k ⟨h.val * 96 + (64 + i.val), by omega⟩) d)
  refine Finset.sum_congr rfl fun k _ => ?_
  exact congrArg₂ (fun a b : EReal => a * b) (cq_eq m c t r k) ((iblk7_apply m c t k _).trans (v61_hi m c k h d))

/-- The keys' and values' compressed row, normalised. -/
theorem pay17_eq (c : Dev nD) (t : Fin cfg0.N) (r : Fin 256) (k : Fin 128) :
    k0_pay17 (k0_pay36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (iblk m c 6 t) (ix2 r k) = ckvAt (sX m c) (sM m c) (sG m c) (sW m c) (sK m c) (rowT t.val (lt32 t) r) k := by
  rw [pay17_apply]
  unfold ckvAt
  have e0 : (fun k : Fin 128 => k0_pay36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r k)) = fun k : Fin 128 => projAt (sX m c) (sM m c) (sG m c) (sW m c) (rowT t.val (lt32 t) r) ⟨2304 + k.val, by omega⟩ :=
    funext fun k => pay36_eq m c t r k
  have e1 : (fun k : Fin 128 => iblk m c 6 t (ix2 0 k)) = sK m c := funext fun k => (iblk6_apply m c t 0 k).trans (v78_at m c k)
  exact congrFun (congr (congrArg (rms 0x43000000#32) e0) e1) k

/-- The same as the kernel keeps it. -/
theorem pay42_eq (c : Dev nD) (t : Fin cfg0.N) (r : Fin 256) (k : Fin 128) :
    k0_pay42 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r k) = ckvAt (sX m c) (sM m c) (sG m c) (sW m c) (sK m c) (rowT t.val (lt32 t) r) k := by
  unfold k0_pay42
  rw [View.ld_unit_zero (S := S1x128) z2]
  exact pay17_eq m c t r k

/-- The keys of head `h` before the shared part is added. -/
theorem keys_eq (c : Dev nD) (t : Fin cfg0.N) (r : Fin 256) (h : Fin 8) (d : Fin 128) (j : Fin 1024) (hj : j.val = h.val * 128 + d.val) :
    k0_pay19 (k0_pay42 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (iblk m c 8 t) (ix2 r j) = headP (fun i => kvAt (sX m c) (sM m c) (sG m c) (sW m c) (sK m c) (sV m c) (rowT t.val (lt32 t) r) h ⟨i.val, by omega⟩) (fun _ => 0) d := by
  rw [show j = ⟨h.val * 128 + d.val, by omega⟩ from Fin.ext hj]
  rw [pay19_apply]
  have e : (fun _ : Fin 32 => (0 : EReal)) = fun i : Fin 32 => ∑ k : Fin 128, ckvAt (sX m c) (sM m c) (sG m c) (sW m c) (sK m c) (rowT t.val (lt32 t) r) k * (fun (_ : Fin 128) (_ : Fin 32) => (0 : EReal)) k i :=
    funext fun _ => by simp only [mul_zero, Finset.sum_const_zero]
  rw [e]
  refine Eq.trans ?_ (sum_headP (fun k => ckvAt (sX m c) (sM m c) (sG m c) (sW m c) (sK m c) (rowT t.val (lt32 t) r) k) (fun k i => sV m c k ⟨h.val * 128 + i.val, by omega⟩) (fun _ _ => 0) d)
  refine Finset.sum_congr rfl fun k _ => ?_
  exact congrArg₂ (fun a b : EReal => a * b) (pay42_eq m c t r k) ((iblk8_apply m c t k _).trans (v68_at m c k h d))

/-- The same as the kernel keeps it. -/
theorem pay43_eq (c : Dev nD) (t : Fin cfg0.N) (r : Fin 256) (h : Fin 8) (d : Fin 128) (j : Fin 1024) (hj : j.val = h.val * 128 + d.val) :
    k0_pay43 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = headP (fun i => kvAt (sX m c) (sM m c) (sG m c) (sW m c) (sK m c) (sV m c) (rowT t.val (lt32 t) r) h ⟨i.val, by omega⟩) (fun _ => 0) d := by
  unfold k0_pay43
  rw [View.ld_unit_zero (S := S128x1024) z2]
  exact keys_eq m c t r h d j hj

/-- The values. -/
theorem values_eq (c : Dev nD) (t : Fin cfg0.N) (r : Fin 256) (h : Fin 8) (d : Fin 64) (j : Fin 512) (hj : j.val = h.val * 64 + d.val) :
    k0_pay20 (k0_pay42 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (iblk m c 9 t) (ix2 r j) = kvAt (sX m c) (sM m c) (sG m c) (sW m c) (sK m c) (sV m c) (rowT t.val (lt32 t) r) h ⟨64 + d.val, by omega⟩ := by
  rw [show j = ⟨h.val * 64 + d.val, by omega⟩ from Fin.ext hj]
  rw [pay20_apply]
  unfold kvAt
  refine Finset.sum_congr rfl fun k _ => ?_
  exact congrArg₂ (fun a b : EReal => a * b) (pay42_eq m c t r k) ((iblk9_apply m c t k _).trans (v71_at m c k h d))

/-- The shared key after the rotation. -/
theorem rot_eq (c : Dev nD) (t : Fin cfg0.N) (r : Fin 256) (d : Fin 128) :
    k0_pay21 (k0_pay37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 r d) = padR (rope (cs m c) (sn m c) (rowT t.val (lt32 t) r) (krAt (sX m c) (sM m c) (sG m c) (sW m c) (rowT t.val (lt32 t) r))) d := by
  pointwise [k0_pay21]
  rw [pay37_eq, pay38_eq, pay39_eq, pay40_eq]
  exact padR_rope _ _ _ _ d

/-- A head of the queries: the products with the table's row. -/
theorem qslab (c : Dev nD) (t : Fin cfg0.N) (r : Fin 256) (h : Fin 8) (d : Fin 128) (j j' : Fin 2048) (hj : j.val = h.val * 128 + d.val) (hj' : j'.val = 1024 + (h.val * 128 + d.val)) :
    skip (k0_pay41 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) * k0_pay39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)) (k0_pay41 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j')) (k0_pay40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d))
      = qHead (sX m c) (sM m c) (sG m c) (sW m c) (sQ m c) (sU m c) (cs m c) (sn m c) (rowT t.val (lt32 t) r) h d := by
  rw [pay41_lo m c t r h d j hj, pay41_hi m c t r h d j' hj', pay39_eq, pay40_eq]
  exact headP_rope _ _ _ _ _ d

/-- A head of the keys: its own part and the shared one. -/
theorem kslab (c : Dev nD) (t : Fin cfg0.N) (r : Fin 256) (h : Fin 8) (d : Fin 128) (j : Fin 1024) (hj : j.val = h.val * 128 + d.val) (y : EReal)
    (hy : y = k0_pay44 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)) :
    skip (k0_pay43 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)) y 1 = kHead (sX m c) (sM m c) (sG m c) (sW m c) (sK m c) (sV m c) (cs m c) (sn m c) (rowT t.val (lt32 t) r) h d := by
  subst hy
  rw [pay43_eq m c t r h d j hj]
  unfold k0_pay44
  rw [rot_eq]
  unfold skip
  rw [mul_one]
  exact headP_add _ _ d

end Cert.InEvenIdeal.Mix

end
-- ==== Proof.InEvenArray.lean ====
/- The projection before the even layer's mixers: the six output arrays. -/
module

public import proofs.«01_k».proof.Proof.InEvenHeads

@[expose] public section

set_option maxRecDepth 16384

noncomputable section

namespace Cert.InEvenIdeal.Mix

open Cert.InEvenIdeal Cert.InEvenIdeal.Gen Idealize.ShloMosaic Idealize.ShloMosaic.TcCoe Idealize.SL.Sem Cert.Mix
open Idealize.ShloMosaic.Pipeline (Dat)

/-- Head 0 of the queries: the products with the table's row. -/
theorem q0_apply (v39 v41 : FVec Ideal S256x128 .f32) (v59 : FVec Ideal S256x2048 .f32) (r : Fin 256) (d : Fin 128) :
    k0_pay22 v39 v41 v59 (ix2 r d) = skip (v59 (ix2 r ⟨0 + d.val, by omega⟩) * v39 (ix2 r d)) (v59 (ix2 r ⟨1024 + d.val, by omega⟩)) (v41 (ix2 r d)) := by
  unfold skip
  pointwise [k0_pay22]
  try rfl

/-- Head 1 of the queries: the products with the table's row. -/
theorem q1_apply (v39 v41 : FVec Ideal S256x128 .f32) (v59 : FVec Ideal S256x2048 .f32) (r : Fin 256) (d : Fin 128) :
    k0_pay24 v39 v41 v59 (ix2 r d) = skip (v59 (ix2 r ⟨128 + d.val, by omega⟩) * v39 (ix2 r d)) (v59 (ix2 r ⟨1152 + d.val, by omega⟩)) (v41 (ix2 r d)) := by
  unfold skip
  pointwise [k0_pay24]
  try rfl

/-- Head 2 of the queries: the products with the table's row. -/
theorem q2_apply (v39 v41 : FVec Ideal S256x128 .f32) (v59 : FVec Ideal S256x2048 .f32) (r : Fin 256) (d : Fin 128) :
    k0_pay28 v41 (k0_pay26 v39 v59) (k0_pay27 v59) (ix2 r d) = skip (v59 (ix2 r ⟨256 + d.val, by omega⟩) * v39 (ix2 r d)) (v59 (ix2 r ⟨1280 + d.val, by omega⟩)) (v41 (ix2 r d)) := by
  unfold skip
  pointwise [k0_pay28, k0_pay26, k0_pay27]
  try rfl

/-- Head 3 of the queries: the products with the table's row. -/
theorem q3_apply (v39 v41 : FVec Ideal S256x128 .f32) (v59 : FVec Ideal S256x2048 .f32) (r : Fin 256) (d : Fin 128) :
    k0_pay30 v39 v41 v59 (ix2 r d) = skip (v59 (ix2 r ⟨384 + d.val, by omega⟩) * v39 (ix2 r d)) (v59 (ix2 r ⟨1408 + d.val, by omega⟩)) (v41 (ix2 r d)) := by
  unfold skip
  pointwise [k0_pay30]
  try rfl

/-- Head 4 of the queries: the products with the table's row. -/
theorem q4_apply (v39 v41 : FVec Ideal S256x128 .f32) (v59 : FVec Ideal S256x2048 .f32) (r : Fin 256) (d : Fin 128) :
    k0_pay32 v39 v41 v59 (ix2 r d) = skip (v59 (ix2 r ⟨512 + d.val, by omega⟩) * v39 (ix2 r d)) (v59 (ix2 r ⟨1536 + d.val, by omega⟩)) (v41 (ix2 r d)) := by
  unfold skip
  pointwise [k0_pay32]
  try rfl

/-- Head 5 of the queries: the products with the table's row. -/
theorem q5_apply (v39 v41 : FVec Ideal S256x128 .f32) (v59 : FVec Ideal S256x2048 .f32) (r : Fin 256) (d : Fin 128) :
    k0_pay34 v39 v41 v59 (ix2 r d) = skip (v59 (ix2 r ⟨640 + d.val, by omega⟩) * v39 (ix2 r d)) (v59 (ix2 r ⟨1664 + d.val, by omega⟩)) (v41 (ix2 r d)) := by
  unfold skip
  pointwise [k0_pay34]
  try rfl

/-- Head 6 of the queries: the products with the table's row. -/
theorem q6_apply (v39 v41 : FVec Ideal S256x128 .f32) (v59 : FVec Ideal S256x2048 .f32) (r : Fin 256) (d : Fin 128) :
    k0_pay2 v39 v41 v59 (ix2 r d) = skip (v59 (ix2 r ⟨768 + d.val, by omega⟩) * v39 (ix2 r d)) (v59 (ix2 r ⟨1792 + d.val, by omega⟩)) (v41 (ix2 r d)) := by
  unfold skip
  pointwise [k0_pay2]
  try rfl

/-- Head 7 of the queries: the products with the table's row. -/
theorem q7_apply (v39 v41 : FVec Ideal S256x128 .f32) (v59 : FVec Ideal S256x2048 .f32) (r : Fin 256) (d : Fin 128) :
    k0_pay4 v39 v41 v59 (ix2 r d) = skip (v59 (ix2 r ⟨896 + d.val, by omega⟩) * v39 (ix2 r d)) (v59 (ix2 r ⟨1920 + d.val, by omega⟩)) (v41 (ix2 r d)) := by
  unfold skip
  pointwise [k0_pay4]
  try rfl

/-- Head 0 of the keys: its own part and the shared one. -/
theorem k0_apply (v36 v37 v39 v41 v73 : FVec Ideal S256x128 .f32) (v77 : Vec Ideal S128x1024 .bf16) (r : Fin 256) (d : Fin 128) :
    k0_pay23 v36 v37 v39 v41 v73 v77 (ix2 r d) = skip (k0_pay19 v73 v77 (ix2 r ⟨0 + d.val, by omega⟩)) (k0_pay21 v36 v37 v39 v41 (ix2 r d)) 1 := by
  unfold skip
  rw [mul_one]
  pointwise [k0_pay23]
  try rfl

/-- Head 1 of the keys: its own part and the shared one. -/
theorem k1_apply (v36 v37 v39 v41 v73 : FVec Ideal S256x128 .f32) (v77 : Vec Ideal S128x1024 .bf16) (r : Fin 256) (d : Fin 128) :
    k0_pay25 v36 v37 v39 v41 v73 v77 (ix2 r d) = skip (k0_pay19 v73 v77 (ix2 r ⟨128 + d.val, by omega⟩)) (k0_pay21 v36 v37 v39 v41 (ix2 r d)) 1 := by
  unfold skip
  rw [mul_one]
  pointwise [k0_pay25]
  try rfl

/-- Head 2 of the keys: its own part and the shared one. -/
theorem k2_apply (v79 : FVec Ideal S256x1024 .f32) (v87 : FVec Ideal S256x128 .f32) (r : Fin 256) (d : Fin 128) :
    k0_pay29 v79 v87 (ix2 r d) = skip (v79 (ix2 r ⟨256 + d.val, by omega⟩)) (v87 (ix2 r d)) 1 := by
  unfold skip
  rw [mul_one]
  pointwise [k0_pay29]
  try rfl

/-- Head 3 of the keys: its own part and the shared one. -/
theorem k3_apply (v79 : FVec Ideal S256x1024 .f32) (v87 : FVec Ideal S256x128 .f32) (r : Fin 256) (d : Fin 128) :
    k0_pay31 v79 v87 (ix2 r d) = skip (v79 (ix2 r ⟨384 + d.val, by omega⟩)) (v87 (ix2 r d)) 1 := by
  unfold skip
  rw [mul_one]
  pointwise [k0_pay31]
  try rfl

/-- Head 4 of the keys: its own part and the shared one. -/
theorem k4_apply (v79 : FVec Ideal S256x1024 .f32) (v87 : FVec Ideal S256x128 .f32) (r : Fin 256) (d : Fin 128) :
    k0_pay33 v79 v87 (ix2 r d) = skip (v79 (ix2 r ⟨512 + d.val, by omega⟩)) (v87 (ix2 r d)) 1 := by
  unfold skip
  rw [mul_one]
  pointwise [k0_pay33]
  try rfl

/-- Head 5 of the keys: its own part and the shared one. -/
theorem k5_apply (v79 : FVec Ideal S256x1024 .f32) (v87 : FVec Ideal S256x128 .f32) (r : Fin 256) (d : Fin 128) :
    k0_pay1 (k0_pay35 v79 v87) (ix2 r d) = skip (v79 (ix2 r ⟨640 + d.val, by omega⟩)) (v87 (ix2 r d)) 1 := by
  unfold skip
  rw [mul_one]
  pointwise [k0_pay1, k0_pay35]
  try rfl

/-- Head 6 of the keys: its own part and the shared one. -/
theorem k6_apply (v79 : FVec Ideal S256x1024 .f32) (v87 : FVec Ideal S256x128 .f32) (r : Fin 256) (d : Fin 128) :
    k0_pay3 v79 v87 (ix2 r d) = skip (v79 (ix2 r ⟨768 + d.val, by omega⟩)) (v87 (ix2 r d)) 1 := by
  unfold skip
  rw [mul_one]
  pointwise [k0_pay3]
  try rfl

/-- Head 7 of the keys: its own part and the shared one. -/
theorem k7_apply (v79 : FVec Ideal S256x1024 .f32) (v87 : FVec Ideal S256x128 .f32) (r : Fin 256) (d : Fin 128) :
    k0_pay5 v79 v87 (ix2 r d) = skip (v79 (ix2 r ⟨896 + d.val, by omega⟩)) (v87 (ix2 r d)) 1 := by
  unfold skip
  rw [mul_one]
  pointwise [k0_pay5]
  try rfl

/-- A store's rectangle of 128 columns holds the indices of its head. -/
theorem mem_slab (p : Nat) (y : S256x1024.Idx) (i0 : ∀ a, (![0, 128 * p] : Fin 2 → Nat) a + (S256x128.size) a ≤ S256x1024.size a)
    (h : (y 1 : Nat) / 128 = p) : y ∈ (Rect.unit (s := S256x1024) ![0, 128 * p] S256x128.size i0).set := by
  rw [Rect.mem_set_unit]
  intro a
  match a with
  | ⟨0, _⟩ => exact ⟨Nat.zero_le _, by show (y 0 : Nat) < 0 + 256; have : (y 0 : Nat) < 256 := (y 0).isLt; omega⟩
  | ⟨1, _⟩ => exact ⟨by show 128 * p ≤ (y 1 : Nat); omega, by show (y 1 : Nat) < 128 * p + 128; omega⟩

/-- A block whose columns are eight heads of 128. -/
def heads (g : Fin 256 → Fin 8 → Fin 128 → EReal) : S256x1024.Idx → EReal := fun y =>
  g (y 0) ⟨(y 1).val / 128, by have : (y 1).val < 1024 := (y 1).isLt; omega⟩ ⟨(y 1).val % 128, Nat.mod_lt _ (by omega)⟩

/-- A store of a head is the block's part there. -/
theorem slab (g : Fin 256 → Fin 8 → Fin 128 → EReal) (w : S256x128.Idx → EReal) (p : Nat) (hp : p < 8)
    (i0 : ∀ a, (![0, 128 * p] : Fin 2 → Nat) a + (S256x128.size) a ≤ S256x1024.size a)
    (hw : ∀ (r : Fin 256) (d : Fin 128), w (ix2 r d) = g r ⟨p, hp⟩ d) (x : S256x128.Idx) :
    w x = heads g ((Rect.unit (s := S256x1024) ![0, 128 * p] S256x128.size i0).emb x) := by
  obtain ⟨r, l, rfl⟩ : ∃ (r : Fin 256) (l : Fin 128), x = ix2 r l := ⟨x 0, x 1, eq_ix2 x⟩
  have he : (Rect.unit (s := S256x1024) ![0, 128 * p] S256x128.size i0).emb (ix2 r l)
      = ix2 r (⟨128 * p + l.val, by have := l.isLt; omega⟩ : Fin 1024) := by
    funext a
    apply Fin.ext
    match a with
    | ⟨0, _⟩ => simp [Rect.emb_apply, ix2]
    | ⟨1, _⟩ => simp [Rect.emb_apply, ix2]
  rw [he, hw]
  have e1 : (⟨p, hp⟩ : Fin 8) = ⟨(128 * p + l.val) / 128, by omega⟩ := Fin.ext (by dsimp only; omega)
  have e2 : l = ⟨(128 * p + l.val) % 128, Nat.mod_lt _ (by omega)⟩ := Fin.ext (by dsimp only; omega)
  exact congrArg₂ (g r) e1 e2

variable (m : (ℓ : Loc nD τ sig) → Buf (Elt Ideal) ℓ)

/-- The output array of the projection's first 2048 columns. -/
def out12 (c : Dev nD) : S8192x2048.Idx → EReal := fun i => projAt (sX m c) (sM m c) (sG m c) (sW m c) (i 0) ⟨(i 1).val, by have : (i 1).val < 2048 := (i 1).isLt; omega⟩

/-- A point's block of it. -/
theorem out0_12_eq (c : Dev nD) (t : Fin cfg0.N) (r : Fin 256) (k : Fin 2048) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r k) = out12 m c (ix2 (rowT t.val (lt32 t) r) k) := by
  unfold out0_12
  rw [View.canon_unit_zero (S := S256x2048) z2, View.ld_unit_zero (S := S1x1x1x6144) z4, View.ld_unit_zero (S := S256x1024) z2, View.ld_unit_zero (S := S1x1x1024) z3]
  pointwise [k0_pay8]
  exact pay7_eq m c t r _

/-- What point `t` writes back is its block of the output array. -/
theorem flushed_eq12 (c : Dev nD) (t : Fin cfg0.N) :
    (dats m 0 c).flushed 12 t = ((cfg0.win 12).blk t).view.read (Elt Ideal) (out12 m c) := by
  rw [Value.flushed12]
  funext y
  obtain ⟨r, e, rfl⟩ : ∃ (r : Fin 256) (e : Fin 2048), y = ix2 r e := ⟨y 0, y 1, eq_ix2 y⟩
  refine (out0_12_eq m c t r e).trans ?_
  show out12 m c _ = out12 m c _
  congr 1
  funext a
  apply Fin.ext
  match a with
  | ⟨0, _⟩ =>
    show 256 * t.val + r.val = win0_12.index t 0 * 256 + 1 * r.val
    rw [(idx12 t).1]; omega
  | ⟨1, _⟩ =>
    show e.val = win0_12.index t 1 * 2048 + 1 * e.val
    rw [(idx12 t).2]; omega

/-- An index lies in point `t`'s output block when its row is among the block's 256. -/
theorem mem_blk12 (t : Fin cfg0.N) (i : S8192x2048.Idx) :
    i ∈ ((cfg0.win 12).blk t).view.set ↔ ∀ a, win0_12.index t a * win0_12.size a ≤ (i a : Nat) ∧ (i a : Nat) < win0_12.index t a * win0_12.size a + win0_12.xsize (grid0.coords t) a := by
  show i ∈ ((View.whole main_v79_0).slice (win0_12.rect t)).set ↔ _
  rw [View.set_slice_whole, Rect.mem_set_unit]

/-- The output array of the projection's first 2048 columns at the end. -/
theorem arr_eq12 (c : Dev nD) : (dats m 0 c).arrAt 12 cfg0.N = out12 m c := by
  refine Dat.arrAt_eq_of_cover (dats m 0 c) 12 (out12 m c) (fun t _ => flushed_eq12 m c t) fun i => ?_
  obtain ⟨R, C, rfl⟩ : ∃ (R : Fin 8192) (C : Fin 2048), i = ix2 R C := ⟨i 0, i 1, eq_ix2 i⟩
  refine ⟨(⟨R.val / 256, by show R.val / 256 < 32; omega⟩ : Fin cfg0.N), flush0_12 _, ?_⟩
  rw [mem_blk12]
  intro a
  match a with
  | ⟨0, _⟩ =>
    show win0_12.index _ 0 * 256 ≤ R.val ∧ R.val < win0_12.index _ 0 * 256 + 256
    rw [(idx12 _).1]; show R.val / 256 * 256 ≤ R.val ∧ R.val < R.val / 256 * 256 + 256; omega
  | ⟨1, _⟩ =>
    show win0_12.index _ 1 * 2048 ≤ C.val ∧ C.val < win0_12.index _ 1 * 2048 + 2048
    rw [(idx12 _).2]; omega

/-- The output array of the queries, 128 columns a head. -/
def out13 (c : Dev nD) : S8192x1024.Idx → EReal := fun i => qHead (sX m c) (sM m c) (sG m c) (sW m c) (sQ m c) (sU m c) (cs m c) (sn m c) (i 0) ⟨(i 1).val / 128, by have : (i 1).val < 1024 := (i 1).isLt; omega⟩ ⟨(i 1).val % 128, Nat.mod_lt _ (by omega)⟩

/-- A point's block of it. -/
theorem out0_13_eq (c : Dev nD) (t : Fin cfg0.N) (r : Fin 256) (k : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r k) = out13 m c (ix2 (rowT t.val (lt32 t) r) k) := by
  unfold out0_13
  refine (View.canon_apply_of_pieces (S := S256x1024) (heads fun r h d => qHead (sX m c) (sM m c) (sG m c) (sW m c) (sQ m c) (sU m c) (cs m c) (sn m c) (rowT t.val (lt32 t) r) h d) _ ?_ (ix2 r k) ?_).trans rfl
  · intro q hq
    simp only [List.mem_cons, List.not_mem_nil, or_false] at hq
    rcases hq with rfl | rfl | rfl | rfl | rfl | rfl | rfl | rfl
    · exact fun x => slab _ _ 7 (by omega) inb_S256x1024_S256x128_0_896 (fun r d => (q7_apply _ _ _ r d).trans (qslab m c t r ⟨7, by omega⟩ d _ _ (by dsimp only) (by dsimp only; omega))) x
    · exact fun x => slab _ _ 6 (by omega) inb_S256x1024_S256x128_0_768 (fun r d => (q6_apply _ _ _ r d).trans (qslab m c t r ⟨6, by omega⟩ d _ _ (by dsimp only) (by dsimp only; omega))) x
    · exact fun x => slab _ _ 5 (by omega) inb_S256x1024_S256x128_0_640 (fun r d => (q5_apply _ _ _ r d).trans (qslab m c t r ⟨5, by omega⟩ d _ _ (by dsimp only) (by dsimp only; omega))) x
    · exact fun x => slab _ _ 4 (by omega) inb_S256x1024_S256x128_0_512 (fun r d => (q4_apply _ _ _ r d).trans (qslab m c t r ⟨4, by omega⟩ d _ _ (by dsimp only) (by dsimp only; omega))) x
    · exact fun x => slab _ _ 3 (by omega) inb_S256x1024_S256x128_0_384 (fun r d => (q3_apply _ _ _ r d).trans (qslab m c t r ⟨3, by omega⟩ d _ _ (by dsimp only) (by dsimp only; omega))) x
    · exact fun x => slab _ _ 2 (by omega) inb_S256x1024_S256x128_0_256 (fun r d => (q2_apply _ _ _ r d).trans (qslab m c t r ⟨2, by omega⟩ d _ _ (by dsimp only) (by dsimp only; omega))) x
    · exact fun x => slab _ _ 1 (by omega) inb_S256x1024_S256x128_0_128 (fun r d => (q1_apply _ _ _ r d).trans (qslab m c t r ⟨1, by omega⟩ d _ _ (by dsimp only) (by dsimp only; omega))) x
    · exact fun x => slab _ _ 0 (by omega) inb_S256x1024_S256x128_0_0 (fun r d => (q0_apply _ _ _ r d).trans (qslab m c t r ⟨0, by omega⟩ d _ _ (by dsimp only) (by dsimp only; omega))) x
  · have hj : k.val / 128 < 8 := by have := k.isLt; omega
    have hm := fun p i0 h => mem_slab p (ix2 r k) i0 h
    have hc : k.val / 128 = 7 ∨ k.val / 128 = 6 ∨ k.val / 128 = 5 ∨ k.val / 128 = 4 ∨ k.val / 128 = 3 ∨ k.val / 128 = 2 ∨ k.val / 128 = 1 ∨ k.val / 128 = 0 := by omega
    simp only [List.exists_mem_cons_iff]
    rcases hc with h | h | h | h | h | h | h | h
    · exact Or.inl (hm 7 inb_S256x1024_S256x128_0_896 h)
    · exact Or.inr (Or.inl (hm 6 inb_S256x1024_S256x128_0_768 h))
    · exact Or.inr (Or.inr (Or.inl (hm 5 inb_S256x1024_S256x128_0_640 h)))
    · exact Or.inr (Or.inr (Or.inr (Or.inl (hm 4 inb_S256x1024_S256x128_0_512 h))))
    · exact Or.inr (Or.inr (Or.inr (Or.inr (Or.inl (hm 3 inb_S256x1024_S256x128_0_384 h)))))
    · exact Or.inr (Or.inr (Or.inr (Or.inr (Or.inr (Or.inl (hm 2 inb_S256x1024_S256x128_0_256 h))))))
    · exact Or.inr (Or.inr (Or.inr (Or.inr (Or.inr (Or.inr (Or.inl (hm 1 inb_S256x1024_S256x128_0_128 h)))))))
    · exact Or.inr (Or.inr (Or.inr (Or.inr (Or.inr (Or.inr (Or.inr (Or.inl (hm 0 inb_S256x1024_S256x128_0_0 h))))))))

/-- What point `t` writes back is its block of the output array. -/
theorem flushed_eq13 (c : Dev nD) (t : Fin cfg0.N) :
    (dats m 0 c).flushed 13 t = ((cfg0.win 13).blk t).view.read (Elt Ideal) (out13 m c) := by
  rw [Value.flushed13]
  funext y
  obtain ⟨r, e, rfl⟩ : ∃ (r : Fin 256) (e : Fin 1024), y = ix2 r e := ⟨y 0, y 1, eq_ix2 y⟩
  refine (out0_13_eq m c t r e).trans ?_
  show out13 m c _ = out13 m c _
  congr 1
  funext a
  apply Fin.ext
  match a with
  | ⟨0, _⟩ =>
    show 256 * t.val + r.val = win0_13.index t 0 * 256 + 1 * r.val
    rw [(idx13 t).1]; omega
  | ⟨1, _⟩ =>
    show e.val = win0_13.index t 1 * 1024 + 1 * e.val
    rw [(idx13 t).2]; omega

/-- An index lies in point `t`'s output block when its row is among the block's 256. -/
theorem mem_blk13 (t : Fin cfg0.N) (i : S8192x1024.Idx) :
    i ∈ ((cfg0.win 13).blk t).view.set ↔ ∀ a, win0_13.index t a * win0_13.size a ≤ (i a : Nat) ∧ (i a : Nat) < win0_13.index t a * win0_13.size a + win0_13.xsize (grid0.coords t) a := by
  show i ∈ ((View.whole main_v79_1).slice (win0_13.rect t)).set ↔ _
  rw [View.set_slice_whole, Rect.mem_set_unit]

/-- The output array of the queries, 128 columns a head at the end. -/
theorem arr_eq13 (c : Dev nD) : (dats m 0 c).arrAt 13 cfg0.N = out13 m c := by
  refine Dat.arrAt_eq_of_cover (dats m 0 c) 13 (out13 m c) (fun t _ => flushed_eq13 m c t) fun i => ?_
  obtain ⟨R, C, rfl⟩ : ∃ (R : Fin 8192) (C : Fin 1024), i = ix2 R C := ⟨i 0, i 1, eq_ix2 i⟩
  refine ⟨(⟨R.val / 256, by show R.val / 256 < 32; omega⟩ : Fin cfg0.N), flush0_13 _, ?_⟩
  rw [mem_blk13]
  intro a
  match a with
  | ⟨0, _⟩ =>
    show win0_13.index _ 0 * 256 ≤ R.val ∧ R.val < win0_13.index _ 0 * 256 + 256
    rw [(idx13 _).1]; show R.val / 256 * 256 ≤ R.val ∧ R.val < R.val / 256 * 256 + 256; omega
  | ⟨1, _⟩ =>
    show win0_13.index _ 1 * 1024 ≤ C.val ∧ C.val < win0_13.index _ 1 * 1024 + 1024
    rw [(idx13 _).2]; omega

/-- The output array of the keys, 128 columns a head. -/
def out14 (c : Dev nD) : S8192x1024.Idx → EReal := fun i => kHead (sX m c) (sM m c) (sG m c) (sW m c) (sK m c) (sV m c) (cs m c) (sn m c) (i 0) ⟨(i 1).val / 128, by have : (i 1).val < 1024 := (i 1).isLt; omega⟩ ⟨(i 1).val % 128, Nat.mod_lt _ (by omega)⟩

/-- A point's block of it. -/
theorem out0_14_eq (c : Dev nD) (t : Fin cfg0.N) (r : Fin 256) (k : Fin 1024) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r k) = out14 m c (ix2 (rowT t.val (lt32 t) r) k) := by
  unfold out0_14
  refine (View.canon_apply_of_pieces (S := S256x1024) (heads fun r h d => kHead (sX m c) (sM m c) (sG m c) (sW m c) (sK m c) (sV m c) (cs m c) (sn m c) (rowT t.val (lt32 t) r) h d) _ ?_ (ix2 r k) ?_).trans rfl
  · intro q hq
    simp only [List.mem_cons, List.not_mem_nil, or_false] at hq
    rcases hq with rfl | rfl | rfl | rfl | rfl | rfl | rfl | rfl
    · exact fun x => slab _ _ 7 (by omega) inb_S256x1024_S256x128_0_896 (fun r d => (k7_apply _ _ r d).trans (kslab m c t r ⟨7, by omega⟩ d _ (by dsimp only) _ rfl)) x
    · exact fun x => slab _ _ 6 (by omega) inb_S256x1024_S256x128_0_768 (fun r d => (k6_apply _ _ r d).trans (kslab m c t r ⟨6, by omega⟩ d _ (by dsimp only) _ rfl)) x
    · exact fun x => slab _ _ 5 (by omega) inb_S256x1024_S256x128_0_640 (fun r d => (k5_apply _ _ r d).trans (kslab m c t r ⟨5, by omega⟩ d _ (by dsimp only) _ rfl)) x
    · exact fun x => slab _ _ 4 (by omega) inb_S256x1024_S256x128_0_512 (fun r d => (k4_apply _ _ r d).trans (kslab m c t r ⟨4, by omega⟩ d _ (by dsimp only) _ rfl)) x
    · exact fun x => slab _ _ 3 (by omega) inb_S256x1024_S256x128_0_384 (fun r d => (k3_apply _ _ r d).trans (kslab m c t r ⟨3, by omega⟩ d _ (by dsimp only) _ rfl)) x
    · exact fun x => slab _ _ 2 (by omega) inb_S256x1024_S256x128_0_256 (fun r d => (k2_apply _ _ r d).trans (kslab m c t r ⟨2, by omega⟩ d _ (by dsimp only) _ rfl)) x
    · exact fun x => slab _ _ 1 (by omega) inb_S256x1024_S256x128_0_128 (fun r d => (k1_apply _ _ _ _ _ _ r d).trans (kslab m c t r ⟨1, by omega⟩ d _ (by dsimp only) _ rfl)) x
    · exact fun x => slab _ _ 0 (by omega) inb_S256x1024_S256x128_0_0 (fun r d => (k0_apply _ _ _ _ _ _ r d).trans (kslab m c t r ⟨0, by omega⟩ d _ (by dsimp only) _ rfl)) x
  · have hj : k.val / 128 < 8 := by have := k.isLt; omega
    have hm := fun p i0 h => mem_slab p (ix2 r k) i0 h
    have hc : k.val / 128 = 7 ∨ k.val / 128 = 6 ∨ k.val / 128 = 5 ∨ k.val / 128 = 4 ∨ k.val / 128 = 3 ∨ k.val / 128 = 2 ∨ k.val / 128 = 1 ∨ k.val / 128 = 0 := by omega
    simp only [List.exists_mem_cons_iff]
    rcases hc with h | h | h | h | h | h | h | h
    · exact Or.inl (hm 7 inb_S256x1024_S256x128_0_896 h)
    · exact Or.inr (Or.inl (hm 6 inb_S256x1024_S256x128_0_768 h))
    · exact Or.inr (Or.inr (Or.inl (hm 5 inb_S256x1024_S256x128_0_640 h)))
    · exact Or.inr (Or.inr (Or.inr (Or.inl (hm 4 inb_S256x1024_S256x128_0_512 h))))
    · exact Or.inr (Or.inr (Or.inr (Or.inr (Or.inl (hm 3 inb_S256x1024_S256x128_0_384 h)))))
    · exact Or.inr (Or.inr (Or.inr (Or.inr (Or.inr (Or.inl (hm 2 inb_S256x1024_S256x128_0_256 h))))))
    · exact Or.inr (Or.inr (Or.inr (Or.inr (Or.inr (Or.inr (Or.inl (hm 1 inb_S256x1024_S256x128_0_128 h)))))))
    · exact Or.inr (Or.inr (Or.inr (Or.inr (Or.inr (Or.inr (Or.inr (Or.inl (hm 0 inb_S256x1024_S256x128_0_0 h))))))))

/-- What point `t` writes back is its block of the output array. -/
theorem flushed_eq14 (c : Dev nD) (t : Fin cfg0.N) :
    (dats m 0 c).flushed 14 t = ((cfg0.win 14).blk t).view.read (Elt Ideal) (out14 m c) := by
  rw [Value.flushed14]
  funext y
  obtain ⟨r, e, rfl⟩ : ∃ (r : Fin 256) (e : Fin 1024), y = ix2 r e := ⟨y 0, y 1, eq_ix2 y⟩
  refine (out0_14_eq m c t r e).trans ?_
  show out14 m c _ = out14 m c _
  congr 1
  funext a
  apply Fin.ext
  match a with
  | ⟨0, _⟩ =>
    show 256 * t.val + r.val = win0_14.index t 0 * 256 + 1 * r.val
    rw [(idx14 t).1]; omega
  | ⟨1, _⟩ =>
    show e.val = win0_14.index t 1 * 1024 + 1 * e.val
    rw [(idx14 t).2]; omega

/-- An index lies in point `t`'s output block when its row is among the block's 256. -/
theorem mem_blk14 (t : Fin cfg0.N) (i : S8192x1024.Idx) :
    i ∈ ((cfg0.win 14).blk t).view.set ↔ ∀ a, win0_14.index t a * win0_14.size a ≤ (i a : Nat) ∧ (i a : Nat) < win0_14.index t a * win0_14.size a + win0_14.xsize (grid0.coords t) a := by
  show i ∈ ((View.whole main_v79_2).slice (win0_14.rect t)).set ↔ _
  rw [View.set_slice_whole, Rect.mem_set_unit]

/-- The output array of the keys, 128 columns a head at the end. -/
theorem arr_eq14 (c : Dev nD) : (dats m 0 c).arrAt 14 cfg0.N = out14 m c := by
  refine Dat.arrAt_eq_of_cover (dats m 0 c) 14 (out14 m c) (fun t _ => flushed_eq14 m c t) fun i => ?_
  obtain ⟨R, C, rfl⟩ : ∃ (R : Fin 8192) (C : Fin 1024), i = ix2 R C := ⟨i 0, i 1, eq_ix2 i⟩
  refine ⟨(⟨R.val / 256, by show R.val / 256 < 32; omega⟩ : Fin cfg0.N), flush0_14 _, ?_⟩
  rw [mem_blk14]
  intro a
  match a with
  | ⟨0, _⟩ =>
    show win0_14.index _ 0 * 256 ≤ R.val ∧ R.val < win0_14.index _ 0 * 256 + 256
    rw [(idx14 _).1]; show R.val / 256 * 256 ≤ R.val ∧ R.val < R.val / 256 * 256 + 256; omega
  | ⟨1, _⟩ =>
    show win0_14.index _ 1 * 1024 ≤ C.val ∧ C.val < win0_14.index _ 1 * 1024 + 1024
    rw [(idx14 _).2]; omega

/-- The output array of the values, 64 columns a head. -/
def out15 (c : Dev nD) : S8192x512.Idx → EReal := fun i => kvAt (sX m c) (sM m c) (sG m c) (sW m c) (sK m c) (sV m c) (i 0) ⟨(i 1).val / 64, by have : (i 1).val < 512 := (i 1).isLt; omega⟩ ⟨64 + (i 1).val % 64, by omega⟩

/-- A point's block of it. -/
theorem out0_15_eq (c : Dev nD) (t : Fin cfg0.N) (r : Fin 256) (k : Fin 512) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r k) = out15 m c (ix2 (rowT t.val (lt32 t) r) k) := by
  unfold out0_15
  rw [View.canon_unit_zero (S := S256x512) z2, View.ld_unit_zero (S := S128x512) z2]
  refine (values_eq m c t r ⟨k.val / 64, by omega⟩ ⟨k.val % 64, Nat.mod_lt _ (by omega)⟩ k (by dsimp only; omega)).trans rfl

/-- What point `t` writes back is its block of the output array. -/
theorem flushed_eq15 (c : Dev nD) (t : Fin cfg0.N) :
    (dats m 0 c).flushed 15 t = ((cfg0.win 15).blk t).view.read (Elt Ideal) (out15 m c) := by
  rw [Value.flushed15]
  funext y
  obtain ⟨r, e, rfl⟩ : ∃ (r : Fin 256) (e : Fin 512), y = ix2 r e := ⟨y 0, y 1, eq_ix2 y⟩
  refine (out0_15_eq m c t r e).trans ?_
  show out15 m c _ = out15 m c _
  congr 1
  funext a
  apply Fin.ext
  match a with
  | ⟨0, _⟩ =>
    show 256 * t.val + r.val = win0_15.index t 0 * 256 + 1 * r.val
    rw [(idx15 t).1]; omega
  | ⟨1, _⟩ =>
    show e.val = win0_15.index t 1 * 512 + 1 * e.val
    rw [(idx15 t).2]; omega

/-- An index lies in point `t`'s output block when its row is among the block's 256. -/
theorem mem_blk15 (t : Fin cfg0.N) (i : S8192x512.Idx) :
    i ∈ ((cfg0.win 15).blk t).view.set ↔ ∀ a, win0_15.index t a * win0_15.size a ≤ (i a : Nat) ∧ (i a : Nat) < win0_15.index t a * win0_15.size a + win0_15.xsize (grid0.coords t) a := by
  show i ∈ ((View.whole main_v79_3).slice (win0_15.rect t)).set ↔ _
  rw [View.set_slice_whole, Rect.mem_set_unit]

/-- The output array of the values, 64 columns a head at the end. -/
theorem arr_eq15 (c : Dev nD) : (dats m 0 c).arrAt 15 cfg0.N = out15 m c := by
  refine Dat.arrAt_eq_of_cover (dats m 0 c) 15 (out15 m c) (fun t _ => flushed_eq15 m c t) fun i => ?_
  obtain ⟨R, C, rfl⟩ : ∃ (R : Fin 8192) (C : Fin 512), i = ix2 R C := ⟨i 0, i 1, eq_ix2 i⟩
  refine ⟨(⟨R.val / 256, by show R.val / 256 < 32; omega⟩ : Fin cfg0.N), flush0_15 _, ?_⟩
  rw [mem_blk15]
  intro a
  match a with
  | ⟨0, _⟩ =>
    show win0_15.index _ 0 * 256 ≤ R.val ∧ R.val < win0_15.index _ 0 * 256 + 256
    rw [(idx15 _).1]; show R.val / 256 * 256 ≤ R.val ∧ R.val < R.val / 256 * 256 + 256; omega
  | ⟨1, _⟩ =>
    show win0_15.index _ 1 * 512 ≤ C.val ∧ C.val < win0_15.index _ 1 * 512 + 512
    rw [(idx15 _).2]; omega

/-- The output array of the normalised compressed rows. -/
def out16 (c : Dev nD) : S8192x128.Idx → EReal := fun i => ckvAt (sX m c) (sM m c) (sG m c) (sW m c) (sK m c) (i 0) (i 1)

/-- A point's block of it. -/
theorem out0_16_eq (c : Dev nD) (t : Fin cfg0.N) (r : Fin 256) (k : Fin 128) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r k) = out16 m c (ix2 (rowT t.val (lt32 t) r) k) := by
  unfold out0_16
  rw [View.canon_unit_zero (S := S256x128) z2, View.ld_unit_zero (S := S1x128) z2]
  exact pay17_eq m c t r k

/-- What point `t` writes back is its block of the output array. -/
theorem flushed_eq16 (c : Dev nD) (t : Fin cfg0.N) :
    (dats m 0 c).flushed 16 t = ((cfg0.win 16).blk t).view.read (Elt Ideal) (out16 m c) := by
  rw [Value.flushed16]
  funext y
  obtain ⟨r, e, rfl⟩ : ∃ (r : Fin 256) (e : Fin 128), y = ix2 r e := ⟨y 0, y 1, eq_ix2 y⟩
  refine (out0_16_eq m c t r e).trans ?_
  show out16 m c _ = out16 m c _
  congr 1
  funext a
  apply Fin.ext
  match a with
  | ⟨0, _⟩ =>
    show 256 * t.val + r.val = win0_16.index t 0 * 256 + 1 * r.val
    rw [(idx16 t).1]; omega
  | ⟨1, _⟩ =>
    show e.val = win0_16.index t 1 * 128 + 1 * e.val
    rw [(idx16 t).2]; omega

/-- An index lies in point `t`'s output block when its row is among the block's 256. -/
theorem mem_blk16 (t : Fin cfg0.N) (i : S8192x128.Idx) :
    i ∈ ((cfg0.win 16).blk t).view.set ↔ ∀ a, win0_16.index t a * win0_16.size a ≤ (i a : Nat) ∧ (i a : Nat) < win0_16.index t a * win0_16.size a + win0_16.xsize (grid0.coords t) a := by
  show i ∈ ((View.whole main_v79_4).slice (win0_16.rect t)).set ↔ _
  rw [View.set_slice_whole, Rect.mem_set_unit]

/-- The output array of the normalised compressed rows at the end. -/
theorem arr_eq16 (c : Dev nD) : (dats m 0 c).arrAt 16 cfg0.N = out16 m c := by
  refine Dat.arrAt_eq_of_cover (dats m 0 c) 16 (out16 m c) (fun t _ => flushed_eq16 m c t) fun i => ?_
  obtain ⟨R, C, rfl⟩ : ∃ (R : Fin 8192) (C : Fin 128), i = ix2 R C := ⟨i 0, i 1, eq_ix2 i⟩
  refine ⟨(⟨R.val / 256, by show R.val / 256 < 32; omega⟩ : Fin cfg0.N), flush0_16 _, ?_⟩
  rw [mem_blk16]
  intro a
  match a with
  | ⟨0, _⟩ =>
    show win0_16.index _ 0 * 256 ≤ R.val ∧ R.val < win0_16.index _ 0 * 256 + 256
    rw [(idx16 _).1]; show R.val / 256 * 256 ≤ R.val ∧ R.val < R.val / 256 * 256 + 256; omega
  | ⟨1, _⟩ =>
    show win0_16.index _ 1 * 128 ≤ C.val ∧ C.val < win0_16.index _ 1 * 128 + 128
    rw [(idx16 _).2]; omega

/-- The output array of the shared key, in 128 columns. -/
def out17 (c : Dev nD) : S8192x128.Idx → EReal := fun i => padR (krAt (sX m c) (sM m c) (sG m c) (sW m c) (i 0)) (i 1)

/-- A point's block of it. -/
theorem out0_17_eq (c : Dev nD) (t : Fin cfg0.N) (r : Fin 256) (k : Fin 128) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r k) = out17 m c (ix2 (rowT t.val (lt32 t) r) k) := by
  unfold out0_17
  rw [View.canon_unit_zero (S := S256x128) z2]
  exact pay37_eq m c t r k

/-- What point `t` writes back is its block of the output array. -/
theorem flushed_eq17 (c : Dev nD) (t : Fin cfg0.N) :
    (dats m 0 c).flushed 17 t = ((cfg0.win 17).blk t).view.read (Elt Ideal) (out17 m c) := by
  rw [Value.flushed17]
  funext y
  obtain ⟨r, e, rfl⟩ : ∃ (r : Fin 256) (e : Fin 128), y = ix2 r e := ⟨y 0, y 1, eq_ix2 y⟩
  refine (out0_17_eq m c t r e).trans ?_
  show out17 m c _ = out17 m c _
  congr 1
  funext a
  apply Fin.ext
  match a with
  | ⟨0, _⟩ =>
    show 256 * t.val + r.val = win0_17.index t 0 * 256 + 1 * r.val
    rw [(idx17 t).1]; omega
  | ⟨1, _⟩ =>
    show e.val = win0_17.index t 1 * 128 + 1 * e.val
    rw [(idx17 t).2]; omega

/-- An index lies in point `t`'s output block when its row is among the block's 256. -/
theorem mem_blk17 (t : Fin cfg0.N) (i : S8192x128.Idx) :
    i ∈ ((cfg0.win 17).blk t).view.set ↔ ∀ a, win0_17.index t a * win0_17.size a ≤ (i a : Nat) ∧ (i a : Nat) < win0_17.index t a * win0_17.size a + win0_17.xsize (grid0.coords t) a := by
  show i ∈ ((View.whole main_v79_5).slice (win0_17.rect t)).set ↔ _
  rw [View.set_slice_whole, Rect.mem_set_unit]

/-- The output array of the shared key, in 128 columns at the end. -/
theorem arr_eq17 (c : Dev nD) : (dats m 0 c).arrAt 17 cfg0.N = out17 m c := by
  refine Dat.arrAt_eq_of_cover (dats m 0 c) 17 (out17 m c) (fun t _ => flushed_eq17 m c t) fun i => ?_
  obtain ⟨R, C, rfl⟩ : ∃ (R : Fin 8192) (C : Fin 128), i = ix2 R C := ⟨i 0, i 1, eq_ix2 i⟩
  refine ⟨(⟨R.val / 256, by show R.val / 256 < 32; omega⟩ : Fin cfg0.N), flush0_17 _, ?_⟩
  rw [mem_blk17]
  intro a
  match a with
  | ⟨0, _⟩ =>
    show win0_17.index _ 0 * 256 ≤ R.val ∧ R.val < win0_17.index _ 0 * 256 + 256
    rw [(idx17 _).1]; show R.val / 256 * 256 ≤ R.val ∧ R.val < R.val / 256 * 256 + 256; omega
  | ⟨1, _⟩ =>
    show win0_17.index _ 1 * 128 ≤ C.val ∧ C.val < win0_17.index _ 1 * 128 + 128
    rw [(idx17 _).2]; omega

end Cert.InEvenIdeal.Mix

end
-- ==== Proof.InEvenRefRows.lean ====
/- The projections before the even layer's mixers as the plain reference computes it. -/
module

public import proofs.«01_k».proof.Proof.EvenSpec
public import proofs.«01_k».proof.Proof.Gen.InEvenRefIdeal.Read

@[expose] public section

set_option maxRecDepth 16384

noncomputable section

namespace Cert.InEvenRefIdeal.Mix

open Cert.InEvenRefIdeal Cert.InEvenRefIdeal.Gen Cert.InEvenRefIdeal.Read Idealize.ShloMosaic Idealize.ShloMosaic.TcCoe Idealize.SL.Sem Cert.Mix

variable (x : (⟨S8192x1024, .f32⟩ : BufTy).Contents (Elt Ideal)) (md : (⟨S4x3x1x6144, .f32⟩ : BufTy).Contents (Elt Ideal))
  (g : (⟨S4x1024, .f32⟩ : BufTy).Contents (Elt Ideal)) (w : (⟨S2x1024x2464, .f32⟩ : BufTy).Contents (Elt Ideal))
  (qn : (⟨S2x256, .f32⟩ : BufTy).Contents (Elt Ideal)) (wq : (⟨S2x256x768, .f32⟩ : BufTy).Contents (Elt Ideal))
  (kn : (⟨S2x128, .f32⟩ : BufTy).Contents (Elt Ideal)) (wkv : (⟨S2x128x1024, .f32⟩ : BufTy).Contents (Elt Ideal))

/-- The prompt's modulated norms. -/
theorem h_P (b : Fin 16) (r : Fin 256) (k : Fin 1024) :
    val_main_v34 (F := Ideal) x md g (ix3 b r k) = hAt (fun R j => x (ix2 R j)) (fun r j => md (ix4 2 r 0 j)) (fun j => g (ix2 2 j)) (rowP b r) k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_cst, val_main_cst_0, val_main_cst_1, val_main_cst_2]
  unfold hAt
  rw [mrow_P]
  rfl

/-- The sample's modulated norms. -/
theorem h_S (b : Fin 2) (r : Fin 2048) (k : Fin 1024) :
    val_main_v64 (F := Ideal) x md g (ix3 b r k) = hAt (fun R j => x (ix2 R j)) (fun r j => md (ix4 2 r 0 j)) (fun j => g (ix2 2 j)) (rowS b r) k := by
  pointwise [val_main_v0, val_main_v1, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_cst_3, val_main_cst_4, val_main_cst_5, val_main_cst_6]
  unfold hAt
  rw [mrow_S]
  rfl

/-- All rows' modulated norms. -/
theorem h_all (R : Fin 8192) (k : Fin 1024) :
    val_main_v67 (F := Ideal) x md g (ix2 R k) = hAt (fun R j => x (ix2 R j)) (fun r j => md (ix4 2 r 0 j)) (fun j => g (ix2 2 j)) R k := by
  pointwise [val_main_v65, val_main_v66, val_main_v67]
  by_cases h : R.val < 4096
  · refine (dif_pos h).trans ((h_P x md g _ _ k).trans ?_)
    exact congrArg (fun z => hAt _ _ _ z k) (Fin.ext (by unfold rowP; dsimp only; omega))
  · refine (dif_neg h).trans ((h_S x md g _ _ k).trans ?_)
    exact congrArg (fun z => hAt _ _ _ z k) (Fin.ext (by unfold rowS; dsimp only; omega))

/-- The product. -/
theorem v70_apply (R : Fin 8192) (j : Fin 2464) :
    val_main_v70 (F := Ideal) x md g w (ix2 R j) = projAt (fun R j => x (ix2 R j)) (fun r j => md (ix4 2 r 0 j)) (fun j => g (ix2 2 j)) (fun k j => w (ix3 1 k j)) R j := by
  pointwise [val_main_v68, val_main_v69, val_main_v70]
  exact Finset.sum_congr rfl fun k _ => congrArg (fun z => z * w (ix3 1 k j)) (h_all x md g R k)

/-- Its first 2048 columns. -/
theorem v71_apply (R : Fin 8192) (j : Fin 2048) :
    val_main_v71 (F := Ideal) x md g w (ix2 R j) = projAt (fun R j => x (ix2 R j)) (fun r j => md (ix4 2 r 0 j)) (fun j => g (ix2 2 j)) (fun k j => w (ix3 1 k j)) R ⟨j.val, by omega⟩ := by
  pointwise [val_main_v71]
  exact v70_apply x md g w R _

/-- The queries' compressed rows. -/
theorem v72_apply (R : Fin 8192) (j : Fin 256) :
    val_main_v72 (F := Ideal) x md g w (ix2 R j) = projAt (fun R j => x (ix2 R j)) (fun r j => md (ix4 2 r 0 j)) (fun j => g (ix2 2 j)) (fun k j => w (ix3 1 k j)) R ⟨2048 + j.val, by omega⟩ := by
  pointwise [val_main_v72]
  exact v70_apply x md g w R _

/-- The keys' and values' compressed rows. -/
theorem v73_apply (R : Fin 8192) (j : Fin 128) :
    val_main_v73 (F := Ideal) x md g w (ix2 R j) = projAt (fun R j => x (ix2 R j)) (fun r j => md (ix4 2 r 0 j)) (fun j => g (ix2 2 j)) (fun k j => w (ix3 1 k j)) R ⟨2304 + j.val, by omega⟩ := by
  pointwise [val_main_v73]
  exact v70_apply x md g w R _

/-- The shared key. -/
theorem v74_apply (R : Fin 8192) (i : Fin 32) :
    val_main_v74 (F := Ideal) x md g w (ix2 R i) = krAt (fun R j => x (ix2 R j)) (fun r j => md (ix4 2 r 0 j)) (fun j => g (ix2 2 j)) (fun k j => w (ix3 1 k j)) R i := by
  pointwise [val_main_v74]
  exact v70_apply x md g w R _

/-- The keys' and values' compressed rows, normalised. -/
theorem v89_apply (R : Fin 8192) (k : Fin 128) :
    val_main_v89 (F := Ideal) x md g w kn (ix2 R k) = ckvAt (fun R j => x (ix2 R j)) (fun r j => md (ix4 2 r 0 j)) (fun j => g (ix2 2 j)) (fun k j => w (ix3 1 k j)) (fun k => kn (ix2 1 k)) R k := by
  have e : (fun k : Fin 128 => val_main_v73 (F := Ideal) x md g w (ix2 R k)) = fun k : Fin 128 => projAt (fun R j => x (ix2 R j)) (fun r j => md (ix4 2 r 0 j)) (fun j => g (ix2 2 j)) (fun k j => w (ix3 1 k j)) R ⟨2304 + k.val, by omega⟩ :=
    funext fun k => v73_apply x md g w R k
  unfold ckvAt
  rw [← e]
  pointwise [val_main_v75, val_main_v76, val_main_v77, val_main_v78, val_main_v79, val_main_v80, val_main_v81, val_main_v82, val_main_v83, val_main_v84, val_main_v85, val_main_v86, val_main_v87, val_main_v88, val_main_v89, val_main_cst_7, val_main_cst_8, val_main_cst_9]
  rfl

/-- The keys and values by head. -/
theorem v93_apply (R : Fin 8192) (h : Fin 8) (d : Fin 128) :
    val_main_v93 (F := Ideal) x md g w kn wkv (ix3 R h d) = kvAt (fun R j => x (ix2 R j)) (fun r j => md (ix4 2 r 0 j)) (fun j => g (ix2 2 j)) (fun k j => w (ix3 1 k j)) (fun k => kn (ix2 1 k)) (fun k j => wkv (ix3 1 k j)) R h d := by
  pointwise [val_main_v90, val_main_v91, val_main_v92, val_main_v93]
  unfold kvAt
  refine Finset.sum_congr rfl fun k _ => ?_
  refine congrArg₂ (fun a b : EReal => a * b) ((v89_apply x md g w kn _ k).trans ?_) (congrArg (fun z => wkv (ix3 1 k z)) (Fin.ext ?_))
  · exact congrArg (fun z => ckvAt _ _ _ _ _ z k) (Fin.ext (by (try dsimp only) <;> omega))
  · (try dsimp only) <;> omega

/-- The queries' compressed rows, normalised. -/
theorem v108_apply (R : Fin 8192) (k : Fin 256) :
    val_main_v108 (F := Ideal) x md g w qn (ix2 R k) = cqAt (fun R j => x (ix2 R j)) (fun r j => md (ix4 2 r 0 j)) (fun j => g (ix2 2 j)) (fun k j => w (ix3 1 k j)) (fun k => qn (ix2 1 k)) R k := by
  have e : (fun k : Fin 256 => val_main_v72 (F := Ideal) x md g w (ix2 R k)) = fun k : Fin 256 => projAt (fun R j => x (ix2 R j)) (fun r j => md (ix4 2 r 0 j)) (fun j => g (ix2 2 j)) (fun k j => w (ix3 1 k j)) R ⟨2048 + k.val, by omega⟩ :=
    funext fun k => v72_apply x md g w R k
  unfold cqAt
  rw [← e]
  pointwise [val_main_v94, val_main_v95, val_main_v96, val_main_v97, val_main_v98, val_main_v99, val_main_v100, val_main_v101, val_main_v102, val_main_v103, val_main_v104, val_main_v105, val_main_v106, val_main_v107, val_main_v108, val_main_cst_10, val_main_cst_11, val_main_cst_12]
  rfl

/-- The queries by head. -/
theorem v112_apply (R : Fin 8192) (h : Fin 8) (d : Fin 96) :
    val_main_v112 (F := Ideal) x md g w qn wq (ix3 R h d) = qAt (fun R j => x (ix2 R j)) (fun r j => md (ix4 2 r 0 j)) (fun j => g (ix2 2 j)) (fun k j => w (ix3 1 k j)) (fun k => qn (ix2 1 k)) (fun k j => wq (ix3 1 k j)) R h d := by
  pointwise [val_main_v109, val_main_v110, val_main_v111, val_main_v112]
  unfold qAt
  refine Finset.sum_congr rfl fun k _ => ?_
  refine congrArg₂ (fun a b : EReal => a * b) ((v108_apply x md g w qn _ k).trans ?_) (congrArg (fun z => wq (ix3 1 k z)) (Fin.ext ?_))
  · exact congrArg (fun z => cqAt _ _ _ _ _ z k) (Fin.ext (by (try dsimp only) <;> omega))
  · (try dsimp only) <;> omega

/-- The cosines of a sample's rows. -/
def cosAt (p : Fin 2048) (i : Fin 16) : EReal := val_main_v137 (F := Ideal) (ix2 p i)

/-- The sines of a sample's rows. -/
def sinAt (p : Fin 2048) (i : Fin 16) : EReal := val_main_v139 (F := Ideal) (ix2 p i)

/-- The queries' cosines are the shared key's. -/
theorem cos_q : val_main_v188 (F := Ideal) = val_main_v137 (F := Ideal) := rfl

/-- The queries' sines are the shared key's. -/
theorem sin_q : val_main_v190 (F := Ideal) = val_main_v139 (F := Ideal) := rfl

end Cert.InEvenRefIdeal.Mix

end
-- ==== Proof.InEvenRefRope.lean ====
/- The projections before the even layer's mixers as the plain reference computes them: the rotation. -/
module

public import proofs.«01_k».proof.Proof.InEvenRefRows

@[expose] public section

set_option maxRecDepth 16384

noncomputable section

namespace Cert.InEvenRefIdeal.Mix

open Cert.InEvenRefIdeal Cert.InEvenRefIdeal.Gen Cert.InEvenRefIdeal.Read Idealize.ShloMosaic Idealize.ShloMosaic.TcCoe Idealize.SL.Sem Cert.Mix

variable (x : (⟨S8192x1024, .f32⟩ : BufTy).Contents (Elt Ideal)) (md : (⟨S4x3x1x6144, .f32⟩ : BufTy).Contents (Elt Ideal))
  (g : (⟨S4x1024, .f32⟩ : BufTy).Contents (Elt Ideal)) (w : (⟨S2x1024x2464, .f32⟩ : BufTy).Contents (Elt Ideal))
  (qn : (⟨S2x256, .f32⟩ : BufTy).Contents (Elt Ideal)) (wq : (⟨S2x256x768, .f32⟩ : BufTy).Contents (Elt Ideal))
  (kn : (⟨S2x128, .f32⟩ : BufTy).Contents (Elt Ideal)) (wkv : (⟨S2x128x1024, .f32⟩ : BufTy).Contents (Elt Ideal))

/-- The rotation with the pairs written from the first half. -/
theorem turn_eq (cs sn : Fin 16 → EReal) (a : Fin 32 → EReal) (i : Fin 32) :
    turn cs sn a i = if h : i.val < 16 then a ⟨i.val, by omega⟩ * cs ⟨i.val, h⟩ - a ⟨16 + i.val, by omega⟩ * sn ⟨i.val, h⟩
      else a ⟨i.val - 16, by omega⟩ * sn ⟨i.val - 16, by omega⟩ + a ⟨16 + (i.val - 16), by omega⟩ * cs ⟨i.val - 16, by omega⟩ := by
  unfold turn
  split
  · exact congrArg (fun z => a i * _ - a z * _) (Fin.ext (by (try dsimp only) <;> omega))
  · exact congrArg (fun z => a _ * _ + a z * _) (Fin.ext (by (try dsimp only) <;> omega))

/-- A sample's row and its place in the image name the same rotation. -/
theorem turn_row (f : Fin 8192 → Fin 32 → EReal) (b : Fin 2) (p : Fin 2048) (R : Fin 8192) (i j : Fin 32)
    (hR : rowS b p = R) (hp : p.val = (R.val - 4096) % 2048) (hi : i = j) :
    turn (cosAt p) (sinAt p) (f (rowS b p)) i
      = turn (cosAt ⟨(R.val - 4096) % 2048, Nat.mod_lt _ (by omega)⟩) (sinAt ⟨(R.val - 4096) % 2048, Nat.mod_lt _ (by omega)⟩) (f R) j := by
  have e : p = ⟨(R.val - 4096) % 2048, Nat.mod_lt _ (by omega)⟩ := Fin.ext hp
  rw [hR, hi, ← e]

/-- The shared key at a sample's row. -/
theorem v142_apply (b : Fin 2) (p : Fin 2048) (i : Fin 32) :
    val_main_v142 (F := Ideal) x md g w (ix4 b p 0 i) = krAt (fun R j => x (ix2 R j)) (fun r j => md (ix4 2 r 0 j)) (fun j => g (ix2 2 j)) (fun k j => w (ix3 1 k j)) (rowS b p) i := by
  pointwise [val_main_v114, val_main_v141, val_main_v142]
  refine (v74_apply x md g w _ _).trans ?_
  exact congrArg₂ (fun R i => krAt _ _ _ _ R i) (Fin.ext (by unfold rowS; (try dsimp only) <;> omega)) (Fin.ext (by (try dsimp only) <;> omega))

/-- The shared key rotated at a sample's row. -/
theorem v159_apply (b : Fin 2) (p : Fin 2048) (i : Fin 32) :
    val_main_v159 (F := Ideal) x md g w (ix4 b p 0 i) = turn (cosAt p) (sinAt p) (krAt (fun R j => x (ix2 R j)) (fun r j => md (ix4 2 r 0 j)) (fun j => g (ix2 2 j)) (fun k j => w (ix3 1 k j)) (rowS b p)) i := by
  pointwise [val_main_v138, val_main_v140, val_main_v143, val_main_v144, val_main_v145, val_main_v146, val_main_v147, val_main_v148, val_main_v149, val_main_v150, val_main_v151, val_main_v152, val_main_v153, val_main_v154, val_main_v155, val_main_v156, val_main_v157, val_main_v158, val_main_v159]
  rw [turn_eq]
  unfold cosAt sinAt
  simp only [v142_apply]

/-- The shared key rotated. -/
theorem v162_apply (R : Fin 8192) (i : Fin 32) :
    val_main_v162 (F := Ideal) x md g w (ix3 R 0 i) = rope cosAt sinAt R (krAt (fun R j => x (ix2 R j)) (fun r j => md (ix4 2 r 0 j)) (fun j => g (ix2 2 j)) (fun k j => w (ix3 1 k j)) R) i := by
  pointwise [val_main_v114, val_main_v160, val_main_v161, val_main_v162]
  unfold rope
  by_cases hR : R.val < 4096
  · refine (dif_pos hR).trans (Eq.trans ?_ (if_pos hR).symm)
    exact v74_apply x md g w R i
  · refine (dif_neg hR).trans (Eq.trans ?_ (if_neg hR).symm)
    refine (v159_apply x md g w _ _ _).trans ?_
    exact turn_row (krAt (fun R j => x (ix2 R j)) (fun r j => md (ix4 2 r 0 j)) (fun j => g (ix2 2 j)) (fun k j => w (ix3 1 k j))) _ _ R _ _ (Fin.ext (by unfold rowS; (try dsimp only) <;> omega)) (by (try dsimp only) <;> omega) (Fin.ext (by (try dsimp only) <;> omega))

/-- The rotated part of a head's queries at a sample's row. -/
theorem v193_apply (b : Fin 2) (p : Fin 2048) (h : Fin 8) (i : Fin 32) :
    val_main_v193 (F := Ideal) x md g w qn wq (ix4 b p h i) = qAt (fun R j => x (ix2 R j)) (fun r j => md (ix4 2 r 0 j)) (fun j => g (ix2 2 j)) (fun k j => w (ix3 1 k j)) (fun k => qn (ix2 1 k)) (fun k j => wq (ix3 1 k j)) (rowS b p) h ⟨64 + i.val, by omega⟩ := by
  pointwise [val_main_v165, val_main_v192, val_main_v193]
  refine (v112_apply x md g w qn wq _ _ _).trans ?_
  exact congr (congr (congrArg (qAt (fun R j => x (ix2 R j)) (fun r j => md (ix4 2 r 0 j)) (fun j => g (ix2 2 j)) (fun k j => w (ix3 1 k j)) (fun k => qn (ix2 1 k)) (fun k j => wq (ix3 1 k j))) (Fin.ext (by unfold rowS; (try dsimp only) <;> omega))) (Fin.ext (by (try dsimp only) <;> omega))) (Fin.ext (by (try dsimp only) <;> omega))

/-- The same rotated. -/
theorem v210_apply (b : Fin 2) (p : Fin 2048) (h : Fin 8) (i : Fin 32) :
    val_main_v210 (F := Ideal) x md g w qn wq (ix4 b p h i) = turn (cosAt p) (sinAt p) (fun i => qAt (fun R j => x (ix2 R j)) (fun r j => md (ix4 2 r 0 j)) (fun j => g (ix2 2 j)) (fun k j => w (ix3 1 k j)) (fun k => qn (ix2 1 k)) (fun k j => wq (ix3 1 k j)) (rowS b p) h ⟨64 + i.val, by omega⟩) i := by
  pointwise [val_main_v189, val_main_v191, val_main_v194, val_main_v195, val_main_v196, val_main_v197, val_main_v198, val_main_v199, val_main_v200, val_main_v201, val_main_v202, val_main_v203, val_main_v204, val_main_v205, val_main_v206, val_main_v207, val_main_v208, val_main_v209, val_main_v210]
  rw [turn_eq]
  unfold cosAt sinAt
  simp only [v193_apply, cos_q, sin_q]

/-- The rotated part of a head's queries. -/
theorem v213_apply (R : Fin 8192) (h : Fin 8) (i : Fin 32) :
    val_main_v213 (F := Ideal) x md g w qn wq (ix3 R h i) = rope cosAt sinAt R (fun i => qAt (fun R j => x (ix2 R j)) (fun r j => md (ix4 2 r 0 j)) (fun j => g (ix2 2 j)) (fun k j => w (ix3 1 k j)) (fun k => qn (ix2 1 k)) (fun k j => wq (ix3 1 k j)) R h ⟨64 + i.val, by omega⟩) i := by
  pointwise [val_main_v165, val_main_v211, val_main_v212, val_main_v213]
  unfold rope
  by_cases hR : R.val < 4096
  · refine (dif_pos hR).trans (Eq.trans ?_ (if_pos hR).symm)
    exact v112_apply x md g w qn wq R h _
  · refine (dif_neg hR).trans (Eq.trans ?_ (if_neg hR).symm)
    refine (v210_apply x md g w qn wq _ _ _ _).trans ?_
    exact turn_row (fun R i => qAt (fun R j => x (ix2 R j)) (fun r j => md (ix4 2 r 0 j)) (fun j => g (ix2 2 j)) (fun k j => w (ix3 1 k j)) (fun k => qn (ix2 1 k)) (fun k j => wq (ix3 1 k j)) R h ⟨64 + i.val, by omega⟩) _ _ R _ _ (Fin.ext (by unfold rowS; (try dsimp only) <;> omega)) (by (try dsimp only) <;> omega) (Fin.ext (by (try dsimp only) <;> omega))

end Cert.InEvenRefIdeal.Mix

end
-- ==== Proof.InEvenRef.lean ====
/- The projections before the even layer's mixers as the plain reference computes them: heads and results. -/
module

public import proofs.«01_k».proof.Proof.InEvenRefRope

@[expose] public section

set_option maxRecDepth 16384

noncomputable section

namespace Cert.InEvenRefIdeal.Mix

open Cert.InEvenRefIdeal Cert.InEvenRefIdeal.Gen Cert.InEvenRefIdeal.Read Idealize.ShloMosaic Idealize.ShloMosaic.TcCoe Idealize.SL.Sem Cert.Mix

variable (x : (⟨S8192x1024, .f32⟩ : BufTy).Contents (Elt Ideal)) (md : (⟨S4x3x1x6144, .f32⟩ : BufTy).Contents (Elt Ideal))
  (g : (⟨S4x1024, .f32⟩ : BufTy).Contents (Elt Ideal)) (w : (⟨S2x1024x2464, .f32⟩ : BufTy).Contents (Elt Ideal))
  (qn : (⟨S2x256, .f32⟩ : BufTy).Contents (Elt Ideal)) (wq : (⟨S2x256x768, .f32⟩ : BufTy).Contents (Elt Ideal))
  (kn : (⟨S2x128, .f32⟩ : BufTy).Contents (Elt Ideal)) (wkv : (⟨S2x128x1024, .f32⟩ : BufTy).Contents (Elt Ideal))

/-- A head of the queries in 128 columns. -/
theorem v214_apply (R : Fin 8192) (h : Fin 8) (d : Fin 128) :
    val_main_v214 (F := Ideal) x md g w qn wq (ix3 R h d) = qHead (fun R j => x (ix2 R j)) (fun r j => md (ix4 2 r 0 j)) (fun j => g (ix2 2 j)) (fun k j => w (ix3 1 k j)) (fun k => qn (ix2 1 k)) (fun k j => wq (ix3 1 k j)) cosAt sinAt R h d := by
  pointwise [val_main_v214, val_main_v164, val_main_v113, val_main_cst_13]
  unfold qHead headP padR
  by_cases h1 : d.val < 64
  · simp only [dif_pos h1]
    exact v112_apply x md g w qn wq R h _
  · simp only [dif_neg h1]
    by_cases h2 : 64 ≤ d.val ∧ d.val < 96
    · have h3 : d.val - 64 < 32 := by omega
      simp only [dif_pos h2, dif_pos h3]
      exact v213_apply x md g w qn wq R h _
    · have h3 : ¬ d.val - 64 < 32 := by omega
      simp only [dif_neg h2, dif_neg h3]

/-- A head of the keys in 128 columns. -/
theorem v216_apply (R : Fin 8192) (h : Fin 8) (d : Fin 128) :
    val_main_v216 (F := Ideal) x md g w kn wkv (ix3 R h d) = kHead (fun R j => x (ix2 R j)) (fun r j => md (ix4 2 r 0 j)) (fun j => g (ix2 2 j)) (fun k j => w (ix3 1 k j)) (fun k => kn (ix2 1 k)) (fun k j => wkv (ix3 1 k j)) cosAt sinAt R h d := by
  pointwise [val_main_v216, val_main_v215, val_main_v163, val_main_v113, val_main_cst_13]
  unfold kHead headP padR
  by_cases h1 : d.val < 64
  · simp only [dif_pos h1]
    exact v93_apply x md g w kn wkv R h d
  · simp only [dif_neg h1]
    by_cases h2 : 64 ≤ d.val ∧ d.val < 96
    · have h3 : d.val - 64 < 32 := by omega
      simp only [dif_pos h2, dif_pos h3]
      exact v162_apply x md g w R _
    · have h3 : ¬ d.val - 64 < 32 := by omega
      simp only [dif_neg h2, dif_neg h3]

/-- The second result: the queries. -/
theorem v219_apply (R : Fin 8192) (j : Fin 1024) :
    val_main_v219 (F := Ideal) x md g w qn wq (ix2 R j)
      = qHead (fun R j => x (ix2 R j)) (fun r j => md (ix4 2 r 0 j)) (fun j => g (ix2 2 j)) (fun k j => w (ix3 1 k j)) (fun k => qn (ix2 1 k)) (fun k j => wq (ix3 1 k j)) cosAt sinAt R ⟨j.val / 128, by omega⟩ ⟨j.val % 128, Nat.mod_lt _ (by omega)⟩ := by
  pointwise [val_main_v218, val_main_v219]
  refine (v214_apply x md g w qn wq _ _ _).trans ?_
  exact congr (congr (congrArg (qHead (fun R j => x (ix2 R j)) (fun r j => md (ix4 2 r 0 j)) (fun j => g (ix2 2 j)) (fun k j => w (ix3 1 k j)) (fun k => qn (ix2 1 k)) (fun k j => wq (ix3 1 k j)) cosAt sinAt) (Fin.ext (by (try dsimp only) <;> omega))) (Fin.ext (by (try dsimp only) <;> omega))) (Fin.ext (by (try dsimp only) <;> omega))

/-- The third result: the keys. -/
theorem v221_apply (R : Fin 8192) (j : Fin 1024) :
    val_main_v221 (F := Ideal) x md g w kn wkv (ix2 R j)
      = kHead (fun R j => x (ix2 R j)) (fun r j => md (ix4 2 r 0 j)) (fun j => g (ix2 2 j)) (fun k j => w (ix3 1 k j)) (fun k => kn (ix2 1 k)) (fun k j => wkv (ix3 1 k j)) cosAt sinAt R ⟨j.val / 128, by omega⟩ ⟨j.val % 128, Nat.mod_lt _ (by omega)⟩ := by
  pointwise [val_main_v220, val_main_v221]
  refine (v216_apply x md g w kn wkv _ _ _).trans ?_
  exact congr (congr (congrArg (kHead (fun R j => x (ix2 R j)) (fun r j => md (ix4 2 r 0 j)) (fun j => g (ix2 2 j)) (fun k j => w (ix3 1 k j)) (fun k => kn (ix2 1 k)) (fun k j => wkv (ix3 1 k j)) cosAt sinAt) (Fin.ext (by (try dsimp only) <;> omega))) (Fin.ext (by (try dsimp only) <;> omega))) (Fin.ext (by (try dsimp only) <;> omega))

/-- The fourth result: the values. -/
theorem v223_apply (R : Fin 8192) (j : Fin 512) :
    val_main_v223 (F := Ideal) x md g w kn wkv (ix2 R j)
      = kvAt (fun R j => x (ix2 R j)) (fun r j => md (ix4 2 r 0 j)) (fun j => g (ix2 2 j)) (fun k j => w (ix3 1 k j)) (fun k => kn (ix2 1 k)) (fun k j => wkv (ix3 1 k j)) R ⟨j.val / 64, by omega⟩ ⟨64 + j.val % 64, by omega⟩ := by
  pointwise [val_main_v217, val_main_v222, val_main_v223]
  refine (v93_apply x md g w kn wkv _ _ _).trans ?_
  exact congr (congr (congrArg (kvAt (fun R j => x (ix2 R j)) (fun r j => md (ix4 2 r 0 j)) (fun j => g (ix2 2 j)) (fun k j => w (ix3 1 k j)) (fun k => kn (ix2 1 k)) (fun k j => wkv (ix3 1 k j))) (Fin.ext (by (try dsimp only) <;> omega))) (Fin.ext (by (try dsimp only) <;> omega))) (Fin.ext (by (try dsimp only) <;> omega))

/-- The sixth result: the shared key in 128 columns. -/
theorem v224_apply (R : Fin 8192) (d : Fin 128) :
    val_main_v224 (F := Ideal) x md g w (ix2 R d) = padR (krAt (fun R j => x (ix2 R j)) (fun r j => md (ix4 2 r 0 j)) (fun j => g (ix2 2 j)) (fun k j => w (ix3 1 k j)) R) d := by
  pointwise [val_main_v224, val_main_call4_v0, val_main_c_21]
  have e : (FloatOps.sitofp (F := Ideal) FTy.f32 (0#32) : EReal) = 0 := by
    show (((BitVec.toInt (0#32) : ℤ) : ℝ) : EReal) = 0
    simp
  unfold padR
  by_cases h : 64 ≤ d.val ∧ d.val < 96
  · have h1 : 64 ≤ d.val ∧ d.val - 64 < 32 := by omega
    simp only [dif_pos h, dif_pos h1]
    exact v74_apply x md g w R _
  · have h1 : ¬ (64 ≤ d.val ∧ d.val - 64 < 32) := by omega
    simp only [dif_neg h, dif_neg h1]
    exact e

end Cert.InEvenRefIdeal.Mix

end
-- ==== Proof.InEvenCos.lean ====
/- The cosines and sines that the kernel's host computes before the call are the reference's. -/
module

public import proofs.«01_k».proof.Proof.InEvenHost
public import proofs.«01_k».proof.Proof.Gen.InEvenRefIdeal.Read

@[expose] public section

set_option maxRecDepth 16384

noncomputable section

namespace Cert.InEvenIdeal.Mix

open Cert.InEvenIdeal Cert.InEvenIdeal.Gen Idealize.ShloMosaic Idealize.ShloMosaic.TcCoe Idealize.SL.Sem

variable (m : (ℓ : Loc nD τ sig) → Buf (Elt Ideal) ℓ)

set_option maxHeartbeats 2000000 in
/-- The angles from a row's line of the image. -/
theorem row_angle (c : Dev nD) :
    StableHlo.upto hostOps0_4 (pre m c) 11 (Proc.tc.devRef main_v15) = Cert.InEvenRefIdeal.Read.val_main_v130 (F := Ideal) := by
  after_reads_simp
  unfold pre
  simp only [List.flatten_cons, List.flatten_nil, List.append_nil, StableHlo.after_append]
  after_reads_simp
  rfl

set_option maxHeartbeats 2000000 in
/-- The angles from a row's column of the image. -/
theorem col_angle (c : Dev nD) :
    StableHlo.upto hostOps0_4 (pre m c) 11 (Proc.tc.devRef main_v20) = Cert.InEvenRefIdeal.Read.val_main_v135 (F := Ideal) := by
  after_reads_simp
  unfold pre
  simp only [List.flatten_cons, List.flatten_nil, List.append_nil, StableHlo.after_append]
  after_reads_simp
  rfl

/-- The cosines. -/
theorem V_cos (c : Dev nD) : (V m c main_v22 : Vec Ideal S2048x16 .f32) = Cert.InEvenRefIdeal.Read.val_main_v137 (F := Ideal) := by
  rw [V_pre]
  after_reads_simp
  rw [row_angle, col_angle]
  rfl

/-- The sines. -/
theorem V_sin (c : Dev nD) : (V m c main_v23 : Vec Ideal S2048x16 .f32) = Cert.InEvenRefIdeal.Read.val_main_v139 (F := Ideal) := by
  rw [V_pre]
  after_reads_simp
  rw [row_angle, col_angle]
  rfl

end Cert.InEvenIdeal.Mix

end
-- ==== Proof.InEvenClaim.lean ====
/- The projections before the even layer's mixers: the kernel's six arrays are the reference's. -/
module

public import proofs.«01_k».proof.Defs
public import proofs.«01_k».proof.Proof.InEvenArray
public import proofs.«01_k».proof.Proof.InEvenRef
public import proofs.«01_k».proof.Proof.InEvenCos

@[expose] public section

noncomputable section

namespace Cert.InEvenIdeal.Mix

open Cert.InEvenIdeal Cert.InEvenIdeal.Gen Cert.Mix Idealize.ShloMosaic Idealize.ShloMosaic.TcCoe Idealize.SL.Sem

variable (m : (ℓ : Loc nD τ sig) → Buf (Elt Ideal) ℓ)

/-- The kernel's cosines are the reference's. -/
theorem cs_eq (c : Dev nD) : Cert.InEvenRefIdeal.Mix.cosAt = cs m c := by
  funext p i
  exact (congrFun (V_cos m c) (ix2 p i)).symm

/-- The kernel's sines are the reference's. -/
theorem sn_eq (c : Dev nD) : Cert.InEvenRefIdeal.Mix.sinAt = sn m c := by
  funext p i
  exact (congrFun (V_sin m c) (ix2 p i)).symm

/-- The queries with the reference's table are the kernel's. -/
theorem q_tab (c : Dev nD) (R : Fin 8192) (j : Fin 1024) :
    qHead (sX m c) (sM m c) (sG m c) (sW m c) (sQ m c) (sU m c) Cert.InEvenRefIdeal.Mix.cosAt Cert.InEvenRefIdeal.Mix.sinAt R ⟨j.val / 128, by omega⟩ ⟨j.val % 128, Nat.mod_lt _ (by omega)⟩ = out13 m c (ix2 R j) := by
  rw [cs_eq m c, sn_eq m c]
  rfl

/-- The keys with the reference's table are the kernel's. -/
theorem k_tab (c : Dev nD) (R : Fin 8192) (j : Fin 1024) :
    kHead (sX m c) (sM m c) (sG m c) (sW m c) (sK m c) (sV m c) Cert.InEvenRefIdeal.Mix.cosAt Cert.InEvenRefIdeal.Mix.sinAt R ⟨j.val / 128, by omega⟩ ⟨j.val % 128, Nat.mod_lt _ (by omega)⟩ = out14 m c (ix2 R j) := by
  rw [cs_eq m c, sn_eq m c]
  rfl

/-- The kernel and the reference give the same six arrays for the same arguments. -/
theorem algebraic : Cert.algebraic_InEvenIdeal_InEvenRefIdeal := by
  intro m ρ m' ρ' _ hag
  refine ⟨fun c => out12 m c, fun c => out13 m c, fun c => out14 m c, fun c => out15 m c, fun c => out16 m c, fun c => out17 m c, ?_, ?_⟩
  · refine (θ_run _ _ _).mono (fun _ h c => ?_) (Cert.InEvenIdeal.Value.run_blocks (F := Ideal) m ρ)
    exact ⟨(h c).1.trans (arr_eq12 m c), (h c).2.1.trans (arr_eq13 m c), (h c).2.2.1.trans (arr_eq14 m c), (h c).2.2.2.1.trans (arr_eq15 m c), (h c).2.2.2.2.1.trans (arr_eq16 m c), (h c).2.2.2.2.2.1.trans (arr_eq17 m c), (h c).2.2.2.2.2.2⟩
  · refine (θ_run _ _ _).mono (fun _ h c => ?_) (Cert.InEvenRefIdeal.Value.run (F := Ideal) m' ρ')
    obtain ⟨h0, h1, h2, h3, h4, h5, h6, h7⟩ := hag c
    have e0 : StableHlo.launchContents m' c (Proc.devRef .tc Cert.InEvenRefIdeal.main_arg0) = m ((c : Thread Cert.InEvenIdeal.nD Cert.InEvenIdeal.τ).loc Cert.InEvenIdeal.main_arg0) := h0
    have e1 : StableHlo.launchContents m' c (Proc.devRef .tc Cert.InEvenRefIdeal.main_arg1) = m ((c : Thread Cert.InEvenIdeal.nD Cert.InEvenIdeal.τ).loc Cert.InEvenIdeal.main_arg1) := h1
    have e2 : StableHlo.launchContents m' c (Proc.devRef .tc Cert.InEvenRefIdeal.main_arg2) = m ((c : Thread Cert.InEvenIdeal.nD Cert.InEvenIdeal.τ).loc Cert.InEvenIdeal.main_arg2) := h2
    have e3 : StableHlo.launchContents m' c (Proc.devRef .tc Cert.InEvenRefIdeal.main_arg3) = m ((c : Thread Cert.InEvenIdeal.nD Cert.InEvenIdeal.τ).loc Cert.InEvenIdeal.main_arg3) := h3
    have e4 : StableHlo.launchContents m' c (Proc.devRef .tc Cert.InEvenRefIdeal.main_arg4) = m ((c : Thread Cert.InEvenIdeal.nD Cert.InEvenIdeal.τ).loc Cert.InEvenIdeal.main_arg4) := h4
    have e5 : StableHlo.launchContents m' c (Proc.devRef .tc Cert.InEvenRefIdeal.main_arg5) = m ((c : Thread Cert.InEvenIdeal.nD Cert.InEvenIdeal.τ).loc Cert.InEvenIdeal.main_arg5) := h5
    have e6 : StableHlo.launchContents m' c (Proc.devRef .tc Cert.InEvenRefIdeal.main_arg6) = m ((c : Thread Cert.InEvenIdeal.nD Cert.InEvenIdeal.τ).loc Cert.InEvenIdeal.main_arg6) := h6
    have e7 : StableHlo.launchContents m' c (Proc.devRef .tc Cert.InEvenRefIdeal.main_arg7) = m ((c : Thread Cert.InEvenIdeal.nD Cert.InEvenIdeal.τ).loc Cert.InEvenIdeal.main_arg7) := h7
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · refine (Cert.InEvenRefIdeal.Read.val_main_v71_eq (StableHlo.launchContents m' c)).trans ?_
      rw [e0, e1, e2, e3]
      funext i
      rw [eq_ix2 i]
      exact Cert.InEvenRefIdeal.Mix.v71_apply _ _ _ _ _ _
    · refine (Cert.InEvenRefIdeal.Read.val_main_v219_eq (StableHlo.launchContents m' c)).trans ?_
      rw [e0, e1, e2, e3, e4, e5]
      funext i
      rw [eq_ix2 i]
      exact (Cert.InEvenRefIdeal.Mix.v219_apply _ _ _ _ _ _ _ _).trans (q_tab m c _ _)
    · refine (Cert.InEvenRefIdeal.Read.val_main_v221_eq (StableHlo.launchContents m' c)).trans ?_
      rw [e0, e1, e2, e3, e6, e7]
      funext i
      rw [eq_ix2 i]
      exact (Cert.InEvenRefIdeal.Mix.v221_apply _ _ _ _ _ _ _ _).trans (k_tab m c _ _)
    · refine (Cert.InEvenRefIdeal.Read.val_main_v223_eq (StableHlo.launchContents m' c)).trans ?_
      rw [e0, e1, e2, e3, e6, e7]
      funext i
      rw [eq_ix2 i]
      exact Cert.InEvenRefIdeal.Mix.v223_apply _ _ _ _ _ _ _ _
    · refine (Cert.InEvenRefIdeal.Read.val_main_v89_eq (StableHlo.launchContents m' c)).trans ?_
      rw [e0, e1, e2, e3, e6]
      funext i
      rw [eq_ix2 i]
      exact Cert.InEvenRefIdeal.Mix.v89_apply _ _ _ _ _ _ _
    · refine (Cert.InEvenRefIdeal.Read.val_main_v224_eq (StableHlo.launchContents m' c)).trans ?_
      rw [e0, e1, e2, e3]
      funext i
      rw [eq_ix2 i]
      exact Cert.InEvenRefIdeal.Mix.v224_apply _ _ _ _ _ _

end Cert.InEvenIdeal.Mix

end
-- ==== Proof.RetSpec.lean ====
/- The prompt's retention: the final states of the two directions, entry by entry. -/
module

public import Idealize.ShloMosaic.Lib.Pointwise

@[expose] public section

set_option maxRecDepth 16384

noncomputable section

namespace Cert.Mix

open Idealize.ShloMosaic

/-- The logarithm of a head's decay: the logarithm of the sigmoid of its parameter. -/
def logGamma (x : EReal) : EReal := -Ideal.log1p (Ideal.exp (-x))

/-- How many positions a token lies before the end of the direction: counted from the last position forward, from the first backward. -/
def age (w : Fin 2) (t : Fin 256) : EReal :=
  if w.val < 1 then (Ideal.ofBits .f32 1132396544#32 : EReal) - FloatOps.sitofp (F := Ideal) .f32 (BitVec.ofNat 32 t.val) else FloatOps.sitofp (F := Ideal) .f32 (BitVec.ofNat 32 t.val)

/-- The final state of a sequence, direction and head at a pair of dimensions: the decayed keys times the values, summed over the positions. -/
def retState (X : Fin 8192 → Fin 2048 → EReal) (L : Fin 2 → Fin 4 → EReal) (s : Fin 16) (w : Fin 2) (h : Fin 4) (d e : Fin 128) : EReal :=
  ∑ t : Fin 256, X ⟨s.val * 256 + t.val, by omega⟩ ⟨512 + (h.val * 128 + d.val), by omega⟩ * Ideal.exp (logGamma (L w h) * age w t)
    * X ⟨s.val * 256 + t.val, by omega⟩ ⟨1024 + (h.val * 128 + e.val), by omega⟩

end Cert.Mix

end
-- ==== Proof.RetBlock.lean ====
/- The prompt's retention: what each window's block holds and what a grid point leaves. -/
module

public import proofs.«01_k».proof.Proof.RetSpec
public import proofs.«01_k».proof.Proof.Gen.RetIdeal.Value
public import Idealize.ShloMosaic.Lib.StableHlo.RunRead

@[expose] public section

set_option maxRecDepth 16384

noncomputable section

namespace Cert.RetIdeal.Mix

open Cert.RetIdeal Cert.RetIdeal.Gen Idealize.ShloMosaic Idealize.ShloMosaic.TcCoe Idealize.SL.Sem Cert.Mix
open Idealize.ShloMosaic.Pipeline (Dat)

variable (m : (ℓ : Loc nD τ sig) → Buf (Elt Ideal) ℓ)

/-- There are 64 points. -/
theorem lt64 (t : Fin cfg0.N) : t.val < 64 := t.isLt

/-- The decays' block at point `t` is its head's. -/
theorem idx0 : ∀ t : Fin cfg0.N,
    (win0_0.index t 0 = t.val % 4 ∧ win0_0.index t 1 = 0 ∧ win0_0.index t 2 = 0 ∧ win0_0.index t 3 = 0) :=
  (by decide +kernel : ∀ t : Fin grid0.N,
    (win0_0.index t 0 = t.val % 4 ∧ win0_0.index t 1 = 0 ∧ win0_0.index t 2 = 0 ∧ win0_0.index t 3 = 0))

/-- The keys' block at point `t` is its sequence's rows and its head's columns. -/
theorem idx2 : ∀ t : Fin cfg0.N,
    (win0_2.index t 0 = t.val / 4 ∧ win0_2.index t 1 = 4 + t.val % 4) :=
  (by decide +kernel : ∀ t : Fin grid0.N,
    (win0_2.index t 0 = t.val / 4 ∧ win0_2.index t 1 = 4 + t.val % 4))

/-- The values' block at point `t` is its sequence's rows and its head's columns. -/
theorem idx3 : ∀ t : Fin cfg0.N,
    (win0_3.index t 0 = t.val / 4 ∧ win0_3.index t 1 = 8 + t.val % 4) :=
  (by decide +kernel : ∀ t : Fin grid0.N,
    (win0_3.index t 0 = t.val / 4 ∧ win0_3.index t 1 = 8 + t.val % 4))

/-- The initial states' block at point `t` is its sequence's and head's. -/
theorem idx6 : ∀ t : Fin cfg0.N,
    (win0_6.index t 0 = t.val / 4 ∧ win0_6.index t 1 = 0 ∧ win0_6.index t 2 = t.val % 4 ∧ win0_6.index t 3 = 0 ∧ win0_6.index t 4 = 0) :=
  (by decide +kernel : ∀ t : Fin grid0.N,
    (win0_6.index t 0 = t.val / 4 ∧ win0_6.index t 1 = 0 ∧ win0_6.index t 2 = t.val % 4 ∧ win0_6.index t 3 = 0 ∧ win0_6.index t 4 = 0))

/-- The final states' block at point `t` is its sequence's and head's. -/
theorem idx8 : ∀ t : Fin cfg0.N,
    (win0_8.index t 0 = t.val / 4 ∧ win0_8.index t 1 = 0 ∧ win0_8.index t 2 = t.val % 4 ∧ win0_8.index t 3 = 0 ∧ win0_8.index t 4 = 0) :=
  (by decide +kernel : ∀ t : Fin grid0.N,
    (win0_8.index t 0 = t.val / 4 ∧ win0_8.index t 1 = 0 ∧ win0_8.index t 2 = t.val % 4 ∧ win0_8.index t 3 = 0 ∧ win0_8.index t 4 = 0))

/-- The decays' parameters as the call finds them: the layer's, the heads first. -/
theorem V_logit (c : Dev nD) (h : Fin 4) (w : Fin 2) :
    (V m c main_v3 : Vec Ideal S4x2x1x1 .f32) (ix4 h w 0 0) = m ((c : Thread nD τ).loc main_arg1) (ix3 1 w h) := by
  have hV : V m c main_v3 = shapeCast S4x2x1x1 (transpose S4x2 [1, 0] (shapeCast S2x4 (extractStridedSlice S1x2x4 ![1, 0, 0] (m ((c : Thread nD τ).loc main_arg1)) slices_S2x2x4_S1x2x4_1_0_0) shapeCasts_S1x2x4_S2x4) transposes_S2x4_S4x2_1_0) shapeCasts_S4x2_S4x2x1x1 := by
    show StableHlo.after hostOps0 _ _ = _
    after_reads_simp
    try rfl
  rw [hV]
  generalize m ((c : Thread nD τ).loc main_arg1) = y
  pointwise []
  try rfl

/-- The initial states are zero. -/
theorem V_zero (c : Dev nD) (i : S16x2x4x128x128.Idx) : (V m c main_v7 : Vec Ideal S16x2x4x128x128 .f32) i = (0 : EReal) := by
  have hV : V m c main_v7 = broadcastInDim S16x2x4x128x128 ![] bcast_S_S16x2x4x128x128 (constant (F := Ideal) S_ .f32 0x00000000#32) := by
    show StableHlo.after hostOps0 _ _ = _
    after_reads_simp
    try rfl
  rw [hV, eq_ix5 i]
  pointwise []
  try rfl

/-- The point's decay parameters. -/
theorem iblk0_apply (c : Dev nD) (t : Fin cfg0.N) (w : Fin 2) :
    iblk m c 0 t (ix4 0 w 0 0) = m ((c : Thread nD τ).loc main_arg1) (ix3 1 w ⟨t.val % 4, Nat.mod_lt _ (by omega)⟩) := by
  refine Eq.trans ?_ (V_logit m c ⟨t.val % 4, Nat.mod_lt _ (by omega)⟩ w)
  unfold iblk
  show V m c main_v3 _ = V m c main_v3 _
  congr 1
  funext a
  apply Fin.ext
  match a with
  | ⟨0, _⟩ =>
    have h := (idx0 t).1
    show win0_0.index t 0 * 1 + 1 * 0 = t.val % 4
    omega
  | ⟨1, _⟩ =>
    have h := (idx0 t).2.1
    show win0_0.index t 1 * 2 + 1 * w.val = w.val
    omega
  | ⟨2, _⟩ =>
    have h := (idx0 t).2.2.1
    show win0_0.index t 2 * 1 + 1 * 0 = 0
    omega
  | ⟨3, _⟩ =>
    have h := (idx0 t).2.2.2
    show win0_0.index t 3 * 1 + 1 * 0 = 0
    omega

/-- The point's keys. -/
theorem iblk2_apply (c : Dev nD) (t : Fin cfg0.N) (r : Fin 256) (k : Fin 128) :
    iblk m c 2 t (ix2 r k) = m ((c : Thread nD τ).loc main_arg0)
      (ix2 (⟨t.val / 4 * 256 + r.val, by have := lt64 t; omega⟩ : Fin 8192) (⟨512 + (t.val % 4 * 128 + k.val), by omega⟩ : Fin 2048)) := by
  unfold iblk
  have hV : V m c (Pipeline.arrRef spec0 2) = m ((c : Thread nD τ).loc main_arg0) := V_main_arg0 m c
  rw [hV]
  show m ((c : Thread nD τ).loc main_arg0) _ = _
  congr 1
  funext a
  apply Fin.ext
  match a with
  | ⟨0, _⟩ =>
    have h := (idx2 t).1
    show win0_2.index t 0 * 256 + 1 * r.val = t.val / 4 * 256 + r.val
    omega
  | ⟨1, _⟩ =>
    have h := (idx2 t).2
    show win0_2.index t 1 * 128 + 1 * k.val = 512 + (t.val % 4 * 128 + k.val)
    omega

/-- The point's values. -/
theorem iblk3_apply (c : Dev nD) (t : Fin cfg0.N) (r : Fin 256) (k : Fin 128) :
    iblk m c 3 t (ix2 r k) = m ((c : Thread nD τ).loc main_arg0)
      (ix2 (⟨t.val / 4 * 256 + r.val, by have := lt64 t; omega⟩ : Fin 8192) (⟨1024 + (t.val % 4 * 128 + k.val), by omega⟩ : Fin 2048)) := by
  unfold iblk
  have hV : V m c (Pipeline.arrRef spec0 3) = m ((c : Thread nD τ).loc main_arg0) := V_main_arg0 m c
  rw [hV]
  show m ((c : Thread nD τ).loc main_arg0) _ = _
  congr 1
  funext a
  apply Fin.ext
  match a with
  | ⟨0, _⟩ =>
    have h := (idx3 t).1
    show win0_3.index t 0 * 256 + 1 * r.val = t.val / 4 * 256 + r.val
    omega
  | ⟨1, _⟩ =>
    have h := (idx3 t).2
    show win0_3.index t 1 * 128 + 1 * k.val = 1024 + (t.val % 4 * 128 + k.val)
    omega

/-- The point's initial states are zero. -/
theorem iblk6_apply (c : Dev nD) (t : Fin cfg0.N) (i : S1x2x1x128x128.Idx) : iblk m c 6 t i = (0 : EReal) := by
  unfold iblk
  exact V_zero m c _

/-- The kernel's forward state: the decayed initial state and the sum over the positions. -/
theorem fwd_apply (x0 : Vec Ideal S1x2x1x1 .f32) (x2 x3 : Vec Ideal S256x128 .f32) (s : Vec Ideal S1x128x128 .f32) (hs : ∀ d e, s (ix3 0 d e) = (0 : EReal)) (d e : Fin 128) :
    k0_pay13 (k0_pay3 x0) k0_pay6 x2 x3 s (ix2 d e)
      = ∑ t : Fin 256, x2 (ix2 t d) * Ideal.exp (logGamma (x0 (ix4 0 0 0 0)) * age 0 t) * x3 (ix2 t e) := by
  pointwise [k0_pay13, k0_pay3, k0_pay2, k0_pay6]
  rw [hs, mul_zero, zero_add]
  simp only [zero_sub]
  rfl

/-- The kernel's backward state: the decayed initial state and the sum over the positions. -/
theorem bwd_apply (x0 : Vec Ideal S1x2x1x1 .f32) (x2 x3 : Vec Ideal S256x128 .f32) (s : Vec Ideal S1x128x128 .f32) (hs : ∀ d e, s (ix3 0 d e) = (0 : EReal)) (d e : Fin 128) :
    k0_pay16 (k0_pay10 (k0_pay4 x0) k0_pay6) (k0_pay11 (k0_pay4 x0)) x2 x3 s (ix3 0 d e)
      = ∑ t : Fin 256, x2 (ix2 t d) * Ideal.exp (logGamma (x0 (ix4 0 1 0 0)) * age 1 t) * x3 (ix2 t e) := by
  pointwise [k0_pay16, k0_pay10, k0_pay11, k0_pay4, k0_pay2, k0_pay6]
  rw [hs, mul_zero, zero_add]
  simp only [zero_sub]
  rfl

end Cert.RetIdeal.Mix

end
-- ==== Proof.RetArray.lean ====
/- The prompt's retention: the array of final states. -/
module

public import proofs.«01_k».proof.Proof.RetBlock

@[expose] public section

set_option maxRecDepth 16384

noncomputable section

namespace Cert.RetIdeal.Mix

open Cert.RetIdeal Cert.RetIdeal.Gen Idealize.ShloMosaic Idealize.ShloMosaic.TcCoe Idealize.SL.Sem Cert.Mix
open Idealize.ShloMosaic.Pipeline (Dat)

/-- The state of a direction from a block's keys, values and decay parameters. -/
def blockState (x0 : Vec Ideal S1x2x1x1 .f32) (x2 x3 : Vec Ideal S256x128 .f32) : S1x2x1x128x128.Idx → EReal := fun y =>
  ∑ t : Fin 256, x2 (ix2 t (y 3)) * Ideal.exp (logGamma (x0 (ix4 0 (y 1) 0 0)) * age (y 1) t) * x3 (ix2 t (y 4))

/-- The store of one direction's state covers the direction's indices. -/
theorem mem_dir (p : Nat) (y : S1x2x1x128x128.Idx) (i0 : ∀ a, (![0, p, 0, 0, 0] : Fin 5 → Nat) a + (![1, 1, 1, 128, 128] : Fin 5 → Nat) a ≤ S1x2x1x128x128.size a)
    (h : (y 1 : Nat) = p) : y ∈ (Rect.unit (s := S1x2x1x128x128) ![0, p, 0, 0, 0] ![1, 1, 1, 128, 128] i0).set := by
  rw [Rect.mem_set_unit]
  intro a
  match a with
  | ⟨0, _⟩ => exact ⟨Nat.zero_le _, by show (y 0 : Nat) < 0 + 1; have : (y 0 : Nat) < 1 := (y 0).isLt; omega⟩
  | ⟨1, _⟩ => exact ⟨by show p ≤ (y 1 : Nat); omega, by show (y 1 : Nat) < p + 1; omega⟩
  | ⟨2, _⟩ => exact ⟨Nat.zero_le _, by show (y 2 : Nat) < 0 + 1; have : (y 2 : Nat) < 1 := (y 2).isLt; omega⟩
  | ⟨3, _⟩ => exact ⟨Nat.zero_le _, by show (y 3 : Nat) < 0 + 128; have : (y 3 : Nat) < 128 := (y 3).isLt; omega⟩
  | ⟨4, _⟩ => exact ⟨Nat.zero_le _, by show (y 4 : Nat) < 0 + 128; have : (y 4 : Nat) < 128 := (y 4).isLt; omega⟩

/-- A stored direction is the block's part there. -/
theorem dir_piece (G : S1x2x1x128x128.Idx → EReal) (w : S1x1x1x128x128.Idx → EReal) (p : Nat) (hp : p < 2)
    (i0 : ∀ a, (![0, p, 0, 0, 0] : Fin 5 → Nat) a + (![1, 1, 1, 128, 128] : Fin 5 → Nat) a ≤ S1x2x1x128x128.size a)
    (hw : ∀ d e : Fin 128, w (ix5 0 0 0 d e) = G (ix5 0 ⟨p, hp⟩ 0 d e)) (x : S1x1x1x128x128.Idx) :
    w x = G ((Rect.unit (s := S1x2x1x128x128) ![0, p, 0, 0, 0] ![1, 1, 1, 128, 128] i0).emb x) := by
  obtain ⟨a0, a1, a2, d, e, rfl⟩ : ∃ (a0 a1 a2 : Fin 1) (d e : Fin 128), x = ix5 a0 a1 a2 d e := ⟨x 0, x 1, x 2, x 3, x 4, eq_ix5 x⟩
  obtain rfl : a0 = 0 := Subsingleton.elim _ _
  obtain rfl : a1 = 0 := Subsingleton.elim _ _
  obtain rfl : a2 = 0 := Subsingleton.elim _ _
  rw [hw]
  congr 1
  funext a
  apply Fin.ext
  match a with
  | ⟨0, _⟩ => simp [Rect.emb_apply, ix5]
  | ⟨1, _⟩ => simp [Rect.emb_apply, ix5]
  | ⟨2, _⟩ => simp [Rect.emb_apply, ix5]
  | ⟨3, _⟩ => simp [Rect.emb_apply, ix5]
  | ⟨4, _⟩ => simp [Rect.emb_apply, ix5]

/-- A zero vector in a direction's layout is zero as a matrix. -/
theorem zero12 (v : Vec Ideal S1x1x1x128x128 .f32) (h : ∀ i, v i = (0 : EReal)) (d e : Fin 128) : k0_pay12 v (ix3 0 d e) = (0 : EReal) := by
  pointwise [k0_pay12]
  exact h _

/-- The same for the backward direction. -/
theorem zero15 (v : Vec Ideal S1x1x1x128x128 .f32) (h : ∀ i, v i = (0 : EReal)) (d e : Fin 128) : k0_pay15 v (ix3 0 d e) = (0 : EReal) := by
  pointwise [k0_pay15]
  exact h _

/-- What is stored of the forward state. -/
theorem fst_apply (s : FVec Ideal S128x128 .f32) (d e : Fin 128) : k0_pay18 (k0_pay17 (k0_pay14 s)) (ix5 0 0 0 d e) = s (ix2 d e) := by
  pointwise [k0_pay18, k0_pay17, k0_pay14]
  try rfl

/-- What is stored of the backward state. -/
theorem snd_apply (s : FVec Ideal S1x128x128 .f32) (d e : Fin 128) : k0_pay19 s (ix5 0 0 0 d e) = s (ix3 0 d e) := by
  pointwise [k0_pay19]
  try rfl

variable (m : (ℓ : Loc nD τ sig) → Buf (Elt Ideal) ℓ)

/-- What a grid point leaves in the states' staging buffer. -/
theorem outs_eq (c : Dev nD) (t : Fin cfg0.N) (y : S1x2x1x128x128.Idx) :
    (outsAt0 m c t).2 y = blockState (iblk m c 0 t) (iblk m c 2 t) (iblk m c 3 t) y := by
  unfold outsAt0
  dsimp only
  unfold out0_A_8
  have hcov := cover0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t)
  rw [View.read_writes_eq_canon _ _ _ hcov]
  clear hcov
  have h6 := iblk6_apply m c t
  generalize iblk m c 0 t = x0
  generalize iblk m c 1 t = x1
  generalize iblk m c 2 t = x2
  generalize iblk m c 3 t = x3
  generalize iblk m c 4 t = x4
  generalize iblk m c 5 t = x5
  generalize iblk m c 6 t = x6 at h6 ⊢
  unfold kernelRun0_A; dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  have z2 : (![0, 0] : Fin 2 → Nat) = fun _ => 0 := by funext a; match a with | ⟨0, _⟩ => rfl | ⟨1, _⟩ => rfl
  have z4 : (![0, 0, 0, 0] : Fin 4 → Nat) = fun _ => 0 := by funext a; match a with | ⟨0, _⟩ => rfl | ⟨1, _⟩ => rfl | ⟨2, _⟩ => rfl | ⟨3, _⟩ => rfl
  simp only [View.readCov_cons_toLoadRect, View.ld_unit_zero (S := S256x128) z2, View.ld_unit_zero (S := S1x2x1x1) z4]
  refine View.canon_apply_of_pieces (Val := Elt Ideal) (e := .f32) (S := S1x2x1x128x128) (blockState x0 x2 x3) _ ?_ y ?_
  · intro q hq
    simp only [List.mem_cons, List.not_mem_nil, or_false] at hq
    rcases hq with rfl | rfl
    · exact fun x => dir_piece (blockState x0 x2 x3) _ 1 (by omega) inb_S1x2x1x128x128_S1x1x1x128x128_0_1_0_0_0
        (fun d e => (snd_apply _ d e).trans (bwd_apply x0 x2 x3 _ (fun d e => zero15 _ (fun i => h6 _) d e) d e)) x
    · exact fun x => dir_piece (blockState x0 x2 x3) _ 0 (by omega) inb_S1x2x1x128x128_S1x1x1x128x128_0_0_0_0_0
        (fun d e => (fst_apply _ d e).trans (fwd_apply x0 x2 x3 _ (fun d e => zero12 _ (fun i => h6 _) d e) d e)) x
  · have hy : (y 1 : Nat) < 2 := (y 1).isLt
    simp only [List.exists_mem_cons_iff]
    have hc : (y 1 : Nat) = 1 ∨ (y 1 : Nat) = 0 := by omega
    rcases hc with h | h
    · exact Or.inl (mem_dir 1 y inb_S1x2x1x128x128_S1x1x1x128x128_0_1_0_0_0 h)
    · exact Or.inr (Or.inl (mem_dir 0 y inb_S1x2x1x128x128_S1x1x1x128x128_0_0_0_0_0 h))

/-- The output array: the final state of each sequence, direction and head. -/
def out8 (c : Dev nD) : S16x2x4x128x128.Idx → EReal := fun i =>
  retState (fun r k => m ((c : Thread nD τ).loc main_arg0) (ix2 r k)) (fun w h => m ((c : Thread nD τ).loc main_arg1) (ix3 1 w h)) (i 0) (i 1) (i 2) (i 3) (i 4)

/-- A point's block of it. -/
theorem block_eq (c : Dev nD) (t : Fin cfg0.N) (w : Fin 2) (d e : Fin 128) :
    (outsAt0 m c t).2 (ix5 0 w 0 d e)
      = out8 m c (ix5 ⟨t.val / 4, by have := lt64 t; omega⟩ w ⟨t.val % 4, Nat.mod_lt _ (by omega)⟩ d e) := by
  rw [outs_eq]
  exact Finset.sum_congr rfl fun u _ => congrArg₂ (fun a b : EReal => a * b)
    (congrArg₂ (fun a b : EReal => a * b) (iblk2_apply m c t u d) (congrArg (fun x : EReal => Ideal.exp (logGamma x * age w u)) (iblk0_apply m c t w))) (iblk3_apply m c t u e)

/-- What point `t` writes back is its block of the output array. -/
theorem flushed_eq (c : Dev nD) (t : Fin cfg0.N) :
    (dats m 0 c).flushed 8 t = ((cfg0.win 8).blk t).view.read (Elt Ideal) (out8 m c) := by
  have hfl : (dats m 0 c).flushed 8 t = (outsAt0 m c t).2 := Value.flushed8 m c t
  rw [hfl]
  funext y
  obtain ⟨a0, w, a2, d, e, rfl⟩ : ∃ (a0 : Fin 1) (w : Fin 2) (a2 : Fin 1) (d e : Fin 128), y = ix5 a0 w a2 d e := ⟨y 0, y 1, y 2, y 3, y 4, eq_ix5 y⟩
  obtain rfl : a0 = 0 := Subsingleton.elim _ _
  obtain rfl : a2 = 0 := Subsingleton.elim _ _
  refine (block_eq m c t w d e).trans ?_
  show out8 m c _ = out8 m c _
  congr 1
  funext a
  apply Fin.ext
  match a with
  | ⟨0, _⟩ =>
    show t.val / 4 = win0_8.index t 0 * 1 + 1 * 0
    rw [(idx8 t).1]; omega
  | ⟨1, _⟩ =>
    show w.val = win0_8.index t 1 * 2 + 1 * w.val
    rw [(idx8 t).2.1]; omega
  | ⟨2, _⟩ =>
    show t.val % 4 = win0_8.index t 2 * 1 + 1 * 0
    rw [(idx8 t).2.2.1]; omega
  | ⟨3, _⟩ =>
    show d.val = win0_8.index t 3 * 128 + 1 * d.val
    rw [(idx8 t).2.2.2.1]; omega
  | ⟨4, _⟩ =>
    show e.val = win0_8.index t 4 * 128 + 1 * e.val
    rw [(idx8 t).2.2.2.2]; omega

/-- An index lies in point `t`'s output block when each of its coordinates does. -/
theorem mem_blk (t : Fin cfg0.N) (i : S16x2x4x128x128.Idx) :
    i ∈ ((cfg0.win 8).blk t).view.set ↔ ∀ a, win0_8.index t a * win0_8.size a ≤ (i a : Nat) ∧ (i a : Nat) < win0_8.index t a * win0_8.size a + win0_8.xsize (grid0.coords t) a := by
  show i ∈ ((View.whole main_v8_1).slice (win0_8.rect t)).set ↔ _
  rw [View.set_slice_whole, Rect.mem_set_unit]

/-- The output array of the final states. -/
theorem arr_eq (c : Dev nD) : (dats m 0 c).arrAt 8 cfg0.N = out8 m c := by
  refine Dat.arrAt_eq_of_cover (dats m 0 c) 8 (out8 m c) (fun t _ => flushed_eq m c t) fun i => ?_
  obtain ⟨s, w, h, d, e, rfl⟩ : ∃ (s : Fin 16) (w : Fin 2) (h : Fin 4) (d e : Fin 128), i = ix5 s w h d e := ⟨i 0, i 1, i 2, i 3, i 4, eq_ix5 i⟩
  refine ⟨(⟨s.val * 4 + h.val, by show s.val * 4 + h.val < 64; omega⟩ : Fin cfg0.N), flush0_8 _, ?_⟩
  rw [mem_blk]
  intro a
  match a with
  | ⟨0, _⟩ =>
    show win0_8.index _ 0 * 1 ≤ s.val ∧ s.val < win0_8.index _ 0 * 1 + 1
    rw [(idx8 _).1]; show (s.val * 4 + h.val) / 4 * 1 ≤ s.val ∧ s.val < (s.val * 4 + h.val) / 4 * 1 + 1; omega
  | ⟨1, _⟩ =>
    show win0_8.index _ 1 * 2 ≤ w.val ∧ w.val < win0_8.index _ 1 * 2 + 2
    rw [(idx8 _).2.1]; omega
  | ⟨2, _⟩ =>
    show win0_8.index _ 2 * 1 ≤ h.val ∧ h.val < win0_8.index _ 2 * 1 + 1
    rw [(idx8 _).2.2.1]; show (s.val * 4 + h.val) % 4 * 1 ≤ h.val ∧ h.val < (s.val * 4 + h.val) % 4 * 1 + 1; omega
  | ⟨3, _⟩ =>
    show win0_8.index _ 3 * 128 ≤ d.val ∧ d.val < win0_8.index _ 3 * 128 + 128
    rw [(idx8 _).2.2.2.1]; omega
  | ⟨4, _⟩ =>
    show win0_8.index _ 4 * 128 ≤ e.val ∧ e.val < win0_8.index _ 4 * 128 + 128
    rw [(idx8 _).2.2.2.2]; omega

end Cert.RetIdeal.Mix

end
-- ==== Proof.RetRef.lean ====
/- The reference of the prompt's retention, read entry by entry. -/
module

public import proofs.«01_k».proof.Proof.RetSpec
public import proofs.«01_k».proof.Proof.Gen.RetRefIdeal.Read

@[expose] public section

set_option maxRecDepth 16384

noncomputable section

namespace Cert.RetRefIdeal.Mix

open Cert.RetRefIdeal Cert.RetRefIdeal.Gen Cert.RetRefIdeal.Read Idealize.ShloMosaic Idealize.ShloMosaic.TcCoe Idealize.SL.Sem Cert.Mix

/-- The keys, decayed for the forward direction. -/
theorem keys_f (x0 : (⟨S8192x2048, .f32⟩ : BufTy).Contents (Elt Ideal)) (x1 : (⟨S2x2x4, .f32⟩ : BufTy).Contents (Elt Ideal)) (s : Fin 16) (t : Fin 256) (h : Fin 4) (d : Fin 128) :
    val_main_v24 (F := Ideal) x0 x1 (ix4 s t h d)
      = x0 (ix2 ⟨s.val * 256 + t.val, by omega⟩ ⟨512 + (h.val * 128 + d.val), by omega⟩) * Ideal.exp (logGamma (x1 (ix3 1 0 h)) * age 0 t) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v1, val_main_v0, val_main_cst]
  rfl

/-- The keys, decayed for the backward direction. -/
theorem keys_b (x0 : (⟨S8192x2048, .f32⟩ : BufTy).Contents (Elt Ideal)) (x1 : (⟨S2x2x4, .f32⟩ : BufTy).Contents (Elt Ideal)) (s : Fin 16) (t : Fin 256) (h : Fin 4) (d : Fin 128) :
    val_main_v37 (F := Ideal) x0 x1 (ix4 s t h d)
      = x0 (ix2 ⟨s.val * 256 + t.val, by omega⟩ ⟨512 + (h.val * 128 + d.val), by omega⟩) * Ideal.exp (logGamma (x1 (ix3 1 1 h)) * age 1 t) := by
  pointwise [val_main_v37, val_main_v36, val_main_v35, val_main_v34, val_main_v33, val_main_v32, val_main_v31, val_main_v30, val_main_v29, val_main_v28, val_main_v27, val_main_v26, val_main_v10, val_main_v9, val_main_v8, val_main_v7, val_main_v6, val_main_v5, val_main_v4, val_main_v1, val_main_v0]
  rfl

/-- The values. -/
theorem values (x0 : (⟨S8192x2048, .f32⟩ : BufTy).Contents (Elt Ideal)) (s : Fin 16) (t : Fin 256) (h : Fin 4) (d : Fin 128) :
    val_main_v3 (F := Ideal) x0 (ix4 s t h d) = x0 (ix2 ⟨s.val * 256 + t.val, by omega⟩ ⟨1024 + (h.val * 128 + d.val), by omega⟩) := by
  pointwise [val_main_v3, val_main_v2]
  try rfl

/-- The reference's states are the sums. -/
theorem state_apply (x0 : (⟨S8192x2048, .f32⟩ : BufTy).Contents (Elt Ideal)) (x1 : (⟨S2x2x4, .f32⟩ : BufTy).Contents (Elt Ideal)) (s : Fin 16) (w : Fin 2) (h : Fin 4) (d e : Fin 128) :
    val_main_v41 (F := Ideal) x0 x1 (ix5 s w h d e)
      = retState (fun r k => x0 (ix2 r k)) (fun w h => x1 (ix3 1 w h)) s w h d e := by
  have hf : val_main_v25 (F := Ideal) x0 x1 (ix4 s h d e) = retState (fun r k => x0 (ix2 r k)) (fun w h => x1 (ix3 1 w h)) s 0 h d e := by
    rw [val_main_v25_apply]
    refine Finset.sum_congr rfl fun t _ => ?_
    exact congrArg₂ (fun a b : EReal => a * b) ((congrArg (val_main_v24 (F := Ideal) x0 x1) (eq_ix4 _)).trans (keys_f x0 x1 s t h d))
      ((congrArg (val_main_v3 (F := Ideal) x0) (eq_ix4 _)).trans (values x0 s t h e))
  have hb : val_main_v38 (F := Ideal) x0 x1 (ix4 s h d e) = retState (fun r k => x0 (ix2 r k)) (fun w h => x1 (ix3 1 w h)) s 1 h d e := by
    rw [val_main_v38_apply]
    refine Finset.sum_congr rfl fun t _ => ?_
    exact congrArg₂ (fun a b : EReal => a * b) ((congrArg (val_main_v37 (F := Ideal) x0 x1) (eq_ix4 _)).trans (keys_b x0 x1 s t h d))
      ((congrArg (val_main_v3 (F := Ideal) x0) (eq_ix4 _)).trans (values x0 s t h e))
  pointwise [val_main_v41, val_main_v40, val_main_v39]
  match w with
  | ⟨0, _⟩ => simp only [Nat.zero_lt_one, dif_pos]; exact hf
  | ⟨1, _⟩ => simp only [lt_irrefl, dif_neg, not_false_eq_true]; exact hb

end Cert.RetRefIdeal.Mix

end
-- ==== Proof.RetClaim.lean ====
/- The prompt's retention: the kernel and the reference give the same final states. -/
module

public import proofs.«01_k».proof.Proof.RetArray
public import proofs.«01_k».proof.Proof.RetRef
public import proofs.«01_k».proof.Defs
public import proofs.«01_k».proof.Proof.Gen.RetRefIdeal.Run

@[expose] public section

set_option maxRecDepth 16384

noncomputable section

namespace Cert.RetIdeal.Mix

open Cert.RetIdeal Cert.RetIdeal.Gen Idealize.ShloMosaic Idealize.ShloMosaic.TcCoe Idealize.SL.Sem Cert.Mix

variable (m : (ℓ : Loc nD τ sig) → Buf (Elt Ideal) ℓ)

/-- The kernel and the reference give the same array of final states for the same arguments. -/
theorem algebraic : Cert.algebraic_RetIdeal_RetRefIdeal := by
  intro m ρ m' ρ' _ hag
  refine ⟨fun c => out8 m c, ?_, ?_⟩
  · refine (θ_run _ _ _).mono (fun _ h c => ?_) (Cert.RetIdeal.Value.run_blocks (F := Ideal) m ρ)
    exact ⟨(h c).2.1.trans (arr_eq m c), (h c).2.2⟩
  · refine (θ_run _ _ _).mono (fun _ h c => ?_) (Cert.RetRefIdeal.Value.run (F := Ideal) m' ρ')
    obtain ⟨h0, h1, h2⟩ := hag c
    refine ⟨(h c).1.trans ?_, (h c).2⟩
    refine (Cert.RetRefIdeal.Read.val_main_v41_eq (F := Ideal) _ _).trans ?_
    rw [h0, h1]
    funext i
    rw [eq_ix5 i]
    exact Cert.RetRefIdeal.Mix.state_apply _ _ _ _ _ _ _

end Cert.RetIdeal.Mix

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.Pre_mla_finite
public import proofs.«01_k».proof.Proof.Gen.FfnIdeal.Value
public import proofs.«01_k».proof.Proof.Gen.MlaIdeal.Value
public import proofs.«01_k».proof.Proof.Gen.FfnRefIdeal.Run
public import proofs.«01_k».proof.Proof.Gen.FfnRefIdeal.Read
public import proofs.«01_k».proof.Proof.Gen.MlaRefIdeal.Run
public import proofs.«01_k».proof.Proof.Gen.MlaRefIdeal.Read
public import proofs.«01_k».proof.Proof.Gen.InOdd
public import proofs.«01_k».proof.Proof.Gen.InOdd.Skeleton
public import proofs.«01_k».proof.Proof.Gen.InOdd.Launch
public import proofs.«01_k».proof.Proof.Gen.InOdd.Points
public import proofs.«01_k».proof.Proof.Gen.InOdd.Frame
public import proofs.«01_k».proof.Proof.Gen.InOddIdeal
public import proofs.«01_k».proof.Proof.Gen.InOddIdeal.Skeleton
public import proofs.«01_k».proof.Proof.Gen.InOddIdeal.Launch
public import proofs.«01_k».proof.Proof.Gen.InOddIdeal.Points
public import proofs.«01_k».proof.Proof.Gen.InOddIdeal.Frame
public import proofs.«01_k».proof.Proof.Gen.InOddIdeal.Value
public import proofs.«01_k».proof.Proof.Gen.InOddRefIdeal
public import proofs.«01_k».proof.Proof.Gen.InOddRefIdeal.Run
public import proofs.«01_k».proof.Proof.Gen.InOddRefIdeal.Read
public import proofs.«01_k».proof.Proof.Gen.OutEven
public import proofs.«01_k».proof.Proof.Gen.OutEven.Skeleton
public import proofs.«01_k».proof.Proof.Gen.OutEven.Launch
public import proofs.«01_k».proof.Proof.Gen.OutEven.Points
public import proofs.«01_k».proof.Proof.Gen.OutEven.Frame
public import proofs.«01_k».proof.Proof.Gen.OutEvenIdeal
public import proofs.«01_k».proof.Proof.Gen.OutEvenIdeal.Skeleton
public import proofs.«01_k».proof.Proof.Gen.OutEvenIdeal.Launch
public import proofs.«01_k».proof.Proof.Gen.OutEvenIdeal.Points
public import proofs.«01_k».proof.Proof.Gen.OutEvenIdeal.Frame
public import proofs.«01_k».proof.Proof.Gen.OutEvenIdeal.Value
public import proofs.«01_k».proof.Proof.Gen.OutEvenRefIdeal
public import proofs.«01_k».proof.Proof.Gen.OutEvenRefIdeal.Run
public import proofs.«01_k».proof.Proof.Gen.OutEvenRefIdeal.Read
public import proofs.«01_k».proof.Proof.Gen.OutOdd
public import proofs.«01_k».proof.Proof.Gen.OutOdd.Skeleton
public import proofs.«01_k».proof.Proof.Gen.OutOdd.Launch
public import proofs.«01_k».proof.Proof.Gen.OutOdd.Points
public import proofs.«01_k».proof.Proof.Gen.OutOdd.Frame
public import proofs.«01_k».proof.Proof.Gen.OutOddIdeal
public import proofs.«01_k».proof.Proof.Gen.OutOddIdeal.Skeleton
public import proofs.«01_k».proof.Proof.Gen.OutOddIdeal.Launch
public import proofs.«01_k».proof.Proof.Gen.OutOddIdeal.Points
public import proofs.«01_k».proof.Proof.Gen.OutOddIdeal.Frame
public import proofs.«01_k».proof.Proof.Gen.OutOddIdeal.Value
public import proofs.«01_k».proof.Proof.Gen.OutOddRefIdeal
public import proofs.«01_k».proof.Proof.Gen.OutOddRefIdeal.Run
public import proofs.«01_k».proof.Proof.Gen.OutOddRefIdeal.Read
public import proofs.«01_k».proof.Proof.Gen.InEven
public import proofs.«01_k».proof.Proof.Gen.Ret
public import proofs.«01_k».proof.Proof.Gen.InEven.Skeleton
public import proofs.«01_k».proof.Proof.Gen.Ret.Skeleton
public import proofs.«01_k».proof.Proof.Gen.InEven.Launch
public import proofs.«01_k».proof.Proof.Gen.Ret.Launch
public import proofs.«01_k».proof.Proof.Gen.InEven.Points
public import proofs.«01_k».proof.Proof.Gen.Ret.Points
public import proofs.«01_k».proof.Proof.Gen.InEven.Frame
public import proofs.«01_k».proof.Proof.Gen.Ret.Frame
public import proofs.«01_k».proof.Proof.Gen.InEvenIdeal
public import proofs.«01_k».proof.Proof.Gen.RetIdeal
public import proofs.«01_k».proof.Proof.Gen.InEvenIdeal.Skeleton
public import proofs.«01_k».proof.Proof.Gen.RetIdeal.Skeleton
public import proofs.«01_k».proof.Proof.Gen.InEvenIdeal.Launch
public import proofs.«01_k».proof.Proof.Gen.RetIdeal.Launch
public import proofs.«01_k».proof.Proof.Gen.InEvenIdeal.Points
public import proofs.«01_k».proof.Proof.Gen.RetIdeal.Points
public import proofs.«01_k».proof.Proof.Gen.InEvenIdeal.Frame
public import proofs.«01_k».proof.Proof.Gen.RetIdeal.Frame
public import proofs.«01_k».proof.Proof.Gen.InEvenIdeal.Value
public import proofs.«01_k».proof.Proof.Gen.RetIdeal.Value
public import proofs.«01_k».proof.Proof.Gen.InEvenRefIdeal
public import proofs.«01_k».proof.Proof.Gen.RetRefIdeal
public import proofs.«01_k».proof.Proof.Gen.InEvenRefIdeal.Run
public import proofs.«01_k».proof.Proof.Gen.RetRefIdeal.Run
public import proofs.«01_k».proof.Proof.Gen.InEvenRefIdeal.Read
public import proofs.«01_k».proof.Proof.Gen.RetRefIdeal.Read
public import proofs.«01_k».proof.Proof.MlaClaim
public import proofs.«01_k».proof.Proof.FfnClaim
public import proofs.«01_k».proof.Proof.InOddClaim
public import proofs.«01_k».proof.Proof.OutEvenClaim
public import proofs.«01_k».proof.Proof.OutOddClaim
public import proofs.«01_k».proof.Proof.InEvenClaim
public import proofs.«01_k».proof.Proof.RetClaim
public import Idealize.ShloMosaic.Adequacy
public import Idealize.ShloMosaic.Init

@[expose] public section

noncomputable section

namespace Cert.Proof

open Idealize.ShloMosaic Idealize.SL.Sem Cert.Ffn

/-- The FFN's reference runs to the end and keeps its arguments; it has no counter that could be left above zero. -/
theorem frame_FfnRef : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The attention's reference runs to the end and keeps its arguments; it has no counter that could be left above zero. -/
theorem frame_MlaRef : Cert.quiescent_MlaRefIdeal := fun m ρ _ =>
  (θ_run Cert.MlaRefIdeal.defs _ _).mono (fun r h => ⟨fun c => (h c).2, sem_eq_zero_of_no_sems (by decide) r.2⟩)
    (Cert.MlaRefIdeal.Value.run (F := Ideal) m ρ)

/-- The projection before the odd layer's mixers: the reference runs to the end and keeps its arguments; it has no counter that could be left above zero. -/
theorem frame_InOddRef : Cert.quiescent_InOddRefIdeal := fun m ρ _ =>
  (θ_run Cert.InOddRefIdeal.defs _ _).mono (fun r h => ⟨fun c => (h c).2.2.2, sem_eq_zero_of_no_sems (by decide) r.2⟩)
    (Cert.InOddRefIdeal.Value.run (F := Ideal) m ρ)

/-- The projection after the even layer's mixers: the reference runs to the end and keeps its arguments; it has no counter that could be left above zero. -/
theorem frame_OutEvenRef : Cert.quiescent_OutEvenRefIdeal := fun m ρ _ =>
  (θ_run Cert.OutEvenRefIdeal.defs _ _).mono (fun r h => ⟨fun c => (h c).2, sem_eq_zero_of_no_sems (by decide) r.2⟩)
    (Cert.OutEvenRefIdeal.Value.run (F := Ideal) m ρ)

/-- The projection after the odd layer's mixers: the reference runs to the end and keeps its arguments; it has no counter that could be left above zero. -/
theorem frame_OutOddRef : Cert.quiescent_OutOddRefIdeal := fun m ρ _ =>
  (θ_run Cert.OutOddRefIdeal.defs _ _).mono (fun r h => ⟨fun c => (h c).2, sem_eq_zero_of_no_sems (by decide) r.2⟩)
    (Cert.OutOddRefIdeal.Value.run (F := Ideal) m ρ)

/-- The projection before the even layer's mixers: the reference runs to the end and keeps its arguments; it has no counter that could be left above zero. -/
theorem frame_InEvenRef : Cert.quiescent_InEvenRefIdeal := fun m ρ _ =>
  (θ_run Cert.InEvenRefIdeal.defs _ _).mono (fun r h => ⟨fun c => (h c).2.2.2.2.2.2, sem_eq_zero_of_no_sems (by decide) r.2⟩)
    (Cert.InEvenRefIdeal.Value.run (F := Ideal) m ρ)

/-- The prompt's retention: the reference runs to the end and keeps its arguments; it has no counter that could be left above zero. -/
theorem frame_RetRef : Cert.quiescent_RetRefIdeal := fun m ρ _ =>
  (θ_run Cert.RetRefIdeal.defs _ _).mono (fun r h => ⟨fun c => (h c).2, sem_eq_zero_of_no_sems (by decide) r.2⟩)
    (Cert.RetRefIdeal.Value.run (F := Ideal) m ρ)

/-- All the claims: every program and reference keeps its arguments, every kernel keeps its meaning, and every kernel's results are its
    reference's. -/
theorem claim : Cert.Claim :=
  ⟨Cert.Ffn.Gen.facts, Cert.FfnIdeal.Gen.facts, Cert.FfnRefIdeal.Gen.facts, Cert.Mla.Gen.facts, Cert.MlaIdeal.Gen.facts, Cert.MlaRefIdeal.Gen.facts,
    Cert.InOdd.Gen.facts, Cert.InOddIdeal.Gen.facts, Cert.InOddRefIdeal.Gen.facts, Cert.OutEven.Gen.facts, Cert.OutEvenIdeal.Gen.facts, Cert.OutEvenRefIdeal.Gen.facts, Cert.OutOdd.Gen.facts, Cert.OutOddIdeal.Gen.facts, Cert.OutOddRefIdeal.Gen.facts, Cert.InEven.Gen.facts, Cert.InEvenIdeal.Gen.facts, Cert.InEvenRefIdeal.Gen.facts, Cert.Ret.Gen.facts, Cert.RetIdeal.Gen.facts, Cert.RetRefIdeal.Gen.facts,
    Cert.Pre_mla_finite.Gen.facts,
    fun m ρ _ => Cert.Ffn.Gen.frame m ρ, fun m ρ _ => Cert.FfnIdeal.Gen.frame m ρ, frame_FfnRef,
    fun m ρ _ => Cert.Mla.Gen.frame m ρ, fun m ρ _ => Cert.MlaIdeal.Gen.frame m ρ, fun m ρ _ => Cert.MlaIdeal.Gen.frame m ρ,
    frame_MlaRef, fun m ρ _ => frame_MlaRef m ρ trivial,
    fun m ρ _ => Cert.InOdd.Gen.frame m ρ, fun m ρ _ => Cert.InOddIdeal.Gen.frame m ρ, frame_InOddRef,
    fun m ρ _ => Cert.OutEven.Gen.frame m ρ, fun m ρ _ => Cert.OutEvenIdeal.Gen.frame m ρ, frame_OutEvenRef,
    fun m ρ _ => Cert.OutOdd.Gen.frame m ρ, fun m ρ _ => Cert.OutOddIdeal.Gen.frame m ρ, frame_OutOddRef,
    fun m ρ _ => Cert.InEven.Gen.frame m ρ, fun m ρ _ => Cert.InEvenIdeal.Gen.frame m ρ, frame_InEvenRef,
    fun m ρ _ => Cert.Ret.Gen.frame m ρ, fun m ρ _ => Cert.RetIdeal.Gen.frame m ρ, frame_RetRef,
    trivial, Cert.FfnIdeal.Ffn.algebraic, trivial, Cert.MlaIdeal.Att.algebraic,
    trivial, Cert.InOddIdeal.Mix.algebraic, trivial, Cert.OutEvenIdeal.Mix.algebraic, trivial, Cert.OutOddIdeal.Mix.algebraic, trivial, Cert.InEvenIdeal.Mix.algebraic, trivial, Cert.RetIdeal.Mix.algebraic⟩

end Cert.Proof

end
